-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v145) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v22_0)) (v1 : (c : Dev Cert.Kernel7Ideal.nD) → Buf (Elt Ideal) ((c.tc : Thread Cert.Kernel7Ideal.nD Cert.Kernel7Ideal.τ).loc Cert.Kernel7Ideal.main_v22_1)) (v2 : (c : Dev Cert.Kernel7Ideal.nD) → Buf (Elt Ideal) ((c.tc : Thread Cert.Kernel7Ideal.nD Cert.Kernel7Ideal.τ).loc Cert.Kernel7Ideal.main_v22_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_0) = v0 c
          ∧ r.2.mem ((c.tc : Thread Cert.Kernel7Ideal.nD Cert.Kernel7Ideal.τ).loc Cert.Kernel7Ideal.main_v22_1) = v1 c
          ∧ r.2.mem ((c.tc : Thread Cert.Kernel7Ideal.nD Cert.Kernel7Ideal.τ).loc Cert.Kernel7Ideal.main_v22_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v37) = v1 c
          ∧ r.2.mem ((c.tc : Thread Cert.Reference7Ideal.nD Cert.Reference7Ideal.τ).loc Cert.Reference7Ideal.main_v39) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v44_0)) (v1 : (c : Dev Cert.Kernel8Ideal.nD) → Buf (Elt Ideal) ((c.tc : Thread Cert.Kernel8Ideal.nD Cert.Kernel8Ideal.τ).loc Cert.Kernel8Ideal.main_v44_1)) (v2 : (c : Dev Cert.Kernel8Ideal.nD) → Buf (Elt Ideal) ((c.tc : Thread Cert.Kernel8Ideal.nD Cert.Kernel8Ideal.τ).loc Cert.Kernel8Ideal.main_v44_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v44_0) = v0 c
          ∧ r.2.mem ((c.tc : Thread Cert.Kernel8Ideal.nD Cert.Kernel8Ideal.τ).loc Cert.Kernel8Ideal.main_v44_1) = v1 c
          ∧ r.2.mem ((c.tc : Thread Cert.Kernel8Ideal.nD Cert.Kernel8Ideal.τ).loc Cert.Kernel8Ideal.main_v44_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v109) = v0 c
          ∧ r.2.mem ((c.tc : Thread Cert.Reference8Ideal.nD Cert.Reference8Ideal.τ).loc Cert.Reference8Ideal.main_v111) = v1 c
          ∧ r.2.mem ((c.tc : Thread Cert.Reference8Ideal.nD Cert.Reference8Ideal.τ).loc Cert.Reference8Ideal.main_v113) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v77) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2x4x64x16384 : Shape := ⟨4, ![2, 4, 64, 16384]⟩
abbrev S2x16384x128 : Shape := ⟨3, ![2, 16384, 128]⟩
abbrev S2x2x32x64x512 : Shape := ⟨5, ![2, 2, 32, 64, 512]⟩
abbrev S2x256x128 : Shape := ⟨3, ![2, 256, 128]⟩
abbrev S2x2x1x64x256 : Shape := ⟨5, ![2, 2, 1, 64, 256]⟩
abbrev S_ : Shape := ⟨0, ![]⟩

class Facts : Prop where
  bcast_S_S2x4x64x16384 : S_.BroadcastsInDim S2x4x64x16384 (![] : Fin 0 → Fin S2x4x64x16384.rank)
  reducesTo_S2x4x64x16384_S_d0_1_2_3 : S2x4x64x16384.ReducesTo [0, 1, 2, 3] S_
  h_S_ : 0 < S_.numel
  bcast_S_S2x16384x128 : S_.BroadcastsInDim S2x16384x128 (![] : Fin 0 → Fin S2x16384x128.rank)
  reducesTo_S2x16384x128_S_d0_1_2 : S2x16384x128.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_

variable [Facts]

def fn {F : FTy → Type} [FloatOps F] (main_arg0 : FVec F S2x4x64x16384 .bf16) (main_arg1 : FVec F S2x16384x128 .bf16) (main_arg2 : FVec F S2x2x32x64x512 .bf16) (main_arg3 : FVec F S2x256x128 .bf16) (main_arg4 : FVec F S2x2x1x64x256 .bf16) : IVec S_ 1 :=
  let main_v0 : FVec F S2x4x64x16384 .bf16 := Host.absf main_arg0
  let main_cst : FVec F S_ .bf16 := constant S_ .bf16 0x7F80#16
  let main_v1 : FVec F S2x4x64x16384 .bf16 := broadcastInDim S2x4x64x16384 ![] bcast_S_S2x4x64x16384 main_cst
  let main_v2 : IVec S2x4x64x16384 1 := cmpf .olt main_v0 main_v1
  let main_c : IVec S_ 1 := constantI S_ 1 1#1
  let main_v3 : IVec S_ 1 := (fun x v => Host.reduce IntOp.andi x v reducesTo_S2x4x64x16384_S_d0_1_2_3 h_S_) main_v2 main_c
  let main_v4 : FVec F S2x16384x128 .bf16 := Host.absf main_arg1
  let main_cst_0 : FVec F S_ .bf16 := constant S_ .bf16 0x7F80#16
  let main_v5 : FVec F S2x16384x128 .bf16 := broadcastInDim S2x16384x128 ![] bcast_S_S2x16384x128 main_cst_0
  let main_v6 : IVec S2x16384x128 1 := cmpf .olt main_v4 main_v5
  let main_c_1 : IVec S_ 1 := constantI S_ 1 1#1
  let main_v7 : IVec S_ 1 := (fun x v => Host.reduce IntOp.andi x v reducesTo_S2x16384x128_S_d0_1_2 h_S_) main_v6 main_c_1
  let main_v8 : IVec S_ 1 := andi main_v3 main_v7
  let main_v9 : FVec F S2x256x128 .bf16 := Host.absf main_arg3
  let main_cst_2 : FVec F S_ .bf16 := constant S_ .bf16 0x7F80#16
  let main_v10 : FVec F S2x256x128 .bf16 := broadcastInDim S2x256x128 ![] bcast_S_S2x256x128 main_cst_2
  let main_v11 : IVec S2x256x128 1 := cmpf .olt main_v9 main_v10
  let main_c_3 : IVec S_ 1 := constantI S_ 1 1#1
  let main_v12 : IVec S_ 1 := (fun x v => Host.reduce IntOp.andi x v reducesTo_S2x256x128_S_d0_1_2 h_S_) main_v11 main_c_3
  let main_v13 : IVec S_ 1 := andi main_v8 main_v12
  main_v13
-- ==== Pre_finite7.lean ====
abbrev S2x256x2048 : Shape := ⟨3, ![2, 256, 2048]⟩
abbrev S64 : Shape := ⟨1, ![64]⟩
abbrev S2x256x384 : Shape := ⟨3, ![2, 256, 384]⟩
abbrev S_ : Shape := ⟨0, ![]⟩

class Facts : Prop where
  slices_S2x256x2048_S2x256x384_0_0_256 : S2x256x2048.Slices ![0, 0, 256] S2x256x384
  bcast_S_S2x256x384 : S_.BroadcastsInDim S2x256x384 (![] : Fin 0 → Fin S2x256x384.rank)
  reducesTo_S2x256x384_S_d0_1_2 : S2x256x384.ReducesTo [0, 1, 2] S_
  h_S_ : 0 < S_.numel

variable [Facts]

def fn {F : FTy → Type} [FloatOps F] (main_arg0 : FVec F S2x256x2048 .f32) (main_arg1 : FVec F S64 .f32) (main_arg2 : FVec F S64 .f32) : IVec S_ 1 :=
  let main_v0 : FVec F S2x256x384 .f32 := (extractStridedSlice S2x256x384 ![0, 0, 256] · slices_S2x256x2048_S2x256x384_0_0_256) main_arg0
  let main_v1 : FVec F S2x256x384 .f32 := Host.absf main_v0
  let main_cst : FVec F S_ .f32 := constant S_ .f32 0x7F800000#32
  let main_v2 : FVec F S2x256x384 .f32 := broadcastInDim S2x256x384 ![] bcast_S_S2x256x384 main_cst
  let main_v3 : IVec S2x256x384 1 := cmpf .olt main_v1 main_v2
  let main_c : IVec S_ 1 := constantI S_ 1 1#1
  let main_v4 : IVec S_ 1 := (fun x v => Host.reduce IntOp.andi x v reducesTo_S2x256x384_S_d0_1_2 h_S_) main_v3 main_c
  main_v4
-- ==== Pre_finite8.lean ====
abbrev S2x16384x2048 : Shape := ⟨3, ![2, 16384, 2048]⟩
abbrev S16384x2x16 : Shape := ⟨3, ![16384, 2, 16]⟩
abbrev S64 : Shape := ⟨1, ![64]⟩
abbrev S2x16384x384 : Shape := ⟨3, ![2, 16384, 384]⟩
abbrev S_ : Shape := ⟨0, ![]⟩

class Facts : Prop where
  slices_S2x16384x2048_S2x16384x384_0_0_256 : S2x16384x2048.Slices ![0, 0, 256] S2x16384x384
  bcast_S_S2x16384x384 : S_.BroadcastsInDim S2x16384x384 (![] : Fin 0 → Fin S2x16384x384.rank)
  reducesTo_S2x16384x384_S_d0_1_2 : S2x16384x384.ReducesTo [0, 1, 2] S_
  h_S_ : 0 < S_.numel

variable [Facts]

def fn {F : FTy → Type} [FloatOps F] (main_arg0 : FVec F S2x16384x2048 .f32) (main_arg1 : FVec F S16384x2x16 .f32) (main_arg2 : FVec F S16384x2x16 .f32) (main_arg3 : FVec F S64 .f32) (main_arg4 : FVec F S64 .f32) : IVec S_ 1 :=
  let main_v0 : FVec F S2x16384x384 .f32 := (extractStridedSlice S2x16384x384 ![0, 0, 256] · slices_S2x16384x2048_S2x16384x384_0_0_256) main_arg0
  let main_v1 : FVec F S2x16384x384 .f32 := Host.absf main_v0
  let main_cst : FVec F S_ .f32 := constant S_ .f32 0x7F800000#32
  let main_v2 : FVec F S2x16384x384 .f32 := broadcastInDim S2x16384x384 ![] bcast_S_S2x16384x384 main_cst
  let main_v3 : IVec S2x16384x384 1 := cmpf .olt main_v1 main_v2
  let main_c : IVec S_ 1 := constantI S_ 1 1#1
  let main_v4 : IVec S_ 1 := (fun x v => Host.reduce IntOp.andi x v reducesTo_S2x16384x384_S_d0_1_2 h_S_) main_v3 main_c
  main_v4
-- ==== Kernel.lean ====
abbrev S2x4x64x16384 : Shape := ⟨4, ![2, 4, 64, 16384]⟩
abbrev S2x16384x128 : Shape := ⟨3, ![2, 16384, 128]⟩
abbrev S2x2x32x64x512 : Shape := ⟨5, ![2, 2, 32, 64, 512]⟩
abbrev S2x256x128 : Shape := ⟨3, ![2, 256, 128]⟩
abbrev S2x2x1x64x256 : Shape := ⟨5, ![2, 2, 1, 64, 256]⟩
abbrev S2x16384x256 : Shape := ⟨3, ![2, 16384, 256]⟩
abbrev S1x2x64x1024 : Shape := ⟨4, ![1, 2, 64, 1024]⟩
abbrev S1x16384x128 : Shape := ⟨3, ![1, 16384, 128]⟩
abbrev S1x1x32x64x512 : Shape := ⟨5, ![1, 1, 32, 64, 512]⟩
abbrev S1x256x128 : Shape := ⟨3, ![1, 256, 128]⟩
abbrev S1x1x1x64x256 : Shape := ⟨5, ![1, 1, 1, 64, 256]⟩
abbrev S1x1024x128 : Shape := ⟨3, ![1, 1024, 128]⟩
abbrev S4x128x512 : Shape := ⟨3, ![4, 128, 512]⟩
abbrev S4x8x512 : Shape := ⟨3, ![4, 8, 512]⟩
abbrev S4x64x512 : Shape := ⟨3, ![4, 64, 512]⟩
abbrev S4096x512 : Shape := ⟨2, ![4096, 512]⟩
abbrev S1x1x64x512 : Shape := ⟨4, ![1, 1, 64, 512]⟩
abbrev S64x512 : Shape := ⟨2, ![64, 512]⟩
abbrev S1x64x512 : Shape := ⟨3, ![1, 64, 512]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩
abbrev S64x256 : Shape := ⟨2, ![64, 256]⟩
abbrev S32x8x512 : Shape := ⟨3, ![32, 8, 512]⟩
abbrev S1x8x512 : Shape := ⟨3, ![1, 8, 512]⟩
abbrev S8x512 : Shape := ⟨2, ![8, 512]⟩
abbrev S8x8x512 : Shape := ⟨3, ![8, 8, 512]⟩
abbrev S1x4096x128 : Shape := ⟨3, ![1, 4096, 128]⟩
abbrev S4096x128 : Shape := ⟨2, ![4096, 128]⟩
abbrev S1x1x1x64x512 : Shape := ⟨5, ![1, 1, 1, 64, 512]⟩
abbrev S512x8x512 : Shape := ⟨3, ![512, 8, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 6
  | .vmem => 19
  | .smem => 0
  | _ => 0

abbrev bufTy : (tb : Table) → Fin (tcTables nBuf tb) → BufTy
  | .hbm, ⟨0, _⟩ => ⟨S2x4x64x16384, .bf16⟩
  | .hbm, ⟨1, _⟩ => ⟨S2x16384x128, .bf16⟩
  | .hbm, ⟨2, _⟩ => ⟨S2x2x32x64x512, .bf16⟩
  | .hbm, ⟨3, _⟩ => ⟨S2x256x128, .bf16⟩
  | .hbm, ⟨4, _⟩ => ⟨S2x2x1x64x256, .bf16⟩
  | .hbm, ⟨5, _⟩ => ⟨S2x16384x256, .bf16⟩
  | .local _ .vmem, ⟨0, _⟩ => ⟨S1x2x64x1024, .bf16⟩
  | .local _ .vmem, ⟨1, _⟩ => ⟨S1x2x64x1024, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x1x32x64x512, .bf16⟩
  | .local _ .vmem, ⟨5, _⟩ => ⟨S1x1x32x64x512, .bf16⟩
  | .local _ .vmem, ⟨6, _⟩ => ⟨S1x256x128, .bf16⟩
  | .local _ .vmem, ⟨7, _⟩ => ⟨S1x256x128, .bf16⟩
  | .local _ .vmem, ⟨8, _⟩ => ⟨S1x1x1x64x256, .bf16⟩
  | .local _ .vmem, ⟨9, _⟩ => ⟨S1x1x1x64x256, .bf16⟩
  | .local _ .vmem, ⟨10, _⟩ => ⟨S1x1024x128, .bf16⟩
  | .local _ .vmem, ⟨11, _⟩ => ⟨S1x1024x128, .bf16⟩
  | .local _ .vmem, ⟨12, _⟩ => ⟨S4x128x512, .bf16⟩
  | .local _ .vmem, ⟨13, _⟩ => ⟨S4x8x512, .f32⟩
  | .local _ .vmem, ⟨14, _⟩ => ⟨S4x8x512, .f32⟩
  | .local _ .vmem, ⟨15, _⟩ => ⟨S4x64x512, .f32⟩
  | .local _ .vmem, ⟨16, _⟩ => ⟨S4096x512, .f32⟩
  | .local _ .vmem, ⟨17, _⟩ => ⟨S4096x512, .f32⟩
  | .local _ .vmem, ⟨18, _⟩ => ⟨S4096x512, .f32⟩
  | _, _ => ⟨S2x4x64x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![2, 2, 16, 1], ![false, false, false, false]⟩

def k0_cond1 (i : grid0.Coords) : BitVec 1 :=
  let arg3 : BitVec 32 := BitVec.ofNat 32 (i 3).val
  let c0_i32 : BitVec 32 := 0#32
  let v0 : BitVec 1 := Scalar.cmpi .eq arg3 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c64_i32 : BitVec 32 := 64#32
  let v383 : BitVec 32 := Scalar.muli arg1 c64_i32
  v383
def k0_off1 (i : grid0.Coords) : Fin 3 → Nat :=
  let c0_330 : Index := 0#32
  let arg1 : BitVec 32 := BitVec.ofNat 32 (i 1).val
  let c64_i32 : BitVec 32 := 64#32
  let v383 : BitVec 32 := Scalar.muli arg1 c64_i32
  let v384 : BitVec 32 := v383
  let v387 : Index := Scalar.indexCast v384
  let c0_331 : Index := 0#32
  ![0, v387.toNat, 0]
def k0_off2 (i : grid0.Coords) : Fin 3 → Nat :=
  let c1_335 : Index := 1#32
  let arg1 : BitVec 32 := BitVec.ofNat 32 (i 1).val
  let c64_i32 : BitVec 32 := 64#32
  let v383 : BitVec 32 := Scalar.muli arg1 c64_i32
  let v384 : BitVec 32 := v383
  let v393 : Index := Scalar.indexCast v384
  let c0_336 : Index := 0#32
  ![1, v393.toNat, 0]
def k0_off3 (i : grid0.Coords) : Fin 3 → Nat :=
  let c2_341 : Index := 2#32
  let arg1 : BitVec 32 := BitVec.ofNat 32 (i 1).val
  let c64_i32 : BitVec 32 := 64#32
  let v383 : BitVec 32 := Scalar.muli arg1 c64_i32
  let v384 : BitVec 32 := v383
  let v399 : Index := Scalar.indexCast v384
  let c0_342 : Index := 0#32
  ![2, v399.toNat, 0]
def k0_off4 (i : grid0.Coords) : Fin 3 → Nat :=
  let c3_347 : Index := 3#32
  let arg1 : BitVec 32 := BitVec.ofNat 32 (i 1).val
  let c64_i32 : BitVec 32 := 64#32
  let v383 : BitVec 32 := Scalar.muli arg1 c64_i32
  let v384 : BitVec 32 := v383
  let v405 : Index := Scalar.indexCast v384
  let c0_348 : Index := 0#32
  ![3, v405.toNat, 0]
def k0_mult2 : BitVec 32 :=
  let c0_i32_1 : BitVec 32 := 0#32
  c0_i32_1
def k0_mult3 : BitVec 32 :=
  let c0_i32_8 : BitVec 32 := 0#32
  c0_i32_8
@[reducible] def k0_t1_loop : Scf.Loop 32 :=
  let c0_i32_16 : BitVec 32 := 0#32
  let c4_i32 : BitVec 32 := 4#32
  let v23 : BitVec 32 := Scalar.addi c0_i32_16 c4_i32
  let c1_i32 : BitVec 32 := 1#32
  ⟨c0_i32_16, v23, c1_i32⟩
def k0_mult4 (k0_t1 : Fin k0_t1_loop.trips) : BitVec 32 :=
  let c3_i32 : BitVec 32 := 3#32
  let c0_i32_16 : BitVec 32 := 0#32
  let c1_i32 : BitVec 32 := 1#32
  let arg17 : BitVec 32 := Scf.iv c0_i32_16 c1_i32 k0_t1
  let v379 : BitVec 32 := Scalar.muli c3_i32 arg17
  let c0_i32_322 : BitVec 32 := 0#32
  let v380 : BitVec 32 := Scalar.addi v379 c0_i32_322
  let c2_i32_323 : BitVec 32 := 2#32
  let v381 : BitVec 32 := Scalar.addi v380 c2_i32_323
  let c0_i32_325 : BitVec 32 := 0#32
  let v383 : BitVec 1 := Scalar.cmpi .sgt v381 c0_i32_325
  let v384 : BitVec 32 := Scalar.extui v383
  let c0_i32_326 : BitVec 32 := 0#32
  let v385 : BitVec 1 := Scalar.cmpi .slt v381 c0_i32_326
  let v386 : BitVec 32 := Scalar.extui v385
  let v387 : BitVec 32 := Scalar.subi v384 v386
  let c4_i32_324 : BitVec 32 := 4#32
  let c0_i32_327 : BitVec 32 := 0#32
  let v388 : BitVec 1 := Scalar.cmpi .sgt c4_i32_324 c0_i32_327
  let v389 : BitVec 32 := Scalar.extui v388
  let c0_i32_328 : BitVec 32 := 0#32
  let v390 : BitVec 1 := Scalar.cmpi .slt c4_i32_324 c0_i32_328
  let v391 : BitVec 32 := Scalar.extui v390
  let v392 : BitVec 32 := Scalar.subi v389 v391
  let v393 : BitVec 1 := Scalar.cmpi .ne v387 v392
  let v394 : BitVec 32 := Scalar.remsi v381 c4_i32_324
  let c0_i32_329 : BitVec 32 := 0#32
  let v395 : BitVec 1 := Scalar.cmpi .ne v394 c0_i32_329
  let v396 : BitVec 1 := Scalar.andi v393 v395
  let v382 : BitVec 32 := Scalar.divsi v381 c4_i32_324
  let c1_i32_330 : BitVec 32 := 1#32
  let v397 : BitVec 32 := Scalar.subi v382 c1_i32_330
  let v398 : BitVec 32 := Scalar.select v396 v397 v382
  let c4096_i32 : BitVec 32 := 4096#32
  let v399 : BitVec 32 := Scalar.muli v398 c4096_i32
  v399
def k0_off5 (k0_t1 : Fin k0_t1_loop.trips) (c0_i32_322 : BitVec 32) : Fin 3 → Nat :=
  let c0_331 : Index := 0#32
  let c3_i32 : BitVec 32 := 3#32
  let c0_i32_16 : BitVec 32 := 0#32
  let c1_i32 : BitVec 32 := 1#32
  let arg17 : BitVec 32 := Scf.iv c0_i32_16 c1_i32 k0_t1
  let v379 : BitVec 32 := Scalar.muli c3_i32 arg17
  let v380 : BitVec 32 := Scalar.addi v379 c0_i32_322
  let c2_i32_323 : BitVec 32 := 2#32
  let v381 : BitVec 32 := Scalar.addi v380 c2_i32_323
  let c0_i32_325 : BitVec 32 := 0#32
  let v383 : BitVec 1 := Scalar.cmpi .sgt v381 c0_i32_325
  let v384 : BitVec 32 := Scalar.extui v383
  let c0_i32_326 : BitVec 32 := 0#32
  let v385 : BitVec 1 := Scalar.cmpi .slt v381 c0_i32_326
  let v386 : BitVec 32 := Scalar.extui v385
  let v387 : BitVec 32 := Scalar.subi v384 v386
  let c4_i32_324 : BitVec 32 := 4#32
  let c0_i32_327 : BitVec 32 := 0#32
  let v388 : BitVec 1 := Scalar.cmpi .sgt c4_i32_324 c0_i32_327
  let v389 : BitVec 32 := Scalar.extui v388
  let c0_i32_328 : BitVec 32 := 0#32
  let v390 : BitVec 1 := Scalar.cmpi .slt c4_i32_324 c0_i32_328
  let v391 : BitVec 32 := Scalar.extui v390
  let v392 : BitVec 32 := Scalar.subi v389 v391
  let v393 : BitVec 1 := Scalar.cmpi .ne v387 v392
  let v394 : BitVec 32 := Scalar.remsi v381 c4_i32_324
  let c0_i32_329 : BitVec 32 := 0#32
  let v395 : BitVec 1 := Scalar.cmpi .ne v394 c0_i32_329
  let v396 : BitVec 1 := Scalar.andi v393 v395
  let v382 : BitVec 32 := Scalar.divsi v381 c4_i32_324
  let c1_i32_330 : BitVec 32 := 1#32
  let v397 : BitVec 32 := Scalar.subi v382 c1_i32_330
  let v398 : BitVec 32 := Scalar.select v396 v397 v382
  let c4096_i32 : BitVec 32 := 4096#32
  let v399 : BitVec 32 := Scalar.muli v398 c4096_i32
  let v400 : BitVec 32 := v399
  let v401 : Index := Scalar.indexCast v400
  let c0_332 : Index := 0#32
  ![0, v401.toNat, 0]
def k0_off6 (k0_t1 : Fin k0_t1_loop.trips) (c0_i32_322 : BitVec 32) : Fin 3 → Nat :=
  let c3_i32 : BitVec 32 := 3#32
  let c0_i32_16 : BitVec 32 := 0#32
  let c1_i32 : BitVec 32 := 1#32
  let arg17 : BitVec 32 := Scf.iv c0_i32_16 c1_i32 k0_t1
  let v379 : BitVec 32 := Scalar.muli c3_i32 arg17
  let v380 : BitVec 32 := Scalar.addi v379 c0_i32_322
  let c2_i32_323 : BitVec 32 := 2#32
  let v381 : BitVec 32 := Scalar.addi v380 c2_i32_323
  let c4_i32_333 : BitVec 32 := 4#32
  let c0_i32_334 : BitVec 32 := 0#32
  let v404 : BitVec 1 := Scalar.cmpi .eq c4_i32_333 c0_i32_334
  let c1_i32_335 : BitVec 32 := 1#32
  let v405 : BitVec 32 := Scalar.select v404 c1_i32_335 c4_i32_333
  let v406 : BitVec 32 := Scalar.remsi v381 v405
  let c0_i32_337 : BitVec 32 := 0#32
  let v408 : BitVec 1 := Scalar.cmpi .slt v406 c0_i32_337
  let c0_i32_338 : BitVec 32 := 0#32
  let v409 : BitVec 1 := Scalar.cmpi .slt v405 c0_i32_338
  let v410 : BitVec 1 := Scalar.xori v408 v409
  let c0_i32_336 : BitVec 32 := 0#32
  let v407 : BitVec 1 := Scalar.cmpi .ne v406 c0_i32_336
  let v411 : BitVec 1 := Scalar.andi v410 v407
  let v412 : BitVec 32 := Scalar.addi v406 v405
  let v413 : BitVec 32 := Scalar.select v411 v412 v406
  let v414 : Index := Scalar.indexCast v413
  let c0_339 : Index := 0#32
  let c0_340 : Index := 0#32
  ![v414.toNat, 0, 0]
def k0_off7 (k0_t1 : Fin k0_t1_loop.trips) (c0_i32_345 : BitVec 32) (c0_i32_355 : BitVec 32) : Fin 5 → Nat :=
  let c0_356 : Index := 0#32
  let c0_357 : Index := 0#32
  let c3_i32_344 : BitVec 32 := 3#32
  let c0_i32_16 : BitVec 32 := 0#32
  let c1_i32 : BitVec 32 := 1#32
  let arg17 : BitVec 32 := Scf.iv c0_i32_16 c1_i32 k0_t1
  let v421 : BitVec 32 := Scalar.muli c3_i32_344 arg17
  let v422 : BitVec 32 := Scalar.addi v421 c0_i32_345
  let c0_i32_349 : BitVec 32 := 0#32
  let v425 : BitVec 1 := Scalar.cmpi .sgt v422 c0_i32_349
  let v426 : BitVec 32 := Scalar.extui v425
  let c0_i32_350 : BitVec 32 := 0#32
  let v427 : BitVec 1 := Scalar.cmpi .slt v422 c0_i32_350
  let v428 : BitVec 32 := Scalar.extui v427
  let v429 : BitVec 32 := Scalar.subi v426 v428
  let c4_i32_348 : BitVec 32 := 4#32
  let c0_i32_351 : BitVec 32 := 0#32
  let v430 : BitVec 1 := Scalar.cmpi .sgt c4_i32_348 c0_i32_351
  let v431 : BitVec 32 := Scalar.extui v430
  let c0_i32_352 : BitVec 32 := 0#32
  let v432 : BitVec 1 := Scalar.cmpi .slt c4_i32_348 c0_i32_352
  let v433 : BitVec 32 := Scalar.extui v432
  let v434 : BitVec 32 := Scalar.subi v431 v433
  let v435 : BitVec 1 := Scalar.cmpi .ne v429 v434
  let v436 : BitVec 32 := Scalar.remsi v422 c4_i32_348
  let c0_i32_353 : BitVec 32 := 0#32
  let v437 : BitVec 1 := Scalar.cmpi .ne v436 c0_i32_353
  let v438 : BitVec 1 := Scalar.andi v435 v437
  let v424 : BitVec 32 := Scalar.divsi v422 c4_i32_348
  let c1_i32_354 : BitVec 32 := 1#32
  let v439 : BitVec 32 := Scalar.subi v424 c1_i32_354
  let v440 : BitVec 32 := Scalar.select v438 v439 v424
  let c8_i32 : BitVec 32 := 8#32
  let v441 : BitVec 32 := Scalar.muli v440 c8_i32
  let v442 : BitVec 32 := Scalar.addi v441 c0_i32_355
  let v443 : Index := Scalar.indexCast v442
  let c0_358 : Index := 0#32
  let c0_359 : Index := 0#32
  ![0, 0, v443.toNat, 0, 0]
def k0_off8 (k0_t1 : Fin k0_t1_loop.trips) (c0_i32_345 : BitVec 32) : Fin 3 → Nat :=
  let c3_i32_344 : BitVec 32 := 3#32
  let c0_i32_16 : BitVec 32 := 0#32
  let c1_i32 : BitVec 32 := 1#32
  let arg17 : BitVec 32 := Scf.iv c0_i32_16 c1_i32 k0_t1
  let v421 : BitVec 32 := Scalar.muli c3_i32_344 arg17
  let v422 : BitVec 32 := Scalar.addi v421 c0_i32_345
  let c4_i32_448 : BitVec 32 := 4#32
  let c0_i32_449 : BitVec 32 := 0#32
  let v600 : BitVec 1 := Scalar.cmpi .eq c4_i32_448 c0_i32_449
  let c1_i32_450 : BitVec 32 := 1#32
  let v601 : BitVec 32 := Scalar.select v600 c1_i32_450 c4_i32_448
  let v602 : BitVec 32 := Scalar.remsi v422 v601
  let c0_i32_452 : BitVec 32 := 0#32
  let v604 : BitVec 1 := Scalar.cmpi .slt v602 c0_i32_452
  let c0_i32_453 : BitVec 32 := 0#32
  let v605 : BitVec 1 := Scalar.cmpi .slt v601 c0_i32_453
  let v606 : BitVec 1 := Scalar.xori v604 v605
  let c0_i32_451 : BitVec 32 := 0#32
  let v603 : BitVec 1 := Scalar.cmpi .ne v602 c0_i32_451
  let v607 : BitVec 1 := Scalar.andi v606 v603
  let v608 : BitVec 32 := Scalar.addi v602 v601
  let v609 : BitVec 32 := Scalar.select v607 v608 v602
  let v611 : Index := Scalar.indexCast v609
  let c0_454 : Index := 0#32
  let c0_455 : Index := 0#32
  ![v611.toNat, 0, 0]
def k0_off9 (k0_t1 : Fin k0_t1_loop.trips) (c0_i32_345 : BitVec 32) : Fin 3 → Nat :=
  let c3_i32_344 : BitVec 32 := 3#32
  let c0_i32_16 : BitVec 32 := 0#32
  let c1_i32 : BitVec 32 := 1#32
  let arg17 : BitVec 32 := Scf.iv c0_i32_16 c1_i32 k0_t1
  let v421 : BitVec 32 := Scalar.muli c3_i32_344 arg17
  let v422 : BitVec 32 := Scalar.addi v421 c0_i32_345
  let c4_i32_448 : BitVec 32 := 4#32
  let c0_i32_449 : BitVec 32 := 0#32
  let v600 : BitVec 1 := Scalar.cmpi .eq c4_i32_448 c0_i32_449
  let c1_i32_450 : BitVec 32 := 1#32
  let v601 : BitVec 32 := Scalar.select v600 c1_i32_450 c4_i32_448
  let v602 : BitVec 32 := Scalar.remsi v422 v601
  let c0_i32_452 : BitVec 32 := 0#32
  let v604 : BitVec 1 := Scalar.cmpi .slt v602 c0_i32_452
  let c0_i32_453 : BitVec 32 := 0#32
  let v605 : BitVec 1 := Scalar.cmpi .slt v601 c0_i32_453
  let v606 : BitVec 1 := Scalar.xori v604 v605
  let c0_i32_451 : BitVec 32 := 0#32
  let v603 : BitVec 1 := Scalar.cmpi .ne v602 c0_i32_451
  let v607 : BitVec 1 := Scalar.andi v606 v603
  let v608 : BitVec 32 := Scalar.addi v602 v601
  let v609 : BitVec 32 := Scalar.select v607 v608 v602
  let v665 : Index := Scalar.indexCast v609
  let c0_474 : Index := 0#32
  let c0_475 : Index := 0#32
  ![v665.toNat, 0, 0]
def k0_mult5 (k0_t1 : Fin k0_t1_loop.trips) : BitVec 32 :=
  let c3_i32_480 : BitVec 32 := 3#32
  let c0_i32_16 : BitVec 32 := 0#32
  let c1_i32 : BitVec 32 := 1#32
  let arg17 : BitVec 32 := Scf.iv c0_i32_16 c1_i32 k0_t1
  let v682 : BitVec 32 := Scalar.muli c3_i32_480 arg17
  let c1_i32_481 : BitVec 32 := 1#32
  let v683 : BitVec 32 := Scalar.addi v682 c1_i32_481
  let c2_i32_482 : BitVec 32 := 2#32
  let v684 : BitVec 32 := Scalar.addi v683 c2_i32_482
  let c0_i32_484 : BitVec 32 := 0#32
  let v686 : BitVec 1 := Scalar.cmpi .sgt v684 c0_i32_484
  let v687 : BitVec 32 := Scalar.extui v686
  let c0_i32_485 : BitVec 32 := 0#32
  let v688 : BitVec 1 := Scalar.cmpi .slt v684 c0_i32_485
  let v689 : BitVec 32 := Scalar.extui v688
  let v690 : BitVec 32 := Scalar.subi v687 v689
  let c4_i32_483 : BitVec 32 := 4#32
  let c0_i32_486 : BitVec 32 := 0#32
  let v691 : BitVec 1 := Scalar.cmpi .sgt c4_i32_483 c0_i32_486
  let v692 : BitVec 32 := Scalar.extui v691
  let c0_i32_487 : BitVec 32 := 0#32
  let v693 : BitVec 1 := Scalar.cmpi .slt c4_i32_483 c0_i32_487
  let v694 : BitVec 32 := Scalar.extui v693
  let v695 : BitVec 32 := Scalar.subi v692 v694
  let v696 : BitVec 1 := Scalar.cmpi .ne v690 v695
  let v697 : BitVec 32 := Scalar.remsi v684 c4_i32_483
  let c0_i32_488 : BitVec 32 := 0#32
  let v698 : BitVec 1 := Scalar.cmpi .ne v697 c0_i32_488
  let v699 : BitVec 1 := Scalar.andi v696 v698
  let v685 : BitVec 32 := Scalar.divsi v684 c4_i32_483
  let c1_i32_489 : BitVec 32 := 1#32
  let v700 : BitVec 32 := Scalar.subi v685 c1_i32_489
  let v701 : BitVec 32 := Scalar.select v699 v700 v685
  let c4096_i32_490 : BitVec 32 := 4096#32
  let v702 : BitVec 32 := Scalar.muli v701 c4096_i32_490
  v702
def k0_mult6 (k0_t1 : Fin k0_t1_loop.trips) : BitVec 32 :=
  let c3_i32_644 : BitVec 32 := 3#32
  let c0_i32_16 : BitVec 32 := 0#32
  let c1_i32 : BitVec 32 := 1#32
  let arg17 : BitVec 32 := Scf.iv c0_i32_16 c1_i32 k0_t1
  let v985 : BitVec 32 := Scalar.muli c3_i32_644 arg17
  let c2_i32_645 : BitVec 32 := 2#32
  let v986 : BitVec 32 := Scalar.addi v985 c2_i32_645
  let c2_i32_646 : BitVec 32 := 2#32
  let v987 : BitVec 32 := Scalar.addi v986 c2_i32_646
  let c0_i32_648 : BitVec 32 := 0#32
  let v989 : BitVec 1 := Scalar.cmpi .sgt v987 c0_i32_648
  let v990 : BitVec 32 := Scalar.extui v989
  let c0_i32_649 : BitVec 32 := 0#32
  let v991 : BitVec 1 := Scalar.cmpi .slt v987 c0_i32_649
  let v992 : BitVec 32 := Scalar.extui v991
  let v993 : BitVec 32 := Scalar.subi v990 v992
  let c4_i32_647 : BitVec 32 := 4#32
  let c0_i32_650 : BitVec 32 := 0#32
  let v994 : BitVec 1 := Scalar.cmpi .sgt c4_i32_647 c0_i32_650
  let v995 : BitVec 32 := Scalar.extui v994
  let c0_i32_651 : BitVec 32 := 0#32
  let v996 : BitVec 1 := Scalar.cmpi .slt c4_i32_647 c0_i32_651
  let v997 : BitVec 32 := Scalar.extui v996
  let v998 : BitVec 32 := Scalar.subi v995 v997
  let v999 : BitVec 1 := Scalar.cmpi .ne v993 v998
  let v1000 : BitVec 32 := Scalar.remsi v987 c4_i32_647
  let c0_i32_652 : BitVec 32 := 0#32
  let v1001 : BitVec 1 := Scalar.cmpi .ne v1000 c0_i32_652
  let v1002 : BitVec 1 := Scalar.andi v999 v1001
  let v988 : BitVec 32 := Scalar.divsi v987 c4_i32_647
  let c1_i32_653 : BitVec 32 := 1#32
  let v1003 : BitVec 32 := Scalar.subi v988 c1_i32_653
  let v1004 : BitVec 32 := Scalar.select v1002 v1003 v988
  let c4096_i32_654 : BitVec 32 := 4096#32
  let v1005 : BitVec 32 := Scalar.muli v1004 c4096_i32_654
  v1005
def k0_mult7 : BitVec 32 :=
  let c12288_i32 : BitVec 32 := 12288#32
  c12288_i32
def k0_mult8 : BitVec 32 :=
  let c12288_i32_90 : BitVec 32 := 12288#32
  c12288_i32_90
def k0_cond2 (i : grid0.Coords) : BitVec 1 :=
  let arg3 : BitVec 32 := BitVec.ofNat 32 (i 3).val
  let c0_i32_320 : BitVec 32 := 0#32
  let v376 : BitVec 1 := Scalar.cmpi .eq arg3 c0_i32_320
  let v377 : BitVec 32 := Scalar.extui v376
  let c0_i32_321 : BitVec 32 := 0#32
  let v378 : BitVec 1 := Scalar.cmpi .ne v377 c0_i32_321
  v378

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, arg3.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1x1x32x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1x1x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== ReferenceIdeal.lean ====
abbrev S2x4x64x16384 : Shape := ⟨4, ![2, 4, 64, 16384]⟩
abbrev S2x16384x128 : Shape := ⟨3, ![2, 16384, 128]⟩
abbrev S2x2x32x64x512 : Shape := ⟨5, ![2, 2, 32, 64, 512]⟩
abbrev S2x256x128 : Shape := ⟨3, ![2, 256, 128]⟩
abbrev S2x2x1x64x256 : Shape := ⟨5, ![2, 2, 1, 64, 256]⟩
abbrev S2x2x2x64x16384 : Shape := ⟨5, ![2, 2, 2, 64, 16384]⟩
abbrev S2x2x2x16384x64 : Shape := ⟨5, ![2, 2, 2, 16384, 64]⟩
abbrev S_ : Shape := ⟨0, ![]⟩
abbrev S2x16640x128 : Shape := ⟨3, ![2, 16640, 128]⟩
abbrev S2x16640x2x64 : Shape := ⟨4, ![2, 16640, 2, 64]⟩
abbrev S2x2x16640x64 : Shape := ⟨4, ![2, 2, 16640, 64]⟩
abbrev S2x2x1x256x64 : Shape := ⟨5, ![2, 2, 1, 256, 64]⟩
abbrev S2x2x256x64 : Shape := ⟨4, ![2, 2, 256, 64]⟩
abbrev S2x2x32x512x64 : Shape := ⟨5, ![2, 2, 32, 512, 64]⟩
abbrev S2x2x16384x64 : Shape := ⟨4, ![2, 2, 16384, 64]⟩
abbrev S2x2x2x16384x16640 : Shape := ⟨5, ![2, 2, 2, 16384, 16640]⟩
abbrev S2x2x2x16384 : Shape := ⟨4, ![2, 2, 2, 16384]⟩
abbrev S2x2x2x16384x1 : Shape := ⟨5, ![2, 2, 2, 16384, 1]⟩
abbrev S2x16384x2x2x64 : Shape := ⟨5, ![2, 16384, 2, 2, 64]⟩
abbrev S2x16384x256 : Shape := ⟨3, ![2, 16384, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x4x64x16384, .bf16⟩
  | .hbm, ⟨1, _⟩ => ⟨S2x16384x128, .bf16⟩
  | .hbm, ⟨2, _⟩ => ⟨S2x2x32x64x512, .bf16⟩
  | .hbm, ⟨3, _⟩ => ⟨S2x256x128, .bf16⟩
  | .hbm, ⟨4, _⟩ => ⟨S2x2x1x64x256, .bf16⟩
  | .hbm, ⟨5, _⟩ => ⟨S2x2x2x64x16384, .bf16⟩
  | .hbm, ⟨6, _⟩ => ⟨S2x2x2x16384x64, .bf16⟩
  | .hbm, ⟨7, _⟩ => ⟨S2x2x2x16384x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x2x2x16384x64, .f32⟩
  | .hbm, ⟨13, _⟩ => ⟨S2x2x2x16384x64, .f32⟩
  | .hbm, ⟨14, _⟩ => ⟨S2x16640x128, .bf16⟩
  | .hbm, ⟨15, _⟩ => ⟨S2x16640x2x64, .bf16⟩
  | .hbm, ⟨16, _⟩ => ⟨S2x2x16640x64, .bf16⟩
  | .hbm, ⟨17, _⟩ => ⟨S2x2x16640x64, .f32⟩
  | .hbm, ⟨18, _⟩ => ⟨S2x2x1x256x64, .bf16⟩
  | .hbm, ⟨19, _⟩ => ⟨S2x2x256x64, .bf16⟩
  | .hbm, ⟨20, _⟩ => ⟨S2x2x32x512x64, .bf16⟩
  | .hbm, ⟨21, _⟩ => ⟨S2x2x16384x64, .bf16⟩
  | .hbm, ⟨22, _⟩ => ⟨S2x2x16640x64, .bf16⟩
  | .hbm, ⟨23, _⟩ => ⟨S2x2x16640x64, .f32⟩
  | .hbm, ⟨24, _⟩ => ⟨S2x2x2x16384x16640, .f32⟩
  | .hbm, ⟨25, _⟩ => ⟨S2x2x2x16384x16640, .bf16⟩
  | .hbm, ⟨26, _⟩ => ⟨S2x2x2x16384x16640, .f32⟩
  | .hbm, ⟨27, _⟩ => ⟨S_, .f32⟩
  | .hbm, ⟨28, _⟩ => ⟨S2x2x2x16384x16640, .f32⟩
  | .hbm, ⟨29, _⟩ => ⟨S2x2x2x16384x16640, .f32⟩
  | .hbm, ⟨30, _⟩ => ⟨S_, .f32⟩
  | .hbm, ⟨31, _⟩ => ⟨S2x2x2x16384, .f32⟩
  | .hbm, ⟨32, _⟩ => ⟨S_, .f32⟩
  | .hbm, ⟨33, _⟩ => ⟨S2x2x2x16384, .f32⟩
  | .hbm, ⟨34, _⟩ => ⟨S2x2x2x16384, .f32⟩
  | .hbm, ⟨35, _⟩ => ⟨S2x2x2x16384x1, .f32⟩
  | .hbm, ⟨36, _⟩ => ⟨S2x2x2x16384x16640, .f32⟩
  | .hbm, ⟨37, _⟩ => ⟨S2x2x2x16384x16640, .f32⟩
  | .hbm, ⟨38, _⟩ => ⟨S2x2x2x16384x16640, .f32⟩
  | .hbm, ⟨39, _⟩ => ⟨S_, .f32⟩
  | .hbm, ⟨40, _⟩ => ⟨S2x2x2x16384, .f32⟩
  | .hbm, ⟨41, _⟩ => ⟨S2x2x2x16384x1, .f32⟩
  | .hbm, ⟨42, _⟩ => ⟨S2x2x2x16384x16640, .f32⟩
  | .hbm, ⟨43, _⟩ => ⟨S2x2x2x16384x16640, .f32⟩
  | .hbm, ⟨44, _⟩ => ⟨S2x2x2x16384x16640, .bf16⟩
  | .hbm, ⟨45, _⟩ => ⟨S2x2x2x16384x16640, .f32⟩
  | .hbm, ⟨46, _⟩ => ⟨S2x2x2x16384x64, .f32⟩
  | .hbm, ⟨47, _⟩ => ⟨S2x2x2x16384x64, .bf16⟩
  | .hbm, ⟨48, _⟩ => ⟨S2x16384x2x2x64, .bf16⟩
  | .hbm, ⟨49, _⟩ => ⟨S2x16384x256, .bf16⟩
  | _, _ => ⟨S2x4x64x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16384x256 : Shape := ⟨3, ![2, 16384, 256]⟩
abbrev S2x16384x2048 : Shape := ⟨3, ![2, 16384, 2048]⟩
abbrev S2x6x1024 : Shape := ⟨3, ![2, 6, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x256 : Shape := ⟨3, ![1, 512, 256]⟩
abbrev S1x6x1024 : Shape := ⟨3, ![1, 6, 1024]⟩
abbrev S6x1024 : Shape := ⟨2, ![6, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 24
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .bf16⟩
  | .hbm, ⟨3, _⟩ => ⟨S2x16384x256, .f32⟩
  | .hbm, ⟨4, _⟩ => ⟨S2x16384x256, .f32⟩
  | .hbm, ⟨5, _⟩ => ⟨S2x16384x2048, .f32⟩
  | .hbm, ⟨6, _⟩ => ⟨S2x16384x256, .f32⟩
  | .hbm, ⟨7, _⟩ => ⟨S2x6x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x4096, .f32⟩
  | .hbm, ⟨13, _⟩ => ⟨S4096x1024, .f32⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .bf16⟩
  | .local _ .vmem, ⟨5, _⟩ => ⟨S1x512x256, .bf16⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x6x1024, .f32⟩
  | .local _ .vmem, ⟨15, _⟩ => ⟨S1x6x1024, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x4096, .bf16⟩
  | .local _ .vmem, ⟨21, _⟩ => ⟨S4096x1024, .bf16⟩
  | .local _ .vmem, ⟨22, _⟩ => ⟨S1x512x1024, .f32⟩
  | .local _ .vmem, ⟨23, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S2x16384x1024 : Shape := ⟨3, ![2, 16384, 1024]⟩
abbrev S2x16384x256 : Shape := ⟨3, ![2, 16384, 256]⟩
abbrev S2x16384x2048 : Shape := ⟨3, ![2, 16384, 2048]⟩
abbrev S2x6x1024 : Shape := ⟨3, ![2, 6, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩

abbrev nBuf : Space → Nat
  | .hbm => 108
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .bf16⟩
  | .hbm, ⟨3, _⟩ => ⟨S2x16384x256, .f32⟩
  | .hbm, ⟨4, _⟩ => ⟨S2x16384x256, .f32⟩
  | .hbm, ⟨5, _⟩ => ⟨S2x16384x2048, .f32⟩
  | .hbm, ⟨6, _⟩ => ⟨S2x16384x256, .f32⟩
  | .hbm, ⟨7, _⟩ => ⟨S2x6x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x4096, .f32⟩
  | .hbm, ⟨13, _⟩ => ⟨S4096x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x16384x256, .f32⟩
  | .hbm, ⟨19, _⟩ => ⟨S2x16384x256, .f32⟩
  | .hbm, ⟨20, _⟩ => ⟨S2x16384x256, .f32⟩
  | .hbm, ⟨21, _⟩ => ⟨S2x16384x256, .f32⟩
  | .hbm, ⟨22, _⟩ => ⟨S_, .f32⟩
  | .hbm, ⟨23, _⟩ => ⟨S2x16384x256, .f32⟩
  | .hbm, ⟨24, _⟩ => ⟨S2x16384x256, .f32⟩
  | .hbm, ⟨25, _⟩ => ⟨S2x16384x256, .f32⟩
  | .hbm, ⟨26, _⟩ => ⟨S_, .f32⟩
  | .hbm, ⟨27, _⟩ => ⟨S2x16384x256, .f32⟩
  | .hbm, ⟨28, _⟩ => ⟨S2x16384x256, .f32⟩
  | .hbm, ⟨29, _⟩ => ⟨S2x16384x256, .f32⟩
  | .hbm, ⟨30, _⟩ => ⟨S_, .f32⟩
  | .hbm, ⟨31, _⟩ => ⟨S2x16384x256, .f32⟩
  | .hbm, ⟨32, _⟩ => ⟨S2x16384x256, .f32⟩
  | .hbm, ⟨33, _⟩ => ⟨S_, .f32⟩
  | .hbm, ⟨34, _⟩ => ⟨S2x16384x256, .f32⟩
  | .hbm, ⟨35, _⟩ => ⟨S2x16384x256, .f32⟩
  | .hbm, ⟨36, _⟩ => ⟨S2x16384x256, .f32⟩
  | .hbm, ⟨37, _⟩ => ⟨S2x16384x256, .f32⟩
  | .hbm, ⟨38, _⟩ => ⟨S2x16384x256, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S_, .f32⟩
  | .hbm, ⟨43, _⟩ => ⟨S2x16384, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x1, .f32⟩
  | .hbm, ⟨52, _⟩ => ⟨S2x16384x1024, .f32⟩
  | .hbm, ⟨53, _⟩ => ⟨S2x16384x1024, .f32⟩
  | .hbm, ⟨54, _⟩ => ⟨S1x1x1024, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S_, .f32⟩
  | .hbm, ⟨62, _⟩ => ⟨S2x16384, .f32⟩
  | .hbm, ⟨63, _⟩ => ⟨S2x16384x1, .f32⟩
  | .hbm, ⟨64, _⟩ => ⟨S_, .f32⟩
  | .hbm, ⟨65, _⟩ => ⟨S2x16384x1, .f32⟩
  | .hbm, ⟨66, _⟩ => ⟨S2x16384x1, .f32⟩
  | .hbm, ⟨67, _⟩ => ⟨S_, .f32⟩
  | .hbm, ⟨68, _⟩ => ⟨S2x16384x1, .f32⟩
  | .hbm, ⟨69, _⟩ => ⟨S2x16384x1, .f32⟩
  | .hbm, ⟨70, _⟩ => ⟨S2x16384x1, .f32⟩
  | .hbm, ⟨71, _⟩ => ⟨S2x16384x1024, .f32⟩
  | .hbm, ⟨72, _⟩ => ⟨S2x16384x1024, .f32⟩
  | .hbm, ⟨73, _⟩ => ⟨S1x1x1024, .f32⟩
  | .hbm, ⟨74, _⟩ => ⟨S2x16384x1024, .f32⟩
  | .hbm, ⟨75, _⟩ => ⟨S2x16384x1024, .f32⟩
  | .hbm, ⟨76, _⟩ => ⟨S_, .f32⟩
  | .hbm, ⟨77, _⟩ => ⟨S2x1x1024, .f32⟩
  | .hbm, ⟨78, _⟩ => ⟨S2x1x1024, .f32⟩
  | .hbm, ⟨79, _⟩ => ⟨S2x16384x1024, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S2x16384x4096, .f32⟩
  | .hbm, ⟨84, _⟩ => ⟨S_, .f32⟩
  | .hbm, ⟨85, _⟩ => ⟨S2x16384x4096, .f32⟩
  | .hbm, ⟨86, _⟩ => ⟨S2x16384x4096, .f32⟩
  | .hbm, ⟨87, _⟩ => ⟨S2x16384x4096, .f32⟩
  | .hbm, ⟨88, _⟩ => ⟨S2x16384x1024, .f32⟩
  | .hbm, ⟨89, _⟩ => ⟨S2x16384x1024, .f32⟩
  | .hbm, ⟨90, _⟩ => ⟨S_, .f32⟩
  | .hbm, ⟨91, _⟩ => ⟨S2x16384, .f32⟩
  | .hbm, ⟨92, _⟩ => ⟨S2x16384x1, .f32⟩
  | .hbm, ⟨93, _⟩ => ⟨S_, .f32⟩
  | .hbm, ⟨94, _⟩ => ⟨S2x16384x1, .f32⟩
  | .hbm, ⟨95, _⟩ => ⟨S2x16384x1, .f32⟩
  | .hbm, ⟨96, _⟩ => ⟨S_, .f32⟩
  | .hbm, ⟨97, _⟩ => ⟨S2x16384x1, .f32⟩
  | .hbm, ⟨98, _⟩ => ⟨S2x16384x1, .f32⟩
  | .hbm, ⟨99, _⟩ => ⟨S2x16384x1, .f32⟩
  | .hbm, ⟨100, _⟩ => ⟨S2x16384x1024, .f32⟩
  | .hbm, ⟨101, _⟩ => ⟨S2x16384x1024, .f32⟩
  | .hbm, ⟨102, _⟩ => ⟨S1x1x1024, .f32⟩
  | .hbm, ⟨103, _⟩ => ⟨S2x16384x1024, .f32⟩
  | .hbm, ⟨104, _⟩ => ⟨S2x16384x1024, .f32⟩
  | .hbm, ⟨105, _⟩ => ⟨S2x16384x1024, .f32⟩
  | .hbm, ⟨106, _⟩ => ⟨S2x16384x1024, .f32⟩
  | .hbm, ⟨107, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call0_cst : Ref sig .tc := ⟨.hbm, 84, rfl⟩
abbrev main_call0_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x6x1024 : Shape := ⟨3, ![2, 6, 1024]⟩
abbrev S1024 : Shape := ⟨1, ![1024]⟩
abbrev S1024x2048 : Shape := ⟨2, ![1024, 2048]⟩
abbrev S1x1024 : Shape := ⟨2, ![1, 1024]⟩
abbrev S2x16384x2048 : Shape := ⟨3, ![2, 16384, 2048]⟩
abbrev S1x1024x1024 : Shape := ⟨3, ![1, 1024, 1024]⟩
abbrev S1x6x1024 : Shape := ⟨3, ![1, 6, 1024]⟩
abbrev S1x1024x2048 : Shape := ⟨3, ![1, 1024, 2048]⟩
abbrev S6x1024 : Shape := ⟨2, ![6, 1024]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S2x6x1024, .f32⟩
  | .hbm, ⟨2, _⟩ => ⟨S1024, .f32⟩
  | .hbm, ⟨3, _⟩ => ⟨S1024x2048, .f32⟩
  | .hbm, ⟨4, _⟩ => ⟨S1024x2048, .bf16⟩
  | .hbm, ⟨5, _⟩ => ⟨S1x1024, .f32⟩
  | .hbm, ⟨6, _⟩ => ⟨S2x16384x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1x1024x2048, .f32⟩
  | .local _ .vmem, ⟨7, _⟩ => ⟨S1x1024x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x16384x1024 : Shape := ⟨3, ![2, 16384, 1024]⟩
abbrev S2x6x1024 : Shape := ⟨3, ![2, 6, 1024]⟩
abbrev S1024 : Shape := ⟨1, ![1024]⟩
abbrev S1024x2048 : Shape := ⟨2, ![1024, 2048]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6x1024, .f32⟩
  | .hbm, ⟨2, _⟩ => ⟨S1024, .f32⟩
  | .hbm, ⟨3, _⟩ => ⟨S1024x2048, .f32⟩
  | .hbm, ⟨4, _⟩ => ⟨S2x1x1024, .f32⟩
  | .hbm, ⟨5, _⟩ => ⟨S2x1x1024, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel4.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel5.lean ====
abbrev S2x16384x2048 : Shape := ⟨3, ![2, 16384, 2048]⟩
abbrev S3x768 : Shape := ⟨2, ![3, 768]⟩
abbrev S768 : Shape := ⟨1, ![768]⟩
abbrev S1x768 : Shape := ⟨2, ![1, 768]⟩
abbrev S3x2x16384x256 : Shape := ⟨4, ![3, 2, 16384, 256]⟩
abbrev S1x16x256 : Shape := ⟨3, ![1, 16, 256]⟩
abbrev S1x2048x256 : Shape := ⟨3, ![1, 2048, 256]⟩
abbrev S3x256 : Shape := ⟨2, ![3, 256]⟩
abbrev S1x256 : Shape := ⟨2, ![1, 256]⟩
abbrev S1x1x2048x256 : Shape := ⟨4, ![1, 1, 2048, 256]⟩
abbrev S16x256 : Shape := ⟨2, ![16, 256]⟩
abbrev S2048x256 : Shape := ⟨2, ![2048, 256]⟩
abbrev S2080x256 : Shape := ⟨2, ![2080, 256]⟩

abbrev nBuf : Space → Nat
  | .hbm => 5
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S3x768, .f32⟩
  | .hbm, ⟨2, _⟩ => ⟨S768, .f32⟩
  | .hbm, ⟨3, _⟩ => ⟨S1x768, .f32⟩
  | .hbm, ⟨4, _⟩ => ⟨S3x2x16384x256, .f32⟩
  | .local _ .vmem, ⟨0, _⟩ => ⟨S1x16x256, .f32⟩
  | .local _ .vmem, ⟨1, _⟩ => ⟨S1x16x256, .f32⟩
  | .local _ .vmem, ⟨2, _⟩ => ⟨S1x2048x256, .f32⟩
  | .local _ .vmem, ⟨3, _⟩ => ⟨S1x2048x256, .f32⟩
  | .local _ .vmem, ⟨4, _⟩ => ⟨S1x16x256, .f32⟩
  | .local _ .vmem, ⟨5, _⟩ => ⟨S1x16x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x1x2048x256, .f32⟩
  | .local _ .vmem, ⟨11, _⟩ => ⟨S1x1x2048x256, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 3, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg2 c128_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg1
  let c0_i32_0 : BitVec 32 := 0#32
  ![arg0.toNat, v2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c1023_i32 : BitVec 32 := 1023#32
  let v2 : BitVec 32 := Scalar.minsi v1 c1023_i32
  let c5_i32 : BitVec 32 := 5#32
  let v3 : BitVec 32 := Scalar.addi c5_i32 arg1
  let c0_i32 : BitVec 32 := 0#32
  ![arg0.toNat, v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S2x16384x2048 : Shape := ⟨3, ![2, 16384, 2048]⟩
abbrev S3x768 : Shape := ⟨2, ![3, 768]⟩
abbrev S768 : Shape := ⟨1, ![768]⟩
abbrev S2x16384x768 : Shape := ⟨3, ![2, 16384, 768]⟩
abbrev S_ : Shape := ⟨0, ![]⟩
abbrev S2x16386x768 : Shape := ⟨3, ![2, 16386, 768]⟩
abbrev S1x768 : Shape := ⟨2, ![1, 768]⟩
abbrev S1x1x768 : Shape := ⟨3, ![1, 1, 768]⟩
abbrev S2x16384x256 : Shape := ⟨3, ![2, 16384, 256]⟩
abbrev S1x2x16384x256 : Shape := ⟨4, ![1, 2, 16384, 256]⟩
abbrev S3x2x16384x256 : Shape := ⟨4, ![3, 2, 16384, 256]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S3x768, .f32⟩
  | .hbm, ⟨2, _⟩ => ⟨S768, .f32⟩
  | .hbm, ⟨3, _⟩ => ⟨S2x16384x768, .f32⟩
  | .hbm, ⟨4, _⟩ => ⟨S_, .i32⟩
  | .hbm, ⟨5, _⟩ => ⟨S_, .f32⟩
  | .hbm, ⟨6, _⟩ => ⟨S2x16386x768, .f32⟩
  | .hbm, ⟨7, _⟩ => ⟨S2x16384x768, .f32⟩
  | .hbm, ⟨8, _⟩ => ⟨S1x768, .f32⟩
  | .hbm, ⟨9, _⟩ => ⟨S768, .f32⟩
  | .hbm, ⟨10, _⟩ => ⟨S1x1x768, .f32⟩
  | .hbm, ⟨11, _⟩ => ⟨S2x16384x768, .f32⟩
  | .hbm, ⟨12, _⟩ => ⟨S2x16384x768, .f32⟩
  | .hbm, ⟨13, _⟩ => ⟨S1x1x768, .f32⟩
  | .hbm, ⟨14, _⟩ => ⟨S2x16384x768, .f32⟩
  | .hbm, ⟨15, _⟩ => ⟨S2x16384x768, .f32⟩
  | .hbm, ⟨16, _⟩ => ⟨S2x16384x768, .f32⟩
  | .hbm, ⟨17, _⟩ => ⟨S1x768, .f32⟩
  | .hbm, ⟨18, _⟩ => ⟨S768, .f32⟩
  | .hbm, ⟨19, _⟩ => ⟨S1x1x768, .f32⟩
  | .hbm, ⟨20, _⟩ => ⟨S2x16384x768, .f32⟩
  | .hbm, ⟨21, _⟩ => ⟨S2x16384x768, .f32⟩
  | .hbm, ⟨22, _⟩ => ⟨S2x16384x768, .f32⟩
  | .hbm, ⟨23, _⟩ => ⟨S2x16384x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S2x16384x768, .f32⟩
  | .hbm, ⟨28, _⟩ => ⟨S2x16384x768, .f32⟩
  | .hbm, ⟨29, _⟩ => ⟨S2x16384x768, .f32⟩
  | .hbm, ⟨30, _⟩ => ⟨S2x16384x256, .f32⟩
  | .hbm, ⟨31, _⟩ => ⟨S2x16384x256, .f32⟩
  | .hbm, ⟨32, _⟩ => ⟨S2x16384x256, .f32⟩
  | .hbm, ⟨33, _⟩ => ⟨S1x2x16384x256, .f32⟩
  | .hbm, ⟨34, _⟩ => ⟨S1x2x16384x256, .f32⟩
  | .hbm, ⟨35, _⟩ => ⟨S1x2x16384x256, .f32⟩
  | .hbm, ⟨36, _⟩ => ⟨S3x2x16384x256, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Kernel6.lean ====
abbrev S2x16384x2048 : Shape := ⟨3, ![2, 16384, 2048]⟩
abbrev S4x64x64 : Shape := ⟨3, ![4, 64, 64]⟩
abbrev S256 : Shape := ⟨1, ![256]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S2x16384x256 : Shape := ⟨3, ![2, 16384, 256]⟩
abbrev S1x16x256 : Shape := ⟨3, ![1, 16, 256]⟩
abbrev S1x1024x256 : Shape := ⟨3, ![1, 1024, 256]⟩
abbrev S16x256 : Shape := ⟨2, ![16, 256]⟩
abbrev S1024x256 : Shape := ⟨2, ![1024, 256]⟩
abbrev S1056x256 : Shape := ⟨2, ![1056, 256]⟩
abbrev S1024x1 : Shape := ⟨2, ![1024, 1]⟩

abbrev nBuf : Space → Nat
  | .hbm => 19
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S4x64x64, .f32⟩
  | .hbm, ⟨2, _⟩ => ⟨S256, .f32⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .f32⟩
  | .hbm, ⟨10, _⟩ => ⟨S4x1x4x1, .f32⟩
  | .hbm, ⟨11, _⟩ => ⟨S4x64x1x64, .f32⟩
  | .hbm, ⟨12, _⟩ => ⟨S4x64x4x64, .f32⟩
  | .hbm, ⟨13, _⟩ => ⟨S4x64x4x64, .f32⟩
  | .hbm, ⟨14, _⟩ => ⟨S4x64x4x64, .f32⟩
  | .hbm, ⟨15, _⟩ => ⟨S256x256, .f32⟩
  | .hbm, ⟨16, _⟩ => ⟨S256x256, .bf16⟩
  | .hbm, ⟨17, _⟩ => ⟨S1x256, .f32⟩
  | .hbm, ⟨18, _⟩ => ⟨S2x16384x256, .f32⟩
  | .local _ .vmem, ⟨0, _⟩ => ⟨S1x16x256, .f32⟩
  | .local _ .vmem, ⟨1, _⟩ => ⟨S1x16x256, .f32⟩
  | .local _ .vmem, ⟨2, _⟩ => ⟨S1x1024x256, .f32⟩
  | .local _ .vmem, ⟨3, _⟩ => ⟨S1x1024x256, .f32⟩
  | .local _ .vmem, ⟨4, _⟩ => ⟨S1x16x256, .f32⟩
  | .local _ .vmem, ⟨5, _⟩ => ⟨S1x16x256, .f32⟩
  | .local _ .vmem, ⟨6, _⟩ => ⟨S256x256, .bf16⟩
  | .local _ .vmem, ⟨7, _⟩ => ⟨S1x256, .f32⟩
  | .local _ .vmem, ⟨8, _⟩ => ⟨S1x1024x256, .f32⟩
  | .local _ .vmem, ⟨9, _⟩ => ⟨S1x1024x256, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x16384x2048 : Shape := ⟨3, ![2, 16384, 2048]⟩
abbrev S4x64x64 : Shape := ⟨3, ![4, 64, 64]⟩
abbrev S256 : Shape := ⟨1, ![256]⟩
abbrev S2x16384x256 : Shape := ⟨3, ![2, 16384, 256]⟩
abbrev S16384 : Shape := ⟨1, ![16384]⟩
abbrev S2x16384x64 : Shape := ⟨3, ![2, 16384, 64]⟩
abbrev S_ : Shape := ⟨0, ![]⟩
abbrev S2x16385x64 : Shape := ⟨3, ![2, 16385, 64]⟩
abbrev S1x16384x1 : Shape := ⟨3, ![1, 16384, 1]⟩
abbrev S1x64x64 : Shape := ⟨3, ![1, 64, 64]⟩
abbrev S64x64 : Shape := ⟨2, ![64, 64]⟩
abbrev S2x16387x64 : Shape := ⟨3, ![2, 16387, 64]⟩
abbrev S2x16391x64 : Shape := ⟨3, ![2, 16391, 64]⟩
abbrev S2x16399x64 : Shape := ⟨3, ![2, 16399, 64]⟩
abbrev S1x1x256 : Shape := ⟨3, ![1, 1, 256]⟩

abbrev nBuf : Space → Nat
  | .hbm => 229
  | .vmem => 0
  | .smem => 0
  | _ => 0

abbrev hbmTy0_0 (i : Nat) : BufTy := match i % 128 with
  | 0 => ⟨S2x16384x2048, .f32⟩
  | 1 => ⟨S4x64x64, .f32⟩
  | 2 => ⟨S256, .f32⟩
  | 3 => ⟨S2x16384x256, .f32⟩
  | 4 => ⟨S16384, .i32⟩
  | 5 => ⟨S2x16384x64, .f32⟩
  | 6 => ⟨S_, .i32⟩
  | 7 => ⟨S16384, .i32⟩
  | 8 => ⟨S16384, .i32⟩
  | 9 => ⟨S_, .i32⟩
  | 10 => ⟨S_, .i32⟩
  | 11 => ⟨S_, .i32⟩
  | 12 => ⟨S16384, .i32⟩
  | 13 => ⟨S16384, .i32⟩
  | 14 => ⟨S_, .i32⟩
  | 15 => ⟨S16384, .i32⟩
  | 16 => ⟨S16384, .i32⟩
  | 17 => ⟨S_, .i32⟩
  | 18 => ⟨S16384, .i32⟩
  | 19 => ⟨S16384, .i32⟩
  | 20 => ⟨S_, .i32⟩
  | 21 => ⟨S16384, .i32⟩
  | 22 => ⟨S16384, .i32⟩
  | 23 => ⟨S_, .i32⟩
  | 24 => ⟨S_, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i32⟩
  | 31 => ⟨S_, .i32⟩
  | 32 => ⟨S_, .f32⟩
  | 33 => ⟨S2x16385x64, .f32⟩
  | 34 => ⟨S2x16384x64, .f32⟩
  | 35 => ⟨S_, .f32⟩
  | 36 => ⟨S2x16384x64, .f32⟩
  | 37 => ⟨S2x16384x64, .f32⟩
  | 38 => ⟨S2x16384x64, .f32⟩
  | 39 => ⟨S2x16384x64, .f32⟩
  | 40 => ⟨S16384, .i32⟩
  | 41 => ⟨S16384, .f32⟩
  | 42 => ⟨S1x16384x1, .f32⟩
  | 43 => ⟨S2x16384x64, .f32⟩
  | 44 => ⟨S2x16384x64, .f32⟩
  | 45 => ⟨S2x16384x64, .f32⟩
  | 46 => ⟨S1x64x64, .f32⟩
  | 47 => ⟨S64x64, .f32⟩
  | 48 => ⟨S2x16384x64, .f32⟩
  | 49 => ⟨S2x16384x64, .f32⟩
  | 50 => ⟨S_, .i32⟩
  | 51 => ⟨S16384, .i32⟩
  | 52 => ⟨S16384, .i32⟩
  | 53 => ⟨S_, .i32⟩
  | 54 => ⟨S_, .i32⟩
  | 55 => ⟨S_, .i32⟩
  | 56 => ⟨S16384, .i32⟩
  | 57 => ⟨S16384, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S_, .i32⟩
  | 65 => ⟨S16384, .i32⟩
  | 66 => ⟨S16384, .i32⟩
  | 67 => ⟨S_, .i32⟩
  | 68 => ⟨S_, .i32⟩
  | 69 => ⟨S_, .i32⟩
  | 70 => ⟨S16384, .i32⟩
  | 71 => ⟨S16384, .i32⟩
  | 72 => ⟨S_, .i32⟩
  | 73 => ⟨S16384, .i32⟩
  | 74 => ⟨S16384, .i32⟩
  | 75 => ⟨S_, .i32⟩
  | 76 => ⟨S_, .f32⟩
  | 77 => ⟨S2x16387x64, .f32⟩
  | 78 => ⟨S2x16384x64, .f32⟩
  | 79 => ⟨S_, .f32⟩
  | 80 => ⟨S2x16384x64, .f32⟩
  | 81 => ⟨S2x16384x64, .f32⟩
  | 82 => ⟨S2x16384x64, .f32⟩
  | 83 => ⟨S2x16384x64, .f32⟩
  | 84 => ⟨S2x16384x64, .f32⟩
  | 85 => ⟨S2x16384x64, .f32⟩
  | 86 => ⟨S2x16384x64, .f32⟩
  | 87 => ⟨S2x16384x64, .f32⟩
  | 88 => ⟨S16384, .i32⟩
  | 89 => ⟨S16384, .f32⟩
  | 90 => ⟨S1x16384x1, .f32⟩
  | 91 => ⟨S2x16384x64, .f32⟩
  | 92 => ⟨S2x16384x64, .f32⟩
  | 93 => ⟨S2x16384x64, .f32⟩
  | 94 => ⟨S1x64x64, .f32⟩
  | 95 => ⟨S64x64, .f32⟩
  | 96 => ⟨S2x16384x64, .f32⟩
  | 97 => ⟨S2x16384x64, .f32⟩
  | 98 => ⟨S_, .i32⟩
  | 99 => ⟨S16384, .i32⟩
  | 100 => ⟨S16384, .i32⟩
  | 101 => ⟨S_, .i32⟩
  | 102 => ⟨S_, .i32⟩
  | 103 => ⟨S_, .i32⟩
  | 104 => ⟨S16384, .i32⟩
  | 105 => ⟨S16384, .i32⟩
  | 106 => ⟨S_, .i32⟩
  | 107 => ⟨S16384, .i32⟩
  | 108 => ⟨S16384, .i32⟩
  | 109 => ⟨S_, .i32⟩
  | 110 => ⟨S16384, .i32⟩
  | 111 => ⟨S16384, .i32⟩
  | 112 => ⟨S_, .i32⟩
  | 113 => ⟨S16384, .i32⟩
  | 114 => ⟨S16384, .i32⟩
  | 115 => ⟨S_, .i32⟩
  | 116 => ⟨S_, .i32⟩
  | 117 => ⟨S_, .i32⟩
  | 118 => ⟨S16384, .i32⟩
  | 119 => ⟨S16384, .i32⟩
  | 120 => ⟨S_, .i32⟩
  | 121 => ⟨S16384, .i32⟩
  | 122 => ⟨S16384, .i32⟩
  | 123 => ⟨S_, .i32⟩
  | 124 => ⟨S_, .f32⟩
  | 125 => ⟨S2x16391x64, .f32⟩
  | 126 => ⟨S2x16384x64, .f32⟩
  | 127 => ⟨S_, .f32⟩
  | _ => ⟨S2x16384x2048, .f32⟩

abbrev hbmTy0_1 (i : Nat) : BufTy := match i % 128 with
  | 0 => ⟨S2x16384x64, .f32⟩
  | 1 => ⟨S2x16384x64, .f32⟩
  | 2 => ⟨S2x16384x64, .f32⟩
  | 3 => ⟨S2x16384x64, .f32⟩
  | 4 => ⟨S2x16384x64, .f32⟩
  | 5 => ⟨S2x16384x64, .f32⟩
  | 6 => ⟨S2x16384x64, .f32⟩
  | 7 => ⟨S2x16384x64, .f32⟩
  | 8 => ⟨S2x16384x64, .f32⟩
  | 9 => ⟨S2x16384x64, .f32⟩
  | 10 => ⟨S2x16384x64, .f32⟩
  | 11 => ⟨S2x16384x64, .f32⟩
  | 12 => ⟨S2x16384x64, .f32⟩
  | 13 => ⟨S2x16384x64, .f32⟩
  | 14 => ⟨S2x16384x64, .f32⟩
  | 15 => ⟨S2x16384x64, .f32⟩
  | 16 => ⟨S16384, .i32⟩
  | 17 => ⟨S16384, .f32⟩
  | 18 => ⟨S1x16384x1, .f32⟩
  | 19 => ⟨S2x16384x64, .f32⟩
  | 20 => ⟨S2x16384x64, .f32⟩
  | 21 => ⟨S2x16384x64, .f32⟩
  | 22 => ⟨S1x64x64, .f32⟩
  | 23 => ⟨S64x64, .f32⟩
  | 24 => ⟨S2x16384x64, .f32⟩
  | 25 => ⟨S2x16384x64, .f32⟩
  | 26 => ⟨S_, .i32⟩
  | 27 => ⟨S16384, .i32⟩
  | 28 => ⟨S16384, .i32⟩
  | 29 => ⟨S_, .i32⟩
  | 30 => ⟨S_, .i32⟩
  | 31 => ⟨S_, .i32⟩
  | 32 => ⟨S16384, .i32⟩
  | 33 => ⟨S16384, .i32⟩
  | 34 => ⟨S_, .i32⟩
  | 35 => ⟨S16384, .i32⟩
  | 36 => ⟨S16384, .i32⟩
  | 37 => ⟨S_, .i32⟩
  | 38 => ⟨S16384, .i32⟩
  | 39 => ⟨S16384, .i32⟩
  | 40 => ⟨S_, .i32⟩
  | 41 => ⟨S16384, .i32⟩
  | 42 => ⟨S16384, .i32⟩
  | 43 => ⟨S_, .i32⟩
  | 44 => ⟨S_, .i32⟩
  | 45 => ⟨S_, .i32⟩
  | 46 => ⟨S16384, .i32⟩
  | 47 => ⟨S16384, .i32⟩
  | 48 => ⟨S_, .i32⟩
  | 49 => ⟨S16384, .i32⟩
  | 50 => ⟨S16384, .i32⟩
  | 51 => ⟨S_, .i32⟩
  | 52 => ⟨S_, .f32⟩
  | 53 => ⟨S2x16399x64, .f32⟩
  | 54 => ⟨S2x16384x64, .f32⟩
  | 55 => ⟨S_, .f32⟩
  | 56 => ⟨S2x16384x64, .f32⟩
  | 57 => ⟨S2x16384x64, .f32⟩
  | 58 => ⟨S2x16384x64, .f32⟩
  | 59 => ⟨S2x16384x64, .f32⟩
  | 60 => ⟨S2x16384x64, .f32⟩
  | 61 => ⟨S2x16384x64, .f32⟩
  | 62 => ⟨S2x16384x64, .f32⟩
  | 63 => ⟨S2x16384x64, .f32⟩
  | 64 => ⟨S2x16384x64, .f32⟩
  | 65 => ⟨S2x16384x64, .f32⟩
  | 66 => ⟨S2x16384x64, .f32⟩
  | 67 => ⟨S2x16384x64, .f32⟩
  | 68 => ⟨S2x16384x64, .f32⟩
  | 69 => ⟨S2x16384x64, .f32⟩
  | 70 => ⟨S2x16384x64, .f32⟩
  | 71 => ⟨S2x16384x64, .f32⟩
  | 72 => ⟨S2x16384x64, .f32⟩
  | 73 => ⟨S2x16384x64, .f32⟩
  | 74 => ⟨S2x16384x64, .f32⟩
  | 75 => ⟨S2x16384x64, .f32⟩
  | 76 => ⟨S2x16384x64, .f32⟩
  | 77 => ⟨S2x16384x64, .f32⟩
  | 78 => ⟨S2x16384x64, .f32⟩
  | 79 => ⟨S2x16384x64, .f32⟩
  | 80 => ⟨S2x16384x64, .f32⟩
  | 81 => ⟨S2x16384x64, .f32⟩
  | 82 => ⟨S2x16384x64, .f32⟩
  | 83 => ⟨S2x16384x64, .f32⟩
  | 84 => ⟨S2x16384x64, .f32⟩
  | 85 => ⟨S2x16384x64, .f32⟩
  | 86 => ⟨S2x16384x64, .f32⟩
  | 87 => ⟨S2x16384x64, .f32⟩
  | 88 => ⟨S16384, .i32⟩
  | 89 => ⟨S16384, .f32⟩
  | 90 => ⟨S1x16384x1, .f32⟩
  | 91 => ⟨S2x16384x64, .f32⟩
  | 92 => ⟨S2x16384x64, .f32⟩
  | 93 => ⟨S2x16384x64, .f32⟩
  | 94 => ⟨S1x64x64, .f32⟩
  | 95 => ⟨S64x64, .f32⟩
  | 96 => ⟨S2x16384x64, .f32⟩
  | 97 => ⟨S2x16384x256, .f32⟩
  | 98 => ⟨S1x1x256, .f32⟩
  | 99 => ⟨S2x16384x256, .f32⟩
  | 100 => ⟨S2x16384x256, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_c_5 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v10 : Ref sig .tc := ⟨.hbm, 30, rfl⟩
abbrev main_c_6 : Ref sig .tc := ⟨.hbm, 31, rfl⟩
abbrev main_call2_v0 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_c_9 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v29 : Ref sig .tc := ⟨.hbm, 60, rfl⟩
abbrev main_c_10 : Ref sig .tc := ⟨.hbm, 61, rfl⟩
abbrev main_v30 : Ref sig .tc := ⟨.hbm, 62, rfl⟩
abbrev main_v31 : Ref sig .tc := ⟨.hbm, 63, rfl⟩
abbrev main_c_11 : Ref sig .tc := ⟨.hbm, 64, rfl⟩
abbrev main_v32 : Ref sig .tc := ⟨.hbm, 65, rfl⟩
abbrev main_v33 : Ref sig .tc := ⟨.hbm, 66, rfl⟩
abbrev main_c_12 : Ref sig .tc := ⟨.hbm, 67, rfl⟩
abbrev main_c_13 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v34 : Ref sig .tc := ⟨.hbm, 74, rfl⟩
abbrev main_c_14 : Ref sig .tc := ⟨.hbm, 75, rfl⟩
abbrev main_call5_v0 : Ref sig .tc := ⟨.hbm, 76, rfl⟩
abbrev main_v35 : Ref sig .tc := ⟨.hbm, 77, rfl⟩
abbrev main_v36 : Ref sig .tc := ⟨.hbm, 78, rfl⟩
abbrev main_cst_15 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_c_16 : Ref sig .tc := ⟨.hbm, 98, rfl⟩
abbrev main_v55 : Ref sig .tc := ⟨.hbm, 99, rfl⟩
abbrev main_v56 : Ref sig .tc := ⟨.hbm, 100, rfl⟩
abbrev main_c_17 : Ref sig .tc := ⟨.hbm, 101, rfl⟩
abbrev main_c_18 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_v57 : Ref sig .tc := ⟨.hbm, 108, rfl⟩
abbrev main_c_19 : Ref sig .tc := ⟨.hbm, 109, rfl⟩
abbrev main_v58 : Ref sig .tc := ⟨.hbm, 110, rfl⟩
abbrev main_v59 : Ref sig .tc := ⟨.hbm, 111, rfl⟩
abbrev main_c_20 : Ref sig .tc := ⟨.hbm, 112, rfl⟩
abbrev main_v60 : Ref sig .tc := ⟨.hbm, 113, rfl⟩
abbrev main_v61 : Ref sig .tc := ⟨.hbm, 114, rfl⟩
abbrev main_c_21 : Ref sig .tc := ⟨.hbm, 115, rfl⟩
abbrev main_c_22 : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_v62 : Ref sig .tc := ⟨.hbm, 122, rfl⟩
abbrev main_c_23 : Ref sig .tc := ⟨.hbm, 123, rfl⟩
abbrev main_call8_v0 : Ref sig .tc := ⟨.hbm, 124, rfl⟩
abbrev main_v63 : Ref sig .tc := ⟨.hbm, 125, rfl⟩
abbrev main_v64 : Ref sig .tc := ⟨.hbm, 126, rfl⟩
abbrev main_cst_24 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_c_25 : Ref sig .tc := ⟨.hbm, 154, rfl⟩
abbrev main_v91 : Ref sig .tc := ⟨.hbm, 155, rfl⟩
abbrev main_v92 : Ref sig .tc := ⟨.hbm, 156, rfl⟩
abbrev main_c_26 : Ref sig .tc := ⟨.hbm, 157, rfl⟩
abbrev main_c_27 : Ref sig .tc := ⟨.hbm, 158, rfl⟩
abbrev main_call9_v0 : Ref sig .tc := ⟨.hbm, 159, rfl⟩
abbrev main_call9_v1 : Ref sig .tc := ⟨.hbm, 160, rfl⟩
abbrev main_call9_v2 : Ref sig .tc := ⟨.hbm, 161, rfl⟩
abbrev main_call9_v3 : Ref sig .tc := ⟨.hbm, 162, rfl⟩
abbrev main_call9_v4 : Ref sig .tc := ⟨.hbm, 163, rfl⟩
abbrev main_v93 : Ref sig .tc := ⟨.hbm, 164, rfl⟩
abbrev main_c_28 : Ref sig .tc := ⟨.hbm, 165, rfl⟩
abbrev main_v94 : Ref sig .tc := ⟨.hbm, 166, rfl⟩
abbrev main_v95 : Ref sig .tc := ⟨.hbm, 167, rfl⟩
abbrev main_c_29 : Ref sig .tc := ⟨.hbm, 168, rfl⟩
abbrev main_v96 : Ref sig .tc := ⟨.hbm, 169, rfl⟩
abbrev main_v97 : Ref sig .tc := ⟨.hbm, 170, rfl⟩
abbrev main_c_30 : Ref sig .tc := ⟨.hbm, 171, rfl⟩
abbrev main_c_31 : Ref sig .tc := ⟨.hbm, 172, rfl⟩
abbrev main_call10_v0 : Ref sig .tc := ⟨.hbm, 173, rfl⟩
abbrev main_call10_v1 : Ref sig .tc := ⟨.hbm, 174, rfl⟩
abbrev main_call10_v2 : Ref sig .tc := ⟨.hbm, 175, rfl⟩
abbrev main_call10_v3 : Ref sig .tc := ⟨.hbm, 176, rfl⟩
abbrev main_call10_v4 : Ref sig .tc := ⟨.hbm, 177, rfl⟩
abbrev main_v98 : Ref sig .tc := ⟨.hbm, 178, rfl⟩
abbrev main_c_32 : Ref sig .tc := ⟨.hbm, 179, rfl⟩
abbrev main_call11_v0 : Ref sig .tc := ⟨.hbm, 180, rfl⟩
abbrev main_v99 : Ref sig .tc := ⟨.hbm, 181, rfl⟩
abbrev main_v100 : Ref sig .tc := ⟨.hbm, 182, rfl⟩
abbrev main_cst_33 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩

abbrev nD : Nat := 1
abbrev τ : Topo := Topo.v7x

variable {F : FTy → Type} [FloatOps F]
-- ==== Kernel7.lean ====
abbrev S2x256x2048 : Shape := ⟨3, ![2, 256, 2048]⟩
abbrev S64 : Shape := ⟨1, ![64]⟩
abbrev S_ : Shape := ⟨0, ![]⟩
abbrev S2x64x64 : Shape := ⟨3, ![2, 64, 64]⟩
abbrev S2x2 : Shape := ⟨2, ![2, 2]⟩
abbrev S2x1x2x1 : Shape := ⟨4, ![2, 1, 2, 1]⟩
abbrev S2x64x1x64 : Shape := ⟨4, ![2, 64, 1, 64]⟩
abbrev S2x64x2x64 : Shape := ⟨4, ![2, 64, 2, 64]⟩
abbrev S128x128 : Shape := ⟨2, ![128, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x4x64x256 : Shape := ⟨4, ![2, 4, 64, 256]⟩
abbrev S2x256x128 : Shape := ⟨3, ![2, 256, 128]⟩
abbrev S2x2x1x64x256 : Shape := ⟨5, ![2, 2, 1, 64, 256]⟩
abbrev S1x256x256 : Shape := ⟨3, ![1, 256, 256]⟩
abbrev S1x4x64x256 : Shape := ⟨4, ![1, 4, 64, 256]⟩
abbrev S1x256x128 : Shape := ⟨3, ![1, 256, 128]⟩
abbrev S1x2x1x64x256 : Shape := ⟨5, ![1, 2, 1, 64, 256]⟩
abbrev S256x128 : Shape := ⟨2, ![256, 128]⟩
abbrev S128x256 : Shape := ⟨2, ![128, 256]⟩
abbrev S64x256 : Shape := ⟨2, ![64, 256]⟩
abbrev S1x1x64x256 : Shape := ⟨4, ![1, 1, 64, 256]⟩
abbrev S1x1x1x64x256 : Shape := ⟨5, ![1, 1, 1, 64, 256]⟩

abbrev nBuf : Space → Nat
  | .hbm => 30
  | .vmem => 13
  | .smem => 0
  | _ => 0

abbrev bufTy : (tb : Table) → Fin (tcTables nBuf tb) → BufTy
  | .hbm, ⟨0, _⟩ => ⟨S2x256x2048, .f32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S2x64x64, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S2x1x2x1, .f32⟩
  | .hbm, ⟨13, _⟩ => ⟨S2x64x1x64, .f32⟩
  | .hbm, ⟨14, _⟩ => ⟨S2x64x2x64, .f32⟩
  | .hbm, ⟨15, _⟩ => ⟨S2x64x2x64, .f32⟩
  | .hbm, ⟨16, _⟩ => ⟨S2x64x2x64, .f32⟩
  | .hbm, ⟨17, _⟩ => ⟨S128x128, .f32⟩
  | .hbm, ⟨18, _⟩ => ⟨S128x128, .bf16⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S1x64, .f32⟩
  | .hbm, ⟨24, _⟩ => ⟨S2x64, .f32⟩
  | .hbm, ⟨25, _⟩ => ⟨S128, .f32⟩
  | .hbm, ⟨26, _⟩ => ⟨S1x128, .f32⟩
  | .hbm, ⟨27, _⟩ => ⟨S2x4x64x256, .bf16⟩
  | .hbm, ⟨28, _⟩ => ⟨S2x256x128, .bf16⟩
  | .hbm, ⟨29, _⟩ => ⟨S2x2x1x64x256, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x128, .f32⟩
  | .local _ .vmem, ⟨5, _⟩ => ⟨S1x128, .f32⟩
  | .local _ .vmem, ⟨6, _⟩ => ⟨S128x128, .bf16⟩
  | .local _ .vmem, ⟨7, _⟩ => ⟨S1x4x64x256, .bf16⟩
  | .local _ .vmem, ⟨8, _⟩ => ⟨S1x4x64x256, .bf16⟩
  | .local _ .vmem, ⟨9, _⟩ => ⟨S1x256x128, .bf16⟩
  | .local _ .vmem, ⟨10, _⟩ => ⟨S1x256x128, .bf16⟩
  | .local _ .vmem, ⟨11, _⟩ => ⟨S1x2x1x64x256, .bf16⟩
  | .local _ .vmem, ⟨12, _⟩ => ⟨S1x2x1x64x256, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S2x256x2048 : Shape := ⟨3, ![2, 256, 2048]⟩
abbrev S64 : Shape := ⟨1, ![64]⟩
abbrev S2x256x256 : Shape := ⟨3, ![2, 256, 256]⟩
abbrev S2x256x4x64 : Shape := ⟨4, ![2, 256, 4, 64]⟩
abbrev S_ : Shape := ⟨0, ![]⟩
abbrev S2x256x4 : Shape := ⟨3, ![2, 256, 4]⟩
abbrev S2x256x4x1 : Shape := ⟨4, ![2, 256, 4, 1]⟩
abbrev S1x1x1x64 : Shape := ⟨4, ![1, 1, 1, 64]⟩
abbrev S2x256x128 : Shape := ⟨3, ![2, 256, 128]⟩
abbrev S2x256x2x64 : Shape := ⟨4, ![2, 256, 2, 64]⟩
abbrev S2x256x2 : Shape := ⟨3, ![2, 256, 2]⟩
abbrev S2x256x2x1 : Shape := ⟨4, ![2, 256, 2, 1]⟩
abbrev S2x1x256x2x64 : Shape := ⟨5, ![2, 1, 256, 2, 64]⟩
abbrev S2x4x64x256 : Shape := ⟨4, ![2, 4, 64, 256]⟩
abbrev S2x2x1x64x256 : Shape := ⟨5, ![2, 2, 1, 64, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S64, .f32⟩
  | .hbm, ⟨2, _⟩ => ⟨S64, .f32⟩
  | .hbm, ⟨3, _⟩ => ⟨S2x256x256, .f32⟩
  | .hbm, ⟨4, _⟩ => ⟨S2x256x4x64, .f32⟩
  | .hbm, ⟨5, _⟩ => ⟨S2x256x4x64, .f32⟩
  | .hbm, ⟨6, _⟩ => ⟨S_, .f32⟩
  | .hbm, ⟨7, _⟩ => ⟨S2x256x4, .f32⟩
  | .hbm, ⟨8, _⟩ => ⟨S2x256x4x1, .f32⟩
  | .hbm, ⟨9, _⟩ => ⟨S_, .f32⟩
  | .hbm, ⟨10, _⟩ => ⟨S2x256x4x1, .f32⟩
  | .hbm, ⟨11, _⟩ => ⟨S2x256x4x1, .f32⟩
  | .hbm, ⟨12, _⟩ => ⟨S_, .f32⟩
  | .hbm, ⟨13, _⟩ => ⟨S2x256x4x1, .f32⟩
  | .hbm, ⟨14, _⟩ => ⟨S2x256x4x1, .f32⟩
  | .hbm, ⟨15, _⟩ => ⟨S2x256x4x1, .f32⟩
  | .hbm, ⟨16, _⟩ => ⟨S2x256x4x64, .f32⟩
  | .hbm, ⟨17, _⟩ => ⟨S2x256x4x64, .f32⟩
  | .hbm, ⟨18, _⟩ => ⟨S1x1x1x64, .f32⟩
  | .hbm, ⟨19, _⟩ => ⟨S2x256x4x64, .f32⟩
  | .hbm, ⟨20, _⟩ => ⟨S2x256x4x64, .f32⟩
  | .hbm, ⟨21, _⟩ => ⟨S_, .f32⟩
  | .hbm, ⟨22, _⟩ => ⟨S2x256x4x64, .f32⟩
  | .hbm, ⟨23, _⟩ => ⟨S2x256x4x64, .f32⟩
  | .hbm, ⟨24, _⟩ => ⟨S2x256x128, .f32⟩
  | .hbm, ⟨25, _⟩ => ⟨S2x256x2x64, .f32⟩
  | .hbm, ⟨26, _⟩ => ⟨S2x256x2x64, .f32⟩
  | .hbm, ⟨27, _⟩ => ⟨S_, .f32⟩
  | .hbm, ⟨28, _⟩ => ⟨S2x256x2, .f32⟩
  | .hbm, ⟨29, _⟩ => ⟨S2x256x2x1, .f32⟩
  | .hbm, ⟨30, _⟩ => ⟨S_, .f32⟩
  | .hbm, ⟨31, _⟩ => ⟨S2x256x2x1, .f32⟩
  | .hbm, ⟨32, _⟩ => ⟨S2x256x2x1, .f32⟩
  | .hbm, ⟨33, _⟩ => ⟨S_, .f32⟩
  | .hbm, ⟨34, _⟩ => ⟨S2x256x2x1, .f32⟩
  | .hbm, ⟨35, _⟩ => ⟨S2x256x2x1, .f32⟩
  | .hbm, ⟨36, _⟩ => ⟨S2x256x2x1, .f32⟩
  | .hbm, ⟨37, _⟩ => ⟨S2x256x2x64, .f32⟩
  | .hbm, ⟨38, _⟩ => ⟨S2x256x2x64, .f32⟩
  | .hbm, ⟨39, _⟩ => ⟨S1x1x1x64, .f32⟩
  | .hbm, ⟨40, _⟩ => ⟨S2x256x2x64, .f32⟩
  | .hbm, ⟨41, _⟩ => ⟨S2x256x2x64, .f32⟩
  | .hbm, ⟨42, _⟩ => ⟨S2x256x128, .f32⟩
  | .hbm, ⟨43, _⟩ => ⟨S2x1x256x2x64, .f32⟩
  | .hbm, ⟨44, _⟩ => ⟨S2x4x64x256, .f32⟩
  | .hbm, ⟨45, _⟩ => ⟨S2x4x64x256, .bf16⟩
  | .hbm, ⟨46, _⟩ => ⟨S2x256x128, .f32⟩
  | .hbm, ⟨47, _⟩ => ⟨S2x256x128, .bf16⟩
  | .hbm, ⟨48, _⟩ => ⟨S2x2x1x64x256, .f32⟩
  | .hbm, ⟨49, _⟩ => ⟨S2x2x1x64x256, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel8.lean ====
abbrev S2x16384x2048 : Shape := ⟨3, ![2, 16384, 2048]⟩
abbrev S16384x2x16 : Shape := ⟨3, ![16384, 2, 16]⟩
abbrev S64 : Shape := ⟨1, ![64]⟩
abbrev S_ : Shape := ⟨0, ![]⟩
abbrev S2x64x64 : Shape := ⟨3, ![2, 64, 64]⟩
abbrev S2x2 : Shape := ⟨2, ![2, 2]⟩
abbrev S2x1x2x1 : Shape := ⟨4, ![2, 1, 2, 1]⟩
abbrev S2x64x1x64 : Shape := ⟨4, ![2, 64, 1, 64]⟩
abbrev S2x64x2x64 : Shape := ⟨4, ![2, 64, 2, 64]⟩
abbrev S128x128 : Shape := ⟨2, ![128, 128]⟩
abbrev S16384x1x16 : Shape := ⟨3, ![16384, 1, 16]⟩
abbrev S16384x16 : Shape := ⟨2, ![16384, 16]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x4x64x16384 : Shape := ⟨4, ![2, 4, 64, 16384]⟩
abbrev S2x16384x128 : Shape := ⟨3, ![2, 16384, 128]⟩
abbrev S2x2x32x64x512 : Shape := ⟨5, ![2, 2, 32, 64, 512]⟩
abbrev S1x512x256 : Shape := ⟨3, ![1, 512, 256]⟩
abbrev S512x128 : Shape := ⟨2, ![512, 128]⟩
abbrev S1x4x64x512 : Shape := ⟨4, ![1, 4, 64, 512]⟩
abbrev S1x512x128 : Shape := ⟨3, ![1, 512, 128]⟩
abbrev S1x2x1x64x512 : Shape := ⟨5, ![1, 2, 1, 64, 512]⟩
abbrev S128x512 : Shape := ⟨2, ![128, 512]⟩
abbrev S64x512 : Shape := ⟨2, ![64, 512]⟩
abbrev S1x1x64x512 : Shape := ⟨4, ![1, 1, 64, 512]⟩
abbrev S1x1x1x64x512 : Shape := ⟨5, ![1, 1, 1, 64, 512]⟩

abbrev nBuf : Space → Nat
  | .hbm => 54
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S16384x2x16, .f32⟩
  | .hbm, ⟨2, _⟩ => ⟨S16384x2x16, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S2x64x64, .f32⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .f32⟩
  | .hbm, ⟨14, _⟩ => ⟨S2x1x2x1, .f32⟩
  | .hbm, ⟨15, _⟩ => ⟨S2x64x1x64, .f32⟩
  | .hbm, ⟨16, _⟩ => ⟨S2x64x2x64, .f32⟩
  | .hbm, ⟨17, _⟩ => ⟨S2x64x2x64, .f32⟩
  | .hbm, ⟨18, _⟩ => ⟨S2x64x2x64, .f32⟩
  | .hbm, ⟨19, _⟩ => ⟨S128x128, .f32⟩
  | .hbm, ⟨20, _⟩ => ⟨S128x128, .bf16⟩
  | .hbm, ⟨21, _⟩ => ⟨S16384x1x16, .f32⟩
  | .hbm, ⟨22, _⟩ => ⟨S16384x16, .f32⟩
  | .hbm, ⟨23, _⟩ => ⟨S16384x1x16, .f32⟩
  | .hbm, ⟨24, _⟩ => ⟨S16384x16, .f32⟩
  | .hbm, ⟨25, _⟩ => ⟨S16384x64, .f32⟩
  | .hbm, ⟨26, _⟩ => ⟨S16384x1x16, .f32⟩
  | .hbm, ⟨27, _⟩ => ⟨S16384x16, .f32⟩
  | .hbm, ⟨28, _⟩ => ⟨S16384x16, .f32⟩
  | .hbm, ⟨29, _⟩ => ⟨S16384x1x16, .f32⟩
  | .hbm, ⟨30, _⟩ => ⟨S16384x16, .f32⟩
  | .hbm, ⟨31, _⟩ => ⟨S16384x1x16, .f32⟩
  | .hbm, ⟨32, _⟩ => ⟨S16384x16, .f32⟩
  | .hbm, ⟨33, _⟩ => ⟨S16384x16, .f32⟩
  | .hbm, ⟨34, _⟩ => ⟨S16384x1x16, .f32⟩
  | .hbm, ⟨35, _⟩ => ⟨S16384x16, .f32⟩
  | .hbm, ⟨36, _⟩ => ⟨S16384x64, .f32⟩
  | .hbm, ⟨37, _⟩ => ⟨S1x16384x1x64, .f32⟩
  | .hbm, ⟨38, _⟩ => ⟨S1x16384x2x64, .f32⟩
  | .hbm, ⟨39, _⟩ => ⟨S16384x128, .f32⟩
  | .hbm, ⟨40, _⟩ => ⟨S1x16384x1x64, .f32⟩
  | .hbm, ⟨41, _⟩ => ⟨S1x16384x2x64, .f32⟩
  | .hbm, ⟨42, _⟩ => ⟨S16384x128, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S1x64, .f32⟩
  | .hbm, ⟨48, _⟩ => ⟨S2x64, .f32⟩
  | .hbm, ⟨49, _⟩ => ⟨S128, .f32⟩
  | .hbm, ⟨50, _⟩ => ⟨S1x128, .f32⟩
  | .hbm, ⟨51, _⟩ => ⟨S2x4x64x16384, .bf16⟩
  | .hbm, ⟨52, _⟩ => ⟨S2x16384x128, .bf16⟩
  | .hbm, ⟨53, _⟩ => ⟨S2x2x32x64x512, .bf16⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x4x64x512, .bf16⟩
  | .local _ .vmem, ⟨12, _⟩ => ⟨S1x4x64x512, .bf16⟩
  | .local _ .vmem, ⟨13, _⟩ => ⟨S1x512x128, .bf16⟩
  | .local _ .vmem, ⟨14, _⟩ => ⟨S1x512x128, .bf16⟩
  | .local _ .vmem, ⟨15, _⟩ => ⟨S1x2x1x64x512, .bf16⟩
  | .local _ .vmem, ⟨16, _⟩ => ⟨S1x2x1x64x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44_0 : Ref sig .tc := ⟨.hbm, 51, rfl⟩
abbrev main_v44_1 : Ref sig .tc := ⟨.hbm, 52, rfl⟩
abbrev main_v44_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S2x16384x2048 : Shape := ⟨3, ![2, 16384, 2048]⟩
abbrev S16384x2x16 : Shape := ⟨3, ![16384, 2, 16]⟩
abbrev S64 : Shape := ⟨1, ![64]⟩
abbrev S2x16384x256 : Shape := ⟨3, ![2, 16384, 256]⟩
abbrev S2x16384x4x64 : Shape := ⟨4, ![2, 16384, 4, 64]⟩
abbrev S_ : Shape := ⟨0, ![]⟩
abbrev S2x16384x4 : Shape := ⟨3, ![2, 16384, 4]⟩
abbrev S2x16384x4x1 : Shape := ⟨4, ![2, 16384, 4, 1]⟩
abbrev S1x1x1x64 : Shape := ⟨4, ![1, 1, 1, 64]⟩
abbrev S2x16384x4x16 : Shape := ⟨4, ![2, 16384, 4, 16]⟩
abbrev S16384x1x16 : Shape := ⟨3, ![16384, 1, 16]⟩
abbrev S16384x16 : Shape := ⟨2, ![16384, 16]⟩
abbrev S1x16384x1x16 : Shape := ⟨4, ![1, 16384, 1, 16]⟩
abbrev S2x16384x128 : Shape := ⟨3, ![2, 16384, 128]⟩
abbrev S2x16384x2x64 : Shape := ⟨4, ![2, 16384, 2, 64]⟩
abbrev S2x16384x2 : Shape := ⟨3, ![2, 16384, 2]⟩
abbrev S2x16384x2x1 : Shape := ⟨4, ![2, 16384, 2, 1]⟩
abbrev S2x16384x2x16 : Shape := ⟨4, ![2, 16384, 2, 16]⟩
abbrev S2x32x512x2x64 : Shape := ⟨5, ![2, 32, 512, 2, 64]⟩
abbrev S2x4x64x16384 : Shape := ⟨4, ![2, 4, 64, 16384]⟩
abbrev S2x2x32x64x512 : Shape := ⟨5, ![2, 2, 32, 64, 512]⟩

abbrev nBuf : Space → Nat
  | .hbm => 126
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S16384x2x16, .f32⟩
  | .hbm, ⟨2, _⟩ => ⟨S16384x2x16, .f32⟩
  | .hbm, ⟨3, _⟩ => ⟨S64, .f32⟩
  | .hbm, ⟨4, _⟩ => ⟨S64, .f32⟩
  | .hbm, ⟨5, _⟩ => ⟨S2x16384x256, .f32⟩
  | .hbm, ⟨6, _⟩ => ⟨S2x16384x4x64, .f32⟩
  | .hbm, ⟨7, _⟩ => ⟨S2x16384x4x64, .f32⟩
  | .hbm, ⟨8, _⟩ => ⟨S_, .f32⟩
  | .hbm, ⟨9, _⟩ => ⟨S2x16384x4, .f32⟩
  | .hbm, ⟨10, _⟩ => ⟨S2x16384x4x1, .f32⟩
  | .hbm, ⟨11, _⟩ => ⟨S_, .f32⟩
  | .hbm, ⟨12, _⟩ => ⟨S2x16384x4x1, .f32⟩
  | .hbm, ⟨13, _⟩ => ⟨S2x16384x4x1, .f32⟩
  | .hbm, ⟨14, _⟩ => ⟨S_, .f32⟩
  | .hbm, ⟨15, _⟩ => ⟨S2x16384x4x1, .f32⟩
  | .hbm, ⟨16, _⟩ => ⟨S2x16384x4x1, .f32⟩
  | .hbm, ⟨17, _⟩ => ⟨S2x16384x4x1, .f32⟩
  | .hbm, ⟨18, _⟩ => ⟨S2x16384x4x64, .f32⟩
  | .hbm, ⟨19, _⟩ => ⟨S2x16384x4x64, .f32⟩
  | .hbm, ⟨20, _⟩ => ⟨S1x1x1x64, .f32⟩
  | .hbm, ⟨21, _⟩ => ⟨S2x16384x4x64, .f32⟩
  | .hbm, ⟨22, _⟩ => ⟨S2x16384x4x64, .f32⟩
  | .hbm, ⟨23, _⟩ => ⟨S2x16384x4x16, .f32⟩
  | .hbm, ⟨24, _⟩ => ⟨S2x16384x4x16, .f32⟩
  | .hbm, ⟨25, _⟩ => ⟨S2x16384x4x16, .f32⟩
  | .hbm, ⟨26, _⟩ => ⟨S2x16384x4x16, .f32⟩
  | .hbm, ⟨27, _⟩ => ⟨S16384x1x16, .f32⟩
  | .hbm, ⟨28, _⟩ => ⟨S16384x16, .f32⟩
  | .hbm, ⟨29, _⟩ => ⟨S1x16384x1x16, .f32⟩
  | .hbm, ⟨30, _⟩ => ⟨S16384x1x16, .f32⟩
  | .hbm, ⟨31, _⟩ => ⟨S16384x16, .f32⟩
  | .hbm, ⟨32, _⟩ => ⟨S1x16384x1x16, .f32⟩
  | .hbm, ⟨33, _⟩ => ⟨S16384x1x16, .f32⟩
  | .hbm, ⟨34, _⟩ => ⟨S16384x16, .f32⟩
  | .hbm, ⟨35, _⟩ => ⟨S1x16384x1x16, .f32⟩
  | .hbm, ⟨36, _⟩ => ⟨S16384x1x16, .f32⟩
  | .hbm, ⟨37, _⟩ => ⟨S16384x16, .f32⟩
  | .hbm, ⟨38, _⟩ => ⟨S1x16384x1x16, .f32⟩
  | .hbm, ⟨39, _⟩ => ⟨S2x16384x4x16, .f32⟩
  | .hbm, ⟨40, _⟩ => ⟨S2x16384x4x16, .f32⟩
  | .hbm, ⟨41, _⟩ => ⟨S2x16384x4x16, .f32⟩
  | .hbm, ⟨42, _⟩ => ⟨S2x16384x4x16, .f32⟩
  | .hbm, ⟨43, _⟩ => ⟨S2x16384x4x16, .f32⟩
  | .hbm, ⟨44, _⟩ => ⟨S2x16384x4x16, .f32⟩
  | .hbm, ⟨45, _⟩ => ⟨S2x16384x4x16, .f32⟩
  | .hbm, ⟨46, _⟩ => ⟨S2x16384x4x16, .f32⟩
  | .hbm, ⟨47, _⟩ => ⟨S2x16384x4x16, .f32⟩
  | .hbm, ⟨48, _⟩ => ⟨S2x16384x4x16, .f32⟩
  | .hbm, ⟨49, _⟩ => ⟨S2x16384x4x16, .f32⟩
  | .hbm, ⟨50, _⟩ => ⟨S2x16384x4x16, .f32⟩
  | .hbm, ⟨51, _⟩ => ⟨S2x16384x4x16, .f32⟩
  | .hbm, ⟨52, _⟩ => ⟨S2x16384x4x16, .f32⟩
  | .hbm, ⟨53, _⟩ => ⟨S2x16384x4x16, .f32⟩
  | .hbm, ⟨54, _⟩ => ⟨S2x16384x4x16, .f32⟩
  | .hbm, ⟨55, _⟩ => ⟨S2x16384x4x16, .f32⟩
  | .hbm, ⟨56, _⟩ => ⟨S2x16384x4x16, .f32⟩
  | .hbm, ⟨57, _⟩ => ⟨S2x16384x4x16, .f32⟩
  | .hbm, ⟨58, _⟩ => ⟨S2x16384x4x16, .f32⟩
  | .hbm, ⟨59, _⟩ => ⟨S2x16384x4x64, .f32⟩
  | .hbm, ⟨60, _⟩ => ⟨S_, .f32⟩
  | .hbm, ⟨61, _⟩ => ⟨S2x16384x4x64, .f32⟩
  | .hbm, ⟨62, _⟩ => ⟨S2x16384x4x64, .f32⟩
  | .hbm, ⟨63, _⟩ => ⟨S2x16384x128, .f32⟩
  | .hbm, ⟨64, _⟩ => ⟨S2x16384x2x64, .f32⟩
  | .hbm, ⟨65, _⟩ => ⟨S2x16384x2x64, .f32⟩
  | .hbm, ⟨66, _⟩ => ⟨S_, .f32⟩
  | .hbm, ⟨67, _⟩ => ⟨S2x16384x2, .f32⟩
  | .hbm, ⟨68, _⟩ => ⟨S2x16384x2x1, .f32⟩
  | .hbm, ⟨69, _⟩ => ⟨S_, .f32⟩
  | .hbm, ⟨70, _⟩ => ⟨S2x16384x2x1, .f32⟩
  | .hbm, ⟨71, _⟩ => ⟨S2x16384x2x1, .f32⟩
  | .hbm, ⟨72, _⟩ => ⟨S_, .f32⟩
  | .hbm, ⟨73, _⟩ => ⟨S2x16384x2x1, .f32⟩
  | .hbm, ⟨74, _⟩ => ⟨S2x16384x2x1, .f32⟩
  | .hbm, ⟨75, _⟩ => ⟨S2x16384x2x1, .f32⟩
  | .hbm, ⟨76, _⟩ => ⟨S2x16384x2x64, .f32⟩
  | .hbm, ⟨77, _⟩ => ⟨S2x16384x2x64, .f32⟩
  | .hbm, ⟨78, _⟩ => ⟨S1x1x1x64, .f32⟩
  | .hbm, ⟨79, _⟩ => ⟨S2x16384x2x64, .f32⟩
  | .hbm, ⟨80, _⟩ => ⟨S2x16384x2x64, .f32⟩
  | .hbm, ⟨81, _⟩ => ⟨S2x16384x2x16, .f32⟩
  | .hbm, ⟨82, _⟩ => ⟨S2x16384x2x16, .f32⟩
  | .hbm, ⟨83, _⟩ => ⟨S2x16384x2x16, .f32⟩
  | .hbm, ⟨84, _⟩ => ⟨S2x16384x2x16, .f32⟩
  | .hbm, ⟨85, _⟩ => ⟨S16384x1x16, .f32⟩
  | .hbm, ⟨86, _⟩ => ⟨S16384x16, .f32⟩
  | .hbm, ⟨87, _⟩ => ⟨S1x16384x1x16, .f32⟩
  | .hbm, ⟨88, _⟩ => ⟨S16384x1x16, .f32⟩
  | .hbm, ⟨89, _⟩ => ⟨S16384x16, .f32⟩
  | .hbm, ⟨90, _⟩ => ⟨S1x16384x1x16, .f32⟩
  | .hbm, ⟨91, _⟩ => ⟨S16384x1x16, .f32⟩
  | .hbm, ⟨92, _⟩ => ⟨S16384x16, .f32⟩
  | .hbm, ⟨93, _⟩ => ⟨S1x16384x1x16, .f32⟩
  | .hbm, ⟨94, _⟩ => ⟨S16384x1x16, .f32⟩
  | .hbm, ⟨95, _⟩ => ⟨S16384x16, .f32⟩
  | .hbm, ⟨96, _⟩ => ⟨S1x16384x1x16, .f32⟩
  | .hbm, ⟨97, _⟩ => ⟨S2x16384x2x16, .f32⟩
  | .hbm, ⟨98, _⟩ => ⟨S2x16384x2x16, .f32⟩
  | .hbm, ⟨99, _⟩ => ⟨S2x16384x2x16, .f32⟩
  | .hbm, ⟨100, _⟩ => ⟨S2x16384x2x16, .f32⟩
  | .hbm, ⟨101, _⟩ => ⟨S2x16384x2x16, .f32⟩
  | .hbm, ⟨102, _⟩ => ⟨S2x16384x2x16, .f32⟩
  | .hbm, ⟨103, _⟩ => ⟨S2x16384x2x16, .f32⟩
  | .hbm, ⟨104, _⟩ => ⟨S2x16384x2x16, .f32⟩
  | .hbm, ⟨105, _⟩ => ⟨S2x16384x2x16, .f32⟩
  | .hbm, ⟨106, _⟩ => ⟨S2x16384x2x16, .f32⟩
  | .hbm, ⟨107, _⟩ => ⟨S2x16384x2x16, .f32⟩
  | .hbm, ⟨108, _⟩ => ⟨S2x16384x2x16, .f32⟩
  | .hbm, ⟨109, _⟩ => ⟨S2x16384x2x16, .f32⟩
  | .hbm, ⟨110, _⟩ => ⟨S2x16384x2x16, .f32⟩
  | .hbm, ⟨111, _⟩ => ⟨S2x16384x2x16, .f32⟩
  | .hbm, ⟨112, _⟩ => ⟨S2x16384x2x16, .f32⟩
  | .hbm, ⟨113, _⟩ => ⟨S2x16384x2x16, .f32⟩
  | .hbm, ⟨114, _⟩ => ⟨S2x16384x2x16, .f32⟩
  | .hbm, ⟨115, _⟩ => ⟨S2x16384x2x16, .f32⟩
  | .hbm, ⟨116, _⟩ => ⟨S2x16384x2x16, .f32⟩
  | .hbm, ⟨117, _⟩ => ⟨S2x16384x2x64, .f32⟩
  | .hbm, ⟨118, _⟩ => ⟨S2x16384x128, .f32⟩
  | .hbm, ⟨119, _⟩ => ⟨S2x32x512x2x64, .f32⟩
  | .hbm, ⟨120, _⟩ => ⟨S2x4x64x16384, .f32⟩
  | .hbm, ⟨121, _⟩ => ⟨S2x4x64x16384, .bf16⟩
  | .hbm, ⟨122, _⟩ => ⟨S2x16384x128, .f32⟩
  | .hbm, ⟨123, _⟩ => ⟨S2x16384x128, .bf16⟩
  | .hbm, ⟨124, _⟩ => ⟨S2x2x32x64x512, .f32⟩
  | .hbm, ⟨125, _⟩ => ⟨S2x2x32x64x512, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_2 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_v57 : Ref sig .tc := ⟨.hbm, 67, rfl⟩
abbrev main_v58 : Ref sig .tc := ⟨.hbm, 68, rfl⟩
abbrev main_cst_4 : Ref sig .tc := ⟨.hbm, 69, rfl⟩
abbrev main_v59 : Ref sig .tc := ⟨.hbm, 70, rfl⟩
abbrev main_v60 : Ref sig .tc := ⟨.hbm, 71, rfl⟩
abbrev main_cst_5 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩

abbrev nD : Nat := 1
abbrev τ : Topo := Topo.v7x

variable {F : FTy → Type} [FloatOps F]
-- ==== Kernel9.lean ====
abbrev S2x256x1024 : Shape := ⟨3, ![2, 256, 1024]⟩
abbrev S2x6x1024 : Shape := ⟨3, ![2, 6, 1024]⟩
abbrev S1024 : Shape := ⟨1, ![1024]⟩
abbrev S1024x2048 : Shape := ⟨2, ![1024, 2048]⟩
abbrev S1x1024 : Shape := ⟨2, ![1, 1024]⟩
abbrev S2x256x2048 : Shape := ⟨3, ![2, 256, 2048]⟩
abbrev S1x256x1024 : Shape := ⟨3, ![1, 256, 1024]⟩
abbrev S1x6x1024 : Shape := ⟨3, ![1, 6, 1024]⟩
abbrev S1x256x2048 : Shape := ⟨3, ![1, 256, 2048]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 7
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x6x1024, .f32⟩
  | .hbm, ⟨2, _⟩ => ⟨S1024, .f32⟩
  | .hbm, ⟨3, _⟩ => ⟨S1024x2048, .f32⟩
  | .hbm, ⟨4, _⟩ => ⟨S1024x2048, .bf16⟩
  | .hbm, ⟨5, _⟩ => ⟨S1x1024, .f32⟩
  | .hbm, ⟨6, _⟩ => ⟨S2x256x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1x256x2048, .f32⟩
  | .local _ .vmem, ⟨7, _⟩ => ⟨S1x256x2048, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S2x256x1024 : Shape := ⟨3, ![2, 256, 1024]⟩
abbrev S2x6x1024 : Shape := ⟨3, ![2, 6, 1024]⟩
abbrev S1024 : Shape := ⟨1, ![1024]⟩
abbrev S1024x2048 : Shape := ⟨2, ![1024, 2048]⟩
abbrev S2x1x1024 : Shape := ⟨3, ![2, 1, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x6x1024, .f32⟩
  | .hbm, ⟨2, _⟩ => ⟨S1024, .f32⟩
  | .hbm, ⟨3, _⟩ => ⟨S1024x2048, .f32⟩
  | .hbm, ⟨4, _⟩ => ⟨S2x1x1024, .f32⟩
  | .hbm, ⟨5, _⟩ => ⟨S2x1x1024, .f32⟩
  | .hbm, ⟨6, _⟩ => ⟨S2x256x1024, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x1024, .f32⟩
  | .hbm, ⟨18, _⟩ => ⟨S2x256x1024, .f32⟩
  | .hbm, ⟨19, _⟩ => ⟨S1x1x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S2x256x2048, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel10.lean ====
abbrev S2x256x1024 : Shape := ⟨3, ![2, 256, 1024]⟩
abbrev S2x256x256 : Shape := ⟨3, ![2, 256, 256]⟩
abbrev S2x256x2048 : Shape := ⟨3, ![2, 256, 2048]⟩
abbrev S2x6x1024 : Shape := ⟨3, ![2, 6, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x256x1024 : Shape := ⟨3, ![1, 256, 1024]⟩
abbrev S1x256x256 : Shape := ⟨3, ![1, 256, 256]⟩
abbrev S1x6x1024 : Shape := ⟨3, ![1, 6, 1024]⟩
abbrev S6x1024 : Shape := ⟨2, ![6, 1024]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 21
  | .vmem => 24
  | .smem => 0
  | _ => 0

abbrev bufTy : (tb : Table) → Fin (tcTables nBuf tb) → BufTy
  | .hbm, ⟨0, _⟩ => ⟨S2x256x1024, .f32⟩
  | .hbm, ⟨1, _⟩ => ⟨S2x256x256, .f32⟩
  | .hbm, ⟨2, _⟩ => ⟨S2x256x256, .bf16⟩
  | .hbm, ⟨3, _⟩ => ⟨S2x256x256, .f32⟩
  | .hbm, ⟨4, _⟩ => ⟨S2x256x256, .f32⟩
  | .hbm, ⟨5, _⟩ => ⟨S2x256x2048, .f32⟩
  | .hbm, ⟨6, _⟩ => ⟨S2x256x256, .f32⟩
  | .hbm, ⟨7, _⟩ => ⟨S2x6x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x4096, .f32⟩
  | .hbm, ⟨13, _⟩ => ⟨S4096x1024, .f32⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .bf16⟩
  | .local _ .vmem, ⟨5, _⟩ => ⟨S1x256x256, .bf16⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x6x1024, .f32⟩
  | .local _ .vmem, ⟨15, _⟩ => ⟨S1x6x1024, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x4096, .bf16⟩
  | .local _ .vmem, ⟨21, _⟩ => ⟨S4096x1024, .bf16⟩
  | .local _ .vmem, ⟨22, _⟩ => ⟨S1x256x1024, .f32⟩
  | .local _ .vmem, ⟨23, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference10Ideal.lean ====
abbrev S2x256x1024 : Shape := ⟨3, ![2, 256, 1024]⟩
abbrev S2x256x256 : Shape := ⟨3, ![2, 256, 256]⟩
abbrev S2x256x2048 : Shape := ⟨3, ![2, 256, 2048]⟩
abbrev S2x6x1024 : Shape := ⟨3, ![2, 6, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x1x1024 : Shape := ⟨3, ![2, 1, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x4096 : Shape := ⟨3, ![2, 256, 4096]⟩

abbrev nBuf : Space → Nat
  | .hbm => 108
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x256, .f32⟩
  | .hbm, ⟨2, _⟩ => ⟨S2x256x256, .bf16⟩
  | .hbm, ⟨3, _⟩ => ⟨S2x256x256, .f32⟩
  | .hbm, ⟨4, _⟩ => ⟨S2x256x256, .f32⟩
  | .hbm, ⟨5, _⟩ => ⟨S2x256x2048, .f32⟩
  | .hbm, ⟨6, _⟩ => ⟨S2x256x256, .f32⟩
  | .hbm, ⟨7, _⟩ => ⟨S2x6x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x4096, .f32⟩
  | .hbm, ⟨13, _⟩ => ⟨S4096x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x256x256, .f32⟩
  | .hbm, ⟨19, _⟩ => ⟨S2x256x256, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S_, .f32⟩
  | .hbm, ⟨34, _⟩ => ⟨S2x256x256, .f32⟩
  | .hbm, ⟨35, _⟩ => ⟨S2x256x256, .f32⟩
  | .hbm, ⟨36, _⟩ => ⟨S2x256x256, .f32⟩
  | .hbm, ⟨37, _⟩ => ⟨S2x256x256, .f32⟩
  | .hbm, ⟨38, _⟩ => ⟨S2x256x256, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256, .f32⟩
  | .hbm, ⟨44, _⟩ => ⟨S2x256x1, .f32⟩
  | .hbm, ⟨45, _⟩ => ⟨S_, .f32⟩
  | .hbm, ⟨46, _⟩ => ⟨S2x256x1, .f32⟩
  | .hbm, ⟨47, _⟩ => ⟨S2x256x1, .f32⟩
  | .hbm, ⟨48, _⟩ => ⟨S_, .f32⟩
  | .hbm, ⟨49, _⟩ => ⟨S2x256x1, .f32⟩
  | .hbm, ⟨50, _⟩ => ⟨S2x256x1, .f32⟩
  | .hbm, ⟨51, _⟩ => ⟨S2x256x1, .f32⟩
  | .hbm, ⟨52, _⟩ => ⟨S2x256x1024, .f32⟩
  | .hbm, ⟨53, _⟩ => ⟨S2x256x1024, .f32⟩
  | .hbm, ⟨54, _⟩ => ⟨S1x1x1024, .f32⟩
  | .hbm, ⟨55, _⟩ => ⟨S2x256x1024, .f32⟩
  | .hbm, ⟨56, _⟩ => ⟨S2x256x1024, .f32⟩
  | .hbm, ⟨57, _⟩ => ⟨S2x256x1024, .f32⟩
  | .hbm, ⟨58, _⟩ => ⟨S2x256x1024, .f32⟩
  | .hbm, ⟨59, _⟩ => ⟨S2x256x1024, .f32⟩
  | .hbm, ⟨60, _⟩ => ⟨S2x256x1024, .f32⟩
  | .hbm, ⟨61, _⟩ => ⟨S_, .f32⟩
  | .hbm, ⟨62, _⟩ => ⟨S2x256, .f32⟩
  | .hbm, ⟨63, _⟩ => ⟨S2x256x1, .f32⟩
  | .hbm, ⟨64, _⟩ => ⟨S_, .f32⟩
  | .hbm, ⟨65, _⟩ => ⟨S2x256x1, .f32⟩
  | .hbm, ⟨66, _⟩ => ⟨S2x256x1, .f32⟩
  | .hbm, ⟨67, _⟩ => ⟨S_, .f32⟩
  | .hbm, ⟨68, _⟩ => ⟨S2x256x1, .f32⟩
  | .hbm, ⟨69, _⟩ => ⟨S2x256x1, .f32⟩
  | .hbm, ⟨70, _⟩ => ⟨S2x256x1, .f32⟩
  | .hbm, ⟨71, _⟩ => ⟨S2x256x1024, .f32⟩
  | .hbm, ⟨72, _⟩ => ⟨S2x256x1024, .f32⟩
  | .hbm, ⟨73, _⟩ => ⟨S1x1x1024, .f32⟩
  | .hbm, ⟨74, _⟩ => ⟨S2x256x1024, .f32⟩
  | .hbm, ⟨75, _⟩ => ⟨S2x256x1024, .f32⟩
  | .hbm, ⟨76, _⟩ => ⟨S_, .f32⟩
  | .hbm, ⟨77, _⟩ => ⟨S2x1x1024, .f32⟩
  | .hbm, ⟨78, _⟩ => ⟨S2x1x1024, .f32⟩
  | .hbm, ⟨79, _⟩ => ⟨S2x256x1024, .f32⟩
  | .hbm, ⟨80, _⟩ => ⟨S2x256x1024, .f32⟩
  | .hbm, ⟨81, _⟩ => ⟨S2x256x1024, .f32⟩
  | .hbm, ⟨82, _⟩ => ⟨S2x256x1024, .f32⟩
  | .hbm, ⟨83, _⟩ => ⟨S2x256x4096, .f32⟩
  | .hbm, ⟨84, _⟩ => ⟨S_, .f32⟩
  | .hbm, ⟨85, _⟩ => ⟨S2x256x4096, .f32⟩
  | .hbm, ⟨86, _⟩ => ⟨S2x256x4096, .f32⟩
  | .hbm, ⟨87, _⟩ => ⟨S2x256x4096, .f32⟩
  | .hbm, ⟨88, _⟩ => ⟨S2x256x1024, .f32⟩
  | .hbm, ⟨89, _⟩ => ⟨S2x256x1024, .f32⟩
  | .hbm, ⟨90, _⟩ => ⟨S_, .f32⟩
  | .hbm, ⟨91, _⟩ => ⟨S2x256, .f32⟩
  | .hbm, ⟨92, _⟩ => ⟨S2x256x1, .f32⟩
  | .hbm, ⟨93, _⟩ => ⟨S_, .f32⟩
  | .hbm, ⟨94, _⟩ => ⟨S2x256x1, .f32⟩
  | .hbm, ⟨95, _⟩ => ⟨S2x256x1, .f32⟩
  | .hbm, ⟨96, _⟩ => ⟨S_, .f32⟩
  | .hbm, ⟨97, _⟩ => ⟨S2x256x1, .f32⟩
  | .hbm, ⟨98, _⟩ => ⟨S2x256x1, .f32⟩
  | .hbm, ⟨99, _⟩ => ⟨S2x256x1, .f32⟩
  | .hbm, ⟨100, _⟩ => ⟨S2x256x1024, .f32⟩
  | .hbm, ⟨101, _⟩ => ⟨S2x256x1024, .f32⟩
  | .hbm, ⟨102, _⟩ => ⟨S1x1x1024, .f32⟩
  | .hbm, ⟨103, _⟩ => ⟨S2x256x1024, .f32⟩
  | .hbm, ⟨104, _⟩ => ⟨S2x256x1024, .f32⟩
  | .hbm, ⟨105, _⟩ => ⟨S2x256x1024, .f32⟩
  | .hbm, ⟨106, _⟩ => ⟨S2x256x1024, .f32⟩
  | .hbm, ⟨107, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call0_cst : Ref sig .tc := ⟨.hbm, 84, rfl⟩
abbrev main_call0_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== Proof.KernelIdeal.Offs.lean ====
/- The loop's window offsets in closed form: which chain and which keys a unit of the loop's trip works on. -/
module

public import proofs.«01_k».proof.Proof.Gen.KernelIdeal.Skeleton
public import Idealize.ShloMosaic.Lib.Exec
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The queries that trip `k` multiplies for its unit `r`: the chain of unit `3k + r + 2`. -/
theorem off6_eq : ∀ k : Fin k0_t1_loop.trips, ∀ r : Fin 3,
    k0_off6 k (BitVec.ofNat 32 r.val) = ![(3 * k.val + r.val + 2) % 4, 0, 0] := by decide +kernel
/-- The value chunk `j` of unit `3k + r`. -/
theorem off7_eq : ∀ k : Fin k0_t1_loop.trips, ∀ r : Fin 3, ∀ j : Fin 8,
    k0_off7 k (BitVec.ofNat 32 r.val) (BitVec.ofNat 32 j.val) = ![0, 0, 8 * ((3 * k.val + r.val) / 4) + j.val, 0, 0] := by decide +kernel
/-- The running maximum and sum of the chain of unit `3k + r`. -/
theorem off8_eq : ∀ k : Fin k0_t1_loop.trips, ∀ r : Fin 3,
    k0_off8 k (BitVec.ofNat 32 r.val) = ![(3 * k.val + r.val) % 4, 0, 0] := by decide +kernel
/-- The accumulator of the chain of unit `3k + r`. -/
theorem off9_eq : ∀ k : Fin k0_t1_loop.trips, ∀ r : Fin 3,
    k0_off9 k (BitVec.ofNat 32 r.val) = ![(3 * k.val + r.val) % 4, 0, 0] := by decide +kernel

instance closed6_0 (k : Fin k0_t1_loop.trips) : ClosedOff (k0_off6 k (BitVec.ofNat 32 0)) := ⟨![(3 * k.val + 0 + 2) % 4, 0, 0], off6_eq k ⟨0, by decide⟩⟩
instance closed6_1 (k : Fin k0_t1_loop.trips) : ClosedOff (k0_off6 k (BitVec.ofNat 32 1)) := ⟨![(3 * k.val + 1 + 2) % 4, 0, 0], off6_eq k ⟨1, by decide⟩⟩
instance closed6_2 (k : Fin k0_t1_loop.trips) : ClosedOff (k0_off6 k (BitVec.ofNat 32 2)) := ⟨![(3 * k.val + 2 + 2) % 4, 0, 0], off6_eq k ⟨2, by decide⟩⟩
instance closed8_0 (k : Fin k0_t1_loop.trips) : ClosedOff (k0_off8 k (BitVec.ofNat 32 0)) := ⟨![(3 * k.val + 0) % 4, 0, 0], off8_eq k ⟨0, by decide⟩⟩
instance closed8_1 (k : Fin k0_t1_loop.trips) : ClosedOff (k0_off8 k (BitVec.ofNat 32 1)) := ⟨![(3 * k.val + 1) % 4, 0, 0], off8_eq k ⟨1, by decide⟩⟩
instance closed8_2 (k : Fin k0_t1_loop.trips) : ClosedOff (k0_off8 k (BitVec.ofNat 32 2)) := ⟨![(3 * k.val + 2) % 4, 0, 0], off8_eq k ⟨2, by decide⟩⟩
instance closed9_0 (k : Fin k0_t1_loop.trips) : ClosedOff (k0_off9 k (BitVec.ofNat 32 0)) := ⟨![(3 * k.val + 0) % 4, 0, 0], off9_eq k ⟨0, by decide⟩⟩
instance closed9_1 (k : Fin k0_t1_loop.trips) : ClosedOff (k0_off9 k (BitVec.ofNat 32 1)) := ⟨![(3 * k.val + 1) % 4, 0, 0], off9_eq k ⟨1, by decide⟩⟩
instance closed9_2 (k : Fin k0_t1_loop.trips) : ClosedOff (k0_off9 k (BitVec.ofNat 32 2)) := ⟨![(3 * k.val + 2) % 4, 0, 0], off9_eq k ⟨2, by decide⟩⟩
instance closed7_0_0 (k : Fin k0_t1_loop.trips) : ClosedOff (k0_off7 k (BitVec.ofNat 32 0) (BitVec.ofNat 32 0)) := ⟨![0, 0, 8 * ((3 * k.val + 0) / 4) + 0, 0, 0], off7_eq k ⟨0, by decide⟩ ⟨0, by decide⟩⟩
instance closed7_0_1 (k : Fin k0_t1_loop.trips) : ClosedOff (k0_off7 k (BitVec.ofNat 32 0) (BitVec.ofNat 32 1)) := ⟨![0, 0, 8 * ((3 * k.val + 0) / 4) + 1, 0, 0], off7_eq k ⟨0, by decide⟩ ⟨1, by decide⟩⟩
instance closed7_0_2 (k : Fin k0_t1_loop.trips) : ClosedOff (k0_off7 k (BitVec.ofNat 32 0) (BitVec.ofNat 32 2)) := ⟨![0, 0, 8 * ((3 * k.val + 0) / 4) + 2, 0, 0], off7_eq k ⟨0, by decide⟩ ⟨2, by decide⟩⟩
instance closed7_0_3 (k : Fin k0_t1_loop.trips) : ClosedOff (k0_off7 k (BitVec.ofNat 32 0) (BitVec.ofNat 32 3)) := ⟨![0, 0, 8 * ((3 * k.val + 0) / 4) + 3, 0, 0], off7_eq k ⟨0, by decide⟩ ⟨3, by decide⟩⟩
instance closed7_0_4 (k : Fin k0_t1_loop.trips) : ClosedOff (k0_off7 k (BitVec.ofNat 32 0) (BitVec.ofNat 32 4)) := ⟨![0, 0, 8 * ((3 * k.val + 0) / 4) + 4, 0, 0], off7_eq k ⟨0, by decide⟩ ⟨4, by decide⟩⟩
instance closed7_0_5 (k : Fin k0_t1_loop.trips) : ClosedOff (k0_off7 k (BitVec.ofNat 32 0) (BitVec.ofNat 32 5)) := ⟨![0, 0, 8 * ((3 * k.val + 0) / 4) + 5, 0, 0], off7_eq k ⟨0, by decide⟩ ⟨5, by decide⟩⟩
instance closed7_0_6 (k : Fin k0_t1_loop.trips) : ClosedOff (k0_off7 k (BitVec.ofNat 32 0) (BitVec.ofNat 32 6)) := ⟨![0, 0, 8 * ((3 * k.val + 0) / 4) + 6, 0, 0], off7_eq k ⟨0, by decide⟩ ⟨6, by decide⟩⟩
instance closed7_0_7 (k : Fin k0_t1_loop.trips) : ClosedOff (k0_off7 k (BitVec.ofNat 32 0) (BitVec.ofNat 32 7)) := ⟨![0, 0, 8 * ((3 * k.val + 0) / 4) + 7, 0, 0], off7_eq k ⟨0, by decide⟩ ⟨7, by decide⟩⟩
instance closed7_1_0 (k : Fin k0_t1_loop.trips) : ClosedOff (k0_off7 k (BitVec.ofNat 32 1) (BitVec.ofNat 32 0)) := ⟨![0, 0, 8 * ((3 * k.val + 1) / 4) + 0, 0, 0], off7_eq k ⟨1, by decide⟩ ⟨0, by decide⟩⟩
instance closed7_1_1 (k : Fin k0_t1_loop.trips) : ClosedOff (k0_off7 k (BitVec.ofNat 32 1) (BitVec.ofNat 32 1)) := ⟨![0, 0, 8 * ((3 * k.val + 1) / 4) + 1, 0, 0], off7_eq k ⟨1, by decide⟩ ⟨1, by decide⟩⟩
instance closed7_1_2 (k : Fin k0_t1_loop.trips) : ClosedOff (k0_off7 k (BitVec.ofNat 32 1) (BitVec.ofNat 32 2)) := ⟨![0, 0, 8 * ((3 * k.val + 1) / 4) + 2, 0, 0], off7_eq k ⟨1, by decide⟩ ⟨2, by decide⟩⟩
instance closed7_1_3 (k : Fin k0_t1_loop.trips) : ClosedOff (k0_off7 k (BitVec.ofNat 32 1) (BitVec.ofNat 32 3)) := ⟨![0, 0, 8 * ((3 * k.val + 1) / 4) + 3, 0, 0], off7_eq k ⟨1, by decide⟩ ⟨3, by decide⟩⟩
instance closed7_1_4 (k : Fin k0_t1_loop.trips) : ClosedOff (k0_off7 k (BitVec.ofNat 32 1) (BitVec.ofNat 32 4)) := ⟨![0, 0, 8 * ((3 * k.val + 1) / 4) + 4, 0, 0], off7_eq k ⟨1, by decide⟩ ⟨4, by decide⟩⟩
instance closed7_1_5 (k : Fin k0_t1_loop.trips) : ClosedOff (k0_off7 k (BitVec.ofNat 32 1) (BitVec.ofNat 32 5)) := ⟨![0, 0, 8 * ((3 * k.val + 1) / 4) + 5, 0, 0], off7_eq k ⟨1, by decide⟩ ⟨5, by decide⟩⟩
instance closed7_1_6 (k : Fin k0_t1_loop.trips) : ClosedOff (k0_off7 k (BitVec.ofNat 32 1) (BitVec.ofNat 32 6)) := ⟨![0, 0, 8 * ((3 * k.val + 1) / 4) + 6, 0, 0], off7_eq k ⟨1, by decide⟩ ⟨6, by decide⟩⟩
instance closed7_1_7 (k : Fin k0_t1_loop.trips) : ClosedOff (k0_off7 k (BitVec.ofNat 32 1) (BitVec.ofNat 32 7)) := ⟨![0, 0, 8 * ((3 * k.val + 1) / 4) + 7, 0, 0], off7_eq k ⟨1, by decide⟩ ⟨7, by decide⟩⟩
instance closed7_2_0 (k : Fin k0_t1_loop.trips) : ClosedOff (k0_off7 k (BitVec.ofNat 32 2) (BitVec.ofNat 32 0)) := ⟨![0, 0, 8 * ((3 * k.val + 2) / 4) + 0, 0, 0], off7_eq k ⟨2, by decide⟩ ⟨0, by decide⟩⟩
instance closed7_2_1 (k : Fin k0_t1_loop.trips) : ClosedOff (k0_off7 k (BitVec.ofNat 32 2) (BitVec.ofNat 32 1)) := ⟨![0, 0, 8 * ((3 * k.val + 2) / 4) + 1, 0, 0], off7_eq k ⟨2, by decide⟩ ⟨1, by decide⟩⟩
instance closed7_2_2 (k : Fin k0_t1_loop.trips) : ClosedOff (k0_off7 k (BitVec.ofNat 32 2) (BitVec.ofNat 32 2)) := ⟨![0, 0, 8 * ((3 * k.val + 2) / 4) + 2, 0, 0], off7_eq k ⟨2, by decide⟩ ⟨2, by decide⟩⟩
instance closed7_2_3 (k : Fin k0_t1_loop.trips) : ClosedOff (k0_off7 k (BitVec.ofNat 32 2) (BitVec.ofNat 32 3)) := ⟨![0, 0, 8 * ((3 * k.val + 2) / 4) + 3, 0, 0], off7_eq k ⟨2, by decide⟩ ⟨3, by decide⟩⟩
instance closed7_2_4 (k : Fin k0_t1_loop.trips) : ClosedOff (k0_off7 k (BitVec.ofNat 32 2) (BitVec.ofNat 32 4)) := ⟨![0, 0, 8 * ((3 * k.val + 2) / 4) + 4, 0, 0], off7_eq k ⟨2, by decide⟩ ⟨4, by decide⟩⟩
instance closed7_2_5 (k : Fin k0_t1_loop.trips) : ClosedOff (k0_off7 k (BitVec.ofNat 32 2) (BitVec.ofNat 32 5)) := ⟨![0, 0, 8 * ((3 * k.val + 2) / 4) + 5, 0, 0], off7_eq k ⟨2, by decide⟩ ⟨5, by decide⟩⟩
instance closed7_2_6 (k : Fin k0_t1_loop.trips) : ClosedOff (k0_off7 k (BitVec.ofNat 32 2) (BitVec.ofNat 32 6)) := ⟨![0, 0, 8 * ((3 * k.val + 2) / 4) + 6, 0, 0], off7_eq k ⟨2, by decide⟩ ⟨6, by decide⟩⟩
instance closed7_2_7 (k : Fin k0_t1_loop.trips) : ClosedOff (k0_off7 k (BitVec.ofNat 32 2) (BitVec.ofNat 32 7)) := ⟨![0, 0, 8 * ((3 * k.val + 2) / 4) + 7, 0, 0], off7_eq k ⟨2, by decide⟩ ⟨7, by decide⟩⟩

end Cert.KernelIdeal.Hand

end
-- ==== Proof.KernelIdeal.Step.lean ====
/- What one unit of the kernel does: 4096 keys against a chain of 512 queries, from their scores and values. -/
module

public import proofs.«01_k».proof.Proof.Gen.KernelIdeal.Skeleton
public import Idealize.ShloMosaic.Lib.VecWindow
public import proofs.«01_k».proof.Proof.KernelIdeal.Offs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.VecWindow

variable {F : FTy → Type} [FloatOps F]

/-- The scores of 4096 keys against the queries of a chain. -/
def uS (kb : Vec F S1x4096x128 .bf16) (q : Vec F S1x128x512 .bf16) : FVec F S4096x512 .f32 := k0_pay72 kb q
/-- The new running maximum. -/
def uM (s : Vec F S4096x512 .f32) (m : Vec F S1x8x512 .f32) : FVec F S1x8x512 .f32 := k0_pay71 (k0_pay63 s m)
/-- The new running sums. -/
def uL (s : Vec F S4096x512 .f32) (m l : Vec F S1x8x512 .f32) : FVec F S1x8x512 .f32 := k0_pay66 s m l
/-- The new accumulator. -/
def uA (s : Vec F S4096x512 .f32) (m : Vec F S1x8x512 .f32) (a : Vec F S1x64x512 .f32) (v : ℕ → Vec F S1x1x1x64x512 .bf16) : FVec F S1x64x512 .f32 :=
  k0_pay70 (k0_pay54 (v 1)) (k0_pay55 (v 2)) (k0_pay56 (v 3)) (k0_pay57 (v 4)) (k0_pay58 (v 5)) (k0_pay59 (v 6)) (k0_pay60 (v 7))
    (k0_pay64 s m) (k0_pay67 s m) (k0_pay68 s (k0_pay53 (v 0)) m) (k0_pay69 s m) a

/-! The second and the third unit of a trip are printed as other terms than the first, and are the same functions. -/
section Same
variable (s : Vec F S4096x512 .f32) (m l : Vec F S1x8x512 .f32) (a : Vec F S1x64x512 .f32) (v : ℕ → Vec F S1x1x1x64x512 .bf16)
  (kb : Vec F S1x4096x128 .bf16) (q : Vec F S1x128x512 .bf16)
theorem uS_0 : k0_pay52 (shapeCast S4096x128 kb shapeCasts_S1x4096x128_S4096x128) (shapeCast S128x512 q shapeCasts_S1x128x512_S128x512) = uS kb q := rfl
theorem uS_2 : k0_pay92 kb q = uS kb q := rfl
theorem uM_0 : k0_pay71 (k0_pay63 s m) = uM s m := rfl
theorem uM_1 : k0_pay91 (k0_pay83 s m) = uM s m := rfl
theorem uM_2 : k0_pay117 (k0_pay103 (k0_pay101 s) (k0_pay102 m)) = uM s m := rfl
theorem uL_0 : k0_pay66 s m l = uL s m l := rfl
theorem uL_1 : k0_pay86 s m l = uL s m l := rfl
theorem uL_2 : k0_pay106 (k0_pay101 s) (k0_pay102 m) l = uL s m l := rfl
theorem uA_0 : k0_pay70 (shapeCast S64x512 (v 1) shapeCasts_S1x1x1x64x512_S64x512) (shapeCast S64x512 (v 2) shapeCasts_S1x1x1x64x512_S64x512) (shapeCast S64x512 (v 3) shapeCasts_S1x1x1x64x512_S64x512) (shapeCast S64x512 (v 4) shapeCasts_S1x1x1x64x512_S64x512) (shapeCast S64x512 (v 5) shapeCasts_S1x1x1x64x512_S64x512) (shapeCast S64x512 (v 6) shapeCasts_S1x1x1x64x512_S64x512) (shapeCast S64x512 (v 7) shapeCasts_S1x1x1x64x512_S64x512) (k0_pay64 s m) (k0_pay67 s m) (k0_pay68 s (k0_pay53 (v 0)) m) (k0_pay69 s m) a = uA s m a v := rfl
theorem uA_1 : k0_pay90 (shapeCast S64x512 (v 3) shapeCasts_S1x1x1x64x512_S64x512) (shapeCast S64x512 (v 4) shapeCasts_S1x1x1x64x512_S64x512) (shapeCast S64x512 (v 5) shapeCasts_S1x1x1x64x512_S64x512) (shapeCast S64x512 (v 6) shapeCasts_S1x1x1x64x512_S64x512) (shapeCast S64x512 (v 7) shapeCasts_S1x1x1x64x512_S64x512) (k0_pay84 s m) (k0_pay87 s m) (k0_pay88 s (shapeCast S64x512 (v 0) shapeCasts_S1x1x1x64x512_S64x512) (shapeCast S64x512 (v 1) shapeCasts_S1x1x1x64x512_S64x512) (shapeCast S64x512 (v 2) shapeCasts_S1x1x1x64x512_S64x512) m) (k0_pay89 s m) (constant S64x512 .f32 0#32) a = uA s m a v := rfl
theorem uA_2 : k0_pay116 (k0_pay99 (v 6)) (k0_pay100 (v 7)) (k0_pay104 (k0_pay101 s) (k0_pay102 m)) (k0_pay107 (k0_pay101 s) (k0_pay102 m)) (k0_pay108 (shapeCast S64x512 (v 0) shapeCasts_S1x1x1x64x512_S64x512) (shapeCast S64x512 (v 1) shapeCasts_S1x1x1x64x512_S64x512) (shapeCast S64x512 (v 2) shapeCasts_S1x1x1x64x512_S64x512) (shapeCast S64x512 (v 3) shapeCasts_S1x1x1x64x512_S64x512) (shapeCast S64x512 (v 4) shapeCasts_S1x1x1x64x512_S64x512) (k0_pay101 s) (k0_pay102 m)) (k0_pay109 (shapeCast S64x512 (v 5) shapeCasts_S1x1x1x64x512_S64x512) (k0_pay101 s) (k0_pay102 m)) a = uA s m a v := rfl
end Same

theorem inbC (c : ℕ) : ∀ a, (![c % 4, 0, 0] : Fin 3 → ℕ) a + S1x8x512.size a ≤ S4x8x512.size a := by
  have : c % 4 < 4 := Nat.mod_lt _ (by decide)
  intro a; fin_cases a <;> simp [S1x8x512, S4x8x512] <;> omega
theorem inbA (c : ℕ) : ∀ a, (![c % 4, 0, 0] : Fin 3 → ℕ) a + S1x64x512.size a ≤ S4x64x512.size a := by
  have : c % 4 < 4 := Nat.mod_lt _ (by decide)
  intro a; fin_cases a <;> simp [S1x64x512, S4x64x512] <;> omega
theorem inbQ (c : ℕ) : ∀ a, (![c % 4, 0, 0] : Fin 3 → ℕ) a + S1x128x512.size a ≤ S4x128x512.size a := by
  have : c % 4 < 4 := Nat.mod_lt _ (by decide)
  intro a; fin_cases a <;> simp [S1x128x512, S4x128x512] <;> omega
theorem inbK (b : ℕ) : ∀ a, (![0, 4096 * (b % 4), 0] : Fin 3 → ℕ) a + S1x4096x128.size a ≤ S1x16384x128.size a := by
  have : b % 4 < 4 := Nat.mod_lt _ (by decide)
  intro a; fin_cases a <;> simp [S1x4096x128, S1x16384x128] <;> omega
theorem inbV (b j : ℕ) : ∀ a, (![0, 0, 8 * (b % 4) + j % 8, 0, 0] : Fin 5 → ℕ) a + S1x1x1x64x512.size a ≤ S1x1x32x64x512.size a := by
  have : b % 4 < 4 := Nat.mod_lt _ (by decide)
  have : j % 8 < 8 := Nat.mod_lt _ (by decide)
  intro a; fin_cases a <;> simp [S1x1x1x64x512, S1x1x32x64x512] <;> omega

/-- The keys of block `b`. -/
def kB (K : Vec F S1x16384x128 .bf16) (b : ℕ) : Vec F S1x4096x128 .bf16 := window K ![0, 4096 * (b % 4), 0] S1x4096x128.size (inbK b)
/-- The values of chunk `j` of block `b`. -/
def vB (V : Vec F S1x1x32x64x512 .bf16) (b j : ℕ) : Vec F S1x1x1x64x512 .bf16 := window V ![0, 0, 8 * (b % 4) + j % 8, 0, 0] S1x1x1x64x512.size (inbV b j)
/-- The queries of chain `c`. -/
def qB (q : Vec F S4x128x512 .bf16) (c : ℕ) : Vec F S1x128x512 .bf16 := window q ![c % 4, 0, 0] S1x128x512.size (inbQ c)
/-- A row of the running maxima or sums. -/
def rowC (m : Vec F S4x8x512 .f32) (c : ℕ) : Vec F S1x8x512 .f32 := window m ![c % 4, 0, 0] S1x8x512.size (inbC c)
/-- A row of the accumulators. -/
def rowA (a : Vec F S4x64x512 .f32) (c : ℕ) : Vec F S1x64x512 .f32 := window a ![c % 4, 0, 0] S1x64x512.size (inbA c)
def setC (m : Vec F S4x8x512 .f32) (c : ℕ) (w : Vec F S1x8x512 .f32) : Vec F S4x8x512 .f32 := put m ![c % 4, 0, 0] S1x8x512.size w
def setA (a : Vec F S4x64x512 .f32) (c : ℕ) (w : Vec F S1x64x512 .f32) : Vec F S4x64x512 .f32 := put a ![c % 4, 0, 0] S1x64x512.size w

/-- The scores of unit `u`: block `u / 4` of the keys against chain `u % 4` of the queries. -/
def scoreU (q : Vec F S4x128x512 .bf16) (K : Vec F S1x16384x128 .bf16) (u : ℕ) : Vec F S4096x512 .f32 := uS (kB K (u / 4)) (qB q u)

/-- The running maxima, sums and accumulators of the four chains. -/
structure St (F : FTy → Type) where
  m : Vec F S4x8x512 .f32
  l : Vec F S4x8x512 .f32
  a : Vec F S4x64x512 .f32

/-- Unit `u` on the state: the chain `u % 4` takes in the scores `s` and the values of block `u / 4`. -/
def St.unit (X : St F) (V : Vec F S1x1x32x64x512 .bf16) (u : ℕ) (s : Vec F S4096x512 .f32) : St F where
  m := setC X.m u (uM s (rowC X.m u))
  l := setC X.l u (uL s (rowC X.m u) (rowC X.l u))
  a := setA X.a u (uA s (rowC X.m u) (rowA X.a u) (vB V (u / 4)))

/-- The scores that the first two buffers hold before trip `k`, from what they held at the loop's entry. -/
def bufAt (s : Vec F S4096x512 .f32) (q : Vec F S4x128x512 .bf16) (K : Vec F S1x16384x128 .bf16) (r : ℕ) : ℕ → Vec F S4096x512 .f32
  | 0 => s
  | k + 1 => scoreU q K (3 * k + r + 2)

/-- The state before trip `k`. -/
def tripSt (X : St F) (s0 s1 : Vec F S4096x512 .f32) (q : Vec F S4x128x512 .bf16) (K : Vec F S1x16384x128 .bf16) (V : Vec F S1x1x32x64x512 .bf16) : ℕ → St F
  | 0 => X
  | k + 1 => (((tripSt X s0 s1 q K V k).unit V (3 * k) (bufAt s0 q K 1 k)).unit V (3 * k + 1) (bufAt s1 q K 2 k)).unit V (3 * k + 2) (scoreU q K (3 * k + 2))

section Trip
variable (k : Fin k0_t1_loop.trips)
theorem o5 : ∀ k : Fin k0_t1_loop.trips, ∀ r : Fin 3, k0_off5 k (BitVec.ofNat 32 r.val) = ![0, 4096 * ((3 * k.val + r.val + 2) / 4 % 4), 0] := by decide +kernel
theorem o7 : ∀ k : Fin k0_t1_loop.trips, ∀ r : Fin 3, ∀ j : Fin 8,
    k0_off7 k (BitVec.ofNat 32 r.val) (BitVec.ofNat 32 j.val) = ![0, 0, 8 * ((3 * k.val + r.val) / 4 % 4) + j.val % 8, 0, 0] := by decide +kernel

variable {sig' : RefSig} {κ : Kind} {sp : Space}
theorem rd5 (r : ℕ) (hr : r < 3) (v : View sig' κ sp S1x16384x128 .bf16) (f : v.ty.Contents (Elt F)) (inb) :
    v.readAt (Elt F) (Rect.unit (s := S1x16384x128) (k0_off5 k (BitVec.ofNat 32 r)) S1x4096x128.size inb).toLoadRect f = kB (v.read (Elt F) f) ((3 * k.val + r + 2) / 4) :=
  View.readAt_unit v f inb (o5 k ⟨r, hr⟩) (inbK _)
theorem rd6 (r : ℕ) (hr : r < 3) (v : View sig' κ sp S4x128x512 .bf16) (f : v.ty.Contents (Elt F)) (inb) :
    v.readAt (Elt F) (Rect.unit (s := S4x128x512) (k0_off6 k (BitVec.ofNat 32 r)) S1x128x512.size inb).toLoadRect f = qB (v.read (Elt F) f) (3 * k.val + r + 2) :=
  View.readAt_unit v f inb (off6_eq k ⟨r, hr⟩) (inbQ _)
theorem rd7 (r : ℕ) (hr : r < 3) (j : ℕ) (hj : j < 8) (v : View sig' κ sp S1x1x32x64x512 .bf16) (f : v.ty.Contents (Elt F)) (inb) :
    v.readAt (Elt F) (Rect.unit (s := S1x1x32x64x512) (k0_off7 k (BitVec.ofNat 32 r) (BitVec.ofNat 32 j)) S1x1x1x64x512.size inb).toLoadRect f = vB (v.read (Elt F) f) ((3 * k.val + r) / 4) j :=
  View.readAt_unit v f inb (o7 k ⟨r, hr⟩ ⟨j, hj⟩) (inbV _ _)
theorem rd8 (r : ℕ) (hr : r < 3) (v : View sig' κ sp S4x8x512 .f32) (f : v.ty.Contents (Elt F)) (inb) :
    v.readAt (Elt F) (Rect.unit (s := S4x8x512) (k0_off8 k (BitVec.ofNat 32 r)) S1x8x512.size inb).toLoadRect f = rowC (v.read (Elt F) f) (3 * k.val + r) :=
  View.readAt_unit v f inb (off8_eq k ⟨r, hr⟩) (inbC _)
theorem rd9 (r : ℕ) (hr : r < 3) (v : View sig' κ sp S4x64x512 .f32) (f : v.ty.Contents (Elt F)) (inb) :
    v.readAt (Elt F) (Rect.unit (s := S4x64x512) (k0_off9 k (BitVec.ofNat 32 r)) S1x64x512.size inb).toLoadRect f = rowA (v.read (Elt F) f) (3 * k.val + r) :=
  View.readAt_unit v f inb (off9_eq k ⟨r, hr⟩) (inbA _)
theorem wr8 (r : ℕ) (hr : r < 3) (v : View sig' κ sp S4x8x512 .f32) (f : v.ty.Contents (Elt F)) (inb) (w) (L) :
    v.read (Elt F) (v.writes (Elt F) f (⟨Rect.unit (s := S4x8x512) (k0_off8 k (BitVec.ofNat 32 r)) S1x8x512.size inb, w⟩ :: L)) = setC (v.read (Elt F) (v.writes (Elt F) f L)) (3 * k.val + r) w :=
  View.read_writes_cons_put v f inb w L (off8_eq k ⟨r, hr⟩)
theorem wr9 (r : ℕ) (hr : r < 3) (v : View sig' κ sp S4x64x512 .f32) (f : v.ty.Contents (Elt F)) (inb) (w) (L) :
    v.read (Elt F) (v.writes (Elt F) f (⟨Rect.unit (s := S4x64x512) (k0_off9 k (BitVec.ofNat 32 r)) S1x64x512.size inb, w⟩ :: L)) = setA (v.read (Elt F) (v.writes (Elt F) f L)) (3 * k.val + r) w :=
  View.read_writes_cons_put v f inb w L (off9_eq k ⟨r, hr⟩)
end Trip

end Cert.KernelIdeal.Hand

end
-- ==== Proof.KernelIdeal.Trip.lean ====
/- One trip of the kernel's loop: three units of keys against a chain of queries. -/
module

public import proofs.«01_k».proof.Proof.Gen.KernelIdeal.Frame
public import proofs.«01_k».proof.Proof.Gen.KernelIdeal.Loops
public import proofs.«01_k».proof.Proof.KernelIdeal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The variants of the run: none. -/
abbrev 𝒱₀ : Variants := Variants.none

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- A buffer held at contents that read `x`. -/
abbrev hd (c : Dev nD) {sp : Space} {S : Shape} {e : EltTy} (M : Memref sig .tc sp S e) (x : Vec F S e) : sProp 𝕄 :=
  iprop(∃ g : Bf (F := F) c M, pt c M g ∗ ⌜M.view.read (Elt F) g = x⌝)

/-- The state after the units `3k`, `3k + 1` and `3k + 2`. -/
def trip3 (X : St F) (s0 s1 : Vec F S4096x512 .f32) (q : Vec F S4x128x512 .bf16) (K : Vec F S1x16384x128 .bf16) (V : Vec F S1x1x32x64x512 .bf16) (k : ℕ) : St F :=
  ((X.unit V (3 * k) s0).unit V (3 * k + 1) s1).unit V (3 * k + 2) (scoreU q K (3 * k + 2))

-- the run of one trip
set_option maxHeartbeats 20000000 in
/-- The body of the loop at trip `k`: it takes the state through the units `3k`, `3k + 1` and `3k + 2`, and leaves the
    scores of the units `3k + 3` and `3k + 4` in the first two buffers. -/
theorem trip (c : Dev nD) (i : grid0.Coords) (arg4 : Memref sig .tc .vmem S1x2x64x1024 .bf16) (harg4 : arg4.IsWhole) (arg5 : Memref sig .tc .vmem S1x16384x128 .bf16) (harg5 : arg5.IsWhole) (arg6 : Memref sig .tc .vmem S1x1x32x64x512 .bf16) (harg6 : arg6.IsWhole) (arg7 : Memref sig .tc .vmem S1x256x128 .bf16) (harg7 : arg7.IsWhole) (arg8 : Memref sig .tc .vmem S1x1x1x64x256 .bf16) (harg8 : arg8.IsWhole) (arg9 : Memref sig .tc .vmem S1x1024x128 .bf16) (harg9 : arg9.IsWhole) (arg10 : Memref sig .tc .vmem S4x128x512 .bf16) (harg10 : arg10.IsWhole) (arg11 : Memref sig .tc .vmem S4x8x512 .f32) (harg11 : arg11.IsWhole) (arg12 : Memref sig .tc .vmem S4x8x512 .f32) (harg12 : arg12.IsWhole) (arg13 : Memref sig .tc .vmem S4x64x512 .f32) (harg13 : arg13.IsWhole) (arg14 : Memref sig .tc .vmem S4096x512 .f32) (harg14 : arg14.IsWhole) (arg15 : Memref sig .tc .vmem S4096x512 .f32) (harg15 : arg15.IsWhole) (arg16 : Memref sig .tc .vmem S4096x512 .f32) (harg16 : arg16.IsWhole)
    (k : Fin k0_t1_loop.trips) (u : Unit) (f5 : Bf (F := F) c arg5) (f6 : Bf (F := F) c arg6) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) :
    iprop(pt c arg5 f5 ∗ pt c arg6 f6 ∗ pt c arg10 f10 ∗ pt c arg11 f11 ∗ pt c arg12 f12 ∗ pt c arg13 f13 ∗ pt c arg14 f14 ∗ pt c arg15 f15 ∗ pt c arg16 f16)
      ⊢ wp frame (wpE (defs₀ (F := F)) 𝒱₀ c none) Set.univ (k0_t1_body (F := F) i arg4 harg4 arg5 harg5 arg6 harg6 arg7 harg7 arg8 harg8 arg9 harg9 arg10 harg10 arg11 harg11 arg12 harg12 arg13 harg13 arg14 harg14 arg15 harg15 arg16 harg16 k u)
        (fun _ => iprop(pt c arg5 f5 ∗ pt c arg6 f6 ∗ pt c arg10 f10
          ∗ hd c arg11 (trip3 ⟨(arg11.view.read (Elt F) f11), (arg12.view.read (Elt F) f12), (arg13.view.read (Elt F) f13)⟩ (arg14.view.read (Elt F) f14) (arg15.view.read (Elt F) f15) (arg10.view.read (Elt F) f10) (arg5.view.read (Elt F) f5) (arg6.view.read (Elt F) f6) k.val).m
          ∗ hd c arg12 (trip3 ⟨(arg11.view.read (Elt F) f11), (arg12.view.read (Elt F) f12), (arg13.view.read (Elt F) f13)⟩ (arg14.view.read (Elt F) f14) (arg15.view.read (Elt F) f15) (arg10.view.read (Elt F) f10) (arg5.view.read (Elt F) f5) (arg6.view.read (Elt F) f6) k.val).l
          ∗ hd c arg13 (trip3 ⟨(arg11.view.read (Elt F) f11), (arg12.view.read (Elt F) f12), (arg13.view.read (Elt F) f13)⟩ (arg14.view.read (Elt F) f14) (arg15.view.read (Elt F) f15) (arg10.view.read (Elt F) f10) (arg5.view.read (Elt F) f5) (arg6.view.read (Elt F) f6) k.val).a
          ∗ hd c arg14 (scoreU (arg10.view.read (Elt F) f10) (arg5.view.read (Elt F) f5) (3 * k.val + 1 + 2))
          ∗ hd c arg15 (scoreU (arg10.view.read (Elt F) f10) (arg5.view.read (Elt F) f5) (3 * k.val + 2 + 2))
          ∗ (∃ f, pt c arg16 f))) := by
  have hk : k.val < 4 := k.isLt
  unfold k0_t1_body
  iintro ⟨H5, H6, H10, H11, H12, H13, H14, H15, H16⟩
  sl_exec_parts
  generalize hm : arg11.view.read (Elt F) f11 = m0
  generalize hl : arg12.view.read (Elt F) f12 = l0
  generalize ha : arg13.view.read (Elt F) f13 = a0
  generalize hs0 : arg14.view.read (Elt F) f14 = s0
  generalize hs1 : arg15.view.read (Elt F) f15 = s1
  generalize hq : arg10.view.read (Elt F) f10 = q
  generalize hK : arg5.view.read (Elt F) f5 = K
  generalize hV : arg6.view.read (Elt F) f6 = V
  obtain ⟨X1, hX1⟩ : ∃ X1 : St F, X1 = (St.mk m0 l0 a0).unit V (3 * k.val) s0 := ⟨_, rfl⟩
  obtain ⟨X2, hX2⟩ : ∃ X2 : St F, X2 = X1.unit V (3 * k.val + 1) s1 := ⟨_, rfl⟩
  have hT : trip3 ⟨m0, l0, a0⟩ s0 s1 q K V k.val = X2.unit V (3 * k.val + 2) (scoreU q K (3 * k.val + 2)) := by rw [hX2, hX1]; rfl
  have er : trip.sl.r (F := F) c arg14 f14 = s0 := (View.readAt_full _ _ _).trans hs0
  have er7 : trip.sl.r_7 (F := F) c arg15 f15 = s1 := (View.readAt_full _ _ _).trans hs1
  have e29 : trip.sl.v1029 (F := F) c arg5 arg10 arg16 k f5 f10 = scoreU q K (3 * k.val + 2) := by
    refine (View.readCov_full _ _ _ _ _).trans ?_
    delta trip.sl.v403 trip.sl.v416
    rw [rd5 k 0 (by decide), rd6 k 0 (by decide), hK, hq]
    exact uS_0 _ _
  have h11 : arg11.view.read (Elt F) (arg11.view.writes (Elt F) f11 (trip.sl.H11_1 (F := F) c arg11 arg14 k f11 f14)) = X1.m := by
    refine (wr8 k 0 (by decide) _ _ _ _ _).trans ?_
    delta trip.sl.r_2
    rw [er, rd8 k 0 (by decide), View.writes_nil, hm, uM_0, hX1]; rfl
  have h11' : arg11.view.read (Elt F) (arg11.view.writes (Elt F) f11 (trip.sl.H11_2 (F := F) c arg11 arg14 arg15 k f11 f14 f15)) = X2.m := by
    refine (wr8 k 1 (by decide) _ _ _ _ _).trans ?_
    delta trip.sl.r_9
    rw [er7, rd8 k 1 (by decide), h11, uM_1, hX2]; rfl
  have h12 : arg12.view.read (Elt F) (arg12.view.writes (Elt F) f12 (trip.sl.H12_1 (F := F) c arg11 arg12 arg14 k f11 f12 f14)) = X1.l := by
    refine (wr8 k 0 (by decide) _ _ _ _ _).trans ?_
    rw [er, rd8 k 0 (by decide), rd8 k 0 (by decide), View.writes_nil, hm, hl, uL_0, hX1]; rfl
  have h12' : arg12.view.read (Elt F) (arg12.view.writes (Elt F) f12 (trip.sl.H12_2 (F := F) c arg11 arg12 arg14 arg15 k f11 f12 f14 f15)) = X2.l := by
    refine (wr8 k 1 (by decide) _ _ _ _ _).trans ?_
    rw [er7, rd8 k 1 (by decide), rd8 k 1 (by decide), h11, h12, uL_1, hX2]; rfl
  have h13 : arg13.view.read (Elt F) (arg13.view.writes (Elt F) f13 (trip.sl.H13_1 (F := F) c arg6 arg11 arg13 arg14 k f6 f11 f13 f14)) = X1.a := by
    refine (wr9 k 0 (by decide) _ _ _ _ _).trans ?_
    delta trip.sl.v467 trip.sl.v489 trip.sl.v511 trip.sl.v533 trip.sl.v555 trip.sl.v577 trip.sl.v599 trip.sl.r_1 trip.sl.r_3 trip.sl.r_4 trip.sl.r_5 trip.sl.r_6
    rw [er, rd8 k 0 (by decide), rd9 k 0 (by decide), View.writes_nil, hm, ha]
    simp only [rd7 k 0 (by decide) 0 (by decide), rd7 k 0 (by decide) 1 (by decide), rd7 k 0 (by decide) 2 (by decide), rd7 k 0 (by decide) 3 (by decide), rd7 k 0 (by decide) 4 (by decide), rd7 k 0 (by decide) 5 (by decide), rd7 k 0 (by decide) 6 (by decide), rd7 k 0 (by decide) 7 (by decide), hV]
    rw [uA_0, hX1]; rfl
  have h13' : arg13.view.read (Elt F) (arg13.view.writes (Elt F) f13 (trip.sl.H13_2 (F := F) c arg6 arg11 arg13 arg14 arg15 k f6 f11 f13 f14 f15)) = X2.a := by
    refine (wr9 k 1 (by decide) _ _ _ _ _).trans ?_
    delta trip.sl.v748 trip.sl.v770 trip.sl.v792 trip.sl.v814 trip.sl.v836 trip.sl.v858 trip.sl.v880 trip.sl.v902 trip.sl.r_8 trip.sl.r_10 trip.sl.r_11 trip.sl.r_12 trip.sl.r_13 trip.sl.cst_633
    rw [er7, rd8 k 1 (by decide), rd9 k 1 (by decide), h11, h13]
    simp only [rd7 k 1 (by decide) 0 (by decide), rd7 k 1 (by decide) 1 (by decide), rd7 k 1 (by decide) 2 (by decide), rd7 k 1 (by decide) 3 (by decide), rd7 k 1 (by decide) 4 (by decide), rd7 k 1 (by decide) 5 (by decide), rd7 k 1 (by decide) 6 (by decide), rd7 k 1 (by decide) 7 (by decide), hV]
    rw [uA_1, hX2]; rfl
  rw [hT]
  sl_step
  isplitl [H5]; · iexact H5
  isplitl [H6]; · iexact H6
  isplitl [H10]; · iexact H10
  isplitl [H11]
  · iexists _; isplitl [H11]; · iexact H11
    ipureintro
    refine (wr8 k 2 (by decide) _ _ _ _ _).trans ?_
    delta trip.sl.r_18 trip.sl.r_17 trip.sl.r_16
    rw [e29, rd8 k 2 (by decide), h11', uM_2]; rfl
  isplitl [H12]
  · iexists _; isplitl [H12]; · iexact H12
    ipureintro
    refine (wr8 k 2 (by decide) _ _ _ _ _).trans ?_
    delta trip.sl.r_17 trip.sl.r_16
    rw [e29, rd8 k 2 (by decide), rd8 k 2 (by decide), h11', h12', uL_2]; rfl
  isplitl [H13]
  · iexists _; isplitl [H13]; · iexact H13
    ipureintro
    refine (wr9 k 2 (by decide) _ _ _ _ _).trans ?_
    delta trip.sl.v1051 trip.sl.v1073 trip.sl.v1095 trip.sl.v1117 trip.sl.v1139 trip.sl.v1161 trip.sl.r_14 trip.sl.r_15 trip.sl.r_19 trip.sl.r_20 trip.sl.r_21 trip.sl.r_22 trip.sl.r_17 trip.sl.r_16
    rw [e29, rd8 k 2 (by decide), rd9 k 2 (by decide), h11', h13']
    simp only [rd7 k 2 (by decide) 0 (by decide), rd7 k 2 (by decide) 1 (by decide), rd7 k 2 (by decide) 2 (by decide), rd7 k 2 (by decide) 3 (by decide), rd7 k 2 (by decide) 4 (by decide), rd7 k 2 (by decide) 5 (by decide), rd7 k 2 (by decide) 6 (by decide), rd7 k 2 (by decide) 7 (by decide), hV]
    rw [uA_2]; rfl
  isplitl [H14]
  · iexists _; isplitl [H14]; · iexact H14
    ipureintro
    refine (View.read_writes_full _ _ _ _ _).trans ?_
    rw [rd5 k 1 (by decide), rd6 k 1 (by decide), hK, hq]; rfl
  isplitl [H15]
  · iexists _; isplitl [H15]; · iexact H15
    ipureintro
    refine (View.read_writes_full _ _ _ _ _).trans ?_
    rw [rd5 k 2 (by decide), rd6 k 2 (by decide), hK, hq]; rfl
  iexists _; iexact H16

end Cert.KernelIdeal.Hand

end
-- ==== Proof.KernelIdeal.LoopAt.lean ====
/- The kernel's loop by its invariant. -/
module

public import proofs.«01_k».proof.Proof.KernelIdeal.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loop's invariant before trip `k`: the queries, keys and values as they were, the state at trip `k`, the first
    two buffers with the scores of the units `3k` and `3k + 1`. -/
def loopIn (c : Dev nD) (arg5 : Memref sig .tc .vmem S1x16384x128 .bf16) (arg6 : Memref sig .tc .vmem S1x1x32x64x512 .bf16) (arg10 : Memref sig .tc .vmem S4x128x512 .bf16) (arg11 : Memref sig .tc .vmem S4x8x512 .f32) (arg12 : Memref sig .tc .vmem S4x8x512 .f32) (arg13 : Memref sig .tc .vmem S4x64x512 .f32) (arg14 : Memref sig .tc .vmem S4096x512 .f32) (arg15 : Memref sig .tc .vmem S4096x512 .f32) (arg16 : Memref sig .tc .vmem S4096x512 .f32) (f5 : Bf (F := F) c arg5) (f6 : Bf (F := F) c arg6) (f10 : Bf (F := F) c arg10) (X : St F) (s0 s1 : Vec F S4096x512 .f32) (k : ℕ) : sProp 𝕄 :=
  iprop(pt c arg5 f5 ∗ pt c arg6 f6 ∗ pt c arg10 f10
    ∗ hd c arg11 (tripSt X s0 s1 (arg10.view.read (Elt F) f10) (arg5.view.read (Elt F) f5) (arg6.view.read (Elt F) f6) k).m
    ∗ hd c arg12 (tripSt X s0 s1 (arg10.view.read (Elt F) f10) (arg5.view.read (Elt F) f5) (arg6.view.read (Elt F) f6) k).l
    ∗ hd c arg13 (tripSt X s0 s1 (arg10.view.read (Elt F) f10) (arg5.view.read (Elt F) f5) (arg6.view.read (Elt F) f6) k).a
    ∗ hd c arg14 (bufAt s0 (arg10.view.read (Elt F) f10) (arg5.view.read (Elt F) f5) 1 k)
    ∗ hd c arg15 (bufAt s1 (arg10.view.read (Elt F) f10) (arg5.view.read (Elt F) f5) 2 k)
    ∗ (∃ f, pt c arg16 f))

set_option warn.classDefReducibility false in
/-- The loop takes its invariant from each trip to the next. -/
@[sl_loop] def loopInv (c : Dev nD) (i : grid0.Coords) (arg4 : Memref sig .tc .vmem S1x2x64x1024 .bf16) (harg4 : arg4.IsWhole) (arg5 : Memref sig .tc .vmem S1x16384x128 .bf16) (harg5 : arg5.IsWhole) (arg6 : Memref sig .tc .vmem S1x1x32x64x512 .bf16) (harg6 : arg6.IsWhole) (arg7 : Memref sig .tc .vmem S1x256x128 .bf16) (harg7 : arg7.IsWhole) (arg8 : Memref sig .tc .vmem S1x1x1x64x256 .bf16) (harg8 : arg8.IsWhole) (arg9 : Memref sig .tc .vmem S1x1024x128 .bf16) (harg9 : arg9.IsWhole) (arg10 : Memref sig .tc .vmem S4x128x512 .bf16) (harg10 : arg10.IsWhole) (arg11 : Memref sig .tc .vmem S4x8x512 .f32) (harg11 : arg11.IsWhole) (arg12 : Memref sig .tc .vmem S4x8x512 .f32) (harg12 : arg12.IsWhole) (arg13 : Memref sig .tc .vmem S4x64x512 .f32) (harg13 : arg13.IsWhole) (arg14 : Memref sig .tc .vmem S4096x512 .f32) (harg14 : arg14.IsWhole) (arg15 : Memref sig .tc .vmem S4096x512 .f32) (harg15 : arg15.IsWhole) (arg16 : Memref sig .tc .vmem S4096x512 .f32) (harg16 : arg16.IsWhole) (f5 : Bf (F := F) c arg5) (f6 : Bf (F := F) c arg6) (f10 : Bf (F := F) c arg10) (X : St F) (s0 s1 : Vec F S4096x512 .f32) :
    LoopInvTy_k0_t1 (F := F) Unit ℕ (UR sig nD τ) ℕ 𝒱₀ c none Set.univ i arg4 harg4 arg5 harg5 arg6 harg6 arg7 harg7 arg8 harg8 arg9 harg9 arg10 harg10 arg11 harg11 arg12 harg12 arg13 harg13 arg14 harg14 arg15 harg15 arg16 harg16 where
  inv k _ := loopIn c arg5 arg6 arg10 arg11 arg12 arg13 arg14 arg15 arg16 f5 f6 f10 X s0 s1 k
  step k u := by
    unfold loopIn
    iintro ⟨H5, H6, H10, ⟨%f11, H11, %h11⟩, ⟨%f12, H12, %h12⟩, ⟨%f13, H13, %h13⟩, ⟨%f14, H14, %h14⟩, ⟨%f15, H15, %h15⟩, ⟨%f16, H16⟩⟩
    iapply (wp_wand_r Idealize.ShloMosaic.frame (wpE (defs₀ (F := F)) 𝒱₀ (c : Thread nD τ) none) Set.univ)
    isplitl [H5 H6 H10 H11 H12 H13 H14 H15 H16]
    · iapply (trip c i arg4 harg4 arg5 harg5 arg6 harg6 arg7 harg7 arg8 harg8 arg9 harg9 arg10 harg10 arg11 harg11 arg12 harg12 arg13 harg13 arg14 harg14 arg15 harg15 arg16 harg16 k u f5 f6 f10 f11 f12 f13 f14 f15 f16)
      isplitl [H5]; · iexact H5
      isplitl [H6]; · iexact H6
      isplitl [H10]; · iexact H10
      isplitl [H11]; · iexact H11
      isplitl [H12]; · iexact H12
      isplitl [H13]; · iexact H13
      isplitl [H14]; · iexact H14
      isplitl [H15]; · iexact H15
      iexact H16
    · iintro %_ H
      rw [h11, h12, h13, h14, h15]
      iexact H

end Cert.KernelIdeal.Hand

end
-- ==== Proof.KernelIdeal.Ctx.lean ====
/- What a chain does with the context's keys and values, and the padded queries. -/
module

public import proofs.«01_k».proof.Proof.KernelIdeal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.VecWindow

variable {F : FTy → Type} [FloatOps F]

/-- The queries of chain `c` in a block of queries: head `c / 2`, half `c % 2`. -/
theorem inbW (c : ℕ) : ∀ a, (![0, c / 2 % 2, 0, 512 * (c % 2)] : Fin 4 → ℕ) a + S1x1x64x512.size a ≤ S1x2x64x1024.size a := by
  have : c / 2 % 2 < 2 := Nat.mod_lt _ (by decide)
  have : c % 2 < 2 := Nat.mod_lt _ (by decide)
  intro a; fin_cases a <;> simp [S1x1x64x512, S1x2x64x1024] <;> omega
/-- The queries of chain `c`, as a row of the padded queries. -/
def qW (x : Vec F S1x2x64x1024 .bf16) (c : ℕ) : Vec F S1x64x512 .bf16 :=
  k0_pay5 (window x ![0, c / 2 % 2, 0, 512 * (c % 2)] S1x1x64x512.size (inbW c))
/-- The padded queries: zeros, and in rows `64 * h` and on the queries of the four chains. -/
def qsOf (h : ℕ) (x : Vec F S1x2x64x1024 .bf16) : Vec F S4x128x512 .bf16 :=
  put (put (put (put (k0_pay4 (F := F)) ![0, 64 * h, 0] S1x64x512.size (qW x 0)) ![1, 64 * h, 0] S1x64x512.size (qW x 1))
    ![2, 64 * h, 0] S1x64x512.size (qW x 2)) ![3, 64 * h, 0] S1x64x512.size (qW x 3)

/-- The running maximum after the context's keys. -/
def cM (kc : Vec F S1x256x128 .bf16) (q : Vec F S1x128x512 .bf16) (m : Vec F S1x8x512 .f32) : FVec F S1x8x512 .f32 :=
  k0_pay32 (k0_pay27 kc q m)
/-- The running sums after the context's keys. -/
def cL (kc : Vec F S1x256x128 .bf16) (q : Vec F S1x128x512 .bf16) (m l : Vec F S1x8x512 .f32) : FVec F S1x8x512 .f32 :=
  k0_pay30 kc q m l
/-- The accumulator after the context's keys. -/
def cA (kc : Vec F S1x256x128 .bf16) (q : Vec F S1x128x512 .bf16) (m : Vec F S1x8x512 .f32) (a : Vec F S1x64x512 .f32) (v : Vec F S1x1x1x64x256 .bf16) : FVec F S1x64x512 .f32 :=
  k0_pay31 (k0_pay24 v) (k0_pay28 kc q m) (k0_pay29 kc q m) a

/-! The four chains' context steps are printed as other terms and are the same functions. -/
section Same
variable (kc : Vec F S1x256x128 .bf16) (q : Vec F S1x128x512 .bf16) (m l : Vec F S1x8x512 .f32) (a : Vec F S1x64x512 .f32) (v : Vec F S1x1x1x64x256 .bf16)
theorem cM_0 : k0_pay23 (k0_pay18 (k0_pay15 m) (k0_pay16 kc q) (k0_pay17 kc q)) = cM kc q m := rfl
theorem cM_1 : k0_pay32 (k0_pay27 kc q m) = cM kc q m := rfl
theorem cM_2 : k0_pay42 (k0_pay37 (k0_pay35 m) (k0_pay36 kc q)) = cM kc q m := rfl
theorem cM_3 : k0_pay113 (k0_pay46 kc q m) = cM kc q m := rfl
theorem cL_0 : k0_pay21 (k0_pay14 kc q) (k0_pay15 m) (k0_pay16 kc q) (k0_pay17 kc q) l = cL kc q m l := rfl
theorem cL_1 : k0_pay30 kc q m l = cL kc q m l := rfl
theorem cL_2 : k0_pay40 (k0_pay34 kc q) (k0_pay35 m) (k0_pay36 kc q) l = cL kc q m l := rfl
theorem cL_3 : k0_pay111 (k0_pay49 kc q m l) = cL kc q m l := rfl
theorem cA_0 : k0_pay22 (k0_pay13 v) (k0_pay14 kc q) (k0_pay15 m) (k0_pay16 kc q) (k0_pay17 kc q) a = cA kc q m a v := rfl
theorem cA_1 : k0_pay31 (k0_pay24 v) (k0_pay28 kc q m) (k0_pay29 kc q m) a = cA kc q m a v := rfl
theorem cA_2 : k0_pay41 (k0_pay33 v) (k0_pay34 kc q) (k0_pay35 m) (k0_pay36 kc q) a = cA kc q m a v := rfl
theorem cA_3 : k0_pay112 (k0_pay43 v) (k0_pay47 kc q m) (k0_pay48 kc q m) a = cA kc q m a v := rfl
end Same

/-- Chain `c` takes in the context's keys and values. -/
def St.ctx (X : St F) (kc : Vec F S1x256x128 .bf16) (vc : Vec F S1x1x1x64x256 .bf16) (q : Vec F S4x128x512 .bf16) (c : ℕ) : St F where
  m := setC X.m c (cM kc (qB q c) (rowC X.m c))
  l := setC X.l c (cL kc (qB q c) (rowC X.m c) (rowC X.l c))
  a := setA X.a c (cA kc (qB q c) (rowC X.m c) (rowA X.a c) vc)

/-- The state before any key. -/
def X00 : St F := ⟨k0_pay10, k0_pay11, k0_pay12⟩
/-- The state after the context. -/
def ctxSt (kc : Vec F S1x256x128 .bf16) (vc : Vec F S1x1x1x64x256 .bf16) (q : Vec F S4x128x512 .bf16) : St F :=
  (((X00.ctx kc vc q 0).ctx kc vc q 1).ctx kc vc q 2).ctx kc vc q 3

/-- The state after the loop's twelve units. -/
def loopSt (kc : Vec F S1x256x128 .bf16) (vc : Vec F S1x1x1x64x256 .bf16) (q : Vec F S4x128x512 .bf16) (K : Vec F S1x16384x128 .bf16) (V : Vec F S1x1x32x64x512 .bf16) : St F :=
  tripSt (ctxSt kc vc q) (scoreU q K 0) (scoreU q K 1) q K V 4

section Access
variable {sig' : RefSig} {κ : Kind} {sp : Space}
theorem wC (c : ℕ) (v : View sig' κ sp S4x8x512 .f32) (f : v.ty.Contents (Elt F)) {off : Fin 3 → ℕ} (inb) (w) (L) (h : off = ![c % 4, 0, 0]) :
    v.read (Elt F) (v.writes (Elt F) f (⟨Rect.unit (s := S4x8x512) off S1x8x512.size inb, w⟩ :: L)) = setC (v.read (Elt F) (v.writes (Elt F) f L)) c w :=
  View.read_writes_cons_put v f inb w L h
theorem wA (c : ℕ) (v : View sig' κ sp S4x64x512 .f32) (f : v.ty.Contents (Elt F)) {off : Fin 3 → ℕ} (inb) (w) (L) (h : off = ![c % 4, 0, 0]) :
    v.read (Elt F) (v.writes (Elt F) f (⟨Rect.unit (s := S4x64x512) off S1x64x512.size inb, w⟩ :: L)) = setA (v.read (Elt F) (v.writes (Elt F) f L)) c w :=
  View.read_writes_cons_put v f inb w L h
theorem rC (c : ℕ) (v : View sig' κ sp S4x8x512 .f32) (f : v.ty.Contents (Elt F)) {off : Fin 3 → ℕ} (inb) (h : off = ![c % 4, 0, 0]) :
    v.readAt (Elt F) (Rect.unit (s := S4x8x512) off S1x8x512.size inb).toLoadRect f = rowC (v.read (Elt F) f) c :=
  View.readAt_unit v f inb h (inbC c)
theorem rA (c : ℕ) (v : View sig' κ sp S4x64x512 .f32) (f : v.ty.Contents (Elt F)) {off : Fin 3 → ℕ} (inb) (h : off = ![c % 4, 0, 0]) :
    v.readAt (Elt F) (Rect.unit (s := S4x64x512) off S1x64x512.size inb).toLoadRect f = rowA (v.read (Elt F) f) c :=
  View.readAt_unit v f inb h (inbA c)
theorem rQ (c : ℕ) (v : View sig' κ sp S4x128x512 .bf16) (f : v.ty.Contents (Elt F)) {off : Fin 3 → ℕ} (inb) (h : off = ![c % 4, 0, 0]) :
    v.readAt (Elt F) (Rect.unit (s := S4x128x512) off S1x128x512.size inb).toLoadRect f = qB (v.read (Elt F) f) c :=
  View.readAt_unit v f inb h (inbQ c)
theorem rK (b : ℕ) (v : View sig' κ sp S1x16384x128 .bf16) (f : v.ty.Contents (Elt F)) {off : Fin 3 → ℕ} (inb) (h : off = ![0, 4096 * (b % 4), 0]) :
    v.readAt (Elt F) (Rect.unit (s := S1x16384x128) off S1x4096x128.size inb).toLoadRect f = kB (v.read (Elt F) f) b :=
  View.readAt_unit v f inb h (inbK b)
theorem rV (b j : ℕ) (v : View sig' κ sp S1x1x32x64x512 .bf16) (f : v.ty.Contents (Elt F)) {off : Fin 5 → ℕ} (inb) (h : off = ![0, 0, 8 * (b % 4) + j % 8, 0, 0]) :
    v.readAt (Elt F) (Rect.unit (s := S1x1x32x64x512) off S1x1x1x64x512.size inb).toLoadRect f = vB (v.read (Elt F) f) b j :=
  View.readAt_unit v f inb h (inbV b j)
theorem rW (c : ℕ) (v : View sig' κ sp S1x2x64x1024 .bf16) (f : v.ty.Contents (Elt F)) {off : Fin 4 → ℕ} (inb) (h : off = ![0, c / 2 % 2, 0, 512 * (c % 2)]) :
    k0_pay5 (v.readAt (Elt F) (Rect.unit (s := S1x2x64x1024) off S1x1x64x512.size inb).toLoadRect f) = qW (v.read (Elt F) f) c :=
  congrArg k0_pay5 (View.readAt_unit v f inb h (inbW c))
end Access

end Cert.KernelIdeal.Hand

end
-- ==== Proof.KernelIdeal.Init.lean ====
/- The kernel up to the end of its loop. -/
module

public import proofs.«01_k».proof.Proof.KernelIdeal.LoopAt
public import proofs.«01_k».proof.Proof.KernelIdeal.Ctx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Every step is the first of its pass over the keys. -/
theorem hc1 : ∀ i : grid0.Coords, k0_cond1 i = 1#1 := by decide +kernel
/-- Every step is the last of its pass over the keys. -/
theorem hc2 : ∀ i : grid0.Coords, k0_cond2 i = 1#1 := by decide +kernel

set_option maxHeartbeats 20000000 in
/-- The kernel up to the end of its loop: the padded queries are laid out, the context is taken in and then the first
    twelve units; the scores of the units 12 and 13 are ready. -/
theorem init (c : Dev nD) (i : grid0.Coords) (arg4 : Memref sig .tc .vmem S1x2x64x1024 .bf16) (harg4 : arg4.IsWhole) (arg5 : Memref sig .tc .vmem S1x16384x128 .bf16) (harg5 : arg5.IsWhole) (arg6 : Memref sig .tc .vmem S1x1x32x64x512 .bf16) (harg6 : arg6.IsWhole) (arg7 : Memref sig .tc .vmem S1x256x128 .bf16) (harg7 : arg7.IsWhole) (arg8 : Memref sig .tc .vmem S1x1x1x64x256 .bf16) (harg8 : arg8.IsWhole) (arg9 : Memref sig .tc .vmem S1x1024x128 .bf16) (harg9 : arg9.IsWhole) (arg10 : Memref sig .tc .vmem S4x128x512 .bf16) (harg10 : arg10.IsWhole) (arg11 : Memref sig .tc .vmem S4x8x512 .f32) (harg11 : arg11.IsWhole) (arg12 : Memref sig .tc .vmem S4x8x512 .f32) (harg12 : arg12.IsWhole) (arg13 : Memref sig .tc .vmem S4x64x512 .f32) (harg13 : arg13.IsWhole) (arg14 : Memref sig .tc .vmem S4096x512 .f32) (harg14 : arg14.IsWhole) (arg15 : Memref sig .tc .vmem S4096x512 .f32) (harg15 : arg15.IsWhole) (arg16 : Memref sig .tc .vmem S4096x512 .f32) (harg16 : arg16.IsWhole) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) :
    iprop(pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16)
      ⊢ wp frame (wpE (defs₀ (F := F)) 𝒱₀ c none) Set.univ (k0_part32 (F := F) i arg4 harg4 arg5 harg5 arg6 harg6 arg7 harg7 arg8 harg8 arg9 harg9 arg10 harg10 arg11 harg11 arg12 harg12 arg13 harg13 arg14 harg14 arg15 harg15 arg16 harg16)
        (fun _ => iprop(pt c arg4 f4 ∗ pt c arg5 f5 ∗ pt c arg6 f6 ∗ pt c arg7 f7 ∗ pt c arg8 f8 ∗ (∃ f, pt c arg9 f) ∗ hd c arg10 (qsOf (i 1).val (arg4.view.read (Elt F) f4))
          ∗ hd c arg11 (loopSt (arg7.view.read (Elt F) f7) (arg8.view.read (Elt F) f8) (qsOf (i 1).val (arg4.view.read (Elt F) f4)) (arg5.view.read (Elt F) f5) (arg6.view.read (Elt F) f6)).m
          ∗ hd c arg12 (loopSt (arg7.view.read (Elt F) f7) (arg8.view.read (Elt F) f8) (qsOf (i 1).val (arg4.view.read (Elt F) f4)) (arg5.view.read (Elt F) f5) (arg6.view.read (Elt F) f6)).l
          ∗ hd c arg13 (loopSt (arg7.view.read (Elt F) f7) (arg8.view.read (Elt F) f8) (qsOf (i 1).val (arg4.view.read (Elt F) f4)) (arg5.view.read (Elt F) f5) (arg6.view.read (Elt F) f6)).a
          ∗ hd c arg14 (scoreU (qsOf (i 1).val (arg4.view.read (Elt F) f4)) (arg5.view.read (Elt F) f5) 12) ∗ hd c arg15 (scoreU (qsOf (i 1).val (arg4.view.read (Elt F) f4)) (arg5.view.read (Elt F) f5) 13) ∗ (∃ f, pt c arg16 f))) := by
  have h1 := hc1 i
  iintro ⟨H4, H5, H6, H7, H8, H9, H10, H11, H12, H13, H14, H15, H16⟩
  sl_exec_parts (disch := sl_exact h1)
  have hqs : ∀ f, arg10.view.read (Elt F) (arg10.view.writes (Elt F) f (init.sl.H10_5 (F := F) c i arg4 f4 h1)) = (qsOf (i 1).val (arg4.view.read (Elt F) f4)) := by
    intro f
    have e4 := (View.read_writes_cons_put arg10.view f (k0_off4_inb i h1) (k0_pay9 (init.sl.r (F := F) c arg4 f4)) (init.sl.H10_4 (F := F) c i arg4 f4 h1) (k0_off4_eq i))
    refine e4.trans ?_
    have e3 : arg10.view.read (Elt F) (arg10.view.writes (Elt F) f (init.sl.H10_4 (F := F) c i arg4 f4 h1)) = _ := (View.read_writes_cons_put arg10.view f (k0_off3_inb i h1) _ _ (k0_off3_eq i))
    rw [e3, View.read_writes_cons_put arg10.view f (k0_off2_inb i h1) _ _ (k0_off2_eq i), View.read_writes_cons_put arg10.view f (k0_off1_inb i h1) _ _ (k0_off1_eq i), View.read_writes_full]
    have w0 := rW 0 arg4.view f4 inb_S1x2x64x1024_S1x1x64x512_0_0_0_0 rfl
    have w1 := rW 1 arg4.view f4 inb_S1x2x64x1024_S1x1x64x512_0_0_0_512 rfl
    have w2 := rW 2 arg4.view f4 inb_S1x2x64x1024_S1x1x64x512_0_1_0_0 rfl
    have w3 := rW 3 arg4.view f4 inb_S1x2x64x1024_S1x1x64x512_0_1_0_512 rfl
    unfold qsOf
    rw [← w0, ← w1, ← w2, ← w3]
    rfl
  generalize hQ : (qsOf (i 1).val (arg4.view.read (Elt F) f4)) = Q at hqs ⊢
  have q0 : init.sl.v423 (F := F) c i arg4 arg10 f4 h1 = qB Q 0 :=
    (rQ 0 arg10.view _ inb_S4x128x512_S1x128x512_0_0_0 rfl).trans (congrArg (qB · 0) (hqs _))
  have q1 : init.sl.v474 (F := F) c i arg4 arg10 f4 h1 = qB Q 1 :=
    (rQ 1 arg10.view _ inb_S4x128x512_S1x128x512_1_0_0 rfl).trans (congrArg (qB · 1) (hqs _))
  have q2 : init.sl.v525 (F := F) c i arg4 arg10 f4 h1 = qB Q 2 :=
    (rQ 2 arg10.view _ inb_S4x128x512_S1x128x512_2_0_0 rfl).trans (congrArg (qB · 2) (hqs _))
  have q3 : init.sl.v576 (F := F) c i arg4 arg10 f4 h1 = qB Q 3 :=
    (rQ 3 arg10.view _ inb_S4x128x512_S1x128x512_3_0_0 rfl).trans (congrArg (qB · 3) (hqs _))
  have eK : arg7.view.readAt (Elt F) (Rect.unit ![0, 0, 0] S1x256x128.size inb_S1x256x128_S1x256x128_0_0_0).toLoadRect f7 = (arg7.view.read (Elt F) f7) := View.readAt_full _ _ _
  have eV : arg8.view.readAt (Elt F) (Rect.unit ![0, 0, 0, 0, 0] S1x1x1x64x256.size inb_S1x1x1x64x256_S1x1x1x64x256_0_0_0_0_0).toLoadRect f8 = (arg8.view.read (Elt F) f8) := View.readAt_full _ _ _
  generalize hkc : (arg7.view.read (Elt F) f7) = kc at eK ⊢
  generalize hvc : (arg8.view.read (Elt F) f8) = vc at eV ⊢
  obtain ⟨X1, hX1⟩ : ∃ X : St F, X = X00.ctx kc vc Q 0 := ⟨_, rfl⟩
  obtain ⟨X2, hX2⟩ : ∃ X : St F, X = X1.ctx kc vc Q 1 := ⟨_, rfl⟩
  obtain ⟨X3, hX3⟩ : ∃ X : St F, X = X2.ctx kc vc Q 2 := ⟨_, rfl⟩
  obtain ⟨X4, hX4⟩ : ∃ X : St F, X = X3.ctx kc vc Q 3 := ⟨_, rfl⟩
  have hX : ctxSt kc vc Q = X4 := by rw [hX4, hX3, hX2, hX1]; rfl
  have m0 : ∀ f, arg11.view.read (Elt F) (arg11.view.writes (Elt F) f (init.sl.H11_1 (F := F))) = X00.m := fun f => View.read_writes_full _ _ _ _ _
  have l0 : ∀ f, arg12.view.read (Elt F) (arg12.view.writes (Elt F) f (init.sl.H12_1 (F := F))) = X00.l := fun f => View.read_writes_full _ _ _ _ _
  have a0 : ∀ f, arg13.view.read (Elt F) (arg13.view.writes (Elt F) f (init.sl.H13_1 (F := F))) = X00.a := fun f => View.read_writes_full _ _ _ _ _
  have rm0 : init.sl.v429 (F := F) arg11 = rowC X00.m 0 :=
    (rC 0 arg11.view _ inb_S4x8x512_S1x8x512_0_0_0 rfl).trans (congrArg (rowC · 0) (m0 _))
  have rl0 : init.sl.v445 (F := F) arg12 = rowC X00.l 0 :=
    (rC 0 arg12.view _ inb_S4x8x512_S1x8x512_0_0_0 rfl).trans (congrArg (rowC · 0) (l0 _))
  have ra0 : init.sl.v458 (F := F) arg13 = rowA X00.a 0 :=
    (rA 0 arg13.view _ inb_S4x64x512_S1x64x512_0_0_0 rfl).trans (congrArg (rowA · 0) (a0 _))
  have m1 : ∀ f, arg11.view.read (Elt F) (arg11.view.writes (Elt F) f (init.sl.H11_2 (F := F) c i arg4 arg7 arg10 arg11 f4 f7 h1)) = X1.m := by
    intro f
    refine (wC 0 arg11.view f inb_S4x8x512_S1x8x512_0_0_0 _ _ rfl).trans ?_
    rw [m0]; delta init.sl.r_6 init.sl.r_3 init.sl.r_4 init.sl.r_5
    rw [eK, q0, rm0, cM_0, hX1]; rfl
  have l1 : ∀ f, arg12.view.read (Elt F) (arg12.view.writes (Elt F) f (init.sl.H12_2 (F := F) c i arg4 arg7 arg10 arg11 arg12 f4 f7 h1)) = X1.l := by
    intro f
    refine (wC 0 arg12.view f inb_S4x8x512_S1x8x512_0_0_0 _ _ rfl).trans ?_
    rw [l0]; delta init.sl.r_2 init.sl.r_3 init.sl.r_4 init.sl.r_5
    rw [eK, q0, rm0, rl0, cL_0, hX1]; rfl
  have a1 : ∀ f, arg13.view.read (Elt F) (arg13.view.writes (Elt F) f (init.sl.H13_2 (F := F) c i arg4 arg7 arg8 arg10 arg11 arg13 f4 f7 f8 h1)) = X1.a := by
    intro f
    refine (wA 0 arg13.view f inb_S4x64x512_S1x64x512_0_0_0 _ _ rfl).trans ?_
    rw [a0]; delta init.sl.r_1 init.sl.r_2 init.sl.r_3 init.sl.r_4 init.sl.r_5
    rw [eK, eV, q0, rm0, ra0, cA_0, hX1]; rfl
  have rm1 : init.sl.v480 (F := F) c i arg4 arg7 arg10 arg11 f4 f7 h1 = rowC X1.m 1 :=
    (rC 1 arg11.view _ inb_S4x8x512_S1x8x512_1_0_0 rfl).trans (congrArg (rowC · 1) (m1 _))
  have rl1 : init.sl.v496 (F := F) c i arg4 arg7 arg10 arg11 arg12 f4 f7 h1 = rowC X1.l 1 :=
    (rC 1 arg12.view _ inb_S4x8x512_S1x8x512_1_0_0 rfl).trans (congrArg (rowC · 1) (l1 _))
  have ra1 : init.sl.v509 (F := F) c i arg4 arg7 arg8 arg10 arg11 arg13 f4 f7 f8 h1 = rowA X1.a 1 :=
    (rA 1 arg13.view _ inb_S4x64x512_S1x64x512_1_0_0 rfl).trans (congrArg (rowA · 1) (a1 _))
  have m2 : ∀ f, arg11.view.read (Elt F) (arg11.view.writes (Elt F) f (init.sl.H11_3 (F := F) c i arg4 arg7 arg10 arg11 f4 f7 h1)) = X2.m := by
    intro f
    refine (wC 1 arg11.view f inb_S4x8x512_S1x8x512_1_0_0 _ _ rfl).trans ?_
    rw [m1]; delta init.sl.r_8
    rw [eK, q1, rm1, cM_1, hX2]; rfl
  have l2 : ∀ f, arg12.view.read (Elt F) (arg12.view.writes (Elt F) f (init.sl.H12_3 (F := F) c i arg4 arg7 arg10 arg11 arg12 f4 f7 h1)) = X2.l := by
    intro f
    refine (wC 1 arg12.view f inb_S4x8x512_S1x8x512_1_0_0 _ _ rfl).trans ?_
    rw [l1]; delta init.sl.r_11
    rw [eK, q1, rm1, rl1, cL_1, hX2]; rfl
  have a2 : ∀ f, arg13.view.read (Elt F) (arg13.view.writes (Elt F) f (init.sl.H13_3 (F := F) c i arg4 arg7 arg8 arg10 arg11 arg13 f4 f7 f8 h1)) = X2.a := by
    intro f
    refine (wA 1 arg13.view f inb_S4x64x512_S1x64x512_1_0_0 _ _ rfl).trans ?_
    rw [a1]; delta init.sl.r_7 init.sl.r_9 init.sl.r_10
    rw [eK, eV, q1, rm1, ra1, cA_1, hX2]; rfl
  have rm2 : init.sl.v531 (F := F) c i arg4 arg7 arg10 arg11 f4 f7 h1 = rowC X2.m 2 :=
    (rC 2 arg11.view _ inb_S4x8x512_S1x8x512_2_0_0 rfl).trans (congrArg (rowC · 2) (m2 _))
  have rl2 : init.sl.v547 (F := F) c i arg4 arg7 arg10 arg11 arg12 f4 f7 h1 = rowC X2.l 2 :=
    (rC 2 arg12.view _ inb_S4x8x512_S1x8x512_2_0_0 rfl).trans (congrArg (rowC · 2) (l2 _))
  have ra2 : init.sl.v560 (F := F) c i arg4 arg7 arg8 arg10 arg11 arg13 f4 f7 f8 h1 = rowA X2.a 2 :=
    (rA 2 arg13.view _ inb_S4x64x512_S1x64x512_2_0_0 rfl).trans (congrArg (rowA · 2) (a2 _))
  have m3 : ∀ f, arg11.view.read (Elt F) (arg11.view.writes (Elt F) f (init.sl.H11_4 (F := F) c i arg4 arg7 arg10 arg11 f4 f7 h1)) = X3.m := by
    intro f
    refine (wC 2 arg11.view f inb_S4x8x512_S1x8x512_2_0_0 _ _ rfl).trans ?_
    rw [m2]; delta init.sl.r_16 init.sl.r_14 init.sl.r_15
    rw [eK, q2, rm2, cM_2, hX3]; rfl
  have l3 : ∀ f, arg12.view.read (Elt F) (arg12.view.writes (Elt F) f (init.sl.H12_4 (F := F) c i arg4 arg7 arg10 arg11 arg12 f4 f7 h1)) = X3.l := by
    intro f
    refine (wC 2 arg12.view f inb_S4x8x512_S1x8x512_2_0_0 _ _ rfl).trans ?_
    rw [l2]; delta init.sl.r_13 init.sl.r_14 init.sl.r_15
    rw [eK, q2, rm2, rl2, cL_2, hX3]; rfl
  have a3 : ∀ f, arg13.view.read (Elt F) (arg13.view.writes (Elt F) f (init.sl.H13_4 (F := F) c i arg4 arg7 arg8 arg10 arg11 arg13 f4 f7 f8 h1)) = X3.a := by
    intro f
    refine (wA 2 arg13.view f inb_S4x64x512_S1x64x512_2_0_0 _ _ rfl).trans ?_
    rw [a2]; delta init.sl.r_12 init.sl.r_13 init.sl.r_14 init.sl.r_15
    rw [eK, eV, q2, rm2, ra2, cA_2, hX3]; rfl
  have rm3 : init.sl.v582 (F := F) c i arg4 arg7 arg10 arg11 f4 f7 h1 = rowC X3.m 3 :=
    (rC 3 arg11.view _ inb_S4x8x512_S1x8x512_3_0_0 rfl).trans (congrArg (rowC · 3) (m3 _))
  have rl3 : init.sl.v598 (F := F) c i arg4 arg7 arg10 arg11 arg12 f4 f7 h1 = rowC X3.l 3 :=
    (rC 3 arg12.view _ inb_S4x8x512_S1x8x512_3_0_0 rfl).trans (congrArg (rowC · 3) (l3 _))
  have ra3 : init.sl.v611 (F := F) c i arg4 arg7 arg8 arg10 arg11 arg13 f4 f7 f8 h1 = rowA X3.a 3 :=
    (rA 3 arg13.view _ inb_S4x64x512_S1x64x512_3_0_0 rfl).trans (congrArg (rowA · 3) (a3 _))
  have m4 : ∀ f, arg11.view.read (Elt F) (arg11.view.writes (Elt F) f (init.sl.H11_5 (F := F) c i arg4 arg7 arg10 arg11 f4 f7 h1)) = X4.m := by
    intro f
    refine (wC 3 arg11.view f inb_S4x8x512_S1x8x512_3_0_0 _ _ rfl).trans ?_
    rw [m3]; delta init.sl.r_18
    rw [eK, q3, rm3, cM_3, hX4]; rfl
  have l4 : ∀ f, arg12.view.read (Elt F) (arg12.view.writes (Elt F) f (init.sl.H12_5 (F := F) c i arg4 arg7 arg10 arg11 arg12 f4 f7 h1)) = X4.l := by
    intro f
    refine (wC 3 arg12.view f inb_S4x8x512_S1x8x512_3_0_0 _ _ rfl).trans ?_
    rw [l3]; delta init.sl.r_21
    rw [eK, q3, rm3, rl3, cL_3, hX4]; rfl
  have a4 : ∀ f, arg13.view.read (Elt F) (arg13.view.writes (Elt F) f (init.sl.H13_5 (F := F) c i arg4 arg7 arg8 arg10 arg11 arg13 f4 f7 f8 h1)) = X4.a := by
    intro f
    refine (wA 3 arg13.view f inb_S4x64x512_S1x64x512_3_0_0 _ _ rfl).trans ?_
    rw [a3]; delta init.sl.r_17 init.sl.r_19 init.sl.r_20
    rw [eK, eV, q3, rm3, ra3, cA_3, hX4]; rfl
  have s0 : ∀ f, arg14.view.read (Elt F) (arg14.view.writes (Elt F) f (init.sl.H14_1 (F := F) c i arg4 arg5 arg10 f4 f5 h1)) = scoreU Q (arg5.view.read (Elt F) f5) 0 := by
    intro f
    refine (View.read_writes_full _ _ _ _ _).trans ?_
    rw [q0, rK 0 arg5.view f5 _ rfl]; rfl
  have s1 : ∀ f, arg15.view.read (Elt F) (arg15.view.writes (Elt F) f (init.sl.H15_1 (F := F) c i arg4 arg5 arg10 f4 f5 h1)) = scoreU Q (arg5.view.read (Elt F) f5) 1 := by
    intro f
    refine (View.read_writes_full _ _ _ _ _).trans ?_
    rw [q1, rK 0 arg5.view f5 _ rfl]; rfl
  let L := loopInv c i arg4 harg4 arg5 harg5 arg6 harg6 arg7 harg7 arg8 harg8 arg9 harg9 arg10 harg10 arg11 harg11 arg12 harg12 arg13 harg13 arg14 harg14 arg15 harg15 arg16 harg16 f5 f6 (arg10.view.writes (Elt F) f10 (init.sl.H10_5 (F := F) c i arg4 f4 h1)) X4 (scoreU Q (arg5.view.read (Elt F) f5) 0) (scoreU Q (arg5.view.read (Elt F) f5) 1)
  have p11 : arg11.view.read (Elt F) (arg11.view.writes (Elt F) arg11.view.junk (init.sl.H11_5 (F := F) c i arg4 arg7 arg10 arg11 f4 f7 h1)) = (tripSt X4 (scoreU Q (arg5.view.read (Elt F) f5) 0) (scoreU Q (arg5.view.read (Elt F) f5) 1) (arg10.view.read (Elt F) (arg10.view.writes (Elt F) f10 (init.sl.H10_5 (F := F) c i arg4 f4 h1))) (arg5.view.read (Elt F) f5) (arg6.view.read (Elt F) f6) 0).m := m4 _
  have p12 : arg12.view.read (Elt F) (arg12.view.writes (Elt F) arg12.view.junk (init.sl.H12_5 (F := F) c i arg4 arg7 arg10 arg11 arg12 f4 f7 h1)) = (tripSt X4 (scoreU Q (arg5.view.read (Elt F) f5) 0) (scoreU Q (arg5.view.read (Elt F) f5) 1) (arg10.view.read (Elt F) (arg10.view.writes (Elt F) f10 (init.sl.H10_5 (F := F) c i arg4 f4 h1))) (arg5.view.read (Elt F) f5) (arg6.view.read (Elt F) f6) 0).l := l4 _
  have p13 : arg13.view.read (Elt F) (arg13.view.writes (Elt F) arg13.view.junk (init.sl.H13_5 (F := F) c i arg4 arg7 arg8 arg10 arg11 arg13 f4 f7 f8 h1)) = (tripSt X4 (scoreU Q (arg5.view.read (Elt F) f5) 0) (scoreU Q (arg5.view.read (Elt F) f5) 1) (arg10.view.read (Elt F) (arg10.view.writes (Elt F) f10 (init.sl.H10_5 (F := F) c i arg4 f4 h1))) (arg5.view.read (Elt F) f5) (arg6.view.read (Elt F) f6) 0).a := a4 _
  have p14 : arg14.view.read (Elt F) (arg14.view.writes (Elt F) arg14.view.junk (init.sl.H14_1 (F := F) c i arg4 arg5 arg10 f4 f5 h1)) = bufAt (scoreU Q (arg5.view.read (Elt F) f5) 0) (arg10.view.read (Elt F) (arg10.view.writes (Elt F) f10 (init.sl.H10_5 (F := F) c i arg4 f4 h1))) (arg5.view.read (Elt F) f5) 1 0 := s0 _
  have p15 : arg15.view.read (Elt F) (arg15.view.writes (Elt F) arg15.view.junk (init.sl.H15_1 (F := F) c i arg4 arg5 arg10 f4 f5 h1)) = bufAt (scoreU Q (arg5.view.read (Elt F) f5) 1) (arg10.view.read (Elt F) (arg10.view.writes (Elt F) f10 (init.sl.H10_5 (F := F) c i arg4 f4 h1))) (arg5.view.read (Elt F) f5) 2 0 := s1 _
  sl_exec_parts (disch := sl_exact h1)
  have ht : Scf.trips k0_t1_loop.lb k0_t1_loop.ub k0_t1_loop.st = 4 := by decide
  rw [ht, hqs] at hL4 hL6 hL8
  rw [ht, hqs] at hL10 hL12
  have hS : loopSt kc vc Q (arg5.view.read (Elt F) f5) (arg6.view.read (Elt F) f6) = tripSt X4 (scoreU Q (arg5.view.read (Elt F) f5) 0) (scoreU Q (arg5.view.read (Elt F) f5) 1) Q (arg5.view.read (Elt F) f5) (arg6.view.read (Elt F) f6) 4 := by
    unfold loopSt; rw [hX]
  rw [hS]
  sl_step
  isplitl [H4]; · iexact H4
  isplitl [H5]; · iexact H5
  isplitl [H6]; · iexact H6
  isplitl [H7]; · iexact H7
  isplitl [H8]; · iexact H8
  isplitl [H9]; · iexists _; iexact H9
  isplitl [H10]; · iexists _; isplitl [H10]; · iexact H10
                   ipureintro; exact hqs _
  isplitl [H11]; · iexists _; isplitl [H11]; · iexact H11
                   ipureintro; exact hL4
  isplitl [H12]; · iexists _; isplitl [H12]; · iexact H12
                   ipureintro; exact hL6
  isplitl [H13]; · iexists _; isplitl [H13]; · iexact H13
                   ipureintro; exact hL8
  isplitl [H14]; · iexists _; isplitl [H14]; · iexact H14
                   ipureintro; exact hL10
  isplitl [H15]; · iexists _; isplitl [H15]; · iexact H15
                   ipureintro; exact hL12
  iexists _; iexact H16

end Cert.KernelIdeal.Hand

end
-- ==== Proof.KernelIdeal.Tail.lean ====
/- The kernel's body: the last four units and the output. -/
module

public import proofs.«01_k».proof.Proof.KernelIdeal.Init

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ (UR sig nD τ) ℕ

section Same
variable (s : Vec F S4096x512 .f32) (m l : Vec F S1x8x512 .f32) (a : Vec F S1x64x512 .f32) (v : ℕ → Vec F S1x1x1x64x512 .bf16)
theorem tL_0 : k0_pay132 s m l = uL s m l := rfl
theorem tL_1 : k0_pay151 s m l = uL s m l := rfl
theorem tL_2 : k0_pay169 (shapeCast S512x8x512 s shapeCasts_S4096x512_S512x8x512) m l = uL s m l := rfl
theorem tL_3 : k0_pay188 (k0_pay186 s m) (k0_pay187 s m) l = uL s m l := rfl
theorem tA_0 : k0_pay135 (k0_pay120 (v 1)) (k0_pay121 (v 2)) (k0_pay122 (v 3)) (k0_pay123 (v 4)) (k0_pay124 (v 5)) (k0_pay125 (v 6)) (k0_pay126 (v 7))
    (k0_pay130 s m) (k0_pay133 s m) (k0_pay134 s (k0_pay119 (v 0)) m) a = uA s m a v := rfl
theorem tA_1 : k0_pay154 (k0_pay139 (v 1)) (k0_pay140 (v 2)) (k0_pay141 (v 3)) (k0_pay142 (v 4)) (k0_pay143 (v 5)) (k0_pay144 (v 6)) (k0_pay145 (v 7))
    (k0_pay149 s m) (k0_pay152 s m) (k0_pay153 s (k0_pay138 (v 0)) m) a = uA s m a v := rfl
theorem tA_2 : k0_pay173 (shapeCast S64x512 (v 5) shapeCasts_S1x1x1x64x512_S64x512) (shapeCast S64x512 (v 6) shapeCasts_S1x1x1x64x512_S64x512) (shapeCast S64x512 (v 7) shapeCasts_S1x1x1x64x512_S64x512)
    (k0_pay167 (shapeCast S512x8x512 s shapeCasts_S4096x512_S512x8x512) m) (k0_pay170 (shapeCast S512x8x512 s shapeCasts_S4096x512_S512x8x512) m)
    (k0_pay171 (shapeCast S64x512 (v 0) shapeCasts_S1x1x1x64x512_S64x512) (shapeCast S64x512 (v 1) shapeCasts_S1x1x1x64x512_S64x512) (shapeCast S64x512 (v 2) shapeCasts_S1x1x1x64x512_S64x512)
      (shapeCast S64x512 (v 3) shapeCasts_S1x1x1x64x512_S64x512) (shapeCast S64x512 (v 4) shapeCasts_S1x1x1x64x512_S64x512) (shapeCast S512x8x512 s shapeCasts_S4096x512_S512x8x512) m)
    (k0_pay172 (shapeCast S512x8x512 s shapeCasts_S4096x512_S512x8x512) m) a = uA s m a v := rfl
theorem tA_3 : k0_pay1 (k0_pay189 (k0_pay175 (v 0)) (k0_pay176 (v 1)) (k0_pay177 (v 2)) (k0_pay178 (v 3)) (k0_pay179 (v 4)) (k0_pay180 (v 5)) (k0_pay181 (v 6)) (k0_pay182 (v 7)) (k0_pay187 s m))
    (k0_pay190 (k0_pay186 s m) a) = uA s m a v := rfl
end Same

theorem rowC_setC_same (x : Vec F S4x8x512 .f32) (c : ℕ) (w) : rowC (setC x c w) c = w := window_put_same _ _ _ _ _
theorem rowA_setA_same (x : Vec F S4x64x512 .f32) (c : ℕ) (w) : rowA (setA x c w) c = w := window_put_same _ _ _ _ _
theorem rowC_setC_ne (x : Vec F S4x8x512 .f32) (c d : ℕ) (w) (h : c % 4 ≠ d % 4) : rowC (setC x c w) d = rowC x d :=
  window_put_of_disjoint _ _ _ _ _ _ _ 0 (by show d % 4 + 1 ≤ c % 4 ∨ c % 4 + 1 ≤ d % 4; omega)
theorem rowA_setA_ne (x : Vec F S4x64x512 .f32) (c d : ℕ) (w) (h : c % 4 ≠ d % 4) : rowA (setA x c w) d = rowA x d :=
  window_put_of_disjoint _ _ _ _ _ _ _ 0 (by show d % 4 + 1 ≤ c % 4 ∨ c % 4 + 1 ≤ d % 4; omega)

/-- The sums of chain `c` after its last unit, from the state `X` before it. -/
def endL (X : St F) (q : Vec F S4x128x512 .bf16) (K : Vec F S1x16384x128 .bf16) (c : ℕ) : Vec F S1x8x512 .f32 :=
  uL (scoreU q K (12 + c)) (rowC X.m c) (rowC X.l c)
/-- The accumulator of chain `c` after its last unit, from the state `X` before it. -/
def endA (X : St F) (q : Vec F S4x128x512 .bf16) (K : Vec F S1x16384x128 .bf16) (V : Vec F S1x1x32x64x512 .bf16) (c : ℕ) : Vec F S1x64x512 .f32 :=
  uA (scoreU q K (12 + c)) (rowC X.m c) (rowA X.a c) (vB V 3)
/-- Half a block of the output: two heads' accumulators over their sums. -/
def outB (l0 : Vec F S1x8x512 .f32) (a0 : Vec F S1x64x512 .f32) (l1 : Vec F S1x8x512 .f32) (a1 : Vec F S1x64x512 .f32) : FVec F S1x512x128 .bf16 :=
  k0_pay110 l0 a0 l1 a1
/-- A block of the output from its halves. -/
def outAll (lo hi : Vec F S1x512x128 .bf16) : Vec F S1x1024x128 .bf16 :=
  put (put (s := S1x1024x128) (fun _ => lo (fun a => ⟨0, by fin_cases a <;> decide⟩)) ![0, 0, 0] S1x512x128.size lo) ![0, 512, 0] S1x512x128.size hi
theorem outAll_eq (x : Vec F S1x1024x128 .bf16) (lo hi : Vec F S1x512x128 .bf16) :
    put (put (s := S1x1024x128) x ![0, 0, 0] S1x512x128.size lo) ![0, 512, 0] S1x512x128.size hi = outAll lo hi := by
  funext y
  unfold outAll put
  by_cases h : ∀ a, (![0, 512, 0] : Fin 3 → ℕ) a ≤ (y a).val ∧ (y a).val < (![0, 512, 0] : Fin 3 → ℕ) a + S1x512x128.size a
  · rw [dif_pos h, dif_pos h]
  · rw [dif_neg h, dif_neg h]
    have h0 : (y 0).val < 1 := (y 0).isLt
    have h1 : (y 1).val < 1024 := (y 1).isLt
    have h2 : (y 2).val < 128 := (y 2).isLt
    have h' : ∀ a, (![0, 0, 0] : Fin 3 → ℕ) a ≤ (y a).val ∧ (y a).val < (![0, 0, 0] : Fin 3 → ℕ) a + S1x512x128.size a := by
      have hn : (y 1).val < 512 := by
        by_contra hc
        refine h fun a => ?_
        fin_cases a <;> simp [S1x512x128] <;> omega
      intro a
      fin_cases a <;> simp [S1x512x128] <;> omega
    rw [dif_pos h', dif_pos h']
/-- What a step writes to its block of the output, from its queries' head `h` and its operands. -/
def stepOut (h : ℕ) (x : Vec F S1x2x64x1024 .bf16) (K : Vec F S1x16384x128 .bf16) (V : Vec F S1x1x32x64x512 .bf16)
    (kc : Vec F S1x256x128 .bf16) (vc : Vec F S1x1x1x64x256 .bf16) : Vec F S1x1024x128 .bf16 :=
  outAll
    (outB (endL (loopSt kc vc (qsOf h x) K V) (qsOf h x) K 0) (endA (loopSt kc vc (qsOf h x) K V) (qsOf h x) K V 0)
      (endL (loopSt kc vc (qsOf h x) K V) (qsOf h x) K 2) (endA (loopSt kc vc (qsOf h x) K V) (qsOf h x) K V 2))
    (outB (endL (loopSt kc vc (qsOf h x) K V) (qsOf h x) K 1) (endA (loopSt kc vc (qsOf h x) K V) (qsOf h x) K V 1)
      (endL (loopSt kc vc (qsOf h x) K V) (qsOf h x) K 3) (endA (loopSt kc vc (qsOf h x) K V) (qsOf h x) K V 3))

set_option maxHeartbeats 20000000 in
/-- The kernel's body at step `i`: it leaves its operands as they were and its block of the output at `stepOut`. -/
theorem body (c : Dev nD) (i : grid0.Coords) (arg4 : Memref sig .tc .vmem S1x2x64x1024 .bf16) (harg4 : arg4.IsWhole) (arg5 : Memref sig .tc .vmem S1x16384x128 .bf16) (harg5 : arg5.IsWhole) (arg6 : Memref sig .tc .vmem S1x1x32x64x512 .bf16) (harg6 : arg6.IsWhole) (arg7 : Memref sig .tc .vmem S1x256x128 .bf16) (harg7 : arg7.IsWhole) (arg8 : Memref sig .tc .vmem S1x1x1x64x256 .bf16) (harg8 : arg8.IsWhole) (arg9 : Memref sig .tc .vmem S1x1024x128 .bf16) (harg9 : arg9.IsWhole) (arg10 : Memref sig .tc .vmem S4x128x512 .bf16) (harg10 : arg10.IsWhole) (arg11 : Memref sig .tc .vmem S4x8x512 .f32) (harg11 : arg11.IsWhole) (arg12 : Memref sig .tc .vmem S4x8x512 .f32) (harg12 : arg12.IsWhole) (arg13 : Memref sig .tc .vmem S4x64x512 .f32) (harg13 : arg13.IsWhole) (arg14 : Memref sig .tc .vmem S4096x512 .f32) (harg14 : arg14.IsWhole) (arg15 : Memref sig .tc .vmem S4096x512 .f32) (harg15 : arg15.IsWhole) (arg16 : Memref sig .tc .vmem S4096x512 .f32) (harg16 : arg16.IsWhole) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) :
    iprop(pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16)
      ⊢ wp frame (wpE (defs₀ (F := F)) 𝒱₀ c none) Set.univ (cc0_flash_attention (F := F) i arg4 harg4 arg5 harg5 arg6 harg6 arg7 harg7 arg8 harg8 arg9 harg9 arg10 harg10 arg11 harg11 arg12 harg12 arg13 harg13 arg14 harg14 arg15 harg15 arg16 harg16)
        (fun _ => iprop(pt c arg4 f4 ∗ pt c arg5 f5 ∗ pt c arg6 f6 ∗ pt c arg7 f7 ∗ pt c arg8 f8
          ∗ hd c arg9 (stepOut (i 1).val (arg4.view.read (Elt F) f4) (arg5.view.read (Elt F) f5) (arg6.view.read (Elt F) f6) (arg7.view.read (Elt F) f7) (arg8.view.read (Elt F) f8))
          ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f))) := by
  have h2 := hc2 i
  rw [cc0_flash_attention_eq_skeleton]; unfold cc0_flash_attention_skel
  rw [wp_bind]
  iintro ⟨H4, H5, H6, H7, H8, H9, H10, H11, H12, H13, H14, H15, H16⟩
  iapply (wp_wand_r Idealize.ShloMosaic.frame (wpE (defs₀ (F := F)) 𝒱₀ (c : Thread nD τ) none) Set.univ)
  isplitl [H4 H5 H6 H7 H8 H9 H10 H11 H12 H13 H14 H15 H16]
  · iapply (init c i arg4 harg4 arg5 harg5 arg6 harg6 arg7 harg7 arg8 harg8 arg9 harg9 arg10 harg10 arg11 harg11 arg12 harg12 arg13 harg13 arg14 harg14 arg15 harg15 arg16 harg16 f4 f5 f6 f7 f8 f9 f10 f11 f12 f13 f14 f15 f16)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %v H
  icases H with ⟨H4, H5, H6, H7, H8, ⟨%g9, H9⟩, ⟨%g10, H10, %h10⟩, ⟨%g11, H11, %h11⟩, ⟨%g12, H12, %h12⟩, ⟨%g13, H13, %h13⟩, ⟨%g14, H14, %h14⟩, ⟨%g15, H15, %h15⟩, ⟨%g16, H16⟩⟩
  sl_exec_parts (disch := sl_exact h2)
  unfold stepOut
  generalize hQ : qsOf (i 1).val (arg4.view.read (Elt F) f4) = Q at h10 h11 h12 h13 h14 h15 ⊢
  generalize hX : loopSt (arg7.view.read (Elt F) f7) (arg8.view.read (Elt F) f8) Q (arg5.view.read (Elt F) f5) (arg6.view.read (Elt F) f6) = X at h11 h12 h13 ⊢
  generalize hK : (arg5.view.read (Elt F) f5) = K at h14 h15 ⊢
  generalize hV : (arg6.view.read (Elt F) f6) = V
  have e0 : body.sl.r (F := F) c arg14 g14 = scoreU Q K 12 := (View.readAt_full _ _ _).trans h14
  have e1 : body.sl.r_14 (F := F) c arg15 g15 = scoreU Q K 13 := (View.readAt_full _ _ _).trans h15
  have e2 : body.sl.v210 (F := F) c arg5 arg10 arg16 f5 g10 = scoreU Q K 14 := by
    refine (View.readCov_full _ _ _ _ _).trans ?_
    rw [rK 3 arg5.view f5 _ rfl, rQ 2 arg10.view g10 _ rfl, hK, h10]; rfl
  have e3 : body.sl.v293 (F := F) c arg5 arg10 arg14 f5 g10 = scoreU Q K 15 := by
    refine (View.readCov_full _ _ _ _ _).trans ?_
    rw [rK 3 arg5.view f5 _ rfl, rQ 3 arg10.view g10 _ rfl, hK, h10]; rfl
  have d0 : arg6.view.readAt (Elt F) (Rect.unit (s := S1x1x32x64x512) ![0, 0, 24, 0, 0] S1x1x1x64x512.size inb_S1x1x32x64x512_S1x1x1x64x512_0_0_24_0_0).toLoadRect f6 = vB V 3 0 := by
    rw [← hV]; exact rV 3 0 arg6.view f6 _ rfl
  have d1 : arg6.view.readAt (Elt F) (Rect.unit (s := S1x1x32x64x512) ![0, 0, 25, 0, 0] S1x1x1x64x512.size inb_S1x1x32x64x512_S1x1x1x64x512_0_0_25_0_0).toLoadRect f6 = vB V 3 1 := by
    rw [← hV]; exact rV 3 1 arg6.view f6 _ rfl
  have d2 : arg6.view.readAt (Elt F) (Rect.unit (s := S1x1x32x64x512) ![0, 0, 26, 0, 0] S1x1x1x64x512.size inb_S1x1x32x64x512_S1x1x1x64x512_0_0_26_0_0).toLoadRect f6 = vB V 3 2 := by
    rw [← hV]; exact rV 3 2 arg6.view f6 _ rfl
  have d3 : arg6.view.readAt (Elt F) (Rect.unit (s := S1x1x32x64x512) ![0, 0, 27, 0, 0] S1x1x1x64x512.size inb_S1x1x32x64x512_S1x1x1x64x512_0_0_27_0_0).toLoadRect f6 = vB V 3 3 := by
    rw [← hV]; exact rV 3 3 arg6.view f6 _ rfl
  have d4 : arg6.view.readAt (Elt F) (Rect.unit (s := S1x1x32x64x512) ![0, 0, 28, 0, 0] S1x1x1x64x512.size inb_S1x1x32x64x512_S1x1x1x64x512_0_0_28_0_0).toLoadRect f6 = vB V 3 4 := by
    rw [← hV]; exact rV 3 4 arg6.view f6 _ rfl
  have d5 : arg6.view.readAt (Elt F) (Rect.unit (s := S1x1x32x64x512) ![0, 0, 29, 0, 0] S1x1x1x64x512.size inb_S1x1x32x64x512_S1x1x1x64x512_0_0_29_0_0).toLoadRect f6 = vB V 3 5 := by
    rw [← hV]; exact rV 3 5 arg6.view f6 _ rfl
  have d6 : arg6.view.readAt (Elt F) (Rect.unit (s := S1x1x32x64x512) ![0, 0, 30, 0, 0] S1x1x1x64x512.size inb_S1x1x32x64x512_S1x1x1x64x512_0_0_30_0_0).toLoadRect f6 = vB V 3 6 := by
    rw [← hV]; exact rV 3 6 arg6.view f6 _ rfl
  have d7 : arg6.view.readAt (Elt F) (Rect.unit (s := S1x1x32x64x512) ![0, 0, 31, 0, 0] S1x1x1x64x512.size inb_S1x1x32x64x512_S1x1x1x64x512_0_0_31_0_0).toLoadRect f6 = vB V 3 7 := by
    rw [← hV]; exact rV 3 7 arg6.view f6 _ rfl
  have L0 : body.sl.v379 (F := F) c arg5 arg10 arg11 arg12 arg14 arg15 arg16 f5 g10 g11 g12 g14 g15 = endL X Q K 0 := by
    refine (rC 0 arg12.view _ inb_S4x8x512_S1x8x512_0_0_0 rfl).trans ?_
    refine ((congrArg (rowC · 0) (wC 3 _ _ _ _ _ rfl)).trans (rowC_setC_ne _ 3 0 _ (by decide))).trans ?_
    refine ((congrArg (rowC · 0) (wC 2 _ _ _ _ _ rfl)).trans (rowC_setC_ne _ 2 0 _ (by decide))).trans ?_
    refine ((congrArg (rowC · 0) (wC 1 _ _ _ _ _ rfl)).trans (rowC_setC_ne _ 1 0 _ (by decide))).trans ?_
    refine ((congrArg (rowC · 0) (wC 0 _ _ _ _ _ rfl)).trans (rowC_setC_same _ 0 _)).trans ?_
    rw [e0, rC 0 arg11.view g11 _ rfl, rC 0 arg12.view g12 _ rfl, h11, h12]
    exact tL_0 _ _ _
  have A0 : body.sl.v387 (F := F) c arg5 arg6 arg10 arg11 arg13 arg14 arg15 arg16 f5 f6 g10 g11 g13 g14 g15 = endA X Q K V 0 := by
    refine (rA 0 arg13.view _ inb_S4x64x512_S1x64x512_0_0_0 rfl).trans ?_
    refine ((congrArg (rowA · 0) (wA 3 _ _ _ _ _ rfl)).trans (rowA_setA_ne _ 3 0 _ (by decide))).trans ?_
    refine ((congrArg (rowA · 0) (wA 2 _ _ _ _ _ rfl)).trans (rowA_setA_ne _ 2 0 _ (by decide))).trans ?_
    refine ((congrArg (rowA · 0) (wA 1 _ _ _ _ _ rfl)).trans (rowA_setA_ne _ 1 0 _ (by decide))).trans ?_
    refine ((congrArg (rowA · 0) (wA 0 _ _ _ _ _ rfl)).trans (rowA_setA_same _ 0 _)).trans ?_
    delta body.sl.r_1 body.sl.r_2 body.sl.r_3 body.sl.r_4 body.sl.r_5 body.sl.r_6 body.sl.r_7 body.sl.r_8 body.sl.r_9 body.sl.r_11 body.sl.r_12 body.sl.r_13
    rw [e0, rC 0 arg11.view g11 _ rfl, rA 0 arg13.view g13 _ rfl, h11, h13]
    rw [d0, d1, d2, d3, d4, d5, d6, d7]
    exact tA_0 _ _ _ _
  have L1 : body.sl.v415 (F := F) c arg5 arg10 arg11 arg12 arg14 arg15 arg16 f5 g10 g11 g12 g14 g15 = endL X Q K 1 := by
    refine (rC 1 arg12.view _ inb_S4x8x512_S1x8x512_1_0_0 rfl).trans ?_
    refine ((congrArg (rowC · 1) (wC 3 _ _ _ _ _ rfl)).trans (rowC_setC_ne _ 3 1 _ (by decide))).trans ?_
    refine ((congrArg (rowC · 1) (wC 2 _ _ _ _ _ rfl)).trans (rowC_setC_ne _ 2 1 _ (by decide))).trans ?_
    refine ((congrArg (rowC · 1) (wC 1 _ _ _ _ _ rfl)).trans (rowC_setC_same _ 1 _)).trans ?_
    delta body.sl.v145 body.sl.v161
    rw [e1, rC 1 arg11.view g11 _ rfl, rC 1 arg12.view g12 _ rfl, h11, h12]
    exact tL_1 _ _ _
  have A1 : body.sl.v423 (F := F) c arg5 arg6 arg10 arg11 arg13 arg14 arg15 arg16 f5 f6 g10 g11 g13 g14 g15 = endA X Q K V 1 := by
    refine (rA 1 arg13.view _ inb_S4x64x512_S1x64x512_1_0_0 rfl).trans ?_
    refine ((congrArg (rowA · 1) (wA 3 _ _ _ _ _ rfl)).trans (rowA_setA_ne _ 3 1 _ (by decide))).trans ?_
    refine ((congrArg (rowA · 1) (wA 2 _ _ _ _ _ rfl)).trans (rowA_setA_ne _ 2 1 _ (by decide))).trans ?_
    refine ((congrArg (rowA · 1) (wA 1 _ _ _ _ _ rfl)).trans (rowA_setA_same _ 1 _)).trans ?_
    delta body.sl.r_6 body.sl.v145 body.sl.v196 body.sl.r_15 body.sl.r_16 body.sl.r_17 body.sl.r_18 body.sl.r_19 body.sl.r_20 body.sl.r_21 body.sl.r_22 body.sl.r_24 body.sl.r_25 body.sl.r_26
    rw [e1, rC 1 arg11.view g11 _ rfl, rA 1 arg13.view g13 _ rfl, h11, h13]
    rw [d0, d1, d2, d3, d4, d5, d6, d7]
    exact tA_1 _ _ _ _
  have L2 : body.sl.v394 (F := F) c arg5 arg10 arg11 arg12 arg14 arg15 arg16 f5 g10 g11 g12 g14 g15 = endL X Q K 2 := by
    refine (rC 2 arg12.view _ inb_S4x8x512_S1x8x512_2_0_0 rfl).trans ?_
    refine ((congrArg (rowC · 2) (wC 3 _ _ _ _ _ rfl)).trans (rowC_setC_ne _ 3 2 _ (by decide))).trans ?_
    refine ((congrArg (rowC · 2) (wC 2 _ _ _ _ _ rfl)).trans (rowC_setC_same _ 2 _)).trans ?_
    delta body.sl.v227 body.sl.v228 body.sl.v244
    rw [e2, rC 2 arg11.view g11 _ rfl, rC 2 arg12.view g12 _ rfl, h11, h12]
    exact tL_2 _ _ _
  have A2 : body.sl.v402 (F := F) c arg5 arg6 arg10 arg11 arg13 arg14 arg15 arg16 f5 f6 g10 g11 g13 g14 g15 = endA X Q K V 2 := by
    refine (rA 2 arg13.view _ inb_S4x64x512_S1x64x512_2_0_0 rfl).trans ?_
    refine ((congrArg (rowA · 2) (wA 3 _ _ _ _ _ rfl)).trans (rowA_setA_ne _ 3 2 _ (by decide))).trans ?_
    refine ((congrArg (rowA · 2) (wA 2 _ _ _ _ _ rfl)).trans (rowA_setA_same _ 2 _)).trans ?_
    delta body.sl.v212 body.sl.v214 body.sl.v216 body.sl.v218 body.sl.v220 body.sl.v222 body.sl.v224 body.sl.v226 body.sl.v227 body.sl.v228 body.sl.v279 body.sl.r_28 body.sl.r_29 body.sl.r_30 body.sl.r_31
    rw [e2, rC 2 arg11.view g11 _ rfl, rA 2 arg13.view g13 _ rfl, h11, h13]
    rw [d0, d1, d2, d3, d4, d5, d6, d7]
    exact tA_2 _ _ _ _
  have L3 : body.sl.v430 (F := F) c arg5 arg10 arg11 arg12 arg14 arg15 arg16 f5 g10 g11 g12 g14 g15 = endL X Q K 3 := by
    refine (rC 3 arg12.view _ inb_S4x8x512_S1x8x512_3_0_0 rfl).trans ?_
    refine ((congrArg (rowC · 3) (wC 3 _ _ _ _ _ rfl)).trans (rowC_setC_same _ 3 _)).trans ?_
    delta body.sl.r_41 body.sl.r_42 body.sl.v311 body.sl.v327
    rw [e3, rC 3 arg11.view g11 _ rfl, rC 3 arg12.view g12 _ rfl, h11, h12]
    exact tL_3 _ _ _
  have A3 : body.sl.v438 (F := F) c arg5 arg6 arg10 arg11 arg13 arg14 arg15 arg16 f5 f6 g10 g11 g13 g14 g15 = endA X Q K V 3 := by
    refine (rA 3 arg13.view _ inb_S4x64x512_S1x64x512_3_0_0 rfl).trans ?_
    refine ((congrArg (rowA · 3) (wA 3 _ _ _ _ _ rfl)).trans (rowA_setA_same _ 3 _)).trans ?_
    delta body.sl.v311 body.sl.v362 body.sl.r_32 body.sl.r_33 body.sl.r_34 body.sl.r_35 body.sl.r_36 body.sl.r_37 body.sl.r_38 body.sl.r_39 body.sl.r_41 body.sl.r_42 body.sl.r_43 body.sl.r_44
    rw [e3, rC 3 arg11.view g11 _ rfl, rA 3 arg13.view g13 _ rfl, h11, h13]
    rw [d0, d1, d2, d3, d4, d5, d6, d7]
    exact tA_3 _ _ _ _
  rw [L0, L1, L2, L3, A0, A1, A2, A3]
  sl_step
  isplitl [H4]; · iexact H4
  isplitl [H5]; · iexact H5
  isplitl [H6]; · iexact H6
  isplitl [H7]; · iexact H7
  isplitl [H8]; · iexact H8
  isplitl [H9]
  · iexists _; isplitl [H9]; · iexact H9
    ipureintro
    refine (View.read_writes_cons_put _ _ _ _ _ rfl).trans ?_
    rw [View.read_writes_cons_put arg9.view g9 inb_S1x1024x128_S1x512x128_0_0_0 _ _ rfl]
    exact outAll_eq _ _ _
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal.Hand

end
-- ==== Proof.KernelIdeal.Body.lean ====
/- The kernel's body: the pipeline's data and the run. -/
module

public import proofs.«01_k».proof.Proof.KernelIdeal.Tail
public import proofs.«01_k».proof.Proof.Gen.KernelIdeal.Points
public import proofs.«01_k».proof.Proof.Gen.KernelIdeal.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's block at point `t`. -/
def outAt (c : Dev nD) (t : Fin cfg0.N) : Vec F S1x1024x128 .bf16 :=
  stepOut (grid0.coords t 1).val (iblk m c 0 t) (iblk m c 1 t) (iblk m c 2 t) (iblk m c 3 t) (iblk m c 4 t)

/-- The pipeline's data: the arrays as the launch finds them, and after each point the operands' blocks unchanged and
    the output's block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A whole memref owned at `x` is its buffer held at contents that read `x`. -/
theorem owns_pt (c : Dev nD) {sp : Space} {S : Shape} {e : EltTy} (M : Memref sig .tc sp S e) (hM : M.IsWhole) (x : Vec F S e) :
    (owns (c : Thread nD τ) M fullShare x : sProp 𝕄) ⊢ hd c M x := by
  unfold owns
  iintro ⟨%f, %hf, H⟩
  iexists f
  isplitl [H]
  · rw [hM.set_eq_univ]; iexact H
  ipureintro; exact hf

/-- The converse of `owns_pt`. -/
theorem pt_owns (c : Dev nD) {sp : Space} {S : Shape} {e : EltTy} (M : Memref sig .tc sp S e) (hM : M.IsWhole) (x : Vec F S e) :
    (hd c M x : sProp 𝕄) ⊢ owns (c : Thread nD τ) M fullShare x := by
  unfold owns
  iintro ⟨%f, H, %hf⟩
  iexists f
  isplitr
  · ipureintro; exact hf
  rw [hM.set_eq_univ]; iexact H

/-- The kernel on whole memrefs, owned: the operands are kept and the output's block is `stepOut` of them. -/
theorem body_owns (c : Dev nD) (i : grid0.Coords) (arg4 : Memref sig .tc .vmem S1x2x64x1024 .bf16) (harg4 : arg4.IsWhole) (arg5 : Memref sig .tc .vmem S1x16384x128 .bf16) (harg5 : arg5.IsWhole) (arg6 : Memref sig .tc .vmem S1x1x32x64x512 .bf16) (harg6 : arg6.IsWhole) (arg7 : Memref sig .tc .vmem S1x256x128 .bf16) (harg7 : arg7.IsWhole) (arg8 : Memref sig .tc .vmem S1x1x1x64x256 .bf16) (harg8 : arg8.IsWhole) (arg9 : Memref sig .tc .vmem S1x1024x128 .bf16) (harg9 : arg9.IsWhole) (arg10 : Memref sig .tc .vmem S4x128x512 .bf16) (harg10 : arg10.IsWhole) (arg11 : Memref sig .tc .vmem S4x8x512 .f32) (harg11 : arg11.IsWhole) (arg12 : Memref sig .tc .vmem S4x8x512 .f32) (harg12 : arg12.IsWhole) (arg13 : Memref sig .tc .vmem S4x64x512 .f32) (harg13 : arg13.IsWhole) (arg14 : Memref sig .tc .vmem S4096x512 .f32) (harg14 : arg14.IsWhole) (arg15 : Memref sig .tc .vmem S4096x512 .f32) (harg15 : arg15.IsWhole) (arg16 : Memref sig .tc .vmem S4096x512 .f32) (harg16 : arg16.IsWhole) (x4 : Vec F S1x2x64x1024 .bf16) (x5 : Vec F S1x16384x128 .bf16) (x6 : Vec F S1x1x32x64x512 .bf16) (x7 : Vec F S1x256x128 .bf16) (x8 : Vec F S1x1x1x64x256 .bf16) (x9 : Vec F S1x1024x128 .bf16) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f))
      ⊢ wp frame (wpE (defs₀ (F := F)) 𝒱₀ c none) Set.univ (cc0_flash_attention (F := F) i arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (stepOut (i 1).val x4 x5 x6 x7 x8) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f))) := by
  iintro ⟨H4, H5, H6, H7, H8, H9, ⟨%f10, H10⟩, ⟨%f11, H11⟩, ⟨%f12, H12⟩, ⟨%f13, H13⟩, ⟨%f14, H14⟩, ⟨%f15, H15⟩, ⟨%f16, H16⟩⟩
  ihave H4 := (owns_pt c arg4 harg4 x4) $$ H4
  icases H4 with ⟨%f4, H4, %h4⟩
  ihave H5 := (owns_pt c arg5 harg5 x5) $$ H5
  icases H5 with ⟨%f5, H5, %h5⟩
  ihave H6 := (owns_pt c arg6 harg6 x6) $$ H6
  icases H6 with ⟨%f6, H6, %h6⟩
  ihave H7 := (owns_pt c arg7 harg7 x7) $$ H7
  icases H7 with ⟨%f7, H7, %h7⟩
  ihave H8 := (owns_pt c arg8 harg8 x8) $$ H8
  icases H8 with ⟨%f8, H8, %h8⟩
  ihave H9 := (owns_pt c arg9 harg9 x9) $$ H9
  icases H9 with ⟨%f9, H9, %h9⟩
  iapply (wp_wand_r Idealize.ShloMosaic.frame (wpE (defs₀ (F := F)) 𝒱₀ (c : Thread nD τ) none) Set.univ)
  isplitl [H4 H5 H6 H7 H8 H9 H10 H11 H12 H13 H14 H15 H16]
  · iapply (body c i arg4 harg4 arg5 harg5 arg6 harg6 arg7 harg7 arg8 harg8 arg9 harg9 arg10 harg10 arg11 harg11 arg12 harg12 arg13 harg13 arg14 harg14 arg15 harg15 arg16 harg16 f4 f5 f6 f7 f8 f9 f10 f11 f12 f13 f14 f15 f16)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %v H
  icases H with ⟨H4, H5, H6, H7, H8, H9, H10, H11, H12, H13, H14, H15, H16⟩
  rw [h4, h5, h6, h7, h8]
  isplitl [H4]
  · iapply (pt_owns c arg4 harg4 x4)
    iexists f4
    isplitl [H4]; · iexact H4
    ipureintro; exact h4
  isplitl [H5]
  · iapply (pt_owns c arg5 harg5 x5)
    iexists f5
    isplitl [H5]; · iexact H5
    ipureintro; exact h5
  isplitl [H6]
  · iapply (pt_owns c arg6 harg6 x6)
    iexists f6
    isplitl [H6]; · iexact H6
    ipureintro; exact h6
  isplitl [H7]
  · iapply (pt_owns c arg7 harg7 x7)
    iexists f7
    isplitl [H7]; · iexact H7
    ipureintro; exact h7
  isplitl [H8]
  · iapply (pt_owns c arg8 harg8 x8)
    iexists f8
    isplitl [H8]; · iexact H8
    ipureintro; exact h8
  isplitl [H9]; · iapply (pt_owns c arg9 harg9 _); iexact H9
  isplitl [H10]; · iexact H10
  isplitl [H11]; · iexact H11
  isplitl [H12]; · iexact H12
  isplitl [H13]; · iexact H13
  isplitl [H14]; · iexact H14
  isplitl [H15]; · iexact H15
  iexact H16

/-- The library's obligation of the body: at each point the body, run from the operands' blocks, leaves them unchanged
    and the output's block at `outAt`. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after0_0, after0_1, after0_2, after0_3, after0_4]
  have hi : idle0 5 (grid0.coords t) = false := by
    show (!(k0_cond2 (grid0.coords t) == 1#1)) = false
    rw [hc2]; rfl
  rw [hi]
  dsimp only
  rw [after0_5]
  unfold outAt Pipeline.ΦA
  rw [scopedRest0_eq]
  iintro ⟨⟨Hs, Hr⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) 𝒱₀ (c : Thread nD τ) none) Set.univ)
  isplitl [Hs H0 H1 H2 H3 H4 H5]
  · iapply (body_owns c (grid0.coords t) _ _ _ _ _ _ _ _ _ _ _ _ _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexact H5
    iexact Hs
  iintro %v ⟨H0, H1, H2, H3, H4, H5, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

-- the theorem's implicit arguments are found by unifying its conclusion with this one
set_option backward.isDefEq.respectTransparency.types false in
/-- Every execution ends, with each array of the pipeline as the data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- Every execution ends with the arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) (A_eq m)) (run_main m ρ)

end Cert.KernelIdeal.Hand

end
-- ==== Proof.Value.Math.lean ====
/-
The mathematics of a softmax taken in pieces, over the extended reals: the running maximum, the
eight partial sums of exponentials and the weighted sums of the values, what one more piece of
keys makes of them, and the quotient at the end.
-/
module

public import Idealize.ShloMosaic.PureOps.Ideal.Laws

@[expose] public section

open Finset
open Idealize.ShloMosaic

namespace Cert.Attn

/-- A sum of reals, read as an extended real, is the sum of the terms read so. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of two reals is a real. -/
theorem max_real (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The greatest of some reals, started from minus infinity, is a real. -/
theorem fold_real {ι : Type*} (s : Finset ι) (hs : s.Nonempty) (f : ι → ℝ) :
    ∃ R : ℝ, s.fold max (⊥ : EReal) (fun i => (f i : EReal)) = (R : EReal) := by
  classical
  induction hs using Finset.Nonempty.cons_induction with
  | singleton a => exact ⟨f a, by simp⟩
  | cons a s ha hs ih =>
    obtain ⟨R, hR⟩ := ih
    exact ⟨max (f a) R, by rw [Finset.fold_cons, hR, max_real]⟩

/-- Rotating eight rows by one, by two and by four and taking the greatest each time gives
every row the greatest of the eight. -/
theorem all_eight (f : ℕ → EReal) (g : Fin 8) :
    max (max (max (f g) (f ((g + 8 - 1) % 8)))
          (max (f ((g + 8 - 2) % 8)) (f (((g + 8 - 2) % 8 + 8 - 1) % 8))))
        (max (max (f ((g + 8 - 4) % 8)) (f (((g + 8 - 4) % 8 + 8 - 1) % 8)))
          (max (f (((g + 8 - 4) % 8 + 8 - 2) % 8))
            (f ((((g + 8 - 4) % 8 + 8 - 2) % 8 + 8 - 1) % 8)))) =
      max (max (max (f 0) (f 1)) (max (f 2) (f 3))) (max (max (f 4) (f 5)) (max (f 6) (f 7))) := by
  fin_cases g <;> simp only [Nat.reduceAdd, Nat.reduceSub, Nat.reduceMod] <;> ac_rfl

/-- The same for sums. -/
theorem add_eight (f : ℕ → EReal) (g : Fin 8) :
    ((f g + f ((g + 8 - 1) % 8)) + (f ((g + 8 - 2) % 8) + f (((g + 8 - 2) % 8 + 8 - 1) % 8))) +
      ((f ((g + 8 - 4) % 8) + f (((g + 8 - 4) % 8 + 8 - 1) % 8)) +
        (f (((g + 8 - 4) % 8 + 8 - 2) % 8) + f ((((g + 8 - 4) % 8 + 8 - 2) % 8 + 8 - 1) % 8))) =
      ∑ i : Fin 8, f i := by
  rw [Fin.sum_univ_eight]
  fin_cases g <;> simp only [Nat.reduceAdd, Nat.reduceSub, Nat.reduceMod] <;> simp <;> ac_rfl

/-- A non-negative real factor goes into a sum of extended reals. -/
theorem sum_mul_real {ι : Type*} (s : Finset ι) (f : ι → EReal) (x : ℝ) (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha, ← ih,
      EReal.right_distrib_of_nonneg_of_ne_top (by exact_mod_cast hx) (EReal.coe_ne_top x)]

/-- A sum over pieces of `q` is the sum over the whole. -/
theorem sum_pieces {α : Type*} [AddCommMonoid α] (f : ℕ → α) (p q : ℕ) :
    ∑ c ∈ range p, ∑ x ∈ range q, f (c * q + x) = ∑ j ∈ range (p * q), f j := by
  induction p with
  | zero => simp
  | succ p ih => rw [Finset.sum_range_succ, ih, Nat.succ_mul, Finset.sum_range_add]

/-- The state of a softmax over the first `N` keys, of scores `σ` in base two and values `w`:
the eight copies of the running level `m`, eight partial sums `l` of exponentials, and the
weighted sums `a` of the values. -/
def Soft (N : ℕ) (σ : ℕ → ℝ) (w : ℕ → Fin 64 → EReal) (m l : Fin 8 → EReal)
    (a : Fin 64 → EReal) : Prop :=
  ∃ μ : ℝ, (∀ g, m g = (μ : EReal)) ∧
    (∃ L : Fin 8 → ℝ, (∀ g, l g = (L g : EReal)) ∧
      ∑ g, L g = ∑ κ ∈ range N, (2 : ℝ) ^ (σ κ - μ)) ∧
    ∀ e, a e = ∑ κ ∈ range N, w κ e * (((2 : ℝ) ^ (σ κ - μ) : ℝ) : EReal)

/-- With no keys yet. -/
theorem Soft.start (σ : ℕ → ℝ) (w : ℕ → Fin 64 → EReal) {m l : Fin 8 → EReal}
    {a : Fin 64 → EReal} (μ : ℝ) (hm : ∀ g, m g = (μ : EReal)) (hl : ∀ g, l g = 0)
    (ha : ∀ e, a e = 0) : Soft 0 σ w m l a :=
  ⟨μ, hm, ⟨fun _ => 0, fun g => by rw [hl]; rfl, by simp⟩, fun e => by rw [ha]; simp⟩

/-- One more piece of `8 n` keys: the level moves, the old sums are scaled to it, and the new
exponentials are added, the key `8 x + g` to the partial sum `g`. -/
theorem Soft.step {N n : ℕ} {σ : ℕ → ℝ} {w : ℕ → Fin 64 → EReal} {m l m' l' : Fin 8 → EReal}
    {a a' : Fin 64 → EReal} (h : Soft N σ w m l a)
    (H : ∀ (μ : ℝ) (L : Fin 8 → ℝ), (∀ g, m g = (μ : EReal)) → (∀ g, l g = (L g : EReal)) →
      ∃ μ' : ℝ, (∀ g, m' g = (μ' : EReal)) ∧
        (∀ g, l' g = (((2 : ℝ) ^ (μ - μ') * L g +
          ∑ x ∈ range n, (2 : ℝ) ^ (σ (N + (x * 8 + g)) - μ') : ℝ) : EReal)) ∧
        ∀ e, a' e = a e * (((2 : ℝ) ^ (μ - μ') : ℝ) : EReal) +
          ∑ j ∈ range (n * 8), w (N + j) e * (((2 : ℝ) ^ (σ (N + j) - μ') : ℝ) : EReal)) :
    Soft (N + n * 8) σ w m' l' a' := by
  obtain ⟨μ, hm, ⟨L, hl, hL⟩, ha⟩ := h
  obtain ⟨μ', hm', hl', ha'⟩ := H μ L hm hl
  have hpow : ∀ x : ℝ, (2 : ℝ) ^ (x - μ) * (2 : ℝ) ^ (μ - μ') = (2 : ℝ) ^ (x - μ') := fun x => by
    rw [← Real.rpow_add (by norm_num)]; congr 1; ring
  refine ⟨μ', hm', ⟨_, hl', ?_⟩, fun e => ?_⟩
  · rw [Finset.sum_add_distrib, ← Finset.mul_sum, hL, Finset.sum_range_add, Finset.mul_sum]
    congr 1
    · exact Finset.sum_congr rfl fun κ _ => by rw [mul_comm, hpow]
    · rw [Finset.sum_comm, ← sum_pieces (fun j => (2 : ℝ) ^ (σ (N + j) - μ'))]
      exact Finset.sum_congr rfl fun x _ => by
        rw [Finset.sum_range (fun y => (2 : ℝ) ^ (σ (N + (x * 8 + y)) - μ'))]
  · rw [ha', ha, sum_mul_real _ _ _ (by positivity), Finset.sum_range_add]
    congr 1
    exact Finset.sum_congr rfl fun κ _ => by rw [mul_assoc, ← EReal.coe_mul, hpow]

/-- The quotient at the end is the softmax of the scores in base `e`, from any level `M`,
against the values. -/
theorem Soft.out {N : ℕ} {σ : ℕ → ℝ} {w : ℕ → Fin 64 → EReal} {m l : Fin 8 → EReal}
    {a : Fin 64 → EReal} (h : Soft N σ w m l a) (hN : 0 < N) (M : ℝ) (e : Fin 64) :
    Ideal.div (a e) (∑ g, l g) = ∑ κ ∈ range N, w κ e *
      ((Real.exp (Real.log 2 * σ κ - M) /
        ∑ κ ∈ range N, Real.exp (Real.log 2 * σ κ - M) : ℝ) : EReal) := by
  obtain ⟨μ, hm, ⟨L, hl, hL⟩, ha⟩ := h
  have hZ : 0 < ∑ κ ∈ range N, (2 : ℝ) ^ (σ κ - μ) :=
    Finset.sum_pos (fun κ _ => by positivity) ⟨0, by simpa using hN⟩
  have hl' : ∑ g, l g = ((∑ κ ∈ range N, (2 : ℝ) ^ (σ κ - μ) : ℝ) : EReal) := by
    rw [← hL, coe_sum]; exact Finset.sum_congr rfl fun g _ => hl g
  obtain ⟨C, hC, hexp⟩ : ∃ C : ℝ, 0 < C ∧ ∀ x : ℝ,
      Real.exp (Real.log 2 * x - M) = (2 : ℝ) ^ (x - μ) * C := by
    refine ⟨Real.exp (Real.log 2 * μ - M), Real.exp_pos _, fun x => ?_⟩
    rw [Real.rpow_def_of_pos (by norm_num), ← Real.exp_add]; congr 1; ring
  rw [hl', Ideal.div_coe hZ.ne', ha, sum_mul_real _ _ _ (by positivity)]
  refine Finset.sum_congr rfl fun κ _ => ?_
  rw [mul_assoc, ← EReal.coe_mul]
  congr 2
  simp only [hexp]
  rw [← Finset.sum_mul, mul_div_mul_right _ _ hC.ne', mul_one_div]

end Cert.Attn

end
-- ==== Proof.Value.Out.lean ====
/- What a step writes, read at one entry. -/
module

public import proofs.«01_k».proof.Proof.KernelIdeal.Tail
public import proofs.«01_k».proof.Proof.Value.Math
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Attn Finset
open Idealize.ShloMosaic.VecWindow

section
variable {s : Shape} {α : Type}

/-- Inside its window a written array is what was written. -/
theorem put_hit (x : s.Idx → α) (off size : Fin s.rank → ℕ)
    (w : ((a : Fin s.rank) → Fin (size a)) → α) (y : s.Idx) (z : (a : Fin s.rank) → Fin (size a))
    (h : ∀ a, off a + (z a).val = (y a).val) : put x off size w y = w z := by
  have hin : ∀ a, off a ≤ (y a).val ∧ (y a).val < off a + size a := fun a => by
    have := h a; have := (z a).isLt; omega
  unfold put
  rw [dif_pos hin]
  congr 1
  funext a
  apply Fin.ext
  show (y a).val - off a = (z a).val
  have := h a; omega

/-- Outside it, it is as before. -/
theorem put_miss (x : s.Idx → α) (off size : Fin s.rank → ℕ)
    (w : ((a : Fin s.rank) → Fin (size a)) → α) (y : s.Idx) (a : Fin s.rank)
    (h : (y a).val < off a ∨ off a + size a ≤ (y a).val) : put x off size w y = x y := by
  unfold put
  exact dif_neg fun hall => by have := hall a; omega
end

set_option maxHeartbeats 4000000 in
theorem outB_lo (l0 : Vec Ideal S1x8x512 .f32) (a0 : Vec Ideal S1x64x512 .f32)
    (l1 : Vec Ideal S1x8x512 .f32) (a1 : Vec Ideal S1x64x512 .f32) (r : Fin 512) (e : Fin 64) :
    outB l0 a0 l1 a1 (ix3 0 r ⟨e, by omega⟩) =
      Ideal.div (a0 (ix3 0 e r)) (∑ g : Fin 8, l0 (ix3 0 g r)) := by
  unfold outB
  pointwise [k0_pay110]
  have he := e.isLt
  obtain ⟨f, hf⟩ : ∃ f : ℕ → EReal, ∀ (k : ℕ) (hk : k < 8), l0 (ix3 0 ⟨k, hk⟩ r) = f k :=
    ⟨fun k => if hk : k < 8 then l0 (ix3 0 ⟨k, hk⟩ r) else 0, fun k hk => by simp [hk]⟩
  have hs : ∑ g : Fin 8, l0 (ix3 0 g r) = ∑ g : Fin 8, f g :=
    Finset.sum_congr rfl fun g _ => hf g.val g.isLt
  simp only [dif_pos he, Nat.div_add_mod', hf, hs]
  rw [← add_eight f ⟨e % 8, Nat.mod_lt _ (by decide)⟩]

set_option maxHeartbeats 4000000 in
theorem outB_hi (l0 : Vec Ideal S1x8x512 .f32) (a0 : Vec Ideal S1x64x512 .f32)
    (l1 : Vec Ideal S1x8x512 .f32) (a1 : Vec Ideal S1x64x512 .f32) (r : Fin 512) (e : Fin 64) :
    outB l0 a0 l1 a1 (ix3 0 r ⟨64 + e, by omega⟩) =
      Ideal.div (a1 (ix3 0 e r)) (∑ g : Fin 8, l1 (ix3 0 g r)) := by
  unfold outB
  pointwise [k0_pay110]
  have he : ¬ 64 + e.val < 64 := by omega
  obtain ⟨f, hf⟩ : ∃ f : ℕ → EReal, ∀ (k : ℕ) (hk : k < 8), l1 (ix3 0 ⟨k, hk⟩ r) = f k :=
    ⟨fun k => if hk : k < 8 then l1 (ix3 0 ⟨k, hk⟩ r) else 0, fun k hk => by simp [hk]⟩
  have hs : ∑ g : Fin 8, l1 (ix3 0 g r) = ∑ g : Fin 8, f g :=
    Finset.sum_congr rfl fun g _ => hf g.val g.isLt
  simp only [dif_neg he, Nat.add_sub_cancel_left, Nat.div_add_mod', hf, hs]
  rw [← add_eight f ⟨e % 8, Nat.mod_lt _ (by decide)⟩]

theorem outAll_lo (lo hi : Vec Ideal S1x512x128 .bf16) (r : Fin 512) (c : Fin 128) :
    outAll lo hi (ix3 0 ⟨r, by omega⟩ c) = lo (ix3 0 r c) := by
  unfold outAll
  rw [put_miss (s := S1x1024x128) _ _ _ _ _ 1 (Or.inl (by show r.val < 512; exact r.isLt))]
  refine put_hit (s := S1x1024x128) _ ![0, 0, 0] S1x512x128.size lo _
    (show S1x512x128.Idx from ix3 0 r c) fun a => ?_
  fin_cases a <;> simp

theorem outAll_hi (lo hi : Vec Ideal S1x512x128 .bf16) (r : Fin 512) (c : Fin 128) :
    outAll lo hi (ix3 0 ⟨512 + r, by omega⟩ c) = hi (ix3 0 r c) := by
  unfold outAll
  refine put_hit (s := S1x1024x128) _ ![0, 512, 0] S1x512x128.size hi _
    (show S1x512x128.Idx from ix3 0 r c) fun a => ?_
  fin_cases a <;> simp

end Cert.KernelIdeal.Hand

end
-- ==== Proof.Value.Score.lean ====
/- The padded queries of a step, and the scores of a key against them. -/
module

public import proofs.«01_k».proof.Proof.Value.Out

@[expose] public section

set_option maxRecDepth 16384

noncomputable section

namespace Cert.KernelIdeal.Hand

open Cert.KernelIdeal Cert.KernelIdeal.Gen
open Idealize.ShloMosaic Idealize.ShloMosaic.TcCoe
open Cert.Attn Finset
open Idealize.ShloMosaic.VecWindow

/-- A chain's queries, read at one entry. -/
theorem qW_apply (x : Vec Ideal S1x2x64x1024 .bf16) (c : ℕ) (hc : c < 4) (d : Fin 64)
    (r : Fin 512) : qW x c (ix3 0 d r) =
      x (ix4 0 ⟨c / 2, by omega⟩ d ⟨512 * (c % 2) + r, by omega⟩) := by
  unfold qW
  pointwise [k0_pay5]
  unfold window
  congr 1
  funext a
  apply Fin.ext
  fin_cases a
  · rfl
  · show c / 2 % 2 + 1 * 0 = c / 2; omega
  · show 0 + 1 * d.val = d.val; omega
  · show 512 * (c % 2) + 1 * r.val = _; simp

/-- The padded queries at a row, read at one entry. -/
theorem qB_at (q : Vec Ideal S4x128x512 .bf16) (c : ℕ) (hc : c < 4) (e : Fin 128) (r : Fin 512) :
    qB q c (ix3 0 e r) = q (ix3 ⟨c, hc⟩ e r) := by
  unfold qB window
  congr 1
  funext a
  apply Fin.ext
  fin_cases a
  · show c % 4 + 1 * 0 = c; omega
  · show 0 + 1 * e.val = e.val; omega
  · show 0 + 1 * r.val = r.val; omega

/-- In head `h`'s 64 columns the padded queries are the chain's. -/
theorem q_hit (h : ℕ) (hh : h < 2) (x : Vec Ideal S1x2x64x1024 .bf16) (c : ℕ) (hc : c < 4)
    (d : Fin 64) (r : Fin 512) : qB (qsOf h x) c (ix3 0 ⟨64 * h + d, by omega⟩ r) =
      x (ix4 0 ⟨c / 2, by omega⟩ d ⟨512 * (c % 2) + r, by omega⟩) := by
  rw [qB_at _ _ hc, ← qW_apply x c hc]
  unfold qsOf
  interval_cases c
  · rw [put_miss (s := S4x128x512) _ _ _ _ _ 0 (Or.inl (by show 0 < 3; decide)), put_miss (s := S4x128x512) _ _ _ _ _ 0 (Or.inl (by show 0 < 2; decide)),
      put_miss (s := S4x128x512) _ _ _ _ _ 0 (Or.inl (by show 0 < 1; decide))]
    refine put_hit (s := S4x128x512) _ ![0, 64 * h, 0] S1x64x512.size (qW x 0) _
      (show S1x64x512.Idx from ix3 0 d r) fun a => ?_
    fin_cases a <;> simp
  · rw [put_miss (s := S4x128x512) _ _ _ _ _ 0 (Or.inl (by show 1 < 3; decide)), put_miss (s := S4x128x512) _ _ _ _ _ 0 (Or.inl (by show 1 < 2; decide))]
    refine put_hit (s := S4x128x512) _ ![1, 64 * h, 0] S1x64x512.size (qW x 1) _
      (show S1x64x512.Idx from ix3 0 d r) fun a => ?_
    fin_cases a <;> simp
  · rw [put_miss (s := S4x128x512) _ _ _ _ _ 0 (Or.inl (by show 2 < 3; decide))]
    refine put_hit (s := S4x128x512) _ ![2, 64 * h, 0] S1x64x512.size (qW x 2) _
      (show S1x64x512.Idx from ix3 0 d r) fun a => ?_
    fin_cases a <;> simp
  · refine put_hit (s := S4x128x512) _ ![3, 64 * h, 0] S1x64x512.size (qW x 3) _
      (show S1x64x512.Idx from ix3 0 d r) fun a => ?_
    fin_cases a <;> simp

/-- In the other head's columns they are zero. -/
theorem q_miss (h : ℕ) (x : Vec Ideal S1x2x64x1024 .bf16) (c : ℕ) (hc : c < 4)
    (e : Fin 128) (he : e.val / 64 ≠ h) (r : Fin 512) : qB (qsOf h x) c (ix3 0 e r) = 0 := by
  have ho : e.val < 64 * h ∨ 64 * h + 64 ≤ e.val := by omega
  rw [qB_at _ _ hc]
  unfold qsOf
  rw [put_miss (s := S4x128x512) _ _ _ _ _ 1 ho, put_miss (s := S4x128x512) _ _ _ _ _ 1 ho, put_miss (s := S4x128x512) _ _ _ _ _ 1 ho,
    put_miss (s := S4x128x512) _ _ _ _ _ 1 ho]
  pointwise [k0_pay4]

/-- A key against a chain's padded queries: the product over the head's 64 columns. -/
theorem score_sum (h : ℕ) (hh : h < 2) (x : Vec Ideal S1x2x64x1024 .bf16) (c : ℕ) (hc : c < 4)
    (r : Fin 512) (k : Fin 128 → EReal) (kf : ℕ → ℝ) (xR : ℕ → ℕ → ℕ → ℝ)
    (hk : ∀ e : Fin 128, k e = (kf e : EReal))
    (hx : ∀ (g : Fin 2) (d : Fin 64) (t : Fin 1024), x (ix4 0 g d t) = ((xR g d t : ℝ) : EReal)) :
    ∑ e : Fin 128, k e * qB (qsOf h x) c (ix3 0 e r) =
      ((∑ d ∈ range 64, kf (64 * h + d) * xR (c / 2) d (512 * (c % 2) + r) : ℝ) : EReal) := by
  have hq : ∀ e : Fin 128, qB (qsOf h x) c (ix3 0 e r) = ((if e.val / 64 = h then
      xR (c / 2) (e - 64 * h) (512 * (c % 2) + r) else 0 : ℝ) : EReal) := fun e => by
    by_cases he : e.val / 64 = h
    · rw [if_pos he, show e = ⟨64 * h + (e.val - 64 * h), by omega⟩ from Fin.ext (by show e.val = 64 * h + (e.val - 64 * h); omega),
        q_hit h hh x c hc ⟨e.val - 64 * h, by omega⟩ r, hx]
      simp
    · rw [if_neg he, q_miss h x c hc e he r]; rfl
  simp only [hk, hq, ← EReal.coe_mul]
  rw [← coe_sum, ← Finset.sum_range (fun e => kf e * (if e / 64 = h then
      xR (c / 2) (e - 64 * h) (512 * (c % 2) + r) else 0)), show (128 : ℕ) = 2 * 64 from rfl,
    ← sum_pieces _ 2 64, Finset.sum_range_succ, Finset.sum_range_succ, Finset.sum_range_zero, zero_add]
  congr 1
  have hz : ∀ p < 2, p ≠ h → ∑ d ∈ range 64, kf (p * 64 + d) * (if (p * 64 + d) / 64 = h then
      xR (c / 2) (p * 64 + d - 64 * h) (512 * (c % 2) + r) else 0) = 0 := fun p _ hp =>
    Finset.sum_eq_zero fun d hd => by
      have := Finset.mem_range.mp hd
      rw [if_neg (by omega), mul_zero]
  have hi : ∑ d ∈ range 64, kf (h * 64 + d) * (if (h * 64 + d) / 64 = h then
      xR (c / 2) (h * 64 + d - 64 * h) (512 * (c % 2) + r) else 0) =
      ∑ d ∈ range 64, kf (64 * h + d) * xR (c / 2) d (512 * (c % 2) + r) :=
    Finset.sum_congr rfl fun d hd => by
      have := Finset.mem_range.mp hd
      rw [if_pos (by omega), show h * 64 + d = 64 * h + d by omega, Nat.add_sub_cancel_left]
  interval_cases h
  · rw [hz 1 (by decide) (by decide), add_zero]; exact hi
  · rw [hz 0 (by decide) (by decide), zero_add]; exact hi

end Cert.KernelIdeal.Hand

end
-- ==== Proof.Value.Unit.lean ====
/- One unit of the loop, read at one row and one query: the running level stays the same in all eight
sublanes, the partial sums and the weighted sums move to it and take the unit's keys in. -/
module

public import proofs.«01_k».proof.Proof.KernelIdeal.Ctx
public import proofs.«01_k».proof.Proof.Value.Math
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Attn

/-- Minus infinity, as the kernel writes it. -/
theorem neg_inf : Ideal.ofBits .f32 4286578688#32 = (⊥ : EReal) := by
  simp [Ideal.ofBits, Ideal.ieee]

/-- The exponential in base two of the difference of two reals. -/
theorem exp2_sub (x y : ℝ) :
    FloatOps.exp2 (F := Ideal) (φ := .f32) ((x : EReal) - (y : EReal)) =
      (((2 : ℝ) ^ (x - y) : ℝ) : EReal) := by
  rw [← EReal.coe_sub]; rfl

/-- The score of a key and a query of a unit. -/
theorem uS_apply (kb : Vec Ideal S1x4096x128 .bf16) (q : Vec Ideal S1x128x512 .bf16)
    (j : Fin 4096) (r : Fin 512) :
    uS kb q (ix2 j r) = ∑ e : Fin 128, kb (ix3 0 j e) * q (ix3 0 e r) := by
  unfold uS k0_pay72
  pointwise

section
variable {s : Vec Ideal S4096x512 .f32} {m l : Vec Ideal S1x8x512 .f32} {r : Fin 512}
  {t : ℕ → ℝ} {μ : ℝ}

/-- The level after a unit is one real in all eight sublanes. -/
theorem uM_real (hs : ∀ j : Fin 4096, s (ix2 j r) = (t j : EReal))
    (hm : ∀ g, m (ix3 0 g r) = (μ : EReal)) :
    ∃ μ' : ℝ, ∀ g, uM s m (ix3 0 g r) = (μ' : EReal) := by
  have hR : ∀ k : ℕ, ∃ R : ℝ, Finset.fold max (⊥ : EReal)
      (fun x : Fin 512 => ((t (x * 8 + k) : ℝ) : EReal)) Finset.univ = (R : EReal) :=
    fun k => fold_real _ ⟨0, Finset.mem_univ _⟩ fun x : Fin 512 => t (x * 8 + k)
  choose R hR using hR
  refine ⟨max μ (max (max (max (R 0) (R 1)) (max (R 2) (R 3)))
    (max (max (R 4) (R 5)) (max (R 6) (R 7)))), fun g => ?_⟩
  unfold uM
  pointwise [k0_pay71, k0_pay63, k0_pay61, k0_pay62]
  simp only [hs, hm, neg_inf, hR]
  rw [all_eight (fun k => (R k : EReal)) g]
  simp only [max_real]

/-- The level the sums of a unit are taken from is the new level. -/
theorem pay63_apply (g : Fin 8) (r : Fin 512) :
    k0_pay63 s m (ix2 g r) = uM s m (ix3 0 g r) := by
  unfold uM
  pointwise [k0_pay71]

/-- The partial sums after a unit. -/
theorem uL_real {L : Fin 8 → ℝ} {μ' : ℝ} (hs : ∀ j : Fin 4096, s (ix2 j r) = (t j : EReal))
    (hm : ∀ g, m (ix3 0 g r) = (μ : EReal)) (hl : ∀ g, l (ix3 0 g r) = (L g : EReal))
    (hm' : ∀ g, uM s m (ix3 0 g r) = (μ' : EReal)) (g : Fin 8) :
    uL s m l (ix3 0 g r) = (((2 : ℝ) ^ (μ - μ') * L g +
      ∑ x ∈ Finset.range 512, (2 : ℝ) ^ (t (x * 8 + g) - μ') : ℝ) : EReal) := by
  unfold uL
  pointwise [k0_pay66, k0_pay64, k0_pay65, k0_pay61, k0_pay62]
  simp only [pay63_apply, hm', hs, hm, hl, exp2_sub]
  rw [EReal.coe_add, EReal.coe_mul, coe_sum,
    Finset.sum_range (fun x => (((2 : ℝ) ^ (t (x * 8 + g) - μ') : ℝ) : EReal))]

end

end Cert.KernelIdeal.Hand

end
-- ==== Proof.Value.UnitA.lean ====
/- The weighted sums of one unit of the loop, read at one row and one query. -/
module

public import proofs.«01_k».proof.Proof.Value.Unit

@[expose] public section

set_option maxRecDepth 16384

noncomputable section

namespace Cert.KernelIdeal.Hand

open Cert.KernelIdeal Cert.KernelIdeal.Gen
open Idealize.ShloMosaic Idealize.ShloMosaic.TcCoe
open Cert.Attn

section
variable {s : Vec Ideal S4096x512 .f32} {m : Vec Ideal S1x8x512 .f32} {r : Fin 512}
  {t : ℕ → ℝ} {μ μ' : ℝ}

/-- The weighted sums after a unit, its values in eight pieces of 512 keys. -/
theorem uA_real (a : Vec Ideal S1x64x512 .f32) (v : ℕ → Vec Ideal S1x1x1x64x512 .bf16)
    (hs : ∀ j : Fin 4096, s (ix2 j r) = (t j : EReal))
    (hm : ∀ g, m (ix3 0 g r) = (μ : EReal))
    (hm' : ∀ g, uM s m (ix3 0 g r) = (μ' : EReal)) (e : Fin 64) :
    uA s m a v (ix3 0 e r) = a (ix3 0 e r) * (((2 : ℝ) ^ (μ - μ') : ℝ) : EReal) +
      ∑ c ∈ Finset.range 8, ∑ x : Fin 512, v c (ix5 0 0 0 e x) *
        (((2 : ℝ) ^ (t (c * 512 + x) - μ') : ℝ) : EReal) := by
  unfold uA
  pointwise [k0_pay70, k0_pay54, k0_pay55, k0_pay56, k0_pay57, k0_pay58, k0_pay59, k0_pay60,
    k0_pay64, k0_pay67, k0_pay53, k0_pay68, k0_pay69, k0_pay65, k0_pay61, k0_pay62]
  simp only [pay63_apply, hm', hs, hm, exp2_sub, Nat.div_add_mod']
  simp only [Finset.sum_range_succ, Finset.sum_range_zero, zero_add, zero_mul, one_mul,
    Nat.reduceMul]

end

end Cert.KernelIdeal.Hand

end
-- ==== Proof.Value.CtxUnit.lean ====
/- The unit of the context's keys, read at one row and one query. -/
module

public import proofs.«01_k».proof.Proof.Value.Unit

@[expose] public section

set_option maxRecDepth 16384

noncomputable section

namespace Cert.KernelIdeal.Hand

open Cert.KernelIdeal Cert.KernelIdeal.Gen
open Idealize.ShloMosaic Idealize.ShloMosaic.TcCoe
open Cert.Attn

theorem cS_apply (kc : Vec Ideal S1x256x128 .bf16) (q : Vec Ideal S1x128x512 .bf16)
    (x : Fin 32) (g : Fin 8) (r : Fin 512) :
    k0_pay25 kc q (ix3 x g r) = ∑ e : Fin 128, kc (ix3 0 ⟨x * 8 + g, by omega⟩ e) * q (ix3 0 e r) := by
  unfold k0_pay25
  pointwise

section
variable {kc : Vec Ideal S1x256x128 .bf16} {q : Vec Ideal S1x128x512 .bf16} {m l : Vec Ideal S1x8x512 .f32} {r : Fin 512}
  {t : ℕ → ℝ} {μ : ℝ}

theorem cM_real (hs : ∀ (x : Fin 32) (g : Fin 8), k0_pay25 kc q (ix3 x g r) = ((t (x * 8 + g) : ℝ) : EReal))
    (hm : ∀ g, m (ix3 0 g r) = (μ : EReal)) :
    ∃ μ' : ℝ, ∀ g, cM kc q m (ix3 0 g r) = (μ' : EReal) := by
  have hR : ∀ k : ℕ, ∃ R : ℝ, Finset.fold max (⊥ : EReal)
      (fun x : Fin 32 => ((t (x * 8 + k) : ℝ) : EReal)) Finset.univ = (R : EReal) :=
    fun k => fold_real _ ⟨0, Finset.mem_univ _⟩ fun x : Fin 32 => t (x * 8 + k)
  choose R hR using hR
  refine ⟨max μ (max (max (max (R 0) (R 1)) (max (R 2) (R 3)))
    (max (max (R 4) (R 5)) (max (R 6) (R 7)))), fun g => ?_⟩
  unfold cM
  pointwise [k0_pay32, k0_pay27, k0_pay26]
  simp only [hs, hm, neg_inf, hR]
  rw [all_eight (fun k => (R k : EReal)) g]
  simp only [max_real]

theorem pay27_apply (g : Fin 8) (r : Fin 512) :
    k0_pay27 kc q m (ix2 g r) = cM kc q m (ix3 0 g r) := by
  unfold cM
  pointwise [k0_pay32]

theorem cL_real {L : Fin 8 → ℝ} {μ' : ℝ} (hs : ∀ (x : Fin 32) (g : Fin 8), k0_pay25 kc q (ix3 x g r) = ((t (x * 8 + g) : ℝ) : EReal))
    (hm : ∀ g, m (ix3 0 g r) = (μ : EReal)) (hl : ∀ g, l (ix3 0 g r) = (L g : EReal))
    (hm' : ∀ g, cM kc q m (ix3 0 g r) = (μ' : EReal)) (g : Fin 8) :
    cL kc q m l (ix3 0 g r) = (((2 : ℝ) ^ (μ - μ') * L g +
      ∑ x ∈ Finset.range 32, (2 : ℝ) ^ (t (x * 8 + g) - μ') : ℝ) : EReal) := by
  unfold cL
  pointwise [k0_pay30, k0_pay28, k0_pay29, k0_pay26]
  simp only [pay27_apply, hm', hs, hm, hl, exp2_sub]
  rw [EReal.coe_add, EReal.coe_mul, coe_sum,
    Finset.sum_range (fun x => (((2 : ℝ) ^ (t (x * 8 + g) - μ') : ℝ) : EReal))]

theorem cA_real (a : Vec Ideal S1x64x512 .f32) (v : Vec Ideal S1x1x1x64x256 .bf16) {μ' : ℝ}
    (hs : ∀ (x : Fin 32) (g : Fin 8), k0_pay25 kc q (ix3 x g r) = ((t (x * 8 + g) : ℝ) : EReal))
    (hm : ∀ g, m (ix3 0 g r) = (μ : EReal))
    (hm' : ∀ g, cM kc q m (ix3 0 g r) = (μ' : EReal)) (e : Fin 64) :
    cA kc q m a v (ix3 0 e r) = a (ix3 0 e r) * (((2 : ℝ) ^ (μ - μ') : ℝ) : EReal) +
      ∑ x : Fin 256, v (ix5 0 0 0 e x) * (((2 : ℝ) ^ (t x - μ') : ℝ) : EReal) := by
  unfold cA
  pointwise [k0_pay31, k0_pay24, k0_pay28, k0_pay29, k0_pay26]
  simp only [pay27_apply, hm', hs, hm, exp2_sub, Nat.div_add_mod']
  done

end

end Cert.KernelIdeal.Hand

end
-- ==== Proof.Value.Chain.lean ====
/- The four chains of a step, read at one query: each is a softmax taken in pieces over the context's
keys and the four blocks of the keys. -/
module

public import proofs.«01_k».proof.Proof.KernelIdeal.Tail
public import proofs.«01_k».proof.Proof.Value.UnitA
public import proofs.«01_k».proof.Proof.Value.CtxUnit

@[expose] public section

set_option maxRecDepth 16384

noncomputable section

namespace Cert.KernelIdeal.Hand

open Cert.KernelIdeal Cert.KernelIdeal.Gen
open Idealize.ShloMosaic Idealize.ShloMosaic.TcCoe
open Cert.Attn Finset
open Idealize.ShloMosaic.VecWindow

/-- The state of a softmax, in three row vectors at the query `r`. -/
abbrev SoftAt (N : ℕ) (σ : ℕ → ℝ) (w : ℕ → Fin 64 → EReal) (m l : Vec Ideal S1x8x512 .f32)
    (a : Vec Ideal S1x64x512 .f32) (r : Fin 512) : Prop :=
  Soft N σ w (fun g => m (ix3 0 g r)) (fun g => l (ix3 0 g r)) (fun e => a (ix3 0 e r))

/-- A unit of the loop takes 4096 keys in. -/
theorem soft_unit {N : ℕ} {σ : ℕ → ℝ} {w : ℕ → Fin 64 → EReal} {s : Vec Ideal S4096x512 .f32}
    {m l : Vec Ideal S1x8x512 .f32} {a : Vec Ideal S1x64x512 .f32}
    {v : ℕ → Vec Ideal S1x1x1x64x512 .bf16} {r : Fin 512} (h : SoftAt N σ w m l a r)
    (hs : ∀ j : Fin 4096, s (ix2 j r) = ((σ (N + j) : ℝ) : EReal))
    (hv : ∀ c < 8, ∀ (x : Fin 512) (e : Fin 64),
      v c (ix5 0 0 0 e x) = w (N + (c * 512 + x)) e) :
    SoftAt (N + 4096) σ w (uM s m) (uL s m l) (uA s m a v) r := by
  show Soft (N + 512 * 8) _ _ _ _ _
  refine h.step fun μ L hm hl => ?_
  obtain ⟨μ', hm'⟩ := uM_real (t := fun j => σ (N + j)) hs hm
  refine ⟨μ', hm', fun g => uL_real (t := fun j => σ (N + j)) hs hm hl hm' g, fun e => ?_⟩
  refine (uA_real (t := fun j => σ (N + j)) a v hs hm hm' e).trans ?_
  congr 1
  show _ = ∑ j ∈ range (8 * 512), _
  rw [← sum_pieces (fun j => w (N + j) e * (((2 : ℝ) ^ (σ (N + j) - μ') : ℝ) : EReal)) 8 512]
  refine Finset.sum_congr rfl fun c hc => ?_
  rw [Finset.sum_range (fun x => w (N + (c * 512 + x)) e *
    (((2 : ℝ) ^ (σ (N + (c * 512 + x)) - μ') : ℝ) : EReal))]
  exact Finset.sum_congr rfl fun x _ => by rw [hv c (Finset.mem_range.mp hc)]

/-- The context's unit takes its 256 keys in. -/
theorem soft_ctx {σ : ℕ → ℝ} {w : ℕ → Fin 64 → EReal} {kc : Vec Ideal S1x256x128 .bf16}
    {q : Vec Ideal S1x128x512 .bf16} {m l : Vec Ideal S1x8x512 .f32}
    {a : Vec Ideal S1x64x512 .f32} {v : Vec Ideal S1x1x1x64x256 .bf16} {r : Fin 512}
    (h : SoftAt 0 σ w m l a r)
    (hs : ∀ (x : Fin 32) (g : Fin 8),
      k0_pay25 kc q (ix3 x g r) = ((σ (x * 8 + g) : ℝ) : EReal))
    (hv : ∀ (x : Fin 256) (e : Fin 64), v (ix5 0 0 0 e x) = w x e) :
    SoftAt 256 σ w (cM kc q m) (cL kc q m l) (cA kc q m a v) r := by
  show Soft (0 + 32 * 8) _ _ _ _ _
  refine h.step fun μ L hm hl => ?_
  obtain ⟨μ', hm'⟩ := cM_real hs hm
  refine ⟨μ', hm', fun g => ?_, fun e => ?_⟩
  · simp only [zero_add]
    exact cL_real hs hm hl hm' g
  · simp only [zero_add]
    refine (cA_real a v hs hm hm' e).trans ?_
    congr 1
    show _ = ∑ j ∈ range 256, _
    rw [Finset.sum_range (fun x => w x e * (((2 : ℝ) ^ (σ x - μ') : ℝ) : EReal))]
    exact Finset.sum_congr rfl fun x _ => by rw [hv]

/-- A window depends on its offsets alone. -/
theorem window_at {s : Shape} {τ : EltTy} (x : Vec Ideal s τ) {o o' : Fin s.rank → ℕ} {n : Fin s.rank → ℕ} (h : o = o')
    (i : ∀ a, o a + n a ≤ s.size a) (i' : ∀ a, o' a + n a ≤ s.size a) :
    window x o n i = window x o' n i' := by subst h; rfl
theorem rowC_mod (x : Vec Ideal S4x8x512 .f32) {c d : ℕ} (h : c % 4 = d % 4) :
    rowC x c = rowC x d := window_at x (by rw [h]) _ _
theorem rowA_mod (x : Vec Ideal S4x64x512 .f32) {c d : ℕ} (h : c % 4 = d % 4) :
    rowA x c = rowA x d := window_at x (by rw [h]) _ _

/-- The state of a softmax in the rows of chain `c`. -/
abbrev SoftRow (N : ℕ) (σ : ℕ → ℝ) (w : ℕ → Fin 64 → EReal) (X : St Ideal) (c : ℕ)
    (r : Fin 512) : Prop :=
  SoftAt N σ w (rowC X.m c) (rowC X.l c) (rowA X.a c) r

theorem start_real : ∃ x : ℝ, Ideal.ofBits .f32 4048155338#32 = (x : EReal) := by
  simp only [Ideal.ofBits, Ideal.ieee]
  rw [if_neg (by decide), if_neg (by decide)]
  exact ⟨_, rfl⟩

/-- No keys are in before the first unit. -/
theorem soft_start (σ : ℕ → ℝ) (w : ℕ → Fin 64 → EReal) (c : ℕ) (r : Fin 512) :
    SoftRow 0 σ w X00 c r := by
  obtain ⟨x, hx⟩ := start_real
  exact Soft.start σ w x (fun g => hx) (fun g => Ideal.ofBits_zero_f32)
    (fun e => Ideal.ofBits_zero_f32)

section
variable {kc : Vec Ideal S1x256x128 .bf16} {vc : Vec Ideal S1x1x1x64x256 .bf16}
  {q : Vec Ideal S4x128x512 .bf16} {K : Vec Ideal S1x16384x128 .bf16}
  {V : Vec Ideal S1x1x32x64x512 .bf16} {σ : ℕ → ℕ → ℝ} {w : ℕ → Fin 64 → EReal} {r : Fin 512}

/-- Another chain's unit leaves a chain alone. -/
theorem ctx_ne {N : ℕ} {X : St Ideal} {s : ℕ → ℝ} {c d : ℕ} (hcd : d % 4 ≠ c % 4)
    (h : SoftRow N s w X c r) : SoftRow N s w (X.ctx kc vc q d) c r := by
  unfold SoftRow St.ctx
  rw [rowC_setC_ne _ _ _ _ hcd, rowC_setC_ne _ _ _ _ hcd, rowA_setA_ne _ _ _ _ hcd]
  exact h

theorem ctx_same {X : St Ideal} {c : ℕ} (h : SoftRow 0 (σ c) w X c r)
    (hs : ∀ (x : Fin 32) (g : Fin 8),
      k0_pay25 kc (qB q c) (ix3 x g r) = ((σ c (x * 8 + g) : ℝ) : EReal))
    (hv : ∀ (x : Fin 256) (e : Fin 64), vc (ix5 0 0 0 e x) = w x e) :
    SoftRow 256 (σ c) w (X.ctx kc vc q c) c r := by
  unfold SoftRow St.ctx
  rw [rowC_setC_same, rowC_setC_same, rowA_setA_same]
  exact soft_ctx h hs hv

/-- After the context every chain has its 256 keys in. -/
theorem ctx_row (hs : ∀ c < 4, ∀ (x : Fin 32) (g : Fin 8),
      k0_pay25 kc (qB q c) (ix3 x g r) = ((σ c (x * 8 + g) : ℝ) : EReal))
    (hv : ∀ (x : Fin 256) (e : Fin 64), vc (ix5 0 0 0 e x) = w x e) (c : ℕ) (hc : c < 4) :
    SoftRow 256 (σ c) w (ctxSt kc vc q) c r := by
  have h0 := soft_start (σ c) w c r
  unfold ctxSt
  interval_cases c
  · exact ctx_ne (by decide) (ctx_ne (by decide) (ctx_ne (by decide) (ctx_same h0 (hs 0 hc) hv)))
  · exact ctx_ne (by decide) (ctx_ne (by decide) (ctx_same (ctx_ne (by decide) h0) (hs 1 hc) hv))
  · exact ctx_ne (by decide) (ctx_same (ctx_ne (by decide) (ctx_ne (by decide) h0)) (hs 2 hc) hv)
  · exact ctx_same (ctx_ne (by decide) (ctx_ne (by decide) (ctx_ne (by decide) h0))) (hs 3 hc) hv

/-- Unit `n` takes block `n / 4` of the keys into chain `n % 4`. -/
theorem unit_row (hs : ∀ u < 16, ∀ j : Fin 4096,
      scoreU q K u (ix2 j r) = ((σ (u % 4) (256 + 4096 * (u / 4) + j) : ℝ) : EReal))
    (hv : ∀ b < 4, ∀ c < 8, ∀ (x : Fin 512) (e : Fin 64),
      vB V b c (ix5 0 0 0 e x) = w (256 + 4096 * b + (c * 512 + x)) e)
    {n : ℕ} (hn : n < 16) {X : St Ideal} {s : Vec Ideal S4096x512 .f32} (hsn : s = scoreU q K n)
    (h : ∀ c < 4, SoftRow (256 + 4096 * ((n + 3 - c) / 4)) (σ c) w X c r) (c : ℕ) (hc : c < 4) :
    SoftRow (256 + 4096 * ((n + 1 + 3 - c) / 4)) (σ c) w (X.unit V n s) c r := by
  subst hsn
  by_cases hcn : n % 4 = c
  · subst hcn
    have e1 : (n + 3 - n % 4) / 4 = n / 4 := by omega
    have e2 : 256 + 4096 * ((n + 1 + 3 - n % 4) / 4) = 256 + 4096 * (n / 4) + 4096 := by omega
    have hm : n % 4 % 4 = n % 4 := Nat.mod_mod _ _
    have h' := h (n % 4) hc
    rw [e1] at h'
    unfold SoftRow at h' ⊢
    rw [rowC_mod _ hm, rowC_mod _ hm, rowA_mod _ hm] at h' ⊢
    unfold St.unit
    rw [rowC_setC_same, rowC_setC_same, rowA_setA_same, e2]
    exact soft_unit h' (hs n hn) (hv (n / 4) (by omega))
  · have e1 : (n + 1 + 3 - c) / 4 = (n + 3 - c) / 4 := by omega
    have hne : n % 4 ≠ c % 4 := by omega
    rw [e1]
    unfold SoftRow St.unit
    rw [rowC_setC_ne _ _ _ _ hne, rowC_setC_ne _ _ _ _ hne, rowA_setA_ne _ _ _ _ hne]
    exact h c hc

/-- Before trip `k` of the loop the units before `3 k` are in. -/
theorem trip_row (hc0 : ∀ c < 4, ∀ (x : Fin 32) (g : Fin 8),
      k0_pay25 kc (qB q c) (ix3 x g r) = ((σ c (x * 8 + g) : ℝ) : EReal))
    (hv0 : ∀ (x : Fin 256) (e : Fin 64), vc (ix5 0 0 0 e x) = w x e)
    (hs : ∀ u < 16, ∀ j : Fin 4096,
      scoreU q K u (ix2 j r) = ((σ (u % 4) (256 + 4096 * (u / 4) + j) : ℝ) : EReal))
    (hv : ∀ b < 4, ∀ c < 8, ∀ (x : Fin 512) (e : Fin 64),
      vB V b c (ix5 0 0 0 e x) = w (256 + 4096 * b + (c * 512 + x)) e) :
    ∀ k ≤ 4, ∀ c < 4, SoftRow (256 + 4096 * ((3 * k + 3 - c) / 4)) (σ c) w
      (tripSt (ctxSt kc vc q) (scoreU q K 0) (scoreU q K 1) q K V k) c r := by
  intro k
  induction k with
  | zero =>
    intro _ c hc
    have e : (3 * 0 + 3 - c) / 4 = 0 := by omega
    rw [e]
    exact ctx_row hc0 hv0 c hc
  | succ k ih =>
    intro hk
    have h0 := ih (by omega)
    have b0 : bufAt (scoreU q K 0) q K 1 k = scoreU q K (3 * k) := by
      cases k with
      | zero => rfl
      | succ k => rfl
    have b1 : bufAt (scoreU q K 1) q K 2 k = scoreU q K (3 * k + 1) := by
      cases k with
      | zero => rfl
      | succ k => rfl
    have h1 := unit_row hs hv (n := 3 * k) (by omega) b0 h0
    have h2 := unit_row hs hv (n := 3 * k + 1) (by omega) b1 h1
    exact unit_row hs hv (n := 3 * k + 2) (by omega) rfl h2

/-- At the end all 16640 keys are in, in every chain. -/
theorem end_row (hc0 : ∀ c < 4, ∀ (x : Fin 32) (g : Fin 8),
      k0_pay25 kc (qB q c) (ix3 x g r) = ((σ c (x * 8 + g) : ℝ) : EReal))
    (hv0 : ∀ (x : Fin 256) (e : Fin 64), vc (ix5 0 0 0 e x) = w x e)
    (hs : ∀ u < 16, ∀ j : Fin 4096,
      scoreU q K u (ix2 j r) = ((σ (u % 4) (256 + 4096 * (u / 4) + j) : ℝ) : EReal))
    (hv : ∀ b < 4, ∀ c < 8, ∀ (x : Fin 512) (e : Fin 64),
      vB V b c (ix5 0 0 0 e x) = w (256 + 4096 * b + (c * 512 + x)) e) (c : ℕ) (hc : c < 4) :
    SoftAt 16640 (σ c) w (uM (scoreU q K (12 + c)) (rowC (loopSt kc vc q K V).m c))
      (endL (loopSt kc vc q K V) q K c) (endA (loopSt kc vc q K V) q K V c) r := by
  have h := trip_row hc0 hv0 hs hv 4 le_rfl c hc
  have e : 256 + 4096 * ((3 * 4 + 3 - c) / 4) = 12544 := by omega
  rw [e] at h
  have hs' := hs (12 + c) (by omega)
  have e1 : (12 + c) % 4 = c := by omega
  have e2 : 256 + 4096 * ((12 + c) / 4) = 12544 := by omega
  rw [e1, e2] at hs'
  exact soft_unit (N := 12544) h hs' (hv 3 (by decide))

end

end Cert.KernelIdeal.Hand

end
-- ==== Proof.Value.StepOut.lean ====
/- What a step writes, as the softmax of the scores against the values. -/
module

public import proofs.«01_k».proof.Proof.Value.Score
public import proofs.«01_k».proof.Proof.Value.Chain

@[expose] public section

set_option maxRecDepth 16384

noncomputable section

namespace Cert.KernelIdeal.Hand

open Cert.KernelIdeal Cert.KernelIdeal.Gen
open Idealize.ShloMosaic Idealize.ShloMosaic.TcCoe
open Cert.Attn Finset
open Idealize.ShloMosaic.VecWindow

theorem kB_at (K : Vec Ideal S1x16384x128 .bf16) (b : ℕ) (hb : b < 4) (j : Fin 4096)
    (e : Fin 128) : kB K b (ix3 0 j e) = K (ix3 0 ⟨4096 * b + j, by omega⟩ e) := by
  unfold kB window
  congr 1
  funext a
  apply Fin.ext
  fin_cases a
  · rfl
  · show 4096 * (b % 4) + 1 * j.val = 4096 * b + j.val; omega
  · show 0 + 1 * e.val = e.val; omega

theorem vB_at (V : Vec Ideal S1x1x32x64x512 .bf16) (b : ℕ) (hb : b < 4) (c : ℕ) (hc : c < 8)
    (e : Fin 64) (x : Fin 512) :
    vB V b c (ix5 0 0 0 e x) = V (ix5 0 0 ⟨8 * b + c, by omega⟩ e x) := by
  unfold vB window
  congr 1
  funext a
  apply Fin.ext
  fin_cases a
  · rfl
  · rfl
  · show 8 * (b % 4) + c % 8 + 1 * 0 = 8 * b + c; omega
  · show 0 + 1 * e.val = e.val; omega
  · show 0 + 1 * x.val = x.val; omega

/-- The score of key `κ` and query `t` of head `g` in a step of head `h` of the keys. -/
def scoreAt (kR : ℕ → ℕ → ℝ) (xR : ℕ → ℕ → ℕ → ℝ) (h g t κ : ℕ) : ℝ :=
  ∑ d ∈ range 64, kR κ (64 * h + d) * xR g d t

section
variable {h : ℕ} {x : Vec Ideal S1x2x64x1024 .bf16} {K : Vec Ideal S1x16384x128 .bf16}
  {V : Vec Ideal S1x1x32x64x512 .bf16} {kc : Vec Ideal S1x256x128 .bf16}
  {vc : Vec Ideal S1x1x1x64x256 .bf16} {kR : ℕ → ℕ → ℝ} {xR : ℕ → ℕ → ℕ → ℝ}
  {w : ℕ → Fin 64 → EReal}

/-- A chain's quotient. -/
theorem chain_entry (hh : h < 2)
    (hx : ∀ (g : Fin 2) (d : Fin 64) (t : Fin 1024), x (ix4 0 g d t) = ((xR g d t : ℝ) : EReal))
    (hkc : ∀ (j : Fin 256) (e : Fin 128), kc (ix3 0 j e) = ((kR j e : ℝ) : EReal))
    (hK : ∀ (j : Fin 16384) (e : Fin 128), K (ix3 0 j e) = ((kR (256 + j) e : ℝ) : EReal))
    (hvc : ∀ (j : Fin 256) (e : Fin 64), vc (ix5 0 0 0 e j) = w j e)
    (hV : ∀ (c : Fin 32) (j : Fin 512) (e : Fin 64),
      V (ix5 0 0 c e j) = w (256 + (c * 512 + j)) e)
    (M : ℝ) (c : ℕ) (hc : c < 4) (r : Fin 512) (e : Fin 64) :
    Ideal.div (endA (loopSt kc vc (qsOf h x) K V) (qsOf h x) K V c (ix3 0 e r))
        (∑ g : Fin 8, endL (loopSt kc vc (qsOf h x) K V) (qsOf h x) K c (ix3 0 g r)) =
      ∑ κ ∈ range 16640, w κ e *
        ((Real.exp (Real.log 2 * scoreAt kR xR h (c / 2) (512 * (c % 2) + r) κ - M) /
          ∑ κ ∈ range 16640, Real.exp (Real.log 2 *
            scoreAt kR xR h (c / 2) (512 * (c % 2) + r) κ - M) : ℝ) : EReal) := by
  refine Soft.out (end_row (σ := fun c κ => scoreAt kR xR h (c / 2) (512 * (c % 2) + r) κ)
    (w := w) ?_ hvc ?_ ?_ c hc) (by decide) M e
  · intro c hc y g
    rw [cS_apply]
    exact score_sum h hh x c hc r _ (kR (y * 8 + g)) xR (fun e => hkc _ e) hx
  · intro u hu j
    unfold scoreU
    rw [uS_apply, show qB (qsOf h x) u = qB (qsOf h x) (u % 4) from window_at _ (by rw [Nat.mod_mod]) _ _]
    refine score_sum h hh x (u % 4) (by omega) r _ (kR (256 + 4096 * (u / 4) + j)) xR (fun e => ?_) hx
    rw [kB_at K _ (by omega), hK]
    simp only [Nat.add_assoc]
  · intro b hb c hc j e
    rw [vB_at V b hb c hc, hV]
    congr 1
    show 256 + ((8 * b + c) * 512 + j.val) = 256 + 4096 * b + (c * 512 + j.val)
    omega

/-- An entry of what a step writes, as the quotient of the chain it belongs to. -/
theorem stepOut_at (p g : ℕ) (hp : p < 2) (hg : g < 2) (r : Fin 512) (e : Fin 64)
    (y : S1x1024x128.Idx)
    (hy : y = ix3 0 (⟨512 * p + r, by omega⟩ : Fin 1024) (⟨64 * g + e, by omega⟩ : Fin 128)) :
    stepOut h x K V kc vc y =
      Ideal.div (endA (loopSt kc vc (qsOf h x) K V) (qsOf h x) K V (p + 2 * g) (ix3 0 e r))
        (∑ i : Fin 8, endL (loopSt kc vc (qsOf h x) K V) (qsOf h x) K (p + 2 * g) (ix3 0 i r)) := by
  unfold stepOut
  interval_cases p <;> interval_cases g
  · rw [show y = ix3 0 (⟨r.val, by omega⟩ : Fin 1024) (⟨e.val, by omega⟩ : Fin 128) by
      rw [hy]; congr 1 <;> (apply Fin.ext; simp), outAll_lo, outB_lo]
  · rw [show y = ix3 0 (⟨r.val, by omega⟩ : Fin 1024) (⟨64 + e.val, by omega⟩ : Fin 128) by
      rw [hy]; congr 1 <;> (apply Fin.ext; simp), outAll_lo, outB_hi]
  · rw [show y = ix3 0 (⟨512 + r.val, by omega⟩ : Fin 1024) (⟨e.val, by omega⟩ : Fin 128) by
      rw [hy]; congr 1 <;> (apply Fin.ext; simp), outAll_hi, outB_lo]
  · rw [show y = ix3 0 (⟨512 + r.val, by omega⟩ : Fin 1024) (⟨64 + e.val, by omega⟩ : Fin 128) by
      rw [hy], outAll_hi, outB_hi]

/-- An entry of what a step writes. -/
theorem step_entry (hh : h < 2)
    (hx : ∀ (g : Fin 2) (d : Fin 64) (t : Fin 1024), x (ix4 0 g d t) = ((xR g d t : ℝ) : EReal))
    (hkc : ∀ (j : Fin 256) (e : Fin 128), kc (ix3 0 j e) = ((kR j e : ℝ) : EReal))
    (hK : ∀ (j : Fin 16384) (e : Fin 128), K (ix3 0 j e) = ((kR (256 + j) e : ℝ) : EReal))
    (hvc : ∀ (j : Fin 256) (e : Fin 64), vc (ix5 0 0 0 e j) = w j e)
    (hV : ∀ (c : Fin 32) (j : Fin 512) (e : Fin 64),
      V (ix5 0 0 c e j) = w (256 + (c * 512 + j)) e)
    (M : ℝ) (t : Fin 1024) (g : Fin 2) (e : Fin 64) :
    stepOut h x K V kc vc (ix3 0 t ⟨64 * g + e, by omega⟩) =
      ∑ κ ∈ range 16640, w κ e *
        ((Real.exp (Real.log 2 * scoreAt kR xR h g t κ - M) /
          ∑ κ ∈ range 16640, Real.exp (Real.log 2 * scoreAt kR xR h g t κ - M) : ℝ) : EReal) := by
  have ht := t.isLt
  have hg := g.isLt
  have e1 : (t.val / 512 + 2 * g.val) / 2 = g := by omega
  have e2 : 512 * ((t.val / 512 + 2 * g.val) % 2) + t.val % 512 = t := by omega
  have hce := chain_entry (V := V) (vc := vc) hh hx hkc hK hvc hV M (t / 512 + 2 * g) (by omega)
    ⟨t % 512, Nat.mod_lt _ (by decide)⟩ e
  simp only [e1, e2] at hce
  rw [← hce]
  exact stepOut_at (t / 512) g (by omega) hg ⟨t % 512, Nat.mod_lt _ (by decide)⟩ e _
    (by congr 1; apply Fin.ext; show t.val = 512 * (t.val / 512) + t.val % 512; omega)

end

end Cert.KernelIdeal.Hand

end
-- ==== Proof.Value.RefKeys.lean ====
/- The reference's keys, read at one entry. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

/-- The keys of both arrays, the head's columns apart. -/
theorem kt1 (k : Vec Ideal S2x16384x128 .bf16) (kc : Vec Ideal S2x256x128 .bf16) (b h : Fin 2) (j : Fin 16640) (d : Fin 64) :
   transpose S2x2x16640x64 [0, 2, 1, 3] (shapeCast S2x16640x2x64 (concatenate S2x16640x128 1 [⟨S2x256x128, kc⟩, ⟨S2x16384x128, k⟩] concatenates_S2x256x128_S2x16384x128_S2x16640x128_d1) shapeCasts_S2x16640x128_S2x16640x2x64) transposes_S2x16640x2x64_S2x2x16640x64_0_2_1_3 (ix4 b h j d)
    = if hj : j.val < 256 then kc (ix3 b ⟨j, hj⟩ ⟨h * 64 + d, by omega⟩) else k (ix3 b ⟨j - 256, by omega⟩ ⟨h * 64 + d, by omega⟩) := by
  pointwise

end Cert.ReferenceIdeal.Hand

end
-- ==== Proof.Value.Ref.lean ====
/- The reference, read at one entry: the scores of a query against the keys, their softmax, and its
product with the values. -/
module

public import proofs.«01_k».proof.Proof.Gen.ReferenceIdeal.Run
public import Idealize.ShloMosaic.Lib.Pointwise
public import proofs.«01_k».proof.Proof.Value.RefKeys
public import proofs.«01_k».proof.Proof.Value.Math

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Attn Finset

/-- The reference's scores, times the scale. -/
def rS (q : Vec Ideal S2x4x64x16384 .bf16) (k : Vec Ideal S2x16384x128 .bf16) (kc : Vec Ideal S2x256x128 .bf16) : FVec Ideal S2x2x2x16384x16640 .f32 :=
  mulf (extf .f32 (truncf .bf16 (Host.dotGeneral dot_S2x2x2x16384x64_S2x2x16640x64_S2x2x2x16384x16640_4_3_23_2_01_01 none (mulf (extf .f32 (transpose S2x2x2x16384x64 [0, 1, 2, 4, 3] (shapeCast _ q shapeCasts_S2x4x64x16384_S2x2x2x64x16384) transposes_S2x2x2x64x16384_S2x2x2x16384x64_0_1_2_4_3) bitsLt_bf16_f32) (broadcastInDim S2x2x2x16384x64 ![] bcast_S_S2x2x2x16384x64 (Host.divf (Host.log (constant S_ .f32 0x40000000#32)) (constant S_ .f32 0x3E000000#32)))) (extf .f32 (transpose S2x2x16640x64 [0, 2, 1, 3] (shapeCast _ (concatenate S2x16640x128 1 [⟨S2x256x128, kc⟩, ⟨S2x16384x128, k⟩] concatenates_S2x256x128_S2x16384x128_S2x16640x128_d1) shapeCasts_S2x16640x128_S2x16640x2x64) transposes_S2x16640x2x64_S2x2x16640x64_0_2_1_3) bitsLt_bf16_f32)) bitsLt_bf16_f32) bitsLt_bf16_f32) (broadcastInDim S2x2x2x16384x16640 ![] bcast_S_S2x2x2x16384x16640 (constant S_ .f32 0x3E000000#32))

/-- Their exponentials from the greatest. -/
def rE (s : FVec Ideal S2x2x2x16384x16640 .f32) : FVec Ideal S2x2x2x16384x16640 .f32 :=
  Host.exp (subf s (broadcastInDim S2x2x2x16384x16640 ![0, 1, 2, 3, 4] bcast_S2x2x2x16384x1_S2x2x2x16384x16640_0_1_2_3_4 (broadcastInDim S2x2x2x16384x1 ![0, 1, 2, 3] bcast_S2x2x2x16384_S2x2x2x16384x1_0_1_2_3 (maximumf (broadcastInDim S2x2x2x16384 ![] bcast_S_S2x2x2x16384 (constant S_ .f32 0xFF800000#32)) (Host.reduce FloatOps.maximumf s (constant S_ .f32 0xFF800000#32) reducesTo_S2x2x2x16384x16640_S2x2x2x16384_d4 h_S_)))))

/-- All values. -/
def rV (v : Vec Ideal S2x2x32x64x512 .bf16) (vc : Vec Ideal S2x2x1x64x256 .bf16) : FVec Ideal S2x2x16640x64 .f32 :=
  extf .f32 (concatenate S2x2x16640x64 2 [⟨S2x2x256x64, (shapeCast _ (transpose S2x2x1x256x64 [0, 1, 2, 4, 3] vc transposes_S2x2x1x64x256_S2x2x1x256x64_0_1_2_4_3) shapeCasts_S2x2x1x256x64_S2x2x256x64)⟩, ⟨S2x2x16384x64, (shapeCast _ (transpose S2x2x32x512x64 [0, 1, 2, 4, 3] v transposes_S2x2x32x64x512_S2x2x32x512x64_0_1_2_4_3) shapeCasts_S2x2x32x512x64_S2x2x16384x64)⟩] concatenates_S2x2x256x64_S2x2x16384x64_S2x2x16640x64_d2) bitsLt_bf16_f32

/-- The softmax against the values. -/
def rO (p : FVec Ideal S2x2x2x16384x16640 .f32) (v : FVec Ideal S2x2x16640x64 .f32) : FVec Ideal S2x16384x256 .bf16 :=
  shapeCast _ (transpose S2x16384x2x2x64 [0, 3, 1, 2, 4] (truncf .bf16 (Host.dotGeneral dot_S2x2x2x16384x16640_S2x2x16640x64_S2x2x2x16384x64_4_2_23_3_01_01 none (extf .f32 (truncf .bf16 (Host.divf p (broadcastInDim S2x2x2x16384x16640 ![0, 1, 2, 3, 4] bcast_S2x2x2x16384x1_S2x2x2x16384x16640_0_1_2_3_4 (broadcastInDim S2x2x2x16384x1 ![0, 1, 2, 3] bcast_S2x2x2x16384_S2x2x2x16384x1_0_1_2_3 (Host.reduceAdd p (constant S_ .f32 0x00000000#32) reducesTo_S2x2x2x16384x16640_S2x2x2x16384_d4 h_S_)))) bitsLt_bf16_f32) bitsLt_bf16_f32) v) bitsLt_bf16_f32) transposes_S2x2x2x16384x64_S2x16384x2x2x64_0_3_1_2_4) shapeCasts_S2x16384x2x2x64_S2x16384x256

/-- The reference's result, by its stages. -/
theorem res_eq (m : (ℓ : Loc nD τ sig) → Buf (Elt Ideal) ℓ) (c : Dev nD) :
    res_main_v38 m c = rO (rE (rS (m ((c.tc : Thread nD τ).loc main_arg0)) (m ((c.tc : Thread nD τ).loc main_arg1)) (m ((c.tc : Thread nD τ).loc main_arg3))))
      (rV (m ((c.tc : Thread nD τ).loc main_arg2)) (m ((c.tc : Thread nD τ).loc main_arg4))) := rfl

section Ops
/-- A product of the queries and the keys. -/
theorem dot1 (q : FVec Ideal S2x2x2x16384x64 .f32) (k : FVec Ideal S2x2x16640x64 .f32) (b h g : Fin 2) (t : Fin 16384) (j : Fin 16640) :
   Host.dotGeneral dot_S2x2x2x16384x64_S2x2x16640x64_S2x2x2x16384x16640_4_3_23_2_01_01 none q k (ix5 b h g t j) = ∑ d : Fin 64, q (ix5 b h g t d) * k (ix4 b h j d) := by
  pointwise

/-- The queries, a head's columns last. -/
theorem qt1 (q : Vec Ideal S2x4x64x16384 .bf16) (b h g : Fin 2) (t : Fin 16384) (d : Fin 64) :
   transpose S2x2x2x16384x64 [0, 1, 2, 4, 3] (shapeCast S2x2x2x64x16384 q shapeCasts_S2x4x64x16384_S2x2x2x64x16384) transposes_S2x2x2x64x16384_S2x2x2x16384x64_0_1_2_4_3 (ix5 b h g t d)
    = q (ix4 b ⟨h * 2 + g, by omega⟩ d t) := by
  pointwise

/-- A scalar over an array. -/
theorem bc1 (x : FVec Ideal S_ .f32) (i : S2x2x2x16384x16640.Idx) :
   broadcastInDim S2x2x2x16384x16640 ![] bcast_S_S2x2x2x16384x16640 x i = x (fun a => a.elim0) := by
  show x _ = x _
  congr 1
  funext a
  exact a.elim0

/-- A scalar over the queries. -/
theorem bc2 (x : FVec Ideal S_ .f32) (i : S2x2x2x16384x64.Idx) :
   broadcastInDim S2x2x2x16384x64 ![] bcast_S_S2x2x2x16384x64 x i = x (fun a => a.elim0) := by
  show x _ = x _
  congr 1
  funext a
  exact a.elim0

/-- A scalar over the rows. -/
theorem bc3 (x : FVec Ideal S_ .f32) (i : S2x2x2x16384.Idx) :
   broadcastInDim S2x2x2x16384 ![] bcast_S_S2x2x2x16384 x i = x (fun a => a.elim0) := by
  show x _ = x _
  congr 1
  funext a
  exact a.elim0

/-- The greatest score of a row. -/
theorem mx1 (s : FVec Ideal S2x2x2x16384x16640 .f32) (b h g : Fin 2) (t : Fin 16384) :
   Host.reduce FloatOps.maximumf s (constant S_ .f32 0xFF800000#32) reducesTo_S2x2x2x16384x16640_S2x2x2x16384_d4 h_S_ (ix4 b h g t) =
    Finset.fold max (Ideal.ofBits FTy.f32 4286578688#32) (fun x => s (ix5 b h g t x)) Finset.univ := by
  pointwise

/-- A row's number along the row. -/
theorem bb1 (s : FVec Ideal S2x2x2x16384 .f32) (b h g : Fin 2) (t : Fin 16384) (j : Fin 16640) :
   (broadcastInDim S2x2x2x16384x16640 ![0, 1, 2, 3, 4] bcast_S2x2x2x16384x1_S2x2x2x16384x16640_0_1_2_3_4 (broadcastInDim S2x2x2x16384x1 ![0, 1, 2, 3] bcast_S2x2x2x16384_S2x2x2x16384x1_0_1_2_3 s)) (ix5 b h g t j) =
    s (ix4 b h g t) := by
  pointwise

end Ops

/-- The word of two. -/
theorem two_f32 : Ideal.ofBits .f32 0x40000000#32 = ((2 : ℝ) : EReal) := by
  simp [Ideal.ofBits, Ideal.ieee]
  rw [← EReal.coe_mul]
  norm_num

/-- The word of an eighth. -/
theorem eighth_f32 : Ideal.ofBits .f32 0x3E000000#32 = ((1 / 8 : ℝ) : EReal) := by
  simp [Ideal.ofBits, Ideal.ieee]
  rw [← EReal.coe_mul]
  norm_num

/-- The factor the queries are multiplied by. -/
theorem factor : Ideal.div (Ideal.log (Ideal.ofBits .f32 0x40000000#32)) (Ideal.ofBits .f32 0x3E000000#32) =
    ((Real.log 2 * 8 : ℝ) : EReal) := by
  rw [two_f32, eighth_f32, Ideal.div_coe (by norm_num), Ideal.log_coe, if_neg (by norm_num), ← EReal.coe_mul]
  norm_num

section
variable {q : Vec Ideal S2x4x64x16384 .bf16} {k : Vec Ideal S2x16384x128 .bf16} {v : Vec Ideal S2x2x32x64x512 .bf16}
  {kc : Vec Ideal S2x256x128 .bf16} {vc : Vec Ideal S2x2x1x64x256 .bf16} {b h g : Fin 2} {t : Fin 16384}
  {kR : ℕ → ℕ → ℝ} {x : ℕ → ℝ} {w : ℕ → Fin 64 → EReal}

/-- A score of the reference, of finite queries and keys. -/
theorem rS_real (hq : ∀ d : Fin 64, q (ix4 b ⟨h * 2 + g, by omega⟩ d t) = ((x d : ℝ) : EReal))
    (hkc : ∀ (j : Fin 256) (e : Fin 128), kc (ix3 b j e) = ((kR j e : ℝ) : EReal))
    (hk : ∀ (j : Fin 16384) (e : Fin 128), k (ix3 b j e) = ((kR (256 + j) e : ℝ) : EReal)) (j : Fin 16640) :
    rS q k kc (ix5 b h g t j) = ((Real.log 2 * ∑ d ∈ range 64, kR j (64 * h + d) * x d : ℝ) : EReal) := by
  have hK : ∀ d : Fin 64, (if hj : j.val < 256 then kc (ix3 b ⟨j, hj⟩ ⟨h * 64 + d, by omega⟩)
      else k (ix3 b ⟨j - 256, by omega⟩ ⟨h * 64 + d, by omega⟩) : EReal) = ((kR j (64 * h + d) : ℝ) : EReal) := fun d => by
    split
    · rw [hkc]; simp only [Nat.mul_comm]
    · rw [hk]; simp only [Nat.mul_comm, show 256 + (j.val - 256) = j.val by omega]
  unfold rS
  refine (congrArg₂ (fun a b : EReal => a * b) (dot1 _ _ b h g t j) (bc1 _ _)).trans ?_
  have hterm : ∀ d : Fin 64, ∀ (A : FVec Ideal S2x2x2x16384x64 .f32) (B : FVec Ideal S2x2x16640x64 .f32),
      A (ix5 b h g t d) = ((x d * (Real.log 2 * 8) : ℝ) : EReal) → B (ix4 b h j d) = ((kR j (64 * h + d) : ℝ) : EReal) →
      A (ix5 b h g t d) * B (ix4 b h j d) = ((kR j (64 * h + d) * x d * (Real.log 2 * 8) : ℝ) : EReal) := fun d A B hA hB => by
    rw [hA, hB, ← EReal.coe_mul]; congr 1; ring
  refine (congrArg₂ (fun a b : EReal => a * b) ((Finset.sum_congr rfl fun d _ => hterm d _ _ ?_ ?_).trans (coe_sum _ _).symm) eighth_f32).trans ?_
  · refine (congrArg₂ (fun a b : EReal => a * b) (qt1 q b h g t d) (bc2 _ _)).trans ?_
    rw [hq]
    refine (congrArg (fun a : EReal => ((x d : ℝ) : EReal) * a) factor).trans ?_
    rw [← EReal.coe_mul]
  · exact (kt1 k kc b h j d).trans (hK d)
  · rw [← EReal.coe_mul, ← Finset.sum_range (fun d => kR j (64 * h + d) * x d * (Real.log 2 * 8)), ← Finset.sum_mul]
    congr 1
    ring

/-- The exponentials of real scores, from their greatest. -/
theorem rE_real {s : FVec Ideal S2x2x2x16384x16640 .f32} {σ : ℕ → ℝ}
    (hs : ∀ j : Fin 16640, s (ix5 b h g t j) = ((σ j : ℝ) : EReal)) :
    ∃ M : ℝ, ∀ j : Fin 16640, rE s (ix5 b h g t j) = ((Real.exp (σ j - M) : ℝ) : EReal) := by
  have hbot : Ideal.ofBits .f32 0xFF800000#32 = (⊥ : EReal) := by simp [Ideal.ofBits, Ideal.ieee]
  obtain ⟨M, hM⟩ := fold_real (Finset.univ : Finset (Fin 16640)) ⟨0, Finset.mem_univ _⟩ (fun j => σ j)
  refine ⟨M, fun j => ?_⟩
  unfold rE
  have hmax : ∀ A B : FVec Ideal S2x2x2x16384 .f32, A (ix4 b h g t) = (⊥ : EReal) → B (ix4 b h g t) = (M : EReal) →
      maximumf A B (ix4 b h g t) = (M : EReal) := fun A B hA hB => by
    show max (A (ix4 b h g t)) (B (ix4 b h g t)) = _
    rw [hA, hB, max_eq_right bot_le]
  have hexp : ∀ A B : FVec Ideal S2x2x2x16384x16640 .f32, A (ix5 b h g t j) = ((σ j : ℝ) : EReal) → B (ix5 b h g t j) = (M : EReal) →
      Host.exp (subf A B) (ix5 b h g t j) = ((Real.exp (σ j - M) : ℝ) : EReal) := fun A B hA hB => by
    show Ideal.exp (A (ix5 b h g t j) - B (ix5 b h g t j)) = _
    rw [hA, hB, ← EReal.coe_sub, Ideal.exp_coe]
  refine hexp _ _ (hs j) ((bb1 _ b h g t j).trans (hmax _ _ ((bc3 _ _).trans hbot) ((mx1 s b h g t).trans ?_)))
  simp only [hs, hbot, hM]

/-- A value, of one of the two arrays. -/
theorem rV_at (hvc : ∀ (j : Fin 256) (e : Fin 64), vc (ix5 b h 0 e j) = w j e)
    (hv : ∀ (c : Fin 32) (j : Fin 512) (e : Fin 64), v (ix5 b h c e j) = w (256 + (c * 512 + j)) e)
    (j : Fin 16640) (e : Fin 64) : rV v vc (ix4 b h j e) = w j e := by
  unfold rV
  pointwise
  split
  · rw [hvc]
  · rw [hv]
    congr 1
    show 256 + ((j.val - 256) / 512 * 512 + (j.val - 256) % 512) = j.val
    omega

/-- The quotients against the values. -/
theorem rO_apply (p : FVec Ideal S2x2x2x16384x16640 .f32) (v : FVec Ideal S2x2x16640x64 .f32) (b : Fin 2) (t : Fin 16384) (o : Fin 256) :
    rO p v (ix3 b t o) = ∑ y, Ideal.div (p (ix5 b ⟨o / 128, by omega⟩ ⟨o / 64 % 2, by omega⟩ t y))
        (∑ z, p (ix5 b ⟨o / 128, by omega⟩ ⟨o / 64 % 2, by omega⟩ t z)) * v (ix4 b ⟨o / 128, by omega⟩ y ⟨o % 64, by omega⟩) := by
  unfold rO
  pointwise

/-- An entry of the reference: the softmax of the scores against the values. -/
theorem ref_entry (hq : ∀ d : Fin 64, q (ix4 b ⟨h * 2 + g, by omega⟩ d t) = ((x d : ℝ) : EReal))
    (hkc : ∀ (j : Fin 256) (e : Fin 128), kc (ix3 b j e) = ((kR j e : ℝ) : EReal))
    (hk : ∀ (j : Fin 16384) (e : Fin 128), k (ix3 b j e) = ((kR (256 + j) e : ℝ) : EReal))
    (hvc : ∀ (j : Fin 256) (e : Fin 64), vc (ix5 b h 0 e j) = w j e)
    (hv : ∀ (c : Fin 32) (j : Fin 512) (e : Fin 64), v (ix5 b h c e j) = w (256 + (c * 512 + j)) e) (e : Fin 64) :
    ∃ M : ℝ, rO (rE (rS q k kc)) (rV v vc) (ix3 b t ⟨128 * h + 64 * g + e, by omega⟩) =
      ∑ κ ∈ range 16640, w κ e * ((Real.exp (Real.log 2 * (∑ d ∈ range 64, kR κ (64 * h + d) * x d) - M) /
          ∑ κ ∈ range 16640, Real.exp (Real.log 2 * (∑ d ∈ range 64, kR κ (64 * h + d) * x d) - M) : ℝ) : EReal) := by
  obtain ⟨M, hM⟩ := rE_real (σ := fun j => Real.log 2 * ∑ d ∈ range 64, kR j (64 * h + d) * x d) (rS_real hq hkc hk)
  refine ⟨M, ?_⟩
  generalize hS : (fun κ : ℕ => Real.exp (Real.log 2 * (∑ d ∈ range 64, kR κ (64 * h + d) * x d) - M)) = E at *
  have hE : ∀ κ : ℕ, Real.exp (Real.log 2 * (∑ d ∈ range 64, kR κ (64 * h + d) * x d) - M) = E κ := fun κ => congrFun hS κ
  simp only [hE] at hM ⊢
  have hpos : ∀ κ, 0 < E κ := fun κ => by rw [← hE]; exact Real.exp_pos _
  have hZ : 0 < ∑ κ ∈ range 16640, E κ := Finset.sum_pos (fun κ _ => hpos κ) ⟨0, by simp⟩
  have e1 : (⟨(128 * h.val + 64 * g.val + e.val) / 128, by omega⟩ : Fin 2) = h := Fin.ext (by show (128 * h.val + 64 * g.val + e.val) / 128 = h.val; omega)
  have e2 : (⟨(128 * h.val + 64 * g.val + e.val) / 64 % 2, by omega⟩ : Fin 2) = g := Fin.ext (by show (128 * h.val + 64 * g.val + e.val) / 64 % 2 = g.val; omega)
  have e3 : (⟨(128 * h.val + 64 * g.val + e.val) % 64, by omega⟩ : Fin 64) = e := Fin.ext (by show (128 * h.val + 64 * g.val + e.val) % 64 = e.val; omega)
  rw [rO_apply]
  simp only [e1, e2, e3, hM, rV_at hvc hv]
  rw [← coe_sum, ← Finset.sum_range E, Finset.sum_range (fun κ => w κ e * ((E κ / ∑ κ ∈ range 16640, E κ : ℝ) : EReal))]
  refine Finset.sum_congr rfl fun y _ => ?_
  rw [Ideal.div_coe hZ.ne', ← EReal.coe_mul, mul_one_div, mul_comm]

end

end Cert.ReferenceIdeal.Hand

end
-- ==== Proof.Value.Entry.lean ====
/- A block of the kernel, at one point of the grid, is the reference's. -/
module

public import proofs.«01_k».proof.Proof.Value.StepOut
public import proofs.«01_k».proof.Proof.Value.Ref

@[expose] public section

set_option maxRecDepth 16384

noncomputable section

namespace Cert.KernelIdeal.Hand

open Cert.KernelIdeal Cert.KernelIdeal.Gen
open Idealize.ShloMosaic Idealize.ShloMosaic.TcCoe
open Cert.Attn Finset
open Cert.ReferenceIdeal.Hand (rO rE rS ref_entry)

section
variable {Q : FVec Ideal S2x4x64x16384 .bf16} {K : FVec Ideal S2x16384x128 .bf16} {W : FVec Ideal S2x2x32x64x512 .bf16}
  {KC : FVec Ideal S2x256x128 .bf16} {WC : FVec Ideal S2x2x1x64x256 .bf16}

/-- Real queries, as numbers by head, column and row. -/
theorem queries_real (hQ : ∀ i, ∃ r : ℝ, Q i = (r : EReal)) (b h : Fin 2) :
    ∃ X : ℕ → ℕ → ℕ → ℝ, ∀ (g : Fin 2) (d : Fin 64) (t : Fin 16384), Q (ix4 b ⟨h * 2 + g, by omega⟩ d t) = ((X g d t : ℝ) : EReal) := by
  choose f hf using hQ
  refine ⟨fun g d t => if hg : g < 2 then if hd : d < 64 then if ht : t < 16384 then
    f (ix4 b ⟨h * 2 + g, by omega⟩ ⟨d, hd⟩ ⟨t, ht⟩) else 0 else 0 else 0, fun g d t => ?_⟩
  dsimp only
  rw [dif_pos g.isLt, dif_pos d.isLt, dif_pos t.isLt, hf]

/-- Real keys, those of the context first, as numbers by row and column. -/
theorem keys_real (hK : ∀ i, ∃ r : ℝ, K i = (r : EReal)) (hKC : ∀ i, ∃ r : ℝ, KC i = (r : EReal)) (b : Fin 2) :
    ∃ kR : ℕ → ℕ → ℝ, (∀ (j : Fin 256) (e : Fin 128), KC (ix3 b j e) = ((kR j e : ℝ) : EReal)) ∧
      ∀ (j : Fin 16384) (e : Fin 128), K (ix3 b j e) = ((kR (256 + j) e : ℝ) : EReal) := by
  choose f hf using hK
  choose f' hf' using hKC
  refine ⟨fun j e => if he : e < 128 then if hj : j < 256 then f' (ix3 b ⟨j, hj⟩ ⟨e, he⟩) else
    if hj' : j - 256 < 16384 then f (ix3 b ⟨j - 256, hj'⟩ ⟨e, he⟩) else 0 else 0, fun j e => ?_, fun j e => ?_⟩
  · dsimp only
    rw [dif_pos e.isLt, dif_pos j.isLt, hf']
  · dsimp only
    rw [dif_pos e.isLt, dif_neg (by omega), dif_pos (by omega), hf]
    simp only [Nat.add_sub_cancel_left]

/-- The values, those of the context first, by row and column. -/
theorem values_row (W : FVec Ideal S2x2x32x64x512 .bf16) (WC : FVec Ideal S2x2x1x64x256 .bf16) (b h : Fin 2) :
    ∃ w : ℕ → Fin 64 → EReal, (∀ (j : Fin 256) (e : Fin 64), WC (ix5 b h 0 e j) = w j e) ∧
      ∀ (c : Fin 32) (j : Fin 512) (e : Fin 64), W (ix5 b h c e j) = w (256 + (c * 512 + j)) e := by
  refine ⟨fun κ e => if hj : κ < 256 then WC (ix5 b h 0 e ⟨κ, hj⟩) else
    if hj' : (κ - 256) / 512 < 32 then W (ix5 b h ⟨(κ - 256) / 512, hj'⟩ e ⟨(κ - 256) % 512, by omega⟩) else 0, fun j e => ?_, fun c j e => ?_⟩
  · dsimp only
    rw [dif_pos j.isLt]
  · dsimp only
    have h1 : (256 + (c.val * 512 + j.val) - 256) / 512 = c.val := by omega
    have h2 : (256 + (c.val * 512 + j.val) - 256) % 512 = j.val := by omega
    rw [dif_neg (by omega), dif_pos (by omega)]
    congr 2
    · exact Fin.ext h1.symm
    · exact Fin.ext h2.symm

/-- From blocks that hold the arrays' entries of a batch, of a pair of heads and of a tile of queries, the kernel's block
    holds the reference's entries. -/
theorem block_entry (hQ : ∀ i, ∃ r : ℝ, Q i = (r : EReal)) (hK : ∀ i, ∃ r : ℝ, K i = (r : EReal)) (hKC : ∀ i, ∃ r : ℝ, KC i = (r : EReal))
    {x : FVec Ideal S1x2x64x1024 .bf16} {k : FVec Ideal S1x16384x128 .bf16} {v : FVec Ideal S1x1x32x64x512 .bf16}
    {kc : FVec Ideal S1x256x128 .bf16} {vc : FVec Ideal S1x1x1x64x256 .bf16} (b h : Fin 2) (i : Fin 16)
    (hx : ∀ (g : Fin 2) (d : Fin 64) (r : Fin 1024), x (ix4 0 g d r) = Q (ix4 b ⟨h * 2 + g, by omega⟩ d ⟨i * 1024 + r, by omega⟩))
    (hk : ∀ (j : Fin 16384) (e : Fin 128), k (ix3 0 j e) = K (ix3 b j e))
    (hv : ∀ (a : Fin 32) (e : Fin 64) (j : Fin 512), v (ix5 0 0 a e j) = W (ix5 b h a e j))
    (hkc : ∀ (j : Fin 256) (e : Fin 128), kc (ix3 0 j e) = KC (ix3 b j e))
    (hvc : ∀ (e : Fin 64) (j : Fin 256), vc (ix5 0 0 0 e j) = WC (ix5 b h 0 e j)) (r : Fin 1024) (o : Fin 128) :
    (stepOut (F := Ideal) h.val x k v kc vc (ix3 0 r o) : EReal) = rO (rE (rS Q K KC)) (Cert.ReferenceIdeal.Hand.rV W WC) (ix3 b ⟨i * 1024 + r, by omega⟩ ⟨h * 128 + o, by omega⟩) := by
  obtain ⟨X, hX⟩ := queries_real hQ b h
  obtain ⟨kR, hkR, hkR'⟩ := keys_real hK hKC b
  obtain ⟨w, hw, hw'⟩ := values_row W WC b h
  have ho : o = ⟨64 * (o.val / 64) + o.val % 64, by omega⟩ := Fin.ext (by show o.val = 64 * (o.val / 64) + o.val % 64; omega)
  have hg : o.val / 64 < 2 := by omega
  have he : o.val % 64 < 64 := by omega
  obtain ⟨M, hM⟩ := ref_entry (q := Q) (k := K) (kc := KC) (v := W) (vc := WC) (b := b) (h := h) (g := ⟨o.val / 64, hg⟩)
    (t := ⟨i * 1024 + r, by omega⟩) (x := fun d => X (o.val / 64) d (i * 1024 + r)) (kR := kR) (w := w)
    (fun d => hX ⟨o.val / 64, hg⟩ d ⟨i * 1024 + r, by omega⟩) hkR hkR' hw hw' ⟨o.val % 64, he⟩
  have hS := step_entry (x := x) (K := k) (V := v) (kc := kc) (vc := vc) (h := h.val) (xR := fun g d r => X g d (i * 1024 + r)) (kR := kR) (w := w)
    h.isLt (fun g d r => (hx g d r).trans (hX g d ⟨i * 1024 + r, by omega⟩)) (fun j e => (hkc j e).trans (hkR j e))
    (fun j e => (hk j e).trans (hkR' j e)) (fun j e => (hvc e j).trans (hw j e)) (fun c j e => (hv c e j).trans (hw' c j e))
    M r ⟨o.val / 64, hg⟩ ⟨o.val % 64, he⟩
  rw [show (ix3 0 r o : S1x1024x128.Idx) = ix3 0 r ⟨64 * (o.val / 64) + o.val % 64, by omega⟩ from congrArg (fun z => ix3 0 r z) ho]
  refine hS.trans (hM.symm.trans ?_)
  refine congrArg (fun z => rO (rE (rS Q K KC)) (Cert.ReferenceIdeal.Hand.rV W WC) (ix3 b ⟨i * 1024 + r, by omega⟩ z)) (Fin.ext ?_)
  show 128 * h.val + 64 * (o.val / 64) + o.val % 64 = h.val * 128 + o.val
  omega

end

end Cert.KernelIdeal.Hand

end
-- ==== Proof.Value.Blocks.lean ====
/- The blocks the kernel reads at a point, and the array its blocks make. -/
module

public import proofs.«01_k».proof.Proof.KernelIdeal.Body
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Pipeline

/-- Where each window's block lies at a point. -/
theorem idx : ∀ t : Fin cfg0.N,
    win0_0.index t = ![t.val / 32, t.val / 16 % 2, 0, t.val % 16] ∧ win0_1.index t = ![t.val / 32, 0, 0] ∧
    win0_2.index t = ![t.val / 32, t.val / 16 % 2, 0, 0, 0] ∧ win0_3.index t = ![t.val / 32, 0, 0] ∧
    win0_4.index t = ![t.val / 32, t.val / 16 % 2, 0, 0, 0] ∧ win0_5.index t = ![t.val / 32, t.val % 16, t.val / 16 % 2] :=
  (by decide +kernel : ∀ t : Fin grid0.N,
    win0_0.index t = ![t.val / 32, t.val / 16 % 2, 0, t.val % 16] ∧ win0_1.index t = ![t.val / 32, 0, 0] ∧
    win0_2.index t = ![t.val / 32, t.val / 16 % 2, 0, 0, 0] ∧ win0_3.index t = ![t.val / 32, 0, 0] ∧
    win0_4.index t = ![t.val / 32, t.val / 16 % 2, 0, 0, 0] ∧ win0_5.index t = ![t.val / 32, t.val % 16, t.val / 16 % 2])

/-- A point's head. -/
theorem head_of : ∀ t : Fin cfg0.N, (grid0.coords t 1).val = t.val / 16 % 2 :=
  (by decide +kernel : ∀ t : Fin grid0.N, (grid0.coords t 1).val = t.val / 16 % 2)

variable (m : (ℓ : Loc nD τ sig) → Buf (Elt Ideal) ℓ) (c : Dev nD)

theorem point_lt (t : Fin cfg0.N) : t.val < 64 := t.isLt

/-- The block of queries at a point. -/
theorem q_at (t : Fin cfg0.N) (g : Fin 2) (d : Fin 64) (r : Fin 1024) :
    (show FVec Ideal S1x2x64x1024 .bf16 from iblk m c 0 t) (ix4 0 g d r) =
      (m ((c : Thread nD τ).loc main_arg0)) (ix4 ⟨t.val / 32, by have := point_lt t; omega⟩ ⟨t.val / 16 % 2 * 2 + g, by omega⟩ d ⟨t.val % 16 * 1024 + r, by omega⟩) := by
  blk_ext [iblk, V, idx t]

/-- The block of keys at a point. -/
theorem k_at (t : Fin cfg0.N) (j : Fin 16384) (e : Fin 128) :
    (show FVec Ideal S1x16384x128 .bf16 from iblk m c 1 t) (ix3 0 j e) =
      (m ((c : Thread nD τ).loc main_arg1)) (ix3 ⟨t.val / 32, by have := point_lt t; omega⟩ j e) := by
  blk_ext [iblk, V, idx t]

/-- The block of values at a point. -/
theorem v_at (t : Fin cfg0.N) (a : Fin 32) (e : Fin 64) (j : Fin 512) :
    (show FVec Ideal S1x1x32x64x512 .bf16 from iblk m c 2 t) (ix5 0 0 a e j) =
      (m ((c : Thread nD τ).loc main_arg2)) (ix5 ⟨t.val / 32, by have := point_lt t; omega⟩ ⟨t.val / 16 % 2, by omega⟩ a e j) := by
  blk_ext [iblk, V, idx t]

/-- The block of the context's keys at a point. -/
theorem kc_at (t : Fin cfg0.N) (j : Fin 256) (e : Fin 128) :
    (show FVec Ideal S1x256x128 .bf16 from iblk m c 3 t) (ix3 0 j e) =
      (m ((c : Thread nD τ).loc main_arg3)) (ix3 ⟨t.val / 32, by have := point_lt t; omega⟩ j e) := by
  blk_ext [iblk, V, idx t]

/-- The block of the context's values at a point. -/
theorem vc_at (t : Fin cfg0.N) (e : Fin 64) (j : Fin 256) :
    (show FVec Ideal S1x1x1x64x256 .bf16 from iblk m c 4 t) (ix5 0 0 0 e j) =
      (m ((c : Thread nD τ).loc main_arg4)) (ix5 ⟨t.val / 32, by have := point_lt t; omega⟩ ⟨t.val / 16 % 2, by omega⟩ 0 e j) := by
  blk_ext [iblk, V, idx t]

/-- Two arrays that agree at every point's block are one, here the one the pipeline leaves. -/
theorem array_of (G : FVec Ideal S2x16384x256 .bf16)
    (h : ∀ (t : Fin cfg0.N) (r : Fin 1024) (o : Fin 128), (show FVec Ideal S1x1024x128 .bf16 from outAt m c t) (ix3 0 r o) =
      G (ix3 ⟨t.val / 32, by have := point_lt t; omega⟩ ⟨t.val % 16 * 1024 + r, by omega⟩ ⟨t.val / 16 % 2 * 128 + o, by omega⟩)) :
    (dats m 0 c).arrAt 5 cfg0.N = G := by
  refine (dats m 0 c).arrAt_eq_of_covers 5 G (by decide +kernel) fun t _ y => ?_
  blk_simp
  rw [after0_5]
  idx_vars y
  obtain rfl : y0 = 0 := Subsingleton.elim _ _
  refine (h t y1 y2).trans ?_
  blk_ext [idx t]

end Cert.KernelIdeal.Hand

end
-- ==== Proof.Value.Final.lean ====
/- The array the kernel leaves is the reference's. -/
module

public import proofs.«01_k».proof.Proof.Value.Entry
public import proofs.«01_k».proof.Proof.Value.Blocks

@[expose] public section

set_option maxRecDepth 16384

noncomputable section

namespace Cert.KernelIdeal.Hand

open Cert.KernelIdeal Cert.KernelIdeal.Gen
open Idealize.ShloMosaic Idealize.ShloMosaic.TcCoe
open Cert.ReferenceIdeal.Hand (rO rE rS)

variable (m : (ℓ : Loc nD τ sig) → Buf (Elt Ideal) ℓ) (c : Dev nD)

/-- Of real queries and keys, the array the pipeline leaves is the reference's. -/
theorem final (hQ : ∀ i, ∃ r : ℝ, (m ((c : Thread nD τ).loc main_arg0) : FVec Ideal S2x4x64x16384 .bf16) i = (r : EReal))
    (hK : ∀ i, ∃ r : ℝ, (m ((c : Thread nD τ).loc main_arg1) : FVec Ideal S2x16384x128 .bf16) i = (r : EReal))
    (hKC : ∀ i, ∃ r : ℝ, (m ((c : Thread nD τ).loc main_arg3) : FVec Ideal S2x256x128 .bf16) i = (r : EReal)) :
    (dats m 0 c).arrAt 5 cfg0.N = rO (rE (rS (m ((c : Thread nD τ).loc main_arg0)) (m ((c : Thread nD τ).loc main_arg1)) (m ((c : Thread nD τ).loc main_arg3))))
      (Cert.ReferenceIdeal.Hand.rV (m ((c : Thread nD τ).loc main_arg2)) (m ((c : Thread nD τ).loc main_arg4))) := by
  refine array_of m c _ fun t r o => ?_
  have ht := point_lt t
  unfold outAt
  rw [head_of]
  exact block_entry hQ hK hKC ⟨t.val / 32, by omega⟩ ⟨t.val / 16 % 2, by omega⟩ ⟨t.val % 16, by omega⟩
    (q_at m c t) (k_at m c t) (v_at m c t) (kc_at m c t) (vc_at m c t) r o

end Cert.KernelIdeal.Hand

end
-- ==== Proof.Value.Pre.lean ====
/- What the precondition says of the arguments: that their entries are real numbers. -/
module

public import proofs.«01_k».proof.Pre_finite
public import Idealize.ShloMosaic.Lib.ReduceAll
public import Idealize.ShloMosaic.Lib.Pointwise

@[expose] public section

set_option maxRecDepth 16384

noncomputable section

namespace Cert.Pre_finite.Hand

open Cert.Pre_finite Idealize.ShloMosaic

/-- The shape relations of the precondition hold. -/
theorem facts : Cert.Pre_finite.Facts where
  bcast_S_S2x4x64x16384 := by decide
  reducesTo_S2x4x64x16384_S_d0_1_2_3 := by decide
  h_S_ := by decide
  bcast_S_S2x16384x128 := by decide
  reducesTo_S2x16384x128_S_d0_1_2 := by decide
  bcast_S_S2x256x128 := by decide
  reducesTo_S2x256x128_S_d0_1_2 := by decide

attribute [local instance] facts

open Facts

/-- A scalar has one index. -/
theorem one_index : Subsingleton S_.Idx := ⟨fun a b => funext fun i => i.elim0⟩

/-- The word that stands for infinity is the greatest number. -/
theorem top_bf16 : Ideal.ofBits .bf16 0x7F80#16 = (⊤ : EReal) := by simp [Ideal.ofBits, Ideal.ieee]

/-- A number whose absolute value is less than infinity is real. -/
theorem real_of_lt {x : EReal} (h : Ideal.cmp .olt (max x (-x)) (Ideal.ofBits .bf16 0x7F80#16) = 1#1) : ∃ r : ℝ, x = (r : EReal) := by
  rw [top_bf16] at h
  have hlt : max x (-x) < ⊤ := by
    by_contra hn
    simp [Ideal.cmp, hn] at h
  induction x with
  | bot => simp at hlt
  | top => simp at hlt
  | coe r => exact ⟨r, rfl⟩

/-- One array of the precondition: if the check of all its entries gives 1, they are real. -/
theorem real_of_all {s : Shape} (x : FVec Ideal s .bf16) (hb : S_.BroadcastsInDim s (![] : Fin 0 → Fin s.rank)) {axes : List (Fin s.rank)}
    (hr : s.ReducesTo axes S_) (hu : 0 < S_.numel) (j : S_.Idx)
    (h : Host.reduce IntOp.andi (cmpf .olt (Host.absf x) (broadcastInDim s ![] hb (constant (F := Ideal) S_ .bf16 0x7F80#16)))
      (constantI S_ 1 1#1) hr hu j = 1#1) (i : s.Idx) : ∃ r : ℝ, x i = (r : EReal) :=
  haveI := one_index
  real_of_lt (Host.reduce_andi_all _ _ hr hu j h i)

/-- Where the precondition holds, the queries and both arrays of keys are real. -/
theorem finite (q : FVec Ideal S2x4x64x16384 .bf16) (k : FVec Ideal S2x16384x128 .bf16) (v : FVec Ideal S2x2x32x64x512 .bf16)
    (kc : FVec Ideal S2x256x128 .bf16) (vc : FVec Ideal S2x2x1x64x256 .bf16) (h : fn (F := Ideal) q k v kc vc = fun _ => 1#1) :
    (∀ i, ∃ r : ℝ, q i = (r : EReal)) ∧ (∀ i, ∃ r : ℝ, k i = (r : EReal)) ∧ (∀ i, ∃ r : ℝ, kc i = (r : EReal)) := by
  have h0 := congrFun h (fun a => a.elim0)
  obtain ⟨h1, h2⟩ := IntOp.andi_eq_one.1 (show IntOp.andi _ _ = 1#1 from h0)
  obtain ⟨h3, h4⟩ := IntOp.andi_eq_one.1 (show IntOp.andi _ _ = 1#1 from h1)
  exact ⟨fun i => real_of_all q bcast_S_S2x4x64x16384 reducesTo_S2x4x64x16384_S_d0_1_2_3 h_S_ _ h3 i,
    fun i => real_of_all k bcast_S_S2x16384x128 reducesTo_S2x16384x128_S_d0_1_2 h_S_ _ h4 i,
    fun i => real_of_all kc bcast_S_S2x256x128 reducesTo_S2x256x128_S_d0_1_2 h_S_ _ h2 i⟩

end Cert.Pre_finite.Hand

end
-- ==== Proof.Value.MlpRow.lean ====
/- The output projection and the MLP on one row, as functions of the row. -/
module

public import Idealize.ShloMosaic.Lib.Pointwise

@[expose] public section

set_option maxRecDepth 16384

noncomputable section

namespace Cert.Mlp

open Idealize.ShloMosaic

/-- A row's norm at a column: the row over its root mean square, times the gain. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The Gaussian unit, as the reference writes it. -/
def gelu (p : EReal) : EReal :=
  p * (Ideal.ofBits .f32 0x3F000000#32 * (Ideal.ofBits .f32 0x3F800000#32 + Ideal.tanh (Ideal.ofBits .f32 0x3F4C422A#32 * (p + Ideal.ofBits .f32 0x3D372713#32 * (p * p * p)))))

/-- The four parts of a row side by side. -/
def cat (a b c d : Fin 256 → EReal) (k : Fin 1024) : EReal :=
  if h : k.val < 256 then a ⟨k, h⟩ else if h : k.val - 256 < 256 then b ⟨k - 256, h⟩ else
    if h : k.val - 256 - 256 < 256 then c ⟨k - 256 - 256, h⟩ else d ⟨k - 256 - 256 - 256, by omega⟩

/-- A row times a matrix. -/
def dot {n o : ℕ} (x : Fin n → EReal) (w : Fin n → Fin o → EReal) (k : Fin o) : EReal := ∑ j, x j * w j k

/-- The squared rectified unit. -/
def relu2 (a : EReal) : EReal := max a (Ideal.ofBits .f32 0x00000000#32) * max a (Ideal.ofBits .f32 0x00000000#32)

/-- A row's modulated norm. -/
def modulated (x g scale shift : Fin 1024 → EReal) (k : Fin 1024) : EReal :=
  rms x g k * (Ideal.ofBits .f32 0x3F800000#32 + scale k) + shift k

/-- A row plus a gate times the norm of another. -/
def addNorm (x gate y g : Fin 1024 → EReal) (k : Fin 1024) : EReal := x k + gate k * rms y g k

/-- A row after the squared-unit MLP. -/
def mlp (h : Fin 1024 → EReal) (w1 : Fin 1024 → Fin 4096 → EReal) (w2 : Fin 4096 → Fin 1024 → EReal) : Fin 1024 → EReal :=
  dot (fun i => relu2 (dot h w1 i)) w2

/-- The whole chain on a row, from its four parts side by side. -/
def rowChain (x y ga1 g1 g2 sc sh ga2 g3 : Fin 1024 → EReal) (wo : Fin 1024 → Fin 1024 → EReal) (w1 : Fin 1024 → Fin 4096 → EReal) (w2 : Fin 4096 → Fin 1024 → EReal) :
    Fin 1024 → EReal :=
  addNorm (addNorm x ga1 (dot y wo) g1) ga2 (mlp (modulated (addNorm x ga1 (dot y wo) g1) g2 sc sh) w1 w2) g3

end Cert.Mlp

end
-- ==== Proof.Value.MlpBody.lean ====
/- What one block of the output projection and MLP holds, row by row. -/
module

public import proofs.«01_k».proof.Proof.Gen.Kernel2Ideal.Frame
public import proofs.«01_k».proof.Proof.Value.MlpRow
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Cert.Mlp

/-- The modulations without their batch axis. -/
theorem mod_at (mo : FVec Ideal S1x6x1024 .f32) (a : Fin 6) (k : Fin 1024) : (k0_pay2 (F := Ideal) mo (ix2 a k) : EReal) = mo (ix3 0 a k) := by
  pointwise [k0_pay2]

/-- The four parts of a row side by side. -/
theorem cat_at (p hf hb ya : FVec Ideal S1x512x256 .f32) (yb : FVec Ideal S1x512x256 .bf16) (yd : FVec Ideal S1x512x256 .f32) (r : Fin 512) (k : Fin 1024) :
    (k0_pay3 (F := Ideal) p hf hb ya yb yd (ix2 r k) : EReal) = cat (fun j => ya (ix3 0 r j)) (fun j => yb (ix3 0 r j))
      (fun j => (hf (ix3 0 r j) + hb (ix3 0 r j)) * gelu (p (ix3 0 r j))) (fun j => yd (ix3 0 r j)) k := by
  unfold cat gelu
  pointwise [k0_pay3]
  simp only [mul_assoc, mul_left_comm (Ideal.ofBits .f32 1056964608#32)]

/-- The row after the output projection. -/
theorem x1_at (mo : FVec Ideal S6x1024 .f32) (y : FVec Ideal S512x1024 .bf16) (wo : FVec Ideal S1024x1024 .bf16) (x : FVec Ideal S1x512x1024 .f32) (g : FVec Ideal S1x1024 .f32)
    (r : Fin 512) (k : Fin 1024) :
    (k0_pay4 (F := Ideal) mo y wo x g (ix2 r k) : EReal) = addNorm (fun j => x (ix3 0 r j)) (fun j => mo (ix2 2 j))
      (dot (fun j => y (ix2 r j)) fun i j => wo (ix2 i j)) (fun j => g (ix2 0 j)) k := by
  unfold addNorm rms dot
  pointwise [k0_pay4]

/-- The row's modulated norm. -/
theorem h_at (mo : FVec Ideal S6x1024 .f32) (y : FVec Ideal S512x1024 .bf16) (wo : FVec Ideal S1024x1024 .bf16) (x : FVec Ideal S1x512x1024 .f32) (g g2 : FVec Ideal S1x1024 .f32)
    (r : Fin 512) (k : Fin 1024) :
    (k0_pay7 (F := Ideal) (k0_pay5 mo y wo x g g2) (k0_pay6 mo) (ix2 r k) : EReal) =
      modulated (fun j => k0_pay4 (F := Ideal) mo y wo x g (ix2 r j)) (fun j => g2 (ix2 0 j)) (fun j => mo (ix2 4 j)) (fun j => mo (ix2 3 j)) k := by
  unfold modulated rms
  pointwise [k0_pay7, k0_pay5, k0_pay6]

/-- The first three quarters of the MLP. -/
theorem acc_at (v : FVec Ideal S512x1024 .f32) (u : FVec Ideal S1x1024 .f32) (a0 b0 a1 b1 a2 b2 : FVec Ideal S1024x1024 .bf16) (r : Fin 512) (k : Fin 1024) :
    (k0_pay8 (F := Ideal) v u a0 b0 a1 b1 a2 b2 (ix2 r k) : EReal) = Ideal.ofBits .f32 0x00000000#32 +
      dot (fun i => relu2 (dot (fun j => k0_pay7 (F := Ideal) v u (ix2 r j)) (fun i j => a0 (ix2 i j)) i)) (fun i j => b0 (ix2 i j)) k +
      dot (fun i => relu2 (dot (fun j => k0_pay7 (F := Ideal) v u (ix2 r j)) (fun i j => a1 (ix2 i j)) i)) (fun i j => b1 (ix2 i j)) k +
      dot (fun i => relu2 (dot (fun j => k0_pay7 (F := Ideal) v u (ix2 r j)) (fun i j => a2 (ix2 i j)) i)) (fun i j => b2 (ix2 i j)) k := by
  unfold relu2 dot
  pointwise [k0_pay8]

/-- What is stored, from the row after the projection, its modulated norm and three quarters of the MLP. -/
theorem out_at (mo : FVec Ideal S6x1024 .f32) (x1 : FVec Ideal S512x1024 .f32) (h : FVec Ideal S512x1024 .bf16) (acc : FVec Ideal S512x1024 .f32)
    (a3 b3 : FVec Ideal S1024x1024 .bf16) (g : FVec Ideal S1x1024 .f32) (r : Fin 512) (k : Fin 1024) :
    (k0_pay1 (F := Ideal) mo x1 h acc a3 b3 g (ix3 0 r k) : EReal) = addNorm (fun j => x1 (ix2 r j)) (fun j => mo (ix2 5 j))
      (fun j => acc (ix2 r j) + dot (fun i => relu2 (dot (fun j => h (ix2 r j)) (fun i j => a3 (ix2 i j)) i)) (fun i j => b3 (ix2 i j)) j) (fun j => g (ix2 0 j)) k := by
  unfold addNorm rms relu2 dot
  pointwise [k0_pay1]

end Cert.Kernel2Ideal.Hand

end
-- ==== Proof.Value.MlpRef.lean ====
/- The reference of the output projection and MLP, row by row. -/
module

public import proofs.«01_k».proof.Proof.Gen.Reference2Ideal.Run
public import proofs.«01_k».proof.Proof.Value.MlpRow
public import Idealize.ShloMosaic.Lib.Pointwise

@[expose] public section

set_option maxRecDepth 16384

noncomputable section

namespace Cert.Reference2Ideal.Hand

open Cert.Reference2Ideal Cert.Reference2Ideal.Gen Cert.Reference2Ideal.Value
open Idealize.ShloMosaic Idealize.ShloMosaic.TcCoe Cert.Mlp

/-- The four parts side by side, the third gated by its unit. -/
def rCat (ya : FVec Ideal S2x16384x256 .f32) (yb : FVec Ideal S2x16384x256 .bf16) (hf : FVec Ideal S2x16384x256 .f32) (hb : FVec Ideal S2x16384x256 .f32) (q yd : FVec Ideal S2x16384x256 .f32) : FVec Ideal S2x16384x1024 .f32 :=
  concatenate S2x16384x1024 2 [⟨S2x16384x256, (ya)⟩, ⟨S2x16384x256, ((extf .f32 yb bitsLt_bf16_f32))⟩, ⟨S2x16384x256, ((mulf (addf hf hb) (mulf q (mulf (broadcastInDim S2x16384x256 ![] bcast_S_S2x16384x256 (constant S_ .f32 0x3F000000#32)) (addf (broadcastInDim S2x16384x256 ![] bcast_S_S2x16384x256 (constant S_ .f32 0x3F800000#32)) (Host.tanh (mulf (broadcastInDim S2x16384x256 ![] bcast_S_S2x16384x256 (constant S_ .f32 0x3F4C422A#32)) (addf q (mulf (broadcastInDim S2x16384x256 ![] bcast_S_S2x16384x256 (constant S_ .f32 0x3D372713#32)) (mulf (mulf q q) q))))))))))⟩, ⟨S2x16384x256, (yd)⟩] concatenates_S2x16384x256_S2x16384x256_S2x16384x256_S2x16384x256_S2x16384x1024_d2

/-- The output projection. -/
def rMix (y : FVec Ideal S2x16384x1024 .f32) (wo : FVec Ideal S1024x1024 .f32) : FVec Ideal S2x16384x1024 .f32 :=
  Host.dotGeneral dot_S2x16384x1024_S1024x1024_S2x16384x1024_2_0_01_1_n_n none y wo

/-- The rows after the projection. -/
def rX1 (x : FVec Ideal S2x16384x1024 .f32) (mo : FVec Ideal S2x6x1024 .f32) (mix : FVec Ideal S2x16384x1024 .f32) (g1 : FVec Ideal S1024 .f32) : FVec Ideal S2x16384x1024 .f32 :=
  addf x (mulf (broadcastInDim S2x16384x1024 ![0, 1, 2] bcast_S2x1x1024_S2x16384x1024_0_1_2 (extractStridedSlice S2x1x1024 ![0, 2, 0] mo slices_S2x6x1024_S2x1x1024_0_2_0)) (mulf (mulf mix (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf mix mix) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g1))))

/-- The MLP's rectified unit. -/
def rA (x1 : FVec Ideal S2x16384x1024 .f32) (mo : FVec Ideal S2x6x1024 .f32) (g2 : FVec Ideal S1024 .f32) (w1 : FVec Ideal S1024x4096 .f32) : FVec Ideal S2x16384x4096 .f32 :=
  maximumf (Host.dotGeneral dot_S2x16384x1024_S1024x4096_S2x16384x4096_2_0_01_1_n_n none (addf (mulf (mulf (mulf x1 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x1 x1) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g2))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 4, 0] mo slices_S2x6x1024_S2x1x1024_0_4_0)))) (broadcastInDim S2x16384x1024 ![0, 1, 2] bcast_S2x1x1024_S2x16384x1024_0_1_2 (extractStridedSlice S2x1x1024 ![0, 3, 0] mo slices_S2x6x1024_S2x1x1024_0_3_0))) w1) (broadcastInDim S2x16384x4096 ![] bcast_S_S2x16384x4096 (constant S_ .f32 0x00000000#32))

/-- The MLP's second product. -/
def rAcc (a : FVec Ideal S2x16384x4096 .f32) (w2 : FVec Ideal S4096x1024 .f32) : FVec Ideal S2x16384x1024 .f32 :=
  Host.dotGeneral dot_S2x16384x4096_S4096x1024_S2x16384x1024_2_0_01_1_n_n none (mulf a a) w2

/-- The result. -/
def rOut (x1 : FVec Ideal S2x16384x1024 .f32) (mo : FVec Ideal S2x6x1024 .f32) (acc : FVec Ideal S2x16384x1024 .f32) (g3 : FVec Ideal S1024 .f32) : FVec Ideal S2x16384x1024 .f32 :=
  addf x1 (mulf (broadcastInDim S2x16384x1024 ![0, 1, 2] bcast_S2x1x1024_S2x16384x1024_0_1_2 (extractStridedSlice S2x1x1024 ![0, 5, 0] mo slices_S2x6x1024_S2x1x1024_0_5_0)) (mulf (mulf acc (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf acc acc) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g3))))

/-- The gate's columns. -/
def rGate (p : FVec Ideal S2x16384x2048 .f32) : FVec Ideal S2x16384x256 .f32 :=
  extractStridedSlice S2x16384x256 ![0, 0, 1024] p slices_S2x16384x2048_S2x16384x256_0_0_1024

section At
variable (b : Fin 2) (t : Fin 16384)

/-- A gate's column. -/
theorem gate_at (p : FVec Ideal S2x16384x2048 .f32) (j : Fin 256) : (rGate p (ix3 b t j) : EReal) = p (ix3 b t ⟨1024 + j, by omega⟩) := by
  pointwise [rGate]

/-- The four parts of a row. -/
theorem cat_at (ya : FVec Ideal S2x16384x256 .f32) (yb : FVec Ideal S2x16384x256 .bf16) (hf : FVec Ideal S2x16384x256 .f32) (hb : FVec Ideal S2x16384x256 .f32) (q yd : FVec Ideal S2x16384x256 .f32) (k : Fin 1024) :
    (rCat ya yb hf hb q yd (ix3 b t k) : EReal) = cat (fun j => ya (ix3 b t j)) (fun j => yb (ix3 b t j))
      (fun j => (hf (ix3 b t j) + hb (ix3 b t j)) * gelu (q (ix3 b t j))) (fun j => yd (ix3 b t j)) k := by
  unfold cat gelu
  pointwise [rCat]

/-- A row's projection. -/
theorem mix_at (y : FVec Ideal S2x16384x1024 .f32) (wo : FVec Ideal S1024x1024 .f32) (k : Fin 1024) :
    (rMix y wo (ix3 b t k) : EReal) = dot (fun j => y (ix3 b t j)) (fun i j => wo (ix2 i j)) k := by
  unfold dot
  pointwise [rMix]

/-- A row after the projection. -/
theorem x1_at (x : FVec Ideal S2x16384x1024 .f32) (mo : FVec Ideal S2x6x1024 .f32) (mix : FVec Ideal S2x16384x1024 .f32) (g1 : FVec Ideal S1024 .f32) (k : Fin 1024) :
    (rX1 x mo mix g1 (ix3 b t k) : EReal) = addNorm (fun j => x (ix3 b t j)) (fun j => mo (ix3 b 2 j)) (fun j => mix (ix3 b t j)) (fun j => g1 (ix1 j)) k := by
  unfold addNorm rms
  pointwise [rX1]

/-- A row's rectified unit. -/
theorem a_at (x1 : FVec Ideal S2x16384x1024 .f32) (mo : FVec Ideal S2x6x1024 .f32) (g2 : FVec Ideal S1024 .f32) (w1 : FVec Ideal S1024x4096 .f32) (i : Fin 4096) :
    (rA x1 mo g2 w1 (ix3 b t i) : EReal) = max (dot (modulated (fun j => x1 (ix3 b t j)) (fun j => g2 (ix1 j)) (fun j => mo (ix3 b 4 j)) (fun j => mo (ix3 b 3 j)))
      (fun i j => w1 (ix2 i j)) i) (Ideal.ofBits .f32 0x00000000#32) := by
  unfold dot modulated rms
  pointwise [rA]

/-- A row's second product. -/
theorem acc_at (a : FVec Ideal S2x16384x4096 .f32) (w2 : FVec Ideal S4096x1024 .f32) (k : Fin 1024) :
    (rAcc a w2 (ix3 b t k) : EReal) = dot (fun i => a (ix3 b t i) * a (ix3 b t i)) (fun i j => w2 (ix2 i j)) k := by
  unfold dot
  pointwise [rAcc]

/-- A row of the result. -/
theorem out_at (x1 : FVec Ideal S2x16384x1024 .f32) (mo : FVec Ideal S2x6x1024 .f32) (acc : FVec Ideal S2x16384x1024 .f32) (g3 : FVec Ideal S1024 .f32) (k : Fin 1024) :
    (rOut x1 mo acc g3 (ix3 b t k) : EReal) = addNorm (fun j => x1 (ix3 b t j)) (fun j => mo (ix3 b 5 j)) (fun j => acc (ix3 b t j)) (fun j => g3 (ix1 j)) k := by
  unfold addNorm rms
  pointwise [rOut]

end At

/-- The reference's result as a function of its arguments. -/
def rAll (x : FVec Ideal S2x16384x1024 .f32) (ya : FVec Ideal S2x16384x256 .f32) (yb : FVec Ideal S2x16384x256 .bf16) (hf : FVec Ideal S2x16384x256 .f32) (hb : FVec Ideal S2x16384x256 .f32) (p : FVec Ideal S2x16384x2048 .f32) (yd : FVec Ideal S2x16384x256 .f32) (mo : FVec Ideal S2x6x1024 .f32) (wo : FVec Ideal S1024x1024 .f32) (g1 : FVec Ideal S1024 .f32) (g2 : FVec Ideal S1024 .f32) (g3 : FVec Ideal S1024 .f32) (w1 : FVec Ideal S1024x4096 .f32) (w2 : FVec Ideal S4096x1024 .f32) :
    FVec Ideal S2x16384x1024 .f32 :=
  rOut (rX1 x mo (rMix (rCat ya yb hf hb (rGate p) yd) wo) g1) mo (rAcc (rA (rX1 x mo (rMix (rCat ya yb hf hb (rGate p) yd) wo) g1) mo g2 w1) w2) g3

/-- The reference's result, read at a row and a column. -/
theorem all_at (x : FVec Ideal S2x16384x1024 .f32) (ya : FVec Ideal S2x16384x256 .f32) (yb : FVec Ideal S2x16384x256 .bf16) (hf : FVec Ideal S2x16384x256 .f32) (hb : FVec Ideal S2x16384x256 .f32) (p : FVec Ideal S2x16384x2048 .f32) (yd : FVec Ideal S2x16384x256 .f32) (mo : FVec Ideal S2x6x1024 .f32) (wo : FVec Ideal S1024x1024 .f32) (g1 : FVec Ideal S1024 .f32) (g2 : FVec Ideal S1024 .f32) (g3 : FVec Ideal S1024 .f32) (w1 : FVec Ideal S1024x4096 .f32) (w2 : FVec Ideal S4096x1024 .f32)
    (b : Fin 2) (t : Fin 16384) (k : Fin 1024) :
    (rAll x ya yb hf hb p yd mo wo g1 g2 g3 w1 w2 (ix3 b t k) : EReal) = rowChain (fun j => x (ix3 b t j))
      (cat (fun j => ya (ix3 b t j)) (fun j => yb (ix3 b t j)) (fun j => (hf (ix3 b t j) + hb (ix3 b t j)) * gelu (p (ix3 b t ⟨1024 + j, by omega⟩))) (fun j => yd (ix3 b t j)))
      (fun j => mo (ix3 b 2 j)) (fun j => g1 (ix1 j)) (fun j => g2 (ix1 j)) (fun j => mo (ix3 b 4 j)) (fun j => mo (ix3 b 3 j)) (fun j => mo (ix3 b 5 j)) (fun j => g3 (ix1 j))
      (fun i j => wo (ix2 i j)) (fun i j => w1 (ix2 i j)) (fun i j => w2 (ix2 i j)) k := by
  unfold rAll rowChain mlp relu2
  rw [out_at]
  simp only [acc_at, a_at, x1_at, mix_at, cat_at, gate_at]

/-- What the reference's run leaves is that function of the arguments. -/
theorem run_eq (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v77) = rAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  Value.run (F := Ideal) m ρ

end Cert.Reference2Ideal.Hand

end
-- ==== Proof.Value.MlpFinal.lean ====
/- The array the output projection and MLP leave is the reference's. -/
module

public import proofs.«01_k».proof.Proof.Value.MlpBody
public import proofs.«01_k».proof.Proof.Value.MlpRef
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Pipeline Cert.Mlp
open Cert.Reference2Ideal.Hand (rAll all_at)

/-- A sum over 4096 is the sum of its four quarters. -/
theorem quarters (f : Fin 4096 → EReal) :
    ∑ i, f i = (∑ i : Fin 1024, f ⟨i, by omega⟩) + (∑ i : Fin 1024, f ⟨1024 + i, by omega⟩) + (∑ i : Fin 1024, f ⟨2048 + i, by omega⟩) + ∑ i : Fin 1024, f ⟨3072 + i, by omega⟩ := by
  have h : ∀ (n : ℕ) (g : Fin (n + 1024) → EReal), ∑ i, g i = (∑ i : Fin n, g ⟨i, by omega⟩) + ∑ i : Fin 1024, g ⟨n + i, by omega⟩ := fun n g =>
    Fin.sum_univ_add g
  rw [h 3072 f, h 2048 fun i => f ⟨i, by omega⟩, h 1024 fun i => f ⟨i, by omega⟩]

/-- The MLP of a row is the sum of its four quarters, from nought. -/
theorem mlp_quarters (h : Fin 1024 → EReal) (w1 : Fin 1024 → Fin 4096 → EReal) (w2 : Fin 4096 → Fin 1024 → EReal) (k : Fin 1024) :
    Ideal.ofBits .f32 0x00000000#32 +
      dot (fun i => relu2 (dot h (fun a (i : Fin 1024) => w1 a ⟨i, by omega⟩) i)) (fun (i : Fin 1024) j => w2 ⟨i, by omega⟩ j) k +
      dot (fun i => relu2 (dot h (fun a (i : Fin 1024) => w1 a ⟨1024 + i, by omega⟩) i)) (fun (i : Fin 1024) j => w2 ⟨1024 + i, by omega⟩ j) k +
      dot (fun i => relu2 (dot h (fun a (i : Fin 1024) => w1 a ⟨2048 + i, by omega⟩) i)) (fun (i : Fin 1024) j => w2 ⟨2048 + i, by omega⟩ j) k +
      dot (fun i => relu2 (dot h (fun a (i : Fin 1024) => w1 a ⟨3072 + i, by omega⟩) i)) (fun (i : Fin 1024) j => w2 ⟨3072 + i, by omega⟩ j) k = mlp h w1 w2 k := by
  have z : Ideal.ofBits .f32 0x00000000#32 = (0 : EReal) := by simp [Ideal.ofBits, Ideal.ieee]
  unfold mlp
  rw [z, zero_add]
  exact (quarters fun i => relu2 (dot h w1 i) * w2 i k).symm

/-- Where each window's block lies at a point. -/
theorem idx : ∀ t : Fin cfg0.N,
    win0_0.index t = ![t.val / 32, t.val % 32, 0] ∧ win0_1.index t = ![t.val / 32, t.val % 32, 0] ∧ win0_2.index t = ![t.val / 32, t.val % 32, 0] ∧ win0_3.index t = ![t.val / 32, t.val % 32, 0] ∧ win0_4.index t = ![t.val / 32, t.val % 32, 0] ∧ win0_5.index t = ![t.val / 32, t.val % 32, 4] ∧ win0_6.index t = ![t.val / 32, t.val % 32, 0] ∧ win0_7.index t = ![t.val / 32, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val / 32, t.val % 32, 0] :=
  (by decide +kernel : ∀ t : Fin grid0.N,
    win0_0.index t = ![t.val / 32, t.val % 32, 0] ∧ win0_1.index t = ![t.val / 32, t.val % 32, 0] ∧ win0_2.index t = ![t.val / 32, t.val % 32, 0] ∧ win0_3.index t = ![t.val / 32, t.val % 32, 0] ∧ win0_4.index t = ![t.val / 32, t.val % 32, 0] ∧ win0_5.index t = ![t.val / 32, t.val % 32, 4] ∧ win0_6.index t = ![t.val / 32, t.val % 32, 0] ∧ win0_7.index t = ![t.val / 32, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val / 32, t.val % 32, 0])

variable (m : (ℓ : Loc nD τ sig) → Buf (Elt Ideal) ℓ) (c : Dev nD)

/-- There are 64 points. -/
theorem point_lt (t : Fin cfg0.N) : t.val < 64 := t.isLt

/-- The block of rows at a point. -/
theorem x_at (t : Fin cfg0.N) (r : Fin 512) (j : Fin 1024) :
    (show FVec Ideal S1x512x1024 .f32 from iblk m c 0 t) (ix3 0 r j) = (m ((c : Thread nD τ).loc main_arg0)) (ix3 ⟨t.val / 32, by have := point_lt t; omega⟩ ⟨t.val % 32 * 512 + r, by omega⟩ j) := by
  blk_ext [iblk, V, idx t]

/-- The block of first parts at a point. -/
theorem ya_at (t : Fin cfg0.N) (r : Fin 512) (j : Fin 256) :
    (show FVec Ideal S1x512x256 .f32 from iblk m c 1 t) (ix3 0 r j) = (m ((c : Thread nD τ).loc main_arg1)) (ix3 ⟨t.val / 32, by have := point_lt t; omega⟩ ⟨t.val % 32 * 512 + r, by omega⟩ j) := by
  blk_ext [iblk, V, idx t]

/-- The block of second parts at a point. -/
theorem yb_at (t : Fin cfg0.N) (r : Fin 512) (j : Fin 256) :
    (show FVec Ideal S1x512x256 .bf16 from iblk m c 2 t) (ix3 0 r j) = (m ((c : Thread nD τ).loc main_arg2)) (ix3 ⟨t.val / 32, by have := point_lt t; omega⟩ ⟨t.val % 32 * 512 + r, by omega⟩ j) := by
  blk_ext [iblk, V, idx t]

/-- The block of forward states at a point. -/
theorem hf_at (t : Fin cfg0.N) (r : Fin 512) (j : Fin 256) :
    (show FVec Ideal S1x512x256 .f32 from iblk m c 3 t) (ix3 0 r j) = (m ((c : Thread nD τ).loc main_arg3)) (ix3 ⟨t.val / 32, by have := point_lt t; omega⟩ ⟨t.val % 32 * 512 + r, by omega⟩ j) := by
  blk_ext [iblk, V, idx t]

/-- The block of backward states at a point. -/
theorem hb_at (t : Fin cfg0.N) (r : Fin 512) (j : Fin 256) :
    (show FVec Ideal S1x512x256 .f32 from iblk m c 4 t) (ix3 0 r j) = (m ((c : Thread nD τ).loc main_arg4)) (ix3 ⟨t.val / 32, by have := point_lt t; omega⟩ ⟨t.val % 32 * 512 + r, by omega⟩ j) := by
  blk_ext [iblk, V, idx t]

/-- The block of fourth parts at a point. -/
theorem yd_at (t : Fin cfg0.N) (r : Fin 512) (j : Fin 256) :
    (show FVec Ideal S1x512x256 .f32 from iblk m c 6 t) (ix3 0 r j) = (m ((c : Thread nD τ).loc main_arg6)) (ix3 ⟨t.val / 32, by have := point_lt t; omega⟩ ⟨t.val % 32 * 512 + r, by omega⟩ j) := by
  blk_ext [iblk, V, idx t]

/-- The block of gates at a point. -/
theorem p_at (t : Fin cfg0.N) (r : Fin 512) (j : Fin 256) :
    (show FVec Ideal S1x512x256 .f32 from iblk m c 5 t) (ix3 0 r j) = (m ((c : Thread nD τ).loc main_arg5)) (ix3 ⟨t.val / 32, by have := point_lt t; omega⟩ ⟨t.val % 32 * 512 + r, by omega⟩ ⟨1024 + j, by omega⟩) := by
  blk_ext [iblk, V, idx t]

/-- The block of modulations at a point. -/
theorem mo_at (t : Fin cfg0.N) (a : Fin 6) (k : Fin 1024) :
    (show FVec Ideal S1x6x1024 .f32 from iblk m c 7 t) (ix3 0 a k) = (m ((c : Thread nD τ).loc main_arg7)) (ix3 ⟨t.val / 32, by have := point_lt t; omega⟩ a k) := by
  blk_ext [iblk, V, idx t]

/-- The projection's weights at a point. -/
theorem wo_at (t : Fin cfg0.N) (i : Fin 1024) (j : Fin 1024) :
    (show FVec Ideal S1024x1024 .bf16 from iblk m c 8 t) (ix2 i j) = (m ((c : Thread nD τ).loc main_arg8)) (ix2 i j) := by
  blk_simp [iblk, idx t]
  entry_read
  pointwise
  blk_point [idx t]

/-- The MLP's first weights at a point. -/
theorem w1_at (t : Fin cfg0.N) (i : Fin 1024) (j : Fin 4096) :
    (show FVec Ideal S1024x4096 .bf16 from iblk m c 12 t) (ix2 i j) = (m ((c : Thread nD τ).loc main_arg12)) (ix2 i j) := by
  blk_simp [iblk, idx t]
  entry_read
  pointwise
  blk_point [idx t]

/-- The MLP's second weights at a point. -/
theorem w2_at (t : Fin cfg0.N) (i : Fin 4096) (j : Fin 1024) :
    (show FVec Ideal S4096x1024 .bf16 from iblk m c 13 t) (ix2 i j) = (m ((c : Thread nD τ).loc main_arg13)) (ix2 i j) := by
  blk_simp [iblk, idx t]
  entry_read
  pointwise
  blk_point [idx t]

/-- The first gain at a point. -/
theorem g1_at (t : Fin cfg0.N) (k : Fin 1024) :
    (show FVec Ideal S1x1024 .f32 from iblk m c 9 t) (ix2 0 k) = (m ((c : Thread nD τ).loc main_arg9)) (ix1 k) := by
  blk_simp [iblk, idx t]
  entry_read
  pointwise
  blk_point [idx t]

/-- The second gain at a point. -/
theorem g2_at (t : Fin cfg0.N) (k : Fin 1024) :
    (show FVec Ideal S1x1024 .f32 from iblk m c 10 t) (ix2 0 k) = (m ((c : Thread nD τ).loc main_arg10)) (ix1 k) := by
  blk_simp [iblk, idx t]
  entry_read
  pointwise
  blk_point [idx t]

/-- The third gain at a point. -/
theorem g3_at (t : Fin cfg0.N) (k : Fin 1024) :
    (show FVec Ideal S1x1024 .f32 from iblk m c 11 t) (ix2 0 k) = (m ((c : Thread nD τ).loc main_arg11)) (ix1 k) := by
  blk_simp [iblk, idx t]
  entry_read
  pointwise
  blk_point [idx t]

section Block
variable {x : FVec Ideal S1x512x1024 .f32} {ya hf hb p yd : FVec Ideal S1x512x256 .f32} {yb : FVec Ideal S1x512x256 .bf16} {mo : FVec Ideal S1x6x1024 .f32}
  {wo : FVec Ideal S1024x1024 .bf16} {g1 g2 g3 : FVec Ideal S1x1024 .f32} {w1 : FVec Ideal S1024x4096 .bf16} {w2 : FVec Ideal S4096x1024 .bf16}

/-- The first quarter of the first weights' columns. -/
theorem ld_w1_0 (i j : Fin 1024) : View.ld (Val := Elt Ideal) (e' := .bf16) w1 r0_5 (ix2 i j) = w1 (ix2 i ⟨j, by omega⟩) := by
  pointwise

/-- The first quarter of the second weights' rows. -/
theorem ld_w2_0 (i j : Fin 1024) : View.ld (Val := Elt Ideal) (e' := .bf16) w2 r0_6 (ix2 i j) = w2 (ix2 ⟨i, by omega⟩ j) := by
  pointwise

/-- The second quarter of the first weights' columns. -/
theorem ld_w1_1 (i j : Fin 1024) : View.ld (Val := Elt Ideal) (e' := .bf16) w1 r0_7 (ix2 i j) = w1 (ix2 i ⟨1024 + j, by omega⟩) := by
  pointwise

/-- The second quarter of the second weights' rows. -/
theorem ld_w2_1 (i j : Fin 1024) : View.ld (Val := Elt Ideal) (e' := .bf16) w2 r0_8 (ix2 i j) = w2 (ix2 ⟨1024 + i, by omega⟩ j) := by
  pointwise

/-- The third quarter of the first weights' columns. -/
theorem ld_w1_2 (i j : Fin 1024) : View.ld (Val := Elt Ideal) (e' := .bf16) w1 r0_9 (ix2 i j) = w1 (ix2 i ⟨2048 + j, by omega⟩) := by
  pointwise

/-- The third quarter of the second weights' rows. -/
theorem ld_w2_2 (i j : Fin 1024) : View.ld (Val := Elt Ideal) (e' := .bf16) w2 r0_10 (ix2 i j) = w2 (ix2 ⟨2048 + i, by omega⟩ j) := by
  pointwise

/-- The fourth quarter of the first weights' columns. -/
theorem ld_w1_3 (i j : Fin 1024) : View.ld (Val := Elt Ideal) (e' := .bf16) w1 r0_11 (ix2 i j) = w1 (ix2 i ⟨3072 + j, by omega⟩) := by
  pointwise

/-- The fourth quarter of the second weights' rows. -/
theorem ld_w2_3 (i j : Fin 1024) : View.ld (Val := Elt Ideal) (e' := .bf16) w2 r0_12 (ix2 i j) = w2 (ix2 ⟨3072 + i, by omega⟩ j) := by
  pointwise

/-- What is stored, with the weights' quarters given, is the row's chain. -/
theorem body_at {a0 b0 a1 b1 a2 b2 a3 b3 : FVec Ideal S1024x1024 .bf16}
    (ha0 : ∀ i j : Fin 1024, a0 (ix2 i j) = w1 (ix2 i ⟨j, by omega⟩)) (hb0 : ∀ i j : Fin 1024, b0 (ix2 i j) = w2 (ix2 ⟨i, by omega⟩ j))
    (ha1 : ∀ i j : Fin 1024, a1 (ix2 i j) = w1 (ix2 i ⟨1024 + j, by omega⟩)) (hb1 : ∀ i j : Fin 1024, b1 (ix2 i j) = w2 (ix2 ⟨1024 + i, by omega⟩ j))
    (ha2 : ∀ i j : Fin 1024, a2 (ix2 i j) = w1 (ix2 i ⟨2048 + j, by omega⟩)) (hb2 : ∀ i j : Fin 1024, b2 (ix2 i j) = w2 (ix2 ⟨2048 + i, by omega⟩ j))
    (ha3 : ∀ i j : Fin 1024, a3 (ix2 i j) = w1 (ix2 i ⟨3072 + j, by omega⟩)) (hb3 : ∀ i j : Fin 1024, b3 (ix2 i j) = w2 (ix2 ⟨3072 + i, by omega⟩ j)) (r : Fin 512) (k : Fin 1024) :
    (k0_pay1 (F := Ideal) (k0_pay2 mo) (k0_pay4 (k0_pay2 mo) (k0_pay3 p hf hb ya yb yd) wo x g1) (k0_pay7 (k0_pay5 (k0_pay2 mo) (k0_pay3 p hf hb ya yb yd) wo x g1 g2) (k0_pay6 (k0_pay2 mo))) (k0_pay8 (k0_pay5 (k0_pay2 mo) (k0_pay3 p hf hb ya yb yd) wo x g1 g2) (k0_pay6 (k0_pay2 mo)) a0 b0 a1 b1 a2 b2) a3 b3 g3 (ix3 0 r k) : EReal) = rowChain (fun j => x (ix3 0 r j))
      (cat (fun j => ya (ix3 0 r j)) (fun j => yb (ix3 0 r j)) (fun j => (hf (ix3 0 r j) + hb (ix3 0 r j)) * gelu (p (ix3 0 r j))) (fun j => yd (ix3 0 r j)))
      (fun j => mo (ix3 0 2 j)) (fun j => g1 (ix2 0 j)) (fun j => g2 (ix2 0 j)) (fun j => mo (ix3 0 4 j)) (fun j => mo (ix3 0 3 j)) (fun j => mo (ix3 0 5 j)) (fun j => g3 (ix2 0 j))
      (fun i j => wo (ix2 i j)) (fun i j => w1 (ix2 i j)) (fun i j => w2 (ix2 i j)) k := by
  refine (out_at _ _ _ _ _ _ _ r k).trans ?_
  simp only [acc_at, h_at, x1_at, cat_at, mod_at, ha0, hb0, ha1, hb1, ha2, hb2, ha3, hb3]
  unfold rowChain
  exact congrArg (fun z => addNorm _ _ z _ k) (funext fun j => mlp_quarters _ (fun i j => w1 (ix2 i j)) (fun i j => w2 (ix2 i j)) j)

/-- A block's entry is its row's chain at the column. -/
theorem block_at (r : Fin 512) (k : Fin 1024) :
    (out0_14 (F := Ideal) x ya yb hf hb p yd mo wo g1 g2 g3 w1 w2 (ix3 0 r k) : EReal) = rowChain (fun j => x (ix3 0 r j))
      (cat (fun j => ya (ix3 0 r j)) (fun j => yb (ix3 0 r j)) (fun j => (hf (ix3 0 r j) + hb (ix3 0 r j)) * gelu (p (ix3 0 r j))) (fun j => yd (ix3 0 r j)))
      (fun j => mo (ix3 0 2 j)) (fun j => g1 (ix2 0 j)) (fun j => g2 (ix2 0 j)) (fun j => mo (ix3 0 4 j)) (fun j => mo (ix3 0 3 j)) (fun j => mo (ix3 0 5 j)) (fun j => g3 (ix2 0 j))
      (fun i j => wo (ix2 i j)) (fun i j => w1 (ix2 i j)) (fun i j => w2 (ix2 i j)) k := by
  unfold_out out0_14
  frame_out
  exact body_at ld_w1_0 ld_w2_0 ld_w1_1 ld_w2_1 ld_w1_2 ld_w2_2 ld_w1_3 ld_w2_3 r k

end Block

/-- The array the pipeline leaves is the reference's. -/
theorem final : (dats m 0 c).arrAt 14 cfg0.N = rAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t _ y => ?_
  blk_simp
  rw [after0_14]
  idx_vars y
  obtain rfl : y0 = 0 := Subsingleton.elim _ _
  have ht := point_lt t
  refine (block_at y1 y2).trans ?_
  refine Eq.trans ?_ ((all_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) ⟨t.val / 32, by omega⟩ ⟨t.val % 32 * 512 + y1, by omega⟩ y2).symm.trans ?_)
  · simp only [← x_at m c t, ← ya_at m c t, ← yb_at m c t, ← hf_at m c t, ← hb_at m c t, ← yd_at m c t, ← p_at m c t, ← mo_at m c t, ← wo_at m c t, ← w1_at m c t, ← w2_at m c t, ← g1_at m c t, ← g2_at m c t, ← g3_at m c t]
  · refine congrArg (rAll _ _ _ _ _ _ _ _ _ _ _ _ _ _) ?_
    blk_ext [idx t]

end Cert.Kernel2Ideal.Hand

end
-- ==== Proof.Value.InProj.lean ====
/- The input projection: the array its pipeline leaves is the reference's. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Pipeline

/-- A row's modulated norm at a column: the row over its root mean square, times the gain, times one plus the scale, plus the shift. -/
def entry (x g scale shift : Fin 1024 → EReal) (k : Fin 1024) : EReal :=
  x k * Ideal.rsqrt (Ideal.div (∑ j, x j * x j) (Ideal.ofBits .f32 0x44800000#32) + Ideal.ofBits .f32 0x358637BD#32) * g k *
    (Ideal.ofBits .f32 0x3F800000#32 + scale k) + shift k

/-- What the kernel stores, at a row and a column. -/
theorem payload_at (mo : FVec Ideal S1x6x1024 .f32) (x : FVec Ideal S1x1024x1024 .f32) (g : FVec Ideal S1x1024 .f32) (w : FVec Ideal S1024x2048 .bf16)
    (r : Fin 1024) (o : Fin 2048) :
    (k0_pay1 (F := Ideal) mo x g w (ix3 0 r o) : EReal) = ∑ k : Fin 1024, entry (fun j => x (ix3 0 r j)) (fun j => g (ix2 0 j)) (fun j => mo (ix3 0 1 j)) (fun j => mo (ix3 0 0 j)) k * w (ix2 k o) := by
  unfold entry
  pointwise [k0_pay1]

/-- The reference's result, as its run leaves it. -/
abbrev REF (x : FVec Ideal S2x16384x1024 .f32) (mo : FVec Ideal S2x6x1024 .f32) (g : FVec Ideal S1024 .f32) (w : FVec Ideal S1024x2048 .f32) :
    FVec Ideal S2x16384x2048 .f32 :=
  Host.dotGeneral Cert.Reference3Ideal.dot_S2x16384x1024_S1024x2048_S2x16384x2048_2_0_01_1_n_n none (addf (mulf (mulf (mulf x (broadcastInDim Cert.Reference3Ideal.S2x16384x1024 ![0, 1, 2] Cert.Reference3Ideal.Gen.bcast_S2x16384x1_S2x16384x1024_0_1_2 (Host.rsqrt (addf (Host.divf (broadcastInDim Cert.Reference3Ideal.S2x16384x1 ![0, 1] Cert.Reference3Ideal.Gen.bcast_S2x16384_S2x16384x1_0_1 (Host.reduceAdd (mulf x x) (constant Cert.Reference3Ideal.S_ .f32 0x00000000#32) Cert.Reference3Ideal.Gen.reducesTo_S2x16384x1024_S2x16384_d2 Cert.Reference3Ideal.Gen.h_S_)) (broadcastInDim Cert.Reference3Ideal.S2x16384x1 ![] Cert.Reference3Ideal.Gen.bcast_S_S2x16384x1 (constant Cert.Reference3Ideal.S_ .f32 0x44800000#32))) (broadcastInDim Cert.Reference3Ideal.S2x16384x1 ![] Cert.Reference3Ideal.Gen.bcast_S_S2x16384x1 (constant Cert.Reference3Ideal.S_ .f32 0x358637BD#32)))))) (broadcastInDim Cert.Reference3Ideal.S2x16384x1024 ![0, 1, 2] Cert.Reference3Ideal.Gen.bcast_S1x1x1024_S2x16384x1024_0_1_2 (broadcastInDim Cert.Reference3Ideal.S1x1x1024 ![2] Cert.Reference3Ideal.Gen.bcast_S1024_S1x1x1024_2 g))) (broadcastInDim Cert.Reference3Ideal.S2x16384x1024 ![0, 1, 2] Cert.Reference3Ideal.Gen.bcast_S2x1x1024_S2x16384x1024_0_1_2 (addf (broadcastInDim Cert.Reference3Ideal.S2x1x1024 ![] Cert.Reference3Ideal.Gen.bcast_S_S2x1x1024 (constant Cert.Reference3Ideal.S_ .f32 0x3F800000#32)) (extractStridedSlice Cert.Reference3Ideal.S2x1x1024 ![0, 1, 0] mo Cert.Reference3Ideal.Gen.slices_S2x6x1024_S2x1x1024_0_1_0)))) (broadcastInDim Cert.Reference3Ideal.S2x16384x1024 ![0, 1, 2] Cert.Reference3Ideal.Gen.bcast_S2x1x1024_S2x16384x1024_0_1_2 (extractStridedSlice Cert.Reference3Ideal.S2x1x1024 ![0, 0, 0] mo Cert.Reference3Ideal.Gen.slices_S2x6x1024_S2x1x1024_0_0_0))) w

/-- What the reference computes, at a batch, a row and a column. -/
theorem reference_at (x : FVec Ideal S2x16384x1024 .f32) (mo : FVec Ideal S2x6x1024 .f32) (g : FVec Ideal S1024 .f32) (w : FVec Ideal S1024x2048 .f32)
    (b : Fin 2) (t : Fin 16384) (o : Fin 2048) :
    (REF x mo g w (ix3 b t o) : EReal) = ∑ k : Fin 1024, entry (fun j => x (ix3 b t j)) (fun j => g (ix1 j)) (fun j => mo (ix3 b 1 j)) (fun j => mo (ix3 b 0 j)) k * w (ix2 k o) := by
  unfold entry
  pointwise [REF]

/-- Where each window's block lies at a point. -/
theorem idx : ∀ t : Fin cfg0.N,
    win0_0.index t = ![t.val / 16, t.val % 16, 0] ∧ win0_1.index t = ![t.val / 16, 0, 0] ∧ win0_2.index t = ![0, 0] ∧
    win0_3.index t = ![0, 0] ∧ win0_4.index t = ![t.val / 16, t.val % 16, 0] :=
  (by decide +kernel : ∀ t : Fin grid0.N,
    win0_0.index t = ![t.val / 16, t.val % 16, 0] ∧ win0_1.index t = ![t.val / 16, 0, 0] ∧ win0_2.index t = ![0, 0] ∧
    win0_3.index t = ![0, 0] ∧ win0_4.index t = ![t.val / 16, t.val % 16, 0])

variable (m : (ℓ : Loc nD τ sig) → Buf (Elt Ideal) ℓ) (c : Dev nD)

/-- There are 32 points. -/
theorem point_lt (t : Fin cfg0.N) : t.val < 32 := t.isLt

/-- The block of rows at a point. -/
theorem x_at (t : Fin cfg0.N) (r k : Fin 1024) :
    (show FVec Ideal S1x1024x1024 .f32 from iblk m c 0 t) (ix3 0 r k) =
      (m ((c : Thread nD τ).loc main_arg0)) (ix3 ⟨t.val / 16, by have := point_lt t; omega⟩ ⟨t.val % 16 * 1024 + r, by omega⟩ k) := by
  blk_ext [iblk, V, idx t]

/-- The block of modulations at a point. -/
theorem mo_at (t : Fin cfg0.N) (a : Fin 6) (k : Fin 1024) :
    (show FVec Ideal S1x6x1024 .f32 from iblk m c 1 t) (ix3 0 a k) =
      (m ((c : Thread nD τ).loc main_arg1)) (ix3 ⟨t.val / 16, by have := point_lt t; omega⟩ a k) := by
  blk_ext [iblk, V, idx t]

/-- The gain at a point. -/
theorem g_at (t : Fin cfg0.N) (k : Fin 1024) :
    (show FVec Ideal S1x1024 .f32 from iblk m c 2 t) (ix2 0 k) = (m ((c : Thread nD τ).loc main_arg2)) (ix1 k) := by
  blk_simp [iblk, idx t]
  entry_read
  pointwise
  blk_point [idx t]

/-- The weights at a point. -/
theorem w_at (t : Fin cfg0.N) (k : Fin 1024) (o : Fin 2048) :
    (show FVec Ideal S1024x2048 .bf16 from iblk m c 3 t) (ix2 k o) = (m ((c : Thread nD τ).loc main_arg3)) (ix2 k o) := by
  blk_simp [iblk, idx t]
  entry_read
  pointwise
  blk_point [idx t]

/-- The array the pipeline leaves is the reference's. -/
theorem final : (dats m 0 c).arrAt 4 cfg0.N =
    REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  obtain rfl : y0 = 0 := Subsingleton.elim _ _
  have ht := point_lt t
  refine (payload_at _ _ _ _ y1 y2).trans ?_
  refine Eq.trans ?_ ((reference_at (m ((c : Thread nD τ).loc main_arg0)) (m ((c : Thread nD τ).loc main_arg1)) (m ((c : Thread nD τ).loc main_arg2))
    (m ((c : Thread nD τ).loc main_arg3)) ⟨t.val / 16, by omega⟩ ⟨t.val % 16 * 1024 + y1, by omega⟩ y2).symm.trans ?_)
  · refine Finset.sum_congr rfl fun k _ => ?_
    refine congrArg₂ (fun u v : EReal => u * v) ?_ (w_at m c t k y2)
    unfold entry
    simp only [← x_at m c t, ← mo_at m c t, ← g_at m c t]
  · refine congrArg (REF _ _ _ _) ?_
    blk_ext [idx t]

end Cert.Kernel3Ideal.Hand

end
-- ==== Proof.Value.Modulation.lean ====
/- The modulation vectors: the array their pipeline leaves is the reference's. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Pipeline

/-- A number times its sigmoid. -/
def silu (x : EReal) : EReal := x * Ideal.logistic x

/-- What the kernel stores, at a row and a column. -/
theorem payload_at (x : FVec Ideal S8x1024 .f32) (w : FVec Ideal S1x1024x1024 .f32) (b : FVec Ideal S1x1x1024 .f32)
    (r : Fin 8) (o : Fin 1024) :
    (k0_pay1 (F := Ideal) x w b (ix3 0 r o) : EReal) =
      (∑ k : Fin 1024, silu (x (ix2 r k)) * w (ix3 0 k o)) + b (ix3 0 0 o) := by
  unfold silu
  pointwise [k0_pay1]

/-- The reference's result, as its run leaves it. -/
abbrev REF (x : FVec Ideal S8x1024 .f32) (w : FVec Ideal S2x1024x6144 .f32) (b : FVec Ideal S2x6144 .f32) :
    FVec Ideal S2x8x6144 .f32 :=
  concatenate Cert.Reference4Ideal.S2x8x6144 0 [⟨Cert.Reference4Ideal.S1x8x6144, (broadcastInDim Cert.Reference4Ideal.S1x8x6144 ![1, 2] Cert.Reference4Ideal.Gen.bcast_S8x6144_S1x8x6144_1_2 (addf (Host.dotGeneral Cert.Reference4Ideal.dot_S8x1024_S1024x6144_S8x6144_1_0_0_1_n_n none (mulf x (Host.divf (broadcastInDim Cert.Reference4Ideal.S8x1024 ![] Cert.Reference4Ideal.Gen.bcast_S_S8x1024 (constant Cert.Reference4Ideal.S_ .f32 0x3F800000#32)) (addf (broadcastInDim Cert.Reference4Ideal.S8x1024 ![] Cert.Reference4Ideal.Gen.bcast_S_S8x1024 (constant Cert.Reference4Ideal.S_ .f32 0x3F800000#32)) (Host.exp (Host.negf x))))) (shapeCast _ (extractStridedSlice Cert.Reference4Ideal.S1x1024x6144 ![0, 0, 0] w Cert.Reference4Ideal.Gen.slices_S2x1024x6144_S1x1024x6144_0_0_0) Cert.Reference4Ideal.Gen.shapeCasts_S1x1024x6144_S1024x6144)) (broadcastInDim Cert.Reference4Ideal.S8x6144 ![0, 1] Cert.Reference4Ideal.Gen.bcast_S1x6144_S8x6144_0_1 (broadcastInDim Cert.Reference4Ideal.S1x6144 ![1] Cert.Reference4Ideal.Gen.bcast_S6144_S1x6144_1 (shapeCast _ (extractStridedSlice Cert.Reference4Ideal.S1x6144 ![0, 0] b Cert.Reference4Ideal.Gen.slices_S2x6144_S1x6144_0_0) Cert.Reference4Ideal.Gen.shapeCasts_S1x6144_S6144)))))⟩, ⟨Cert.Reference4Ideal.S1x8x6144, (broadcastInDim Cert.Reference4Ideal.S1x8x6144 ![1, 2] Cert.Reference4Ideal.Gen.bcast_S8x6144_S1x8x6144_1_2 (addf (Host.dotGeneral Cert.Reference4Ideal.dot_S8x1024_S1024x6144_S8x6144_1_0_0_1_n_n none (mulf x (Host.divf (broadcastInDim Cert.Reference4Ideal.S8x1024 ![] Cert.Reference4Ideal.Gen.bcast_S_S8x1024 (constant Cert.Reference4Ideal.S_ .f32 0x3F800000#32)) (addf (broadcastInDim Cert.Reference4Ideal.S8x1024 ![] Cert.Reference4Ideal.Gen.bcast_S_S8x1024 (constant Cert.Reference4Ideal.S_ .f32 0x3F800000#32)) (Host.exp (Host.negf x))))) (shapeCast _ (extractStridedSlice Cert.Reference4Ideal.S1x1024x6144 ![1, 0, 0] w Cert.Reference4Ideal.Gen.slices_S2x1024x6144_S1x1024x6144_1_0_0) Cert.Reference4Ideal.Gen.shapeCasts_S1x1024x6144_S1024x6144)) (broadcastInDim Cert.Reference4Ideal.S8x6144 ![0, 1] Cert.Reference4Ideal.Gen.bcast_S1x6144_S8x6144_0_1 (broadcastInDim Cert.Reference4Ideal.S1x6144 ![1] Cert.Reference4Ideal.Gen.bcast_S6144_S1x6144_1 (shapeCast _ (extractStridedSlice Cert.Reference4Ideal.S1x6144 ![1, 0] b Cert.Reference4Ideal.Gen.slices_S2x6144_S1x6144_1_0) Cert.Reference4Ideal.Gen.shapeCasts_S1x6144_S6144)))))⟩] Cert.Reference4Ideal.Gen.concatenates_S1x8x6144_S1x8x6144_S2x8x6144_d0

/-- What the reference computes, at a layer, a row and a column. -/
theorem reference_at (x : FVec Ideal S8x1024 .f32) (w : FVec Ideal S2x1024x6144 .f32) (b : FVec Ideal S2x6144 .f32)
    (l : Fin 2) (r : Fin 8) (o : Fin 6144) :
    (REF x w b (ix3 l r o) : EReal) = (∑ k : Fin 1024, silu (x (ix2 r k)) * w (ix3 l k o)) + b (ix2 l o) := by
  unfold silu
  fin_cases l
  · pointwise [REF]
    rfl
  · pointwise [REF]
    rfl

/-- Where each window's block lies at a point. -/
theorem idx : ∀ t : Fin cfg0.N,
    win0_0.index t = ![0, 0] ∧ win0_1.index t = ![t.val / 6, 0, t.val % 6] ∧ win0_2.index t = ![t.val / 6, 0, t.val % 6] ∧
    win0_3.index t = ![t.val / 6, 0, t.val % 6] :=
  (by decide +kernel : ∀ t : Fin grid0.N,
    win0_0.index t = ![0, 0] ∧ win0_1.index t = ![t.val / 6, 0, t.val % 6] ∧ win0_2.index t = ![t.val / 6, 0, t.val % 6] ∧
    win0_3.index t = ![t.val / 6, 0, t.val % 6])

variable (m : (ℓ : Loc nD τ sig) → Buf (Elt Ideal) ℓ) (c : Dev nD)

/-- There are 12 points. -/
theorem point_lt (t : Fin cfg0.N) : t.val < 12 := t.isLt

/-- The conditions at a point. -/
theorem x_at (t : Fin cfg0.N) (r : Fin 8) (k : Fin 1024) :
    (show FVec Ideal S8x1024 .f32 from iblk m c 0 t) (ix2 r k) = (m ((c : Thread nD τ).loc main_arg0)) (ix2 r k) := by
  blk_ext [iblk, V, idx t]

/-- The block of weights at a point. -/
theorem w_at (t : Fin cfg0.N) (k o : Fin 1024) :
    (show FVec Ideal S1x1024x1024 .f32 from iblk m c 1 t) (ix3 0 k o) =
      (m ((c : Thread nD τ).loc main_arg1)) (ix3 ⟨t.val / 6, by have := point_lt t; omega⟩ k ⟨t.val % 6 * 1024 + o, by omega⟩) := by
  blk_ext [iblk, V, idx t]

/-- The block of biases at a point. -/
theorem b_at (t : Fin cfg0.N) (o : Fin 1024) :
    (show FVec Ideal S1x1x1024 .f32 from iblk m c 2 t) (ix3 0 0 o) =
      (m ((c : Thread nD τ).loc main_arg2)) (ix2 ⟨t.val / 6, by have := point_lt t; omega⟩ ⟨t.val % 6 * 1024 + o, by omega⟩) := by
  blk_simp [iblk, idx t]
  entry_read
  pointwise
  blk_point [idx t]

/-- The array the pipeline leaves is the reference's. -/
theorem final : (dats m 0 c).arrAt 3 cfg0.N =
    REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  obtain rfl : y0 = 0 := Subsingleton.elim _ _
  have ht := point_lt t
  refine (payload_at _ _ _ y1 y2).trans ?_
  refine Eq.trans ?_ ((reference_at (m ((c : Thread nD τ).loc main_arg0)) (m ((c : Thread nD τ).loc main_arg1)) (m ((c : Thread nD τ).loc main_arg2))
    ⟨t.val / 6, by omega⟩ y1 ⟨t.val % 6 * 1024 + y2, by omega⟩).symm.trans ?_)
  · refine congrArg₂ (fun u v : EReal => u + v) (Finset.sum_congr rfl fun k _ => ?_) (b_at m c t y2)
    exact congrArg₂ (fun u v : EReal => silu u * v) (x_at m c t y1 k) (w_at m c t k y2)
  · refine congrArg (REF _ _ _) ?_
    blk_ext [idx t]

end Cert.Kernel4Ideal.Hand

end
-- ==== Proof.Value.ShortConv.lean ====
/- The width-3 convolution of the long convolution's columns: the array its pipeline leaves is the reference's. -/
module

public import proofs.«01_k».proof.Proof.Gen.Kernel5Ideal.Frame
public import proofs.«01_k».proof.Proof.Gen.Reference5Ideal.Run
public import Idealize.ShloMosaic.Lib.Pipeline.ValueKit
public import Idealize.ShloMosaic.Lib.Claim

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Pipeline

/-- The row before row `t` of a column, zero before the first. -/
def before (u : Fin 16384 → EReal) (t : Fin 16384) : EReal := if h : 0 < t.val then u ⟨t - 1, by omega⟩ else 0

/-- The row after row `t` of a column, zero after the last. -/
def after (u : Fin 16384 → EReal) (t : Fin 16384) : EReal := if h : t.val + 1 < 16384 then u ⟨t + 1, h⟩ else 0

/-- The width-3 convolution of a column at row `t`, with its bias. -/
def conv (u : Fin 16384 → EReal) (w : Fin 3 → EReal) (b : EReal) (t : Fin 16384) : EReal :=
  b + (before u t * w 0 + u t * w 1 + after u t * w 2)

/-- There are eight tiles. -/
theorem tile_lt (i : grid0.Coords) : (i 2).val < 8 := (i 2).isLt

/-- The halo before a tile is read in every tile but the first. -/
theorem select_before (n : Nat) (hn : n < 8) (x : EReal) :
    Scalar.select (Scalar.cmpi CmpIPredicate.sgt (BitVec.ofNat 32 n) 0#32) x 0 = if 0 < n then x else 0 := by
  interval_cases n <;> rfl

/-- The halo after a tile is read in every tile but the last. -/
theorem select_after (n : Nat) (hn : n < 8) (x : EReal) :
    Scalar.select (Scalar.cmpi CmpIPredicate.slt (BitVec.ofNat 32 n) 7#32) x 0 = if n < 7 then x else 0 := by
  interval_cases n <;> rfl

/-- What the kernel stores, at a row and a column, where its blocks are the column's rows about the tile. -/
theorem payload_at (i : grid0.Coords) (p n : FVec Ideal S1x16x256 .f32) (x : FVec Ideal S1x2048x256 .f32)
    (w : FVec Ideal S3x256 .f32) (b : FVec Ideal S1x256 .f32) (r : Fin 2048) (o : Fin 256) (u : Fin 16384 → EReal)
    (hx : ∀ r : Fin 2048, x (ix3 0 r o) = u ⟨(i 2).val * 2048 + r, by have := tile_lt i; omega⟩)
    (hp : ∀ h : 0 < (i 2).val, p (ix3 0 15 o) = u ⟨(i 2).val * 2048 - 1, by have := tile_lt i; omega⟩)
    (hn : ∀ h : (i 2).val < 7, n (ix3 0 0 o) = u ⟨((i 2).val + 1) * 2048, by omega⟩) :
    (k0_pay1 (F := Ideal) (k0_pay2 i p n x w b) (ix4 0 0 r o) : EReal) =
      conv u (fun a => w (ix2 a o)) (b (ix2 0 o)) ⟨(i 2).val * 2048 + r, by have := tile_lt i; omega⟩ := by
  have hi := tile_lt i
  pointwise [k0_pay1, k0_pay2]
  have h1 : (16 + r.val + 2080 - 1) % 2080 = r.val + 15 := by omega
  have h2 : (16 + r.val + 2080) % 2080 = r.val + 16 := by omega
  have h3 : (16 + r.val + 2080 - 2079) % 2080 = r.val + 17 := by omega
  simp only [h1, h2, h3, select_before _ hi, select_after _ hi]
  unfold conv
  refine congrArg (fun v : EReal => b (ix2 0 o) + v) (congrArg₂ (fun u v : EReal => u + v)
    (congrArg₂ (fun u v : EReal => u + v) (congrArg (fun v : EReal => v * w (ix2 0 o)) ?_)
      (congrArg (fun v : EReal => v * w (ix2 1 o)) ?_)) (congrArg (fun v : EReal => v * w (ix2 2 o)) ?_))
  · unfold before
    by_cases hr : r.val = 0
    · rw [dif_pos (by omega)]
      by_cases h : 0 < (i 2).val
      · rw [if_pos h, dif_pos (by dsimp only; omega)]
        refine Eq.trans (congrArg (fun k => p (ix3 0 k o)) (Fin.ext (by dsimp; omega))) ((hp h).trans (congrArg u (Fin.ext (by dsimp only; omega))))
      · rw [if_neg h, dif_neg (by dsimp only; omega)]
    · rw [dif_neg (by omega), dif_pos (by omega), dif_pos (by dsimp only; omega)]
      exact (hx _).trans (congrArg u (Fin.ext (by dsimp only; omega)))
  · rw [dif_neg (by omega), dif_pos (by omega)]
    exact (hx _).trans (congrArg u (Fin.ext (by dsimp only; omega)))
  · unfold after
    by_cases hr : r.val = 2047
    · rw [dif_neg (by omega), dif_neg (by omega)]
      by_cases h : (i 2).val < 7
      · rw [if_pos h, dif_pos (by dsimp only; omega)]
        refine Eq.trans (congrArg (fun k => n (ix3 0 k o)) (Fin.ext (by dsimp; omega))) ((hn h).trans (congrArg u (Fin.ext (by dsimp only; omega))))
      · rw [if_neg h, dif_neg (by dsimp only; omega)]
    · rw [dif_neg (by omega), dif_pos (by omega), dif_pos (by dsimp only; omega)]
      exact (hx _).trans (congrArg u (Fin.ext (by dsimp only; omega)))

/-- The convolved columns, in three groups of 256. -/
def OUT (p : FVec Ideal S2x16384x2048 .f32) (w : FVec Ideal S3x768 .f32) (b : FVec Ideal S768 .f32) : FVec Ideal S3x2x16384x256 .f32 :=
  fun y => conv (fun s => p (ix3 (y 1) s ⟨1280 + 256 * (y 0).val + (y 3).val, by have h0 : (y 0).val < 3 := (y 0).isLt; have h3 : (y 3).val < 256 := (y 3).isLt; omega⟩))
    (fun a => w (ix2 a ⟨256 * (y 0).val + (y 3).val, by have h0 : (y 0).val < 3 := (y 0).isLt; have h3 : (y 3).val < 256 := (y 3).isLt; omega⟩))
    (b (ix1 ⟨256 * (y 0).val + (y 3).val, by have h0 : (y 0).val < 3 := (y 0).isLt; have h3 : (y 3).val < 256 := (y 3).isLt; omega⟩)) (y 2)

/-- The convolved columns at an entry. -/
theorem out_at (p : FVec Ideal S2x16384x2048 .f32) (w : FVec Ideal S3x768 .f32) (b : FVec Ideal S768 .f32)
    (j : Fin 3) (i : Fin 2) (t : Fin 16384) (o : Fin 256) (k : Fin 2048) (l : Fin 768)
    (hk : k.val = 1280 + 256 * j.val + o.val) (hl : l.val = 256 * j.val + o.val) :
    conv (fun s => p (ix3 i s k)) (fun a => w (ix2 a l)) (b (ix1 l)) t = OUT p w b (ix4 j i t o) := by
  have bk : 1280 + 256 * j.val + o.val < 2048 := by omega
  have bl : 256 * j.val + o.val < 768 := by omega
  have ek : k = ⟨1280 + 256 * j.val + o.val, bk⟩ := Fin.ext hk
  have el : l = ⟨256 * j.val + o.val, bl⟩ := Fin.ext hl
  rw [ek, el]
  rfl

/-- The zero that a host pads with. -/
theorem pad_zero : (FloatOps.sitofp FTy.f32 (0#32 : BitVec 32) : Ideal .f32) = (0 : EReal) := by
  show ((((0#32 : BitVec 32).toInt : ℤ) : ℝ) : EReal) = 0
  simp

/-- The convolution of a padded column, as the host takes it. -/
theorem host_conv (u : Fin 16384 → EReal) (w : Fin 3 → EReal) (b : EReal) (t : Fin 16384) (P : Prop) [Decidable P] (hP : P) :
    b + (if h : (1 ≤ t.val ∧ t.val - 1 < 16384) ∧ P then u ⟨t - 1, h.1.2⟩ else 0) * w 0 + (if h : P then u t else 0) * w 1 +
      (if h : (1 ≤ 2 + t.val ∧ 2 + t.val - 1 < 16384) ∧ P then u ⟨2 + t - 1, h.1.2⟩ else 0) * w 2 = conv u w b t := by
  unfold conv before after
  rw [dif_pos hP, add_assoc, add_assoc, ← add_assoc (_ * w 0)]
  refine congrArg (fun v : EReal => b + v) (congrArg₂ (fun u v : EReal => u + v)
    (congrArg₂ (fun u v : EReal => u + v) (congrArg (fun v : EReal => v * w 0) ?_) rfl) (congrArg (fun v : EReal => v * w 2) ?_))
  · by_cases h : 0 < t.val
    · rw [dif_pos h, dif_pos ⟨by omega, hP⟩]
    · rw [dif_neg h, dif_neg (fun k => by omega)]
  · by_cases h : t.val + 1 < 16384
    · rw [dif_pos h, dif_pos ⟨by omega, hP⟩]
      exact congrArg u (Fin.ext (by dsimp only; omega))
    · rw [dif_neg h, dif_neg (fun k => by omega)]

/-- The reference's result is the convolved columns. -/
theorem reference_eq (m : (ℓ : Loc Cert.Reference5Ideal.nD Cert.Reference5Ideal.τ Cert.Reference5Ideal.sig) → Buf (Elt Ideal) ℓ)
    (c : Dev Cert.Reference5Ideal.nD) :
    Cert.Reference5Ideal.Value.res_main_v31 m c =
      OUT (m ((c.tc : Thread Cert.Reference5Ideal.nD Cert.Reference5Ideal.τ).loc Cert.Reference5Ideal.main_arg0))
        (m ((c.tc : Thread Cert.Reference5Ideal.nD Cert.Reference5Ideal.τ).loc Cert.Reference5Ideal.main_arg1))
        (m ((c.tc : Thread Cert.Reference5Ideal.nD Cert.Reference5Ideal.τ).loc Cert.Reference5Ideal.main_arg2)) := by
  funext y
  idx_vars y
  fin_cases y0
  · pointwise [Cert.Reference5Ideal.Value.res_main_v31]
    simp only [pad_zero]
    refine (host_conv (fun s => (m ((c.tc : Thread Cert.Reference5Ideal.nD Cert.Reference5Ideal.τ).loc Cert.Reference5Ideal.main_arg0)) (ix3 y1 s ⟨1280 + y3.val, by omega⟩))
      (fun a => (m ((c.tc : Thread Cert.Reference5Ideal.nD Cert.Reference5Ideal.τ).loc Cert.Reference5Ideal.main_arg1)) (ix2 a ⟨y3.val, by omega⟩)) _ y2 (y3.val < 768) (by omega)).trans ?_
    exact out_at _ _ _ 0 y1 y2 y3 _ _ (by simp) (by simp)
  · pointwise [Cert.Reference5Ideal.Value.res_main_v31]
    simp only [pad_zero]
    refine (host_conv (fun s => (m ((c.tc : Thread Cert.Reference5Ideal.nD Cert.Reference5Ideal.τ).loc Cert.Reference5Ideal.main_arg0)) (ix3 y1 s ⟨1280 + (256 + y3.val), by omega⟩))
      (fun a => (m ((c.tc : Thread Cert.Reference5Ideal.nD Cert.Reference5Ideal.τ).loc Cert.Reference5Ideal.main_arg1)) (ix2 a ⟨256 + y3.val, by omega⟩)) _ y2 (256 + y3.val < 768) (by omega)).trans ?_
    exact out_at _ _ _ 1 y1 y2 y3 _ _ (by simp only [Fin.isValue]; omega) (by simp)
  · pointwise [Cert.Reference5Ideal.Value.res_main_v31]
    simp only [pad_zero]
    refine (host_conv (fun s => (m ((c.tc : Thread Cert.Reference5Ideal.nD Cert.Reference5Ideal.τ).loc Cert.Reference5Ideal.main_arg0)) (ix3 y1 s ⟨1280 + (512 + y3.val), by omega⟩))
      (fun a => (m ((c.tc : Thread Cert.Reference5Ideal.nD Cert.Reference5Ideal.τ).loc Cert.Reference5Ideal.main_arg1)) (ix2 a ⟨512 + y3.val, by omega⟩)) _ y2 (512 + y3.val < 768) (by omega)).trans ?_
    exact out_at _ _ _ 2 y1 y2 y3 _ _ (by simp only [Fin.isValue]; omega) (by simp)

/-- Where each window's block lies at a point, and the point's tile. -/
theorem idx : ∀ t : Fin cfg0.N,
    win0_0.index t = ![t.val / 24, t.val % 8 * 128 - 1, 5 + t.val / 8 % 3] ∧ win0_1.index t = ![t.val / 24, t.val % 8, 5 + t.val / 8 % 3] ∧
    win0_2.index t = ![t.val / 24, min ((t.val % 8 + 1) * 128) 1023, 5 + t.val / 8 % 3] ∧
    win0_3.index t = ![0, t.val / 8 % 3] ∧ win0_4.index t = ![0, t.val / 8 % 3] ∧
    win0_5.index t = ![t.val / 8 % 3, t.val / 24, t.val % 8, 0] ∧ (grid0.coords t 2).val = t.val % 8 :=
  (by decide +kernel : ∀ t : Fin grid0.N,
    win0_0.index t = ![t.val / 24, t.val % 8 * 128 - 1, 5 + t.val / 8 % 3] ∧ win0_1.index t = ![t.val / 24, t.val % 8, 5 + t.val / 8 % 3] ∧
    win0_2.index t = ![t.val / 24, min ((t.val % 8 + 1) * 128) 1023, 5 + t.val / 8 % 3] ∧
    win0_3.index t = ![0, t.val / 8 % 3] ∧ win0_4.index t = ![0, t.val / 8 % 3] ∧
    win0_5.index t = ![t.val / 8 % 3, t.val / 24, t.val % 8, 0] ∧ (grid0.coords t 2).val = t.val % 8)

variable (m : (ℓ : Loc nD τ sig) → Buf (Elt Ideal) ℓ) (c : Dev nD)

/-- There are 48 points. -/
theorem point_lt (t : Fin cfg0.N) : t.val < 48 := t.isLt

/-- The tile's rows at a point. -/
theorem x_at (t : Fin cfg0.N) (r : Fin 2048) (o : Fin 256) :
    (show FVec Ideal S1x2048x256 .f32 from iblk m c 1 t) (ix3 0 r o) =
      (m ((c : Thread nD τ).loc main_arg0)) (ix3 ⟨t.val / 24, by have := point_lt t; omega⟩ ⟨t.val % 8 * 2048 + r, by omega⟩
        ⟨1280 + 256 * (t.val / 8 % 3) + o, by omega⟩) := by
  blk_ext [iblk, V, idx t]

/-- The last row of the halo before the tile. -/
theorem p_at (t : Fin cfg0.N) (h : 0 < t.val % 8) (o : Fin 256) :
    (show FVec Ideal S1x16x256 .f32 from iblk m c 0 t) (ix3 0 15 o) =
      (m ((c : Thread nD τ).loc main_arg0)) (ix3 ⟨t.val / 24, by have := point_lt t; omega⟩ ⟨t.val % 8 * 2048 - 1, by omega⟩
        ⟨1280 + 256 * (t.val / 8 % 3) + o, by omega⟩) := by
  blk_ext [iblk, V, idx t]

/-- The first row of the halo after the tile. -/
theorem n_at (t : Fin cfg0.N) (h : t.val % 8 < 7) (o : Fin 256) :
    (show FVec Ideal S1x16x256 .f32 from iblk m c 2 t) (ix3 0 0 o) =
      (m ((c : Thread nD τ).loc main_arg0)) (ix3 ⟨t.val / 24, by have := point_lt t; omega⟩ ⟨(t.val % 8 + 1) * 2048, by omega⟩
        ⟨1280 + 256 * (t.val / 8 % 3) + o, by omega⟩) := by
  blk_ext [iblk, V, idx t]

/-- The weights at a point. -/
theorem w_at (t : Fin cfg0.N) (a : Fin 3) (o : Fin 256) :
    (show FVec Ideal S3x256 .f32 from iblk m c 3 t) (ix2 a o) =
      (m ((c : Thread nD τ).loc main_arg1)) (ix2 a ⟨256 * (t.val / 8 % 3) + o, by omega⟩) := by
  blk_ext [iblk, V, idx t]

/-- The bias at a point. -/
theorem b_at (t : Fin cfg0.N) (o : Fin 256) :
    (show FVec Ideal S1x256 .f32 from iblk m c 4 t) (ix2 0 o) =
      (m ((c : Thread nD τ).loc main_arg2)) (ix1 ⟨256 * (t.val / 8 % 3) + o, by omega⟩) := by
  blk_simp [iblk, idx t]
  entry_read
  pointwise
  blk_point [idx t]

/-- The array the pipeline leaves is the convolved columns. -/
theorem final : (dats m 0 c).arrAt 5 cfg0.N =
    OUT (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  idx_vars y
  obtain rfl : y0 = 0 := Subsingleton.elim _ _
  obtain rfl : y1 = 0 := Subsingleton.elim _ _
  have ht := point_lt t
  have hc := (idx t).2.2.2.2.2.2
  refine (payload_at _ _ _ _ _ _ y2 y3 (fun s => (m ((c : Thread nD τ).loc main_arg0)) (ix3 ⟨t.val / 24, by omega⟩ s
    ⟨1280 + 256 * (t.val / 8 % 3) + y3, by omega⟩)) (fun r => ?_) (fun h => ?_) (fun h => ?_)).trans ?_
  · simp only [hc]
    exact x_at m c t r y3
  · simp only [hc]
    exact p_at m c t (hc ▸ h) y3
  · simp only [hc]
    exact n_at m c t (hc ▸ h) y3
  · refine (congrArg₂ (fun (w : Fin 3 → EReal) (b : EReal) => conv _ w b _) (funext fun a => w_at m c t a y3) (b_at m c t y3)).trans ?_
    refine (out_at _ _ _ ⟨t.val / 8 % 3, by omega⟩ _ _ y3 _ _ rfl rfl).trans (congrArg (OUT _ _ _) ?_)
    blk_ext [idx t, hc]

end Cert.Kernel5Ideal.Hand

end
-- ==== Proof.Value.PoolCount.lean ====
/- How many rows of a pooling window lie inside the column. -/
module

public import proofs.«01_k».proof.Proof.Gen.Kernel6Ideal.Frame
public import Idealize.ShloMosaic.Lib.Pipeline.ValueKit
public import Idealize.ShloMosaic.Lib.Claim

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Pipeline

/-- The number of a row's window that lies inside the column, in group `g`. -/
def count (g t : Nat) : BitVec 32 :=
  IntOp.subi (IntOp.minsi 16384#32 (IntOp.maxsi 0#32 (IntOp.subi (IntOp.addi (BitVec.ofNat 32 t) (BitVec.ofNat 32 (2 * 2 ^ g))) (BitVec.ofNat 32 (2 ^ g)))))
    (IntOp.minsi 16384#32 (IntOp.maxsi 0#32 (IntOp.subi (BitVec.ofNat 32 t) (BitVec.ofNat 32 (2 ^ g)))))

/-- The kernel's count of a window in group 0. -/
theorem count0 : ∀ a b : Fin 128, IntOp.subi (IntOp.minsi (IntOp.subi (IntOp.addi (BitVec.ofNat 32 (a.val * 128 + b.val)) 2#32) 1#32) 16384#32)
    (IntOp.maxsi (IntOp.subi (BitVec.ofNat 32 (a.val * 128 + b.val)) 1#32) 0#32) = count 0 (a.val * 128 + b.val) := by
  decide +kernel

/-- The kernel's count of a window in group 1. -/
theorem count1 : ∀ a b : Fin 128, IntOp.subi (IntOp.minsi (IntOp.subi (IntOp.addi (BitVec.ofNat 32 (a.val * 128 + b.val)) 4#32) 2#32) 16384#32)
    (IntOp.maxsi (IntOp.subi (BitVec.ofNat 32 (a.val * 128 + b.val)) 2#32) 0#32) = count 1 (a.val * 128 + b.val) := by
  decide +kernel

/-- The kernel's count of a window in group 2. -/
theorem count2 : ∀ a b : Fin 128, IntOp.subi (IntOp.minsi (IntOp.subi (IntOp.addi (BitVec.ofNat 32 (a.val * 128 + b.val)) 8#32) 4#32) 16384#32)
    (IntOp.maxsi (IntOp.subi (BitVec.ofNat 32 (a.val * 128 + b.val)) 4#32) 0#32) = count 2 (a.val * 128 + b.val) := by
  decide +kernel

/-- The kernel's count of a window in group 3. -/
theorem count3 : ∀ a b : Fin 128, IntOp.subi (IntOp.minsi (IntOp.subi (IntOp.addi (BitVec.ofNat 32 (a.val * 128 + b.val)) 16#32) 8#32) 16384#32)
    (IntOp.maxsi (IntOp.subi (BitVec.ofNat 32 (a.val * 128 + b.val)) 8#32) 0#32) = count 3 (a.val * 128 + b.val) := by
  decide +kernel

end Cert.Kernel6Ideal.Hand

end
-- ==== Proof.Value.PoolSums.lean ====
/- The pooling mixer's window sums, groups of columns and block-diagonal weights. -/
module

public import proofs.«01_k».proof.Proof.Value.PoolCount
public import Idealize.ShloMosaic.Lib.Pipeline.ValueKit
public import Idealize.ShloMosaic.Lib.Claim

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Pipeline

/-- A column with 16 rows of zeros before its first row and zeros after its last. -/
def padded (u : Fin 16384 → EReal) (n : Nat) : EReal := if h : 16 ≤ n ∧ n - 16 < 16384 then u ⟨n - 16, h.2⟩ else 0

/-- The sum of a column over the window of row `t`, in group `g`. -/
def window (g : Nat) (u : Fin 16384 → EReal) (t : Nat) : EReal := ∑ j ∈ Finset.range (2 * 2 ^ g), padded u (t + 16 + j - 2 ^ g)

/-- The mean of a column over the window of row `t`, in group `g`. -/
def mean (g : Nat) (u : Fin 16384 → EReal) (t : Nat) : EReal := Ideal.div (window g u t) (FloatOps.sitofp (F := Ideal) FTy.f32 (count g t))

/-- There are 16 tiles. -/
theorem tile_lt (i : grid0.Coords) : (i 1).val < 16 := (i 1).isLt

/-- The halo before a tile is read in every tile but the first. -/
theorem select_before (n : Nat) (hn : n < 16) (x : EReal) :
    Scalar.select (Scalar.cmpi CmpIPredicate.sgt (BitVec.ofNat 32 n) 0#32) x 0 = if 0 < n then x else 0 := by
  interval_cases n <;> rfl

/-- The halo after a tile is read in every tile but the last. -/
theorem select_after (n : Nat) (hn : n < 16) (x : EReal) :
    Scalar.select (Scalar.cmpi CmpIPredicate.slt (BitVec.ofNat 32 n) 15#32) x 0 = if n < 15 then x else 0 := by
  interval_cases n <;> rfl

/-- The blocks a tile reads of a column: its rows and the sixteen on either side. -/
structure Reads (i : grid0.Coords) (p n : FVec Ideal S1x16x256 .f32) (x : FVec Ideal S1x1024x256 .f32) (o : Fin 256)
    (u : Fin 16384 → EReal) : Prop where
  cur : ∀ r : Fin 1024, x (ix3 0 r o) = u ⟨(i 1).val * 1024 + r, by have := tile_lt i; omega⟩
  prev : ∀ (r : Fin 16), 0 < (i 1).val → p (ix3 0 r o) = u ⟨(i 1).val * 1024 + r - 16, by have := tile_lt i; omega⟩
  next : ∀ (r : Fin 16) (h : (i 1).val < 15), n (ix3 0 r o) = u ⟨(i 1).val * 1024 + 1024 + r, by omega⟩

/-- A row of a tile with its halos. -/
theorem halo_at (i : grid0.Coords) (p n : FVec Ideal S1x16x256 .f32) (x : FVec Ideal S1x1024x256 .f32) (o : Fin 256)
    (u : Fin 16384 → EReal) (H : Reads i p n x o u) (k : Nat) (hk : k < 1056) :
    (if h : k < 16 then
        Scalar.select (Scalar.cmpi CmpIPredicate.sgt (BitVec.ofNat 32 (i 1).val) 0#32) (p (ix3 0 ⟨k, h⟩ o)) 0
      else
        if h' : k - 16 < 1024 then x (ix3 0 ⟨k - 16, h'⟩ o)
        else
          Scalar.select (Scalar.cmpi CmpIPredicate.slt (BitVec.ofNat 32 (i 1).val) 15#32) (n (ix3 0 ⟨k - 16 - 1024, by omega⟩ o))
            0 : EReal) = padded u ((i 1).val * 1024 + k) := by
  have hi := tile_lt i
  simp only [select_before _ hi, select_after _ hi]
  unfold padded
  by_cases h : k < 16
  · rw [dif_pos h]
    by_cases g : 0 < (i 1).val
    · rw [if_pos g, dif_pos ⟨by omega, by omega⟩]
      exact H.prev ⟨k, h⟩ g
    · rw [if_neg g, dif_neg (by omega)]
  · rw [dif_neg h]
    by_cases h' : k - 16 < 1024
    · rw [dif_pos h', dif_pos ⟨by omega, by omega⟩]
      exact (H.cur _).trans (congrArg u (Fin.ext (by dsimp only; omega)))
    · rw [dif_neg h']
      by_cases g : (i 1).val < 15
      · rw [if_pos g, dif_pos ⟨by omega, by omega⟩]
        exact (H.next _ g).trans (congrArg u (Fin.ext (by dsimp only; omega)))
      · rw [if_neg g, dif_neg (by omega)]

/-- Sums of two rows. -/
theorem two_at (i : grid0.Coords) (p n : FVec Ideal S1x16x256 .f32) (x : FVec Ideal S1x1024x256 .f32) (o : Fin 256)
    (u : Fin 16384 → EReal) (H : Reads i p n x o u) (k : Fin 1056) (hk : 1 ≤ k.val) :
    (k0_pay2 (F := Ideal) i p n x (ix2 k o) : EReal) = padded u ((i 1).val * 1024 + k) + padded u ((i 1).val * 1024 + k - 1) := by
  pointwise [k0_pay2]
  have h1 : (k.val + 1056 - 1) % 1056 = k.val - 1 := by omega
  simp only [h1]
  refine congrArg₂ (fun u v : EReal => u + v) (halo_at i p n x o u H k.val k.isLt) ((halo_at i p n x o u H (k.val - 1) (by omega)).trans ?_)
  exact congrArg (padded u) (by omega)

/-- Sums of four rows, from sums of two. -/
theorem four_step (i : grid0.Coords) (p n : FVec Ideal S1x16x256 .f32) (x : FVec Ideal S1x1024x256 .f32) (o : Fin 256)
    (k : Nat) (hk : 1 ≤ k) (h : k + 1 < 1056) :
    (k0_pay3 (F := Ideal) i p n x (ix2 ⟨k, by omega⟩ o) : EReal) =
      k0_pay2 (F := Ideal) i p n x (ix2 ⟨k - 1, by omega⟩ o) + k0_pay2 (F := Ideal) i p n x (ix2 ⟨k + 1, h⟩ o) := by
  unfold k0_pay3
  generalize k0_pay2 (F := Ideal) i p n x = e
  pointwise
  have h1 : (k + 1056 - 1) % 1056 = k - 1 := by omega
  have h2 : (k + 1056 - 1055) % 1056 = k + 1 := by omega
  simp only [h1, h2]

/-- Sums of eight rows, from sums of four. -/
theorem eight_step (i : grid0.Coords) (p n : FVec Ideal S1x16x256 .f32) (x : FVec Ideal S1x1024x256 .f32) (o : Fin 256)
    (k : Nat) (hk : 2 ≤ k) (h : k + 2 < 1056) :
    (k0_pay4 (F := Ideal) i p n x (ix2 ⟨k, by omega⟩ o) : EReal) =
      k0_pay3 (F := Ideal) i p n x (ix2 ⟨k - 2, by omega⟩ o) + k0_pay3 (F := Ideal) i p n x (ix2 ⟨k + 2, h⟩ o) := by
  unfold k0_pay4
  generalize k0_pay3 (F := Ideal) i p n x = e
  pointwise
  have h1 : (k + 1056 - 2) % 1056 = k - 2 := by omega
  have h2 : (k + 1056 - 1054) % 1056 = k + 2 := by omega
  simp only [h1, h2]

/-- Sums of sixteen rows, from sums of eight. -/
theorem sixteen_step (i : grid0.Coords) (p n : FVec Ideal S1x16x256 .f32) (x : FVec Ideal S1x1024x256 .f32) (o : Fin 256)
    (k : Nat) (hk : 4 ≤ k) (h : k + 4 < 1056) :
    (k0_pay5 (F := Ideal) i p n x (ix2 ⟨k, by omega⟩ o) : EReal) =
      k0_pay4 (F := Ideal) i p n x (ix2 ⟨k - 4, by omega⟩ o) + k0_pay4 (F := Ideal) i p n x (ix2 ⟨k + 4, h⟩ o) := by
  unfold k0_pay5
  generalize k0_pay4 (F := Ideal) i p n x = e
  pointwise
  have h1 : (k + 1056 - 4) % 1056 = k - 4 := by omega
  have h2 : (k + 1056 - 1052) % 1056 = k + 4 := by omega
  simp only [h1, h2]

/-- A sum of `w` rows about row `k`, its first `h` before it. -/
def about (u : Fin 16384 → EReal) (w h k : Nat) : EReal := ∑ j ∈ Finset.range w, padded u (k + j - h)

/-- A sum of `2 w` rows is two sums of `w`. -/
theorem about_add (u : Fin 16384 → EReal) (w h k a b k' h' : Nat) (ha : a - h = k' - h') (hb : b - h = k' + w - h')
    (hA : h ≤ a) (hB : h ≤ b) (hK : h' ≤ k') :
    about u w h a + about u w h b = about u (w + w) h' k' := by
  unfold about
  rw [Finset.sum_range_add]
  refine congrArg₂ (fun u v : EReal => u + v) (Finset.sum_congr rfl fun j _ => congrArg (padded u) (by omega))
    (Finset.sum_congr rfl fun j _ => congrArg (padded u) (by omega))

/-- Sums of two rows, as sums about a row. -/
theorem two (i : grid0.Coords) (p n : FVec Ideal S1x16x256 .f32) (x : FVec Ideal S1x1024x256 .f32) (o : Fin 256)
    (u : Fin 16384 → EReal) (H : Reads i p n x o u) (k : Nat) (hk : 1 ≤ k) (h : k < 1056) :
    (k0_pay2 (F := Ideal) i p n x (ix2 ⟨k, h⟩ o) : EReal) = about u 2 1 ((i 1).val * 1024 + k) := by
  rw [two_at i p n x o u H ⟨k, h⟩ hk, add_comm]
  unfold about
  rw [Finset.sum_range_succ, Finset.sum_range_one]
  rfl

/-- Sums of four rows. -/
theorem four (i : grid0.Coords) (p n : FVec Ideal S1x16x256 .f32) (x : FVec Ideal S1x1024x256 .f32) (o : Fin 256)
    (u : Fin 16384 → EReal) (H : Reads i p n x o u) (k : Nat) (hk : 2 ≤ k) (h : k + 1 < 1056) :
    (k0_pay3 (F := Ideal) i p n x (ix2 ⟨k, by omega⟩ o) : EReal) = about u 4 2 ((i 1).val * 1024 + k) := by
  rw [four_step i p n x o k (by omega) h, two i p n x o u H _ (by omega), two i p n x o u H _ (by omega)]
  exact about_add u 2 1 k _ _ _ 2 (by omega) (by omega) (by omega) (by omega) (by omega)

/-- Sums of eight rows. -/
theorem eight (i : grid0.Coords) (p n : FVec Ideal S1x16x256 .f32) (x : FVec Ideal S1x1024x256 .f32) (o : Fin 256)
    (u : Fin 16384 → EReal) (H : Reads i p n x o u) (k : Nat) (hk : 4 ≤ k) (h : k + 3 < 1056) :
    (k0_pay4 (F := Ideal) i p n x (ix2 ⟨k, by omega⟩ o) : EReal) = about u 8 4 ((i 1).val * 1024 + k) := by
  rw [eight_step i p n x o k (by omega) (by omega), four i p n x o u H _ (by omega) (by omega), four i p n x o u H _ (by omega) (by omega)]
  exact about_add u 4 2 k _ _ _ 4 (by omega) (by omega) (by omega) (by omega) (by omega)

/-- Sums of sixteen rows. -/
theorem sixteen (i : grid0.Coords) (p n : FVec Ideal S1x16x256 .f32) (x : FVec Ideal S1x1024x256 .f32) (o : Fin 256)
    (u : Fin 16384 → EReal) (H : Reads i p n x o u) (k : Nat) (hk : 8 ≤ k) (h : k + 7 < 1056) :
    (k0_pay5 (F := Ideal) i p n x (ix2 ⟨k, by omega⟩ o) : EReal) = about u 16 8 ((i 1).val * 1024 + k) := by
  rw [sixteen_step i p n x o k (by omega) (by omega), eight i p n x o u H _ (by omega) (by omega), eight i p n x o u H _ (by omega) (by omega)]
  exact about_add u 8 4 k _ _ _ 8 (by omega) (by omega) (by omega) (by omega) (by omega)

/-- A window's sum is a sum about its row. -/
theorem about_window (u : Fin 16384 → EReal) (g w h t k : Nat) (hw : w = 2 * 2 ^ g) (hh : h = 2 ^ g) (hk : k = t + 16) :
    about u w h k = window g u t := by
  subst hw hh hk
  rfl

/-- The kernel's row numbers. -/
theorem row_at (i : grid0.Coords) (r : Fin 1024) : k0_pay6 i (ix2 r 0) = BitVec.ofNat 32 ((i 1).val * 1024 + r) := by
  pointwise [k0_pay6]
  show BitVec.ofNat 32 (i 1).val * 1024#32 + BitVec.ofNat 32 r.val = _
  rw [BitVec.ofNat_add, BitVec.ofNat_mul]

/-- A row's number in base 128. -/
theorem of_base {P : Nat → Prop} (H : ∀ a b : Fin 128, P (a.val * 128 + b.val)) (t : Nat) (ht : t < 16384) : P t := by
  have := H ⟨t / 128, by omega⟩ ⟨t % 128, by omega⟩
  rwa [show (⟨t / 128, by omega⟩ : Fin 128).val * 128 + (⟨t % 128, by omega⟩ : Fin 128).val = t from by dsimp only; omega] at this

/-- The kernel's group of a column. -/
theorem group_at (o : Fin 256) :
    k0_pay9 (iota .tc S1x256 32 [1] iota_S1x256_d1_w32) 64#32 k0_pay7 k0_pay8 0#32 (ix2 0 o) = BitVec.ofNat 32 (o.val / 64) := by
  pointwise [k0_pay9, k0_pay7, k0_pay8]
  revert o
  decide +kernel

/-- Of the four groups' values the kernel keeps the column's. -/
theorem pick (n : Nat) (hn : n < 4) (f : Nat → EReal) :
    Scalar.select (IntOp.cmpi CmpIPredicate.eq (BitVec.ofNat 32 n) 3#32) (f 3)
      (Scalar.select (IntOp.cmpi CmpIPredicate.eq (BitVec.ofNat 32 n) 2#32) (f 2)
        (Scalar.select (IntOp.cmpi CmpIPredicate.eq (BitVec.ofNat 32 n) 1#32) (f 1)
          (Scalar.select (IntOp.cmpi CmpIPredicate.eq (BitVec.ofNat 32 n) 0#32) (f 0) 0))) = f n := by
  interval_cases n <;> rfl

/-- The kernel's factor of a block of the weights: one on the diagonal, zero off it. -/
theorem eye_at (a b : Nat) (ha : a < 4) (hb : b < 4) :
    (FloatOps.uitofp FTy.f32 (IntOp.cmpi CmpIPredicate.eq (IntOp.addi (BitVec.ofNat 32 a) 0#32) (BitVec.ofNat 32 b)) : Ideal .f32) =
      if a = b then (1 : EReal) else 0 := by
  have e1 : (FloatOps.uitofp FTy.f32 (1#1 : BitVec 1) : Ideal .f32) = (1 : EReal) := by
    show ((((1#1 : BitVec 1).toNat : ℕ) : ℝ) : EReal) = 1
    simp
  have e0 : (FloatOps.uitofp FTy.f32 (0#1 : BitVec 1) : Ideal .f32) = (0 : EReal) := by
    show ((((0#1 : BitVec 1).toNat : ℕ) : ℝ) : EReal) = 0
    simp
  interval_cases a <;> interval_cases b <;> first | exact e1 | exact e0

/-- A product with a block-diagonal matrix is a product with the column's block. -/
theorem block_sum (d : Fin 256 → EReal) (w : Fin 4 → Fin 64 → EReal) (g : Fin 4) :
    (∑ k : Fin 256, d k * ((if k.val / 64 = g.val then (1 : EReal) else 0) * w ⟨k / 64, by omega⟩ ⟨k % 64, by omega⟩)) =
      ∑ k : Fin 64, d ⟨64 * g + k, by omega⟩ * w g k := by
  refine (Equiv.sum_comp (finProdFinEquiv : Fin 4 × Fin 64 ≃ Fin 256) _).symm.trans ?_
  rw [Fintype.sum_prod_type, Finset.sum_eq_single g]
  · refine Finset.sum_congr rfl fun k _ => ?_
    have hv : (finProdFinEquiv (g, k) : Fin 256).val = k.val + 64 * g.val := rfl
    have e : (finProdFinEquiv (g, k) : Fin 256) = ⟨64 * g + k, by omega⟩ := Fin.ext (by rw [hv]; dsimp only; omega)
    rw [e, if_pos (by dsimp only; omega), one_mul]
    exact congrArg (fun v : EReal => d ⟨64 * g + k, by omega⟩ * v)
      (congrArg₂ w (Fin.ext (by dsimp only; omega)) (Fin.ext (by dsimp only; omega)))
  · intro a _ ha
    refine Finset.sum_eq_zero fun k _ => ?_
    have hv : (finProdFinEquiv (a, k) : Fin 256).val = k.val + 64 * a.val := rfl
    have hne : a.val ≠ g.val := fun h => ha (Fin.ext h)
    rw [if_neg (by rw [hv]; omega), zero_mul, mul_zero]
  · intro h
    exact absurd (Finset.mem_univ g) h

end Cert.Kernel6Ideal.Hand

end
-- ==== Proof.Value.Pool.lean ====
/- The pooling mixer: the array its pipeline leaves is the reference's. -/
module

public import proofs.«01_k».proof.Proof.Value.PoolSums
public import proofs.«01_k».proof.Proof.Gen.Reference6Ideal.Run
public import Idealize.ShloMosaic.Lib.Pipeline.ValueKit
public import Idealize.ShloMosaic.Lib.Claim

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Pipeline

/-- The pooled columns less the columns, through their group's weights, times the scale. -/
def OUT (p : FVec Ideal S2x16384x2048 .f32) (w : FVec Ideal S4x64x64 .f32) (s : FVec Ideal S256 .f32) : FVec Ideal S2x16384x256 .f32 :=
  fun y => (∑ k : Fin 64, (mean ((y 2).val / 64) (fun r => p (ix3 (y 0) r ⟨64 * ((y 2).val / 64) + k, by have h : (y 2).val < 256 := (y 2).isLt; omega⟩)) (y 1).val -
      p (ix3 (y 0) (y 1) ⟨64 * ((y 2).val / 64) + k, by have h : (y 2).val < 256 := (y 2).isLt; omega⟩)) *
      w (ix3 ⟨(y 2).val / 64, by have h : (y 2).val < 256 := (y 2).isLt; omega⟩ k ⟨(y 2).val % 64, by omega⟩)) * s (ix1 (y 2))

/-- The kernel's count at a row, in group 0. -/
theorem count_at0 (t : Nat) (ht : t < 16384) : IntOp.subi (IntOp.minsi (IntOp.subi (IntOp.addi (BitVec.ofNat 32 t) 2#32) 1#32) 16384#32)
    (IntOp.maxsi (IntOp.subi (BitVec.ofNat 32 t) 1#32) 0#32) = count 0 t :=
  of_base (P := fun t => IntOp.subi (IntOp.minsi (IntOp.subi (IntOp.addi (BitVec.ofNat 32 t) 2#32) 1#32) 16384#32)
    (IntOp.maxsi (IntOp.subi (BitVec.ofNat 32 t) 1#32) 0#32) = count 0 t) count0 t ht

/-- The kernel's count at a row, in group 1. -/
theorem count_at1 (t : Nat) (ht : t < 16384) : IntOp.subi (IntOp.minsi (IntOp.subi (IntOp.addi (BitVec.ofNat 32 t) 4#32) 2#32) 16384#32)
    (IntOp.maxsi (IntOp.subi (BitVec.ofNat 32 t) 2#32) 0#32) = count 1 t :=
  of_base (P := fun t => IntOp.subi (IntOp.minsi (IntOp.subi (IntOp.addi (BitVec.ofNat 32 t) 4#32) 2#32) 16384#32)
    (IntOp.maxsi (IntOp.subi (BitVec.ofNat 32 t) 2#32) 0#32) = count 1 t) count1 t ht

/-- The kernel's count at a row, in group 2. -/
theorem count_at2 (t : Nat) (ht : t < 16384) : IntOp.subi (IntOp.minsi (IntOp.subi (IntOp.addi (BitVec.ofNat 32 t) 8#32) 4#32) 16384#32)
    (IntOp.maxsi (IntOp.subi (BitVec.ofNat 32 t) 4#32) 0#32) = count 2 t :=
  of_base (P := fun t => IntOp.subi (IntOp.minsi (IntOp.subi (IntOp.addi (BitVec.ofNat 32 t) 8#32) 4#32) 16384#32)
    (IntOp.maxsi (IntOp.subi (BitVec.ofNat 32 t) 4#32) 0#32) = count 2 t) count2 t ht

/-- The kernel's count at a row, in group 3. -/
theorem count_at3 (t : Nat) (ht : t < 16384) : IntOp.subi (IntOp.minsi (IntOp.subi (IntOp.addi (BitVec.ofNat 32 t) 16#32) 8#32) 16384#32)
    (IntOp.maxsi (IntOp.subi (BitVec.ofNat 32 t) 8#32) 0#32) = count 3 t :=
  of_base (P := fun t => IntOp.subi (IntOp.minsi (IntOp.subi (IntOp.addi (BitVec.ofNat 32 t) 16#32) 8#32) 16384#32)
    (IntOp.maxsi (IntOp.subi (BitVec.ofNat 32 t) 8#32) 0#32) = count 3 t) count3 t ht

/-- The mean the kernel takes, at a row and a column. -/
theorem mean_at (i : grid0.Coords) (p n : FVec Ideal S1x16x256 .f32) (x : FVec Ideal S1x1024x256 .f32) (o : Fin 256)
    (u : Fin 16384 → EReal) (H : Reads i p n x o u) (r : Fin 1024) (v52 : IVec S1x256 32)
    (h52 : v52 = k0_pay9 (iota .tc S1x256 32 [1] iota_S1x256_d1_w32) 64#32 k0_pay7 k0_pay8 0#32) :
    (Scalar.select (IntOp.cmpi CmpIPredicate.eq (v52 (ix2 0 o)) 3#32)
      (Ideal.div (k0_pay14 (k0_pay5 (F := Ideal) i p n x) (ix2 r o)) (FloatOps.sitofp (F := Ideal) FTy.f32 (k0_pay15 (k0_pay6 i) (ix2 r 0))))
      (k0_pay13 (F := Ideal) (k0_pay3 i p n x) (k0_pay4 i p n x) (k0_pay6 i) v52
        (k0_pay10 (k0_pay2 i p n x) (k0_pay6 i) (iota .tc S1x256 32 [1] iota_S1x256_d1_w32) 64#32 k0_pay7 k0_pay8 0#32)
        (k0_pay11 (k0_pay6 i)) (k0_pay12 (k0_pay6 i)) (ix2 r o)) : EReal) =
      mean (o.val / 64) u ((i 1).val * 1024 + r) := by
  have hi := tile_lt i
  have ht : (i 1).val * 1024 + r.val < 16384 := by omega
  have e2 := two i p n x o u H (16 + r.val) (by omega) (by omega)
  have e4 := four i p n x o u H (16 + r.val) (by omega) (by omega)
  have e8 := eight i p n x o u H (16 + r.val) (by omega) (by omega)
  have e16 := sixteen i p n x o u H (16 + r.val) (by omega) (by omega)
  have hr := row_at i r
  have hg := group_at o
  rw [← h52] at hg
  have h10 : (k0_pay10 (k0_pay2 (F := Ideal) i p n x) (k0_pay6 i) (iota .tc S1x256 32 [1] iota_S1x256_d1_w32) 64#32 k0_pay7 k0_pay8 0#32 (ix2 r o) : EReal) =
      Scalar.select (IntOp.cmpi CmpIPredicate.eq (v52 (ix2 0 o)) 0#32) (mean 0 u ((i 1).val * 1024 + r)) 0 := by
    unfold k0_pay10
    rw [← h52]
    generalize k0_pay2 (F := Ideal) i p n x = e at e2 ⊢
    generalize k0_pay6 i = v at hr ⊢
    clear e4 e8 e16 h52 H
    pointwise
    rw [e2, hr]
    exact congrArg (fun v : EReal => Scalar.select _ v _) (congrArg₂ Ideal.div (about_window u 0 2 1 _ _ rfl rfl (by omega))
      (congrArg (FloatOps.sitofp (F := Ideal) FTy.f32) (count_at0 _ ht)))
  generalize k0_pay10 (k0_pay2 (F := Ideal) i p n x) (k0_pay6 i) (iota .tc S1x256 32 [1] iota_S1x256_d1_w32) 64#32 k0_pay7 k0_pay8 0#32 = v73 at h10 ⊢
  clear h52
  generalize k0_pay3 (F := Ideal) i p n x = f4 at e4 ⊢
  generalize k0_pay4 (F := Ideal) i p n x = f8 at e8 ⊢
  generalize k0_pay5 (F := Ideal) i p n x = f16 at e16 ⊢
  generalize k0_pay6 i = v at hr ⊢
  pointwise [k0_pay14, k0_pay15, k0_pay13, k0_pay11, k0_pay12]
  rw [e4, e8, e16, hr, h10, hg]
  refine Eq.trans ?_ (pick (o.val / 64) (by omega) fun g => mean g u ((i 1).val * 1024 + r))
  have m1 := congrArg₂ Ideal.div (about_window u 1 4 2 ((i 1).val * 1024 + r) ((i 1).val * 1024 + (16 + r)) rfl rfl (by omega)) (congrArg (FloatOps.sitofp (F := Ideal) FTy.f32) (count_at1 _ ht))
  have m2 := congrArg₂ Ideal.div (about_window u 2 8 4 ((i 1).val * 1024 + r) ((i 1).val * 1024 + (16 + r)) rfl rfl (by omega)) (congrArg (FloatOps.sitofp (F := Ideal) FTy.f32) (count_at2 _ ht))
  have m3 := congrArg₂ Ideal.div (about_window u 3 16 8 ((i 1).val * 1024 + r) ((i 1).val * 1024 + (16 + r)) rfl rfl (by omega)) (congrArg (FloatOps.sitofp (F := Ideal) FTy.f32) (count_at3 _ ht))
  exact congrArg₂ (fun a b : EReal => Scalar.select _ a b) m3 (congrArg₂ (fun a b : EReal => Scalar.select _ a b) m2
    (congrArg (fun a : EReal => Scalar.select _ a _) m1))

/-- What the kernel stores, at a row and a column. -/
theorem payload_at (v52 : IVec S1x256 32) (v113 v124 : FVec Ideal S1024x256 .f32) (v125 : IVec S1024x1 32) (x : FVec Ideal S1x1024x256 .f32)
    (w : FVec Ideal S256x256 .bf16) (s : FVec Ideal S1x256 .f32) (r : Fin 1024) (o : Fin 256) :
    (k0_pay1 (F := Ideal) v52 v113 v124 v125 x w s (ix3 0 r o) : EReal) =
      (∑ k : Fin 256, (Scalar.select (IntOp.cmpi CmpIPredicate.eq (v52 (ix2 0 k)) 3#32)
        (Ideal.div (v124 (ix2 r k)) (FloatOps.sitofp (F := Ideal) FTy.f32 (v125 (ix2 r 0)))) (v113 (ix2 r k)) - x (ix3 0 r k)) * w (ix2 k o)) * s (ix2 0 o) := by
  pointwise [k0_pay1]

/-- The reference's result, as its run leaves it. -/
abbrev REF (V0 : Valuation Cert.Reference6Ideal.τ Cert.Reference6Ideal.sig (Elt Ideal)) : FVec Ideal S2x16384x256 .f32 :=
  mulf (Cert.Reference6Ideal.Value.res_main_v142 V0) (broadcastInDim Cert.Reference6Ideal.S2x16384x256 ![0, 1, 2] Cert.Reference6Ideal.Gen.bcast_S1x1x256_S2x16384x256_0_1_2 (broadcastInDim Cert.Reference6Ideal.S1x1x256 ![2] Cert.Reference6Ideal.Gen.bcast_S256_S1x1x256_2 (V0 (Proc.devRef .tc Cert.Reference6Ideal.main_arg2))))

/-- The zero that a host pads with. -/
theorem pad_zero : (FloatOps.sitofp FTy.f32 (0#32 : BitVec 32) : Ideal .f32) = (0 : EReal) := by
  show ((((0#32 : BitVec 32).toInt : ℤ) : ℝ) : EReal) = 0
  simp

/-- A row of the columns of group 0, padded. -/
theorem pad_at0 (a : FVec Ideal S2x16384x2048 .f32) (b : Fin 2) (k : Nat) (hk : k < 16385) (o : Fin 64) :
    (pad Cert.Reference6Ideal.S2x16385x64 ![0, 1, 0] ![0, 0, 0] ![0, 0, 0] (extractStridedSlice Cert.Reference6Ideal.S2x16384x64 ![0, 0, 0] (extractStridedSlice Cert.Reference6Ideal.S2x16384x256 ![0, 0, 0] a Cert.Reference6Ideal.Gen.slices_S2x16384x2048_S2x16384x256_0_0_0) Cert.Reference6Ideal.Gen.slices_S2x16384x256_S2x16384x64_0_0_0) (sitofp (F := Ideal) .f32 (constantI Cert.Reference6Ideal.S_ 32 0#32)) Cert.Reference6Ideal.Gen.pads_S2x16384x64_S2x16385x64_000_100_000 Cert.Reference6Ideal.Gen.h_S_ (ix3 b ⟨k, hk⟩ o) : EReal) =
      padded (fun r => a (ix3 b r ⟨o.val, by omega⟩)) (k + 15) := by
  pointwise
  simp only [pad_zero]
  unfold padded
  by_cases hc : 1 ≤ k ∧ k - 1 < 16384
  · rw [dif_pos (by omega), dif_pos (by omega)]
    refine congrArg a ?_
    refine congrArg₂ (ix3 b) (Fin.ext (by dsimp only; omega)) (Fin.ext (by first | rfl | (dsimp only; omega)))
  · rw [dif_neg (by omega), dif_neg (by omega)]

/-- A row of the columns of group 1, padded. -/
theorem pad_at1 (a : FVec Ideal S2x16384x2048 .f32) (b : Fin 2) (k : Nat) (hk : k < 16387) (o : Fin 64) :
    (pad Cert.Reference6Ideal.S2x16387x64 ![0, 2, 0] ![0, 1, 0] ![0, 0, 0] (extractStridedSlice Cert.Reference6Ideal.S2x16384x64 ![0, 0, 64] (extractStridedSlice Cert.Reference6Ideal.S2x16384x256 ![0, 0, 0] a Cert.Reference6Ideal.Gen.slices_S2x16384x2048_S2x16384x256_0_0_0) Cert.Reference6Ideal.Gen.slices_S2x16384x256_S2x16384x64_0_0_64) (sitofp (F := Ideal) .f32 (constantI Cert.Reference6Ideal.S_ 32 0#32)) Cert.Reference6Ideal.Gen.pads_S2x16384x64_S2x16387x64_000_210_000 Cert.Reference6Ideal.Gen.h_S_ (ix3 b ⟨k, hk⟩ o) : EReal) =
      padded (fun r => a (ix3 b r ⟨64 * 1 + o, by omega⟩)) (k + 14) := by
  pointwise
  simp only [pad_zero]
  unfold padded
  by_cases hc : 2 ≤ k ∧ k - 2 < 16384
  · rw [dif_pos (by omega), dif_pos (by omega)]
    refine congrArg a ?_
    refine congrArg₂ (ix3 b) (Fin.ext (by dsimp only; omega)) (Fin.ext (by first | rfl | (dsimp only; omega)))
  · rw [dif_neg (by omega), dif_neg (by omega)]

/-- A row of the columns of group 2, padded. -/
theorem pad_at2 (a : FVec Ideal S2x16384x2048 .f32) (b : Fin 2) (k : Nat) (hk : k < 16391) (o : Fin 64) :
    (pad Cert.Reference6Ideal.S2x16391x64 ![0, 4, 0] ![0, 3, 0] ![0, 0, 0] (extractStridedSlice Cert.Reference6Ideal.S2x16384x64 ![0, 0, 128] (extractStridedSlice Cert.Reference6Ideal.S2x16384x256 ![0, 0, 0] a Cert.Reference6Ideal.Gen.slices_S2x16384x2048_S2x16384x256_0_0_0) Cert.Reference6Ideal.Gen.slices_S2x16384x256_S2x16384x64_0_0_128) (sitofp (F := Ideal) .f32 (constantI Cert.Reference6Ideal.S_ 32 0#32)) Cert.Reference6Ideal.Gen.pads_S2x16384x64_S2x16391x64_000_430_000 Cert.Reference6Ideal.Gen.h_S_ (ix3 b ⟨k, hk⟩ o) : EReal) =
      padded (fun r => a (ix3 b r ⟨64 * 2 + o, by omega⟩)) (k + 12) := by
  pointwise
  simp only [pad_zero]
  unfold padded
  by_cases hc : 4 ≤ k ∧ k - 4 < 16384
  · rw [dif_pos (by omega), dif_pos (by omega)]
    refine congrArg a ?_
    refine congrArg₂ (ix3 b) (Fin.ext (by dsimp only; omega)) (Fin.ext (by first | rfl | (dsimp only; omega)))
  · rw [dif_neg (by omega), dif_neg (by omega)]

/-- A row of the columns of group 3, padded. -/
theorem pad_at3 (a : FVec Ideal S2x16384x2048 .f32) (b : Fin 2) (k : Nat) (hk : k < 16399) (o : Fin 64) :
    (pad Cert.Reference6Ideal.S2x16399x64 ![0, 8, 0] ![0, 7, 0] ![0, 0, 0] (extractStridedSlice Cert.Reference6Ideal.S2x16384x64 ![0, 0, 192] (extractStridedSlice Cert.Reference6Ideal.S2x16384x256 ![0, 0, 0] a Cert.Reference6Ideal.Gen.slices_S2x16384x2048_S2x16384x256_0_0_0) Cert.Reference6Ideal.Gen.slices_S2x16384x256_S2x16384x64_0_0_192) (sitofp (F := Ideal) .f32 (constantI Cert.Reference6Ideal.S_ 32 0#32)) Cert.Reference6Ideal.Gen.pads_S2x16384x64_S2x16399x64_000_870_000 Cert.Reference6Ideal.Gen.h_S_ (ix3 b ⟨k, hk⟩ o) : EReal) =
      padded (fun r => a (ix3 b r ⟨64 * 3 + o, by omega⟩)) (k + 8) := by
  pointwise
  simp only [pad_zero]
  unfold padded
  by_cases hc : 8 ≤ k ∧ k - 8 < 16384
  · rw [dif_pos (by omega), dif_pos (by omega)]
    refine congrArg a ?_
    refine congrArg₂ (ix3 b) (Fin.ext (by dsimp only; omega)) (Fin.ext (by first | rfl | (dsimp only; omega)))
  · rw [dif_neg (by omega), dif_neg (by omega)]

/-- The pooled columns at an entry. -/
theorem out_at (p : FVec Ideal S2x16384x2048 .f32) (w : FVec Ideal S4x64x64 .f32) (s : FVec Ideal S256 .f32)
    (b : Fin 2) (t : Fin 16384) (g : Fin 4) (o : Fin 64) (l : Fin 256) (hl : l.val = 64 * g + o) :
    OUT p w s (ix3 b t l) = (∑ k : Fin 64, (mean g.val (fun r => p (ix3 b r ⟨64 * g + k, by omega⟩)) t.val -
      p (ix3 b t ⟨64 * g + k, by omega⟩)) * w (ix3 g k o)) * s (ix1 l) := by
  have hg : l.val / 64 = g.val := by omega
  have ho : l.val % 64 = o.val := by omega
  show (∑ k : Fin 64, (mean (l.val / 64) (fun r => p (ix3 b r ⟨64 * (l.val / 64) + k, _⟩)) t.val -
      p (ix3 b t ⟨64 * (l.val / 64) + k, _⟩)) * w (ix3 ⟨l.val / 64, _⟩ k ⟨l.val % 64, _⟩)) * s (ix1 l) = _
  simp only [hg, ho]

/-- The reference's padded columns, in group 0. -/
theorem res_at0 (V0 : Valuation Cert.Reference6Ideal.τ Cert.Reference6Ideal.sig (Elt Ideal)) (b : Fin 2) (k : Nat) (hk : k < 16385) (o : Fin 64) :
    (Cert.Reference6Ideal.Value.res_main_v11 V0 (ix3 b ⟨k, hk⟩ o) : Ideal .f32) =
      padded (fun r => (V0 (Proc.devRef .tc Cert.Reference6Ideal.main_arg0)) (ix3 b r ⟨o.val, by omega⟩)) (k + 15) :=
  pad_at0 (V0 (Proc.devRef .tc Cert.Reference6Ideal.main_arg0)) b k hk o

/-- The reference's window sum, in group 0. -/
theorem window_at0 (u : Fin 16384 → EReal) (t : Nat) : window 0 u t = ∑ j ∈ Finset.range 2, padded u (j + t + 15) :=
  Finset.sum_congr rfl fun j _ => congrArg (padded u) (by omega)

/-- The reference's result in group 0. -/
theorem reference_at0 (V0 : Valuation Cert.Reference6Ideal.τ Cert.Reference6Ideal.sig (Elt Ideal)) (b : Fin 2) (t : Fin 16384) (o : Fin 64) :
    (REF V0 (ix3 b t ⟨o.val, by omega⟩) : EReal) =
      OUT (V0 (Proc.devRef .tc Cert.Reference6Ideal.main_arg0)) (V0 (Proc.devRef .tc Cert.Reference6Ideal.main_arg1)) (V0 (Proc.devRef .tc Cert.Reference6Ideal.main_arg2))
        (ix3 b t ⟨o.val, by omega⟩) := by
  refine Eq.trans ?_ (out_at _ _ _ b t 0 o _ (by simp)).symm
  pointwise [REF, Cert.Reference6Ideal.Value.res_main_v142, Cert.Reference6Ideal.Value.res_main_v1, Cert.Reference6Ideal.Value.res_main_v2, Cert.Reference6Ideal.Value.res_main_v0]
  simp only [res_at0]
  refine congrArg (fun v : EReal => v * _) (Finset.sum_congr rfl fun x _ => ?_)
  refine congrArg (fun v : EReal => (v - _) * _) ?_
  refine congrArg₂ Ideal.div ?_ rfl
  refine Eq.trans ?_ (window_at0 _ _).symm
  simp only [Finset.sum_range_succ, Finset.sum_range_zero, zero_add]

/-- The reference's padded columns, in group 1. -/
theorem res_at1 (V0 : Valuation Cert.Reference6Ideal.τ Cert.Reference6Ideal.sig (Elt Ideal)) (b : Fin 2) (k : Nat) (hk : k < 16387) (o : Fin 64) :
    (Cert.Reference6Ideal.Value.res_main_v35 V0 (ix3 b ⟨k, hk⟩ o) : Ideal .f32) =
      padded (fun r => (V0 (Proc.devRef .tc Cert.Reference6Ideal.main_arg0)) (ix3 b r ⟨64 * 1 + o, by omega⟩)) (k + 14) :=
  pad_at1 (V0 (Proc.devRef .tc Cert.Reference6Ideal.main_arg0)) b k hk o

/-- The reference's window sum, in group 1. -/
theorem window_at1 (u : Fin 16384 → EReal) (t : Nat) : window 1 u t = ∑ j ∈ Finset.range 4, padded u (j + t + 14) :=
  Finset.sum_congr rfl fun j _ => congrArg (padded u) (by omega)

/-- The reference's result in group 1. -/
theorem reference_at1 (V0 : Valuation Cert.Reference6Ideal.τ Cert.Reference6Ideal.sig (Elt Ideal)) (b : Fin 2) (t : Fin 16384) (o : Fin 64) :
    (REF V0 (ix3 b t ⟨64 + o.val, by omega⟩) : EReal) =
      OUT (V0 (Proc.devRef .tc Cert.Reference6Ideal.main_arg0)) (V0 (Proc.devRef .tc Cert.Reference6Ideal.main_arg1)) (V0 (Proc.devRef .tc Cert.Reference6Ideal.main_arg2))
        (ix3 b t ⟨64 + o.val, by omega⟩) := by
  refine Eq.trans ?_ (out_at _ _ _ b t 1 o _ (by simp)).symm
  pointwise [REF, Cert.Reference6Ideal.Value.res_main_v142, Cert.Reference6Ideal.Value.res_main_v1, Cert.Reference6Ideal.Value.res_main_v26, Cert.Reference6Ideal.Value.res_main_v0]
  simp only [res_at1]
  refine congrArg (fun v : EReal => v * _) (Finset.sum_congr rfl fun x _ => ?_)
  refine congrArg (fun v : EReal => (v - _) * _) ?_
  refine congrArg₂ Ideal.div ?_ rfl
  refine Eq.trans ?_ (window_at1 _ _).symm
  simp only [Finset.sum_range_succ, Finset.sum_range_zero, zero_add]

/-- The reference's padded columns, in group 2. -/
theorem res_at2 (V0 : Valuation Cert.Reference6Ideal.τ Cert.Reference6Ideal.sig (Elt Ideal)) (b : Fin 2) (k : Nat) (hk : k < 16391) (o : Fin 64) :
    (Cert.Reference6Ideal.Value.res_main_v63 V0 (ix3 b ⟨k, hk⟩ o) : Ideal .f32) =
      padded (fun r => (V0 (Proc.devRef .tc Cert.Reference6Ideal.main_arg0)) (ix3 b r ⟨64 * 2 + o, by omega⟩)) (k + 12) :=
  pad_at2 (V0 (Proc.devRef .tc Cert.Reference6Ideal.main_arg0)) b k hk o

/-- The reference's window sum, in group 2. -/
theorem window_at2 (u : Fin 16384 → EReal) (t : Nat) : window 2 u t = ∑ j ∈ Finset.range 8, padded u (j + t + 12) :=
  Finset.sum_congr rfl fun j _ => congrArg (padded u) (by omega)

/-- The reference's result in group 2. -/
theorem reference_at2 (V0 : Valuation Cert.Reference6Ideal.τ Cert.Reference6Ideal.sig (Elt Ideal)) (b : Fin 2) (t : Fin 16384) (o : Fin 64) :
    (REF V0 (ix3 b t ⟨128 + o.val, by omega⟩) : EReal) =
      OUT (V0 (Proc.devRef .tc Cert.Reference6Ideal.main_arg0)) (V0 (Proc.devRef .tc Cert.Reference6Ideal.main_arg1)) (V0 (Proc.devRef .tc Cert.Reference6Ideal.main_arg2))
        (ix3 b t ⟨128 + o.val, by omega⟩) := by
  refine Eq.trans ?_ (out_at _ _ _ b t 2 o _ (by simp)).symm
  pointwise [REF, Cert.Reference6Ideal.Value.res_main_v142, Cert.Reference6Ideal.Value.res_main_v1, Cert.Reference6Ideal.Value.res_main_v54, Cert.Reference6Ideal.Value.res_main_v0]
  simp only [res_at2]
  refine congrArg (fun v : EReal => v * _) ?_
  repeat rw [dif_neg (by omega)]
  rw [dif_pos (by omega)]
  refine Finset.sum_congr rfl fun x _ => ?_
  refine congrArg₂ (fun v u : EReal => (v - _) * u) ?_ (congrArg (fun k => (V0 (Proc.devRef .tc Cert.Reference6Ideal.main_arg1)) (ix3 2 x k)) (Fin.ext (by dsimp only; omega)))
  refine congrArg₂ Ideal.div ?_ rfl
  refine Eq.trans ?_ (window_at2 _ _).symm
  simp only [Finset.sum_range_succ, Finset.sum_range_zero, zero_add]

/-- The reference's padded columns, in group 3. -/
theorem res_at3 (V0 : Valuation Cert.Reference6Ideal.τ Cert.Reference6Ideal.sig (Elt Ideal)) (b : Fin 2) (k : Nat) (hk : k < 16399) (o : Fin 64) :
    (Cert.Reference6Ideal.Value.res_main_v99 V0 (ix3 b ⟨k, hk⟩ o) : Ideal .f32) =
      padded (fun r => (V0 (Proc.devRef .tc Cert.Reference6Ideal.main_arg0)) (ix3 b r ⟨64 * 3 + o, by omega⟩)) (k + 8) :=
  pad_at3 (V0 (Proc.devRef .tc Cert.Reference6Ideal.main_arg0)) b k hk o

/-- The reference's window sum, in group 3. -/
theorem window_at3 (u : Fin 16384 → EReal) (t : Nat) : window 3 u t = ∑ j ∈ Finset.range 16, padded u (j + t + 8) :=
  Finset.sum_congr rfl fun j _ => congrArg (padded u) (by omega)

/-- The reference's result in group 3. -/
theorem reference_at3 (V0 : Valuation Cert.Reference6Ideal.τ Cert.Reference6Ideal.sig (Elt Ideal)) (b : Fin 2) (t : Fin 16384) (o : Fin 64) :
    (REF V0 (ix3 b t ⟨192 + o.val, by omega⟩) : EReal) =
      OUT (V0 (Proc.devRef .tc Cert.Reference6Ideal.main_arg0)) (V0 (Proc.devRef .tc Cert.Reference6Ideal.main_arg1)) (V0 (Proc.devRef .tc Cert.Reference6Ideal.main_arg2))
        (ix3 b t ⟨192 + o.val, by omega⟩) := by
  refine Eq.trans ?_ (out_at _ _ _ b t 3 o _ (by simp)).symm
  pointwise [REF, Cert.Reference6Ideal.Value.res_main_v142, Cert.Reference6Ideal.Value.res_main_v1, Cert.Reference6Ideal.Value.res_main_v90, Cert.Reference6Ideal.Value.res_main_v0]
  simp only [res_at3]
  refine congrArg (fun v : EReal => v * _) ?_
  repeat rw [dif_neg (by omega)]
  refine Finset.sum_congr rfl fun x _ => ?_
  refine congrArg₂ (fun v u : EReal => (v - _) * u) ?_ (congrArg (fun k => (V0 (Proc.devRef .tc Cert.Reference6Ideal.main_arg1)) (ix3 3 x k)) (Fin.ext (by dsimp only; omega)))
  refine congrArg₂ Ideal.div ?_ rfl
  refine Eq.trans ?_ (window_at3 _ _).symm
  simp only [Finset.sum_range_succ, Finset.sum_range_zero, zero_add]

/-- The reference's result is the pooled columns less the columns, through the weights, times the scale. -/
theorem reference_eq (V0 : Valuation Cert.Reference6Ideal.τ Cert.Reference6Ideal.sig (Elt Ideal)) :
    REF V0 = OUT (V0 (Proc.devRef .tc Cert.Reference6Ideal.main_arg0)) (V0 (Proc.devRef .tc Cert.Reference6Ideal.main_arg1)) (V0 (Proc.devRef .tc Cert.Reference6Ideal.main_arg2)) := by
  funext y
  idx_vars y
  by_cases h0 : y2.val < 64
  · exact reference_at0 V0 y0 y1 ⟨y2.val, h0⟩
  by_cases h1 : y2.val < 128
  · obtain ⟨o, ho⟩ : ∃ o : Fin 64, y2 = ⟨64 + o.val, by omega⟩ := ⟨⟨y2.val - 64, by omega⟩, Fin.ext (by dsimp only; omega)⟩
    rw [ho]
    exact reference_at1 V0 y0 y1 o
  by_cases h2 : y2.val < 192
  · obtain ⟨o, ho⟩ : ∃ o : Fin 64, y2 = ⟨128 + o.val, by omega⟩ := ⟨⟨y2.val - 128, by omega⟩, Fin.ext (by dsimp only; omega)⟩
    rw [ho]
    exact reference_at2 V0 y0 y1 o
  · obtain ⟨o, ho⟩ : ∃ o : Fin 64, y2 = ⟨192 + o.val, by omega⟩ := ⟨⟨y2.val - 192, by omega⟩, Fin.ext (by dsimp only; omega)⟩
    rw [ho]
    exact reference_at3 V0 y0 y1 o

/-- Where each window's block lies at a point, and the point's tile. -/
theorem idx : ∀ t : Fin cfg0.N,
    win0_0.index t = ![t.val / 16, t.val % 16 * 64 - 1, 0] ∧ win0_1.index t = ![t.val / 16, t.val % 16, 0] ∧
    win0_2.index t = ![t.val / 16, min ((t.val % 16 + 1) * 64) 1023, 0] ∧
    win0_3.index t = ![0, 0] ∧ win0_4.index t = ![0, 0] ∧
    win0_5.index t = ![t.val / 16, t.val % 16, 0] ∧ (grid0.coords t 1).val = t.val % 16 :=
  (by decide +kernel : ∀ t : Fin grid0.N,
    win0_0.index t = ![t.val / 16, t.val % 16 * 64 - 1, 0] ∧ win0_1.index t = ![t.val / 16, t.val % 16, 0] ∧
    win0_2.index t = ![t.val / 16, min ((t.val % 16 + 1) * 64) 1023, 0] ∧
    win0_3.index t = ![0, 0] ∧ win0_4.index t = ![0, 0] ∧
    win0_5.index t = ![t.val / 16, t.val % 16, 0] ∧ (grid0.coords t 1).val = t.val % 16)

variable (m : (ℓ : Loc nD τ sig) → Buf (Elt Ideal) ℓ) (c : Dev nD)

/-- There are 32 points. -/
theorem point_lt (t : Fin cfg0.N) : t.val < 32 := t.isLt

/-- The tile's rows at a point. -/
theorem x_at (t : Fin cfg0.N) (r : Fin 1024) (o : Fin 256) :
    (show FVec Ideal S1x1024x256 .f32 from iblk m c 1 t) (ix3 0 r o) =
      (m ((c : Thread nD τ).loc main_arg0)) (ix3 ⟨t.val / 16, by have := point_lt t; omega⟩ ⟨t.val % 16 * 1024 + r, by omega⟩
        ⟨o, by omega⟩) := by
  blk_ext [iblk, V, idx t]

/-- The halo before the tile. -/
theorem p_at (t : Fin cfg0.N) (h : 0 < t.val % 16) (r : Fin 16) (o : Fin 256) :
    (show FVec Ideal S1x16x256 .f32 from iblk m c 0 t) (ix3 0 r o) =
      (m ((c : Thread nD τ).loc main_arg0)) (ix3 ⟨t.val / 16, by have := point_lt t; omega⟩ ⟨t.val % 16 * 1024 + r - 16, by omega⟩
        ⟨o, by omega⟩) := by
  blk_ext [iblk, V, idx t]

/-- The halo after the tile. -/
theorem n_at (t : Fin cfg0.N) (h : t.val % 16 < 15) (r : Fin 16) (o : Fin 256) :
    (show FVec Ideal S1x16x256 .f32 from iblk m c 2 t) (ix3 0 r o) =
      (m ((c : Thread nD τ).loc main_arg0)) (ix3 ⟨t.val / 16, by have := point_lt t; omega⟩ ⟨t.val % 16 * 1024 + 1024 + r, by omega⟩
        ⟨o, by omega⟩) := by
  blk_ext [iblk, V, idx t]

/-- The scale at a point. -/
theorem s_at (t : Fin cfg0.N) (o : Fin 256) :
    (show FVec Ideal S1x256 .f32 from iblk m c 4 t) (ix2 0 o) = (m ((c : Thread nD τ).loc main_arg2)) (ix1 o) := by
  blk_simp [iblk, idx t]
  entry_read
  pointwise
  blk_point [idx t]

/-- The block-diagonal weights. -/
theorem w_at (t : Fin cfg0.N) (k o : Fin 256) :
    ((show FVec Ideal S256x256 .bf16 from iblk m c 3 t) (ix2 k o) : EReal) =
      (if k.val / 64 = o.val / 64 then (1 : EReal) else 0) *
        (m ((c : Thread nD τ).loc main_arg1)) (ix3 ⟨k.val / 64, by omega⟩ ⟨k.val % 64, by omega⟩ ⟨o.val % 64, by omega⟩) := by
  have e : ((View.whole main_v12).slice (win0_3.rect t)).emb (ix2 k o) = ix2 k o := by
    blk_ext [idx t]
  blk_simp [iblk, idx t]
  entry_read
  rw [e]
  pointwise
  rw [eye_at _ _ (by omega) (by omega)]

/-- What the point's blocks hold of a column. -/
theorem reads (t : Fin cfg0.N) (o : Fin 256) : Reads (grid0.coords t) (iblk m c 0 t) (iblk m c 2 t) (iblk m c 1 t) o
    (fun s => (m ((c : Thread nD τ).loc main_arg0)) (ix3 ⟨t.val / 16, by have := point_lt t; omega⟩ s ⟨o, by omega⟩)) := by
  have hc := (idx t).2.2.2.2.2.2
  constructor
  · intro r
    simp only [hc]
    exact x_at m c t r o
  · intro r h
    simp only [hc]
    exact p_at m c t (hc ▸ h) r o
  · intro r h
    simp only [hc]
    exact n_at m c t (hc ▸ h) r o

/-- The array the pipeline leaves is the pooled columns less the columns, through the weights, times the scale. -/
theorem final : (dats m 0 c).arrAt 5 cfg0.N =
    OUT (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  idx_vars y
  obtain rfl : y0 = 0 := Subsingleton.elim _ _
  have ht := point_lt t
  have hc := (idx t).2.2.2.2.2.2
  refine (payload_at _ _ _ _ _ _ _ y1 y2).trans ?_
  have b0 : t.val / 16 < 2 := by omega
  have b1 : t.val % 16 * 1024 + y1.val < 16384 := by omega
  have bg : y2.val / 64 < 4 := by omega
  have bo : y2.val % 64 < 64 := by omega
  refine Eq.trans ?_ ((out_at (m ((c : Thread nD τ).loc main_arg0)) (m ((c : Thread nD τ).loc main_arg1)) (m ((c : Thread nD τ).loc main_arg2))
    ⟨t.val / 16, b0⟩ ⟨t.val % 16 * 1024 + y1, b1⟩ ⟨y2.val / 64, bg⟩ ⟨y2.val % 64, bo⟩ y2 (by dsimp only; omega)).symm.trans ?_)
  · refine congrArg₂ (fun u v : EReal => u * v) ?_ (s_at m c t y2)
    refine Eq.trans (Finset.sum_congr rfl fun k _ => ?_) (block_sum
      (fun k => mean (k.val / 64) (fun r => (m ((c : Thread nD τ).loc main_arg0)) (ix3 ⟨t.val / 16, b0⟩ r ⟨k, by omega⟩)) (t.val % 16 * 1024 + y1) -
        (m ((c : Thread nD τ).loc main_arg0)) (ix3 ⟨t.val / 16, b0⟩ ⟨t.val % 16 * 1024 + y1, b1⟩ ⟨k, by omega⟩))
      (fun g k => (m ((c : Thread nD τ).loc main_arg1)) (ix3 g k ⟨y2.val % 64, bo⟩)) ⟨y2.val / 64, bg⟩ |>.trans
        (Finset.sum_congr rfl fun k _ => ?_))
    · refine congrArg₂ (fun u v : EReal => u * v) (congrArg₂ (fun u v : EReal => u - v) ?_ (x_at m c t y1 k)) (w_at m c t k y2)
      refine (mean_at (grid0.coords t) (iblk m c 0 t) (iblk m c 2 t) (iblk m c 1 t) k _ (reads m c t k) y1 _ rfl).trans ?_
      rw [hc]
    · have hg : (64 * (y2.val / 64) + k.val) / 64 = y2.val / 64 := by omega
      dsimp only
      rw [hg]
  · refine congrArg (OUT _ _ _) ?_
    blk_ext [idx t]

end Cert.Kernel6Ideal.Hand

end
-- ==== Proof.Value.QkvNorm.lean ====
/- The norm of one head of 64 columns, and the kernel's way of computing it in blocks of two heads. -/
module

public import Idealize.ShloMosaic.PureOps
public import Idealize.ShloMosaic.Lib.Pointwise

@[expose] public section

set_option maxRecDepth 16384

noncomputable section

namespace Cert.Qkv

open Idealize.ShloMosaic

/-- A head's norm at a column: the head over its root mean square, times the gain. -/
def headNorm (x g : Fin 64 → EReal) (k : Fin 64) : EReal :=
  x k * Ideal.rsqrt (Ideal.div (∑ j, x j * x j) (Ideal.ofBits .f32 0x42800000#32) + Ideal.ofBits .f32 0x358637BD#32) * g k

/-- The kernel's norm of two heads side by side, at a column: the mean of the squares is a product with a matrix, of the rounded
    squares and of what the rounding left over. -/
def pair (x : Fin 128 → EReal) (w : Fin 128 → Fin 128 → EReal) (g : Fin 128 → EReal) (o : Fin 128) : EReal :=
  x o * Ideal.rsqrt ((∑ k, x k * x k * w k o) + (∑ k, (x k * x k - x k * x k) * w k o) + Ideal.ofBits .f32 0x358637BD#32) * g o

/-- The kernel's norm depends on the entries it reads. -/
theorem pair_congr {x x' : Fin 128 → EReal} {w w' : Fin 128 → Fin 128 → EReal} {g g' : Fin 128 → EReal} {o o' : Fin 128}
    (hx : ∀ k, x k = x' k) (hw : ∀ k o, w k o = w' k o) (hg : ∀ o, g o = g' o) (ho : o = o') : pair x w g o = pair x' w' g' o' := by
  obtain rfl : x = x' := funext hx
  obtain rfl : w = w' := funext fun k => funext fun o => hw k o
  obtain rfl : g = g' := funext hg
  rw [ho]

/-- A head's norm depends on the entries it reads. -/
theorem headNorm_congr {x x' g g' : Fin 64 → EReal} {k k' : Fin 64} (hx : ∀ k, x k = x' k) (hg : ∀ k, g k = g' k) (hk : k = k') :
    headNorm x g k = headNorm x' g' k' := by
  obtain rfl : x = x' := funext hx
  obtain rfl : g = g' := funext hg
  rw [hk]

/-- An entry of the identity of two rows. -/
theorem eye_at (a b : Nat) (ha : a < 2) (hb : b < 2) :
    (FloatOps.uitofp FTy.f32 (IntOp.cmpi CmpIPredicate.eq (IntOp.addi (BitVec.ofNat 32 a) 0#32) (BitVec.ofNat 32 b)) : Ideal .f32) =
      if a = b then (1 : EReal) else 0 := by
  have e1 : (FloatOps.uitofp FTy.f32 (1#1 : BitVec 1) : Ideal .f32) = (1 : EReal) := by
    show ((((1#1 : BitVec 1).toNat : ℕ) : ℝ) : EReal) = 1
    simp
  have e0 : (FloatOps.uitofp FTy.f32 (0#1 : BitVec 1) : Ideal .f32) = (0 : EReal) := by
    show ((((0#1 : BitVec 1).toNat : ℕ) : ℝ) : EReal) = 0
    simp
  interval_cases a <;> interval_cases b <;> first | exact e1 | exact e0

/-- The word of 64. -/
theorem word_64 : Ideal.ofBits .f32 0x42800000#32 = ((64 : ℝ) : EReal) := by
  simp [Ideal.ofBits, Ideal.ieee]
  norm_cast
  norm_num

/-- The word of 1/64. -/
theorem word_64th : Ideal.ofBits .f32 0x3C800000#32 = ((1 / 64 : ℝ) : EReal) := by
  simp [Ideal.ofBits, Ideal.ieee]
  norm_cast
  norm_num

/-- A sum over two heads, of which one counts. -/
theorem head_sum (d : Fin 128 → EReal) (v : EReal) (g : Fin 2) :
    (∑ k : Fin 128, d k * ((if k.val / 64 = g.val then (1 : EReal) else 0) * v)) = ∑ k : Fin 64, d ⟨64 * g + k, by omega⟩ * v := by
  refine (Equiv.sum_comp (finProdFinEquiv : Fin 2 × Fin 64 ≃ Fin 128) _).symm.trans ?_
  rw [Fintype.sum_prod_type, Finset.sum_eq_single g]
  · refine Finset.sum_congr rfl fun k _ => ?_
    have hv : (finProdFinEquiv (g, k) : Fin 128).val = k.val + 64 * g.val := rfl
    have e : (finProdFinEquiv (g, k) : Fin 128) = ⟨64 * g + k, by omega⟩ := Fin.ext (by rw [hv]; dsimp only; omega)
    rw [e, if_pos (by dsimp only; omega), one_mul]
  · intro a _ ha
    refine Finset.sum_eq_zero fun k _ => ?_
    have hv : (finProdFinEquiv (a, k) : Fin 128).val = k.val + 64 * a.val := rfl
    have hne : a.val ≠ g.val := fun h => ha (Fin.ext h)
    rw [if_neg (by rw [hv]; omega), zero_mul, mul_zero]
  · intro h
    exact absurd (Finset.mem_univ g) h

/-- A sum of real numbers is real. -/
theorem coe_sum (f : Fin 64 → ℝ) : ((∑ k, f k : ℝ) : EReal) = ∑ k, (f k : EReal) :=
  map_sum (⟨⟨fun r : ℝ => (r : EReal), EReal.coe_zero⟩, EReal.coe_add⟩ : ℝ →+ EReal) f Finset.univ

/-- Of real numbers, the mean of the squares as a product with 1/64. -/
theorem mean_sq (x : Fin 64 → EReal) (hx : ∀ k, ∃ r : ℝ, x k = (r : EReal)) :
    (∑ k, x k * x k * Ideal.ofBits .f32 0x3C800000#32) = Ideal.div (∑ k, x k * x k) (Ideal.ofBits .f32 0x42800000#32) := by
  choose r hr using hx
  have e1 : (∑ k, x k * x k * Ideal.ofBits .f32 0x3C800000#32) = ((∑ k, r k * r k * (1 / 64) : ℝ) : EReal) := by
    rw [coe_sum]
    refine Finset.sum_congr rfl fun k _ => ?_
    rw [hr k, word_64th, ← EReal.coe_mul, ← EReal.coe_mul]
  have e2 : (∑ k, x k * x k) = ((∑ k, r k * r k : ℝ) : EReal) := by
    rw [coe_sum]
    refine Finset.sum_congr rfl fun k _ => ?_
    rw [hr k, ← EReal.coe_mul]
  rw [e1, e2, word_64]
  unfold Ideal.div
  rw [if_neg (by norm_cast), ← EReal.coe_inv, ← EReal.coe_mul, ← Finset.sum_mul]
  norm_num

/-- Of real numbers, the kernel's norm of two heads is the norm of each. -/
theorem pair_eq (x : Fin 128 → EReal) (w : Fin 128 → Fin 128 → EReal) (g : Fin 128 → EReal) (o : Fin 128)
    (hx : ∀ k, ∃ r : ℝ, x k = (r : EReal))
    (hw : ∀ k o, w k o = (if k.val / 64 = o.val / 64 then (1 : EReal) else 0) * Ideal.ofBits .f32 0x3C800000#32) :
    pair x w g o = headNorm (fun k => x ⟨64 * (o.val / 64) + k, by omega⟩) (fun k => g ⟨64 * (o.val / 64) + k, by omega⟩) ⟨o.val % 64, by omega⟩ := by
  have ho : (⟨64 * (o.val / 64) + o.val % 64, by omega⟩ : Fin 128) = o := Fin.ext (by dsimp only; omega)
  have e1 : (∑ k, x k * x k * w k o) = Ideal.div (∑ k : Fin 64, x ⟨64 * (o.val / 64) + k, by omega⟩ * x ⟨64 * (o.val / 64) + k, by omega⟩) (Ideal.ofBits .f32 0x42800000#32) := by
    refine (Finset.sum_congr rfl fun k _ => by rw [hw k o]).trans ((head_sum (fun k => x k * x k) _ ⟨o.val / 64, by omega⟩).trans ?_)
    exact mean_sq (fun k => x ⟨64 * (o.val / 64) + k, by omega⟩) fun k => hx _
  have e2 : (∑ k, (x k * x k - x k * x k) * w k o) = 0 := by
    refine Finset.sum_eq_zero fun k _ => ?_
    obtain ⟨r, hr⟩ := hx k
    rw [hr, ← EReal.coe_mul, ← EReal.coe_sub, sub_self, EReal.coe_zero, zero_mul]
  unfold pair headNorm
  rw [e1, e2, add_zero]
  dsimp only
  rw [ho]

end Cert.Qkv

end
-- ==== Proof.Value.Qkv.lean ====
/- Queries, keys and values of the context tokens: the arrays their pipeline leaves are the reference's. -/
module

public import proofs.«01_k».proof.Proof.Gen.Kernel7Ideal.Frame
public import proofs.«01_k».proof.Proof.Gen.Kernel7Ideal.Value
public import proofs.«01_k».proof.Proof.Gen.Reference7Ideal.Run
public import proofs.«01_k».proof.Proof.Value.QkvNorm
public import Idealize.ShloMosaic.Lib.Pipeline.ValueKit
public import Idealize.ShloMosaic.Lib.Claim

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Pipeline Cert.Qkv

/-- The number that queries are scaled by. -/
abbrev qs : EReal := Ideal.ofBits .f32 0x3E38AA3B#32

/-- The first pair of query heads, columns first. -/
theorem first_at (w : FVec Ideal S128x128 .bf16) (x : FVec Ideal S1x256x128 .f32) (g : FVec Ideal S1x128 .f32) (o : Fin 128) (r : Fin 256) :
    (k0_pay6 (F := Ideal) w x g (ix2 o r) : EReal) =
      pair (fun k => x (ix3 0 r k)) (fun k o => w (ix2 k o)) (fun o => g (ix2 0 o)) o * qs := by
  unfold pair
  pointwise [k0_pay6, k0_pay5]

/-- The second pair of query heads, columns first. -/
theorem second_at (w : FVec Ideal S128x128 .bf16) (x : FVec Ideal S1x256x128 .f32) (g : FVec Ideal S1x128 .f32) (o : Fin 128) (r : Fin 256) :
    (k0_pay9 (F := Ideal) w x g (ix2 o r) : EReal) =
      pair (fun k => x (ix3 0 r k)) (fun k o => w (ix2 k o)) (fun o => g (ix2 0 o)) o * qs := by
  unfold pair
  pointwise [k0_pay9]

/-- The first query head. -/
theorem q0_at (w : FVec Ideal S128x128 .bf16) (x : FVec Ideal S1x256x128 .f32) (g : FVec Ideal S1x128 .f32) (d : Fin 64) (r : Fin 256) :
    (k0_pay7 (F := Ideal) w x g (ix4 0 0 d r) : EReal) = k0_pay6 (F := Ideal) w x g (ix2 ⟨d, by omega⟩ r) := by
  unfold k0_pay7
  generalize k0_pay6 (F := Ideal) w x g = v
  pointwise

/-- The second query head. -/
theorem q1_at (w : FVec Ideal S128x128 .bf16) (x : FVec Ideal S1x256x128 .f32) (g : FVec Ideal S1x128 .f32) (d : Fin 64) (r : Fin 256) :
    (k0_pay8 (F := Ideal) w x g (ix4 0 0 d r) : EReal) = k0_pay6 (F := Ideal) w x g (ix2 ⟨64 + d, by omega⟩ r) := by
  unfold k0_pay8
  generalize k0_pay6 (F := Ideal) w x g = v
  pointwise

/-- The third query head. -/
theorem q2_at (w : FVec Ideal S128x128 .bf16) (x : FVec Ideal S1x256x128 .f32) (g : FVec Ideal S1x128 .f32) (d : Fin 64) (r : Fin 256) :
    (k0_pay10 (F := Ideal) w x g (ix4 0 0 d r) : EReal) = k0_pay9 (F := Ideal) w x g (ix2 ⟨d, by omega⟩ r) := by
  unfold k0_pay10
  generalize k0_pay9 (F := Ideal) w x g = v
  pointwise

/-- The fourth query head. -/
theorem q3_at (w : FVec Ideal S128x128 .bf16) (x : FVec Ideal S1x256x128 .f32) (g : FVec Ideal S1x128 .f32) (d : Fin 64) (r : Fin 256) :
    (k0_pay11 (F := Ideal) w x g (ix4 0 0 d r) : EReal) = k0_pay9 (F := Ideal) w x g (ix2 ⟨64 + d, by omega⟩ r) := by
  unfold k0_pay11
  generalize k0_pay9 (F := Ideal) w x g = v
  pointwise

/-- The two key heads. -/
theorem k_at (w : FVec Ideal S128x128 .bf16) (x : FVec Ideal S1x256x128 .f32) (g : FVec Ideal S1x128 .f32) (r : Fin 256) (o : Fin 128) :
    (k0_pay1 (F := Ideal) w (k0_pay12 x) (k0_pay13 g) (k0_pay15 x) (k0_pay16 x) (ix3 0 r o) : EReal) =
      pair (fun k => x (ix3 0 r k)) (fun k o => w (ix2 k o)) (fun o => g (ix2 0 o)) o := by
  unfold pair
  pointwise [k0_pay1, k0_pay12, k0_pay13, k0_pay15, k0_pay16, k0_pay14]

/-- What the reference leaves of the queries. -/
abbrev REFQ (p : FVec Ideal S2x256x2048 .f32) (g : FVec Ideal S64 .f32) : FVec Ideal S2x4x64x256 .bf16 :=
  truncf .bf16 (transpose Cert.Reference7Ideal.S2x4x64x256 [0, 2, 3, 1] (mulf (mulf (mulf (shapeCast _ (extractStridedSlice Cert.Reference7Ideal.S2x256x256 ![0, 0, 256] p Cert.Reference7Ideal.Gen.slices_S2x256x2048_S2x256x256_0_0_256) Cert.Reference7Ideal.Gen.shapeCasts_S2x256x256_S2x256x4x64) (broadcastInDim Cert.Reference7Ideal.S2x256x4x64 ![0, 1, 2, 3] Cert.Reference7Ideal.Gen.bcast_S2x256x4x1_S2x256x4x64_0_1_2_3 (Host.rsqrt (addf (Host.divf (broadcastInDim Cert.Reference7Ideal.S2x256x4x1 ![0, 1, 2] Cert.Reference7Ideal.Gen.bcast_S2x256x4_S2x256x4x1_0_1_2 (Host.reduceAdd (mulf (shapeCast _ (extractStridedSlice Cert.Reference7Ideal.S2x256x256 ![0, 0, 256] p Cert.Reference7Ideal.Gen.slices_S2x256x2048_S2x256x256_0_0_256) Cert.Reference7Ideal.Gen.shapeCasts_S2x256x256_S2x256x4x64) (shapeCast _ (extractStridedSlice Cert.Reference7Ideal.S2x256x256 ![0, 0, 256] p Cert.Reference7Ideal.Gen.slices_S2x256x2048_S2x256x256_0_0_256) Cert.Reference7Ideal.Gen.shapeCasts_S2x256x256_S2x256x4x64)) (constant Cert.Reference7Ideal.S_ .f32 0x00000000#32) Cert.Reference7Ideal.Gen.reducesTo_S2x256x4x64_S2x256x4_d3 Cert.Reference7Ideal.Gen.h_S_)) (broadcastInDim Cert.Reference7Ideal.S2x256x4x1 ![] Cert.Reference7Ideal.Gen.bcast_S_S2x256x4x1 (constant Cert.Reference7Ideal.S_ .f32 0x42800000#32))) (broadcastInDim Cert.Reference7Ideal.S2x256x4x1 ![] Cert.Reference7Ideal.Gen.bcast_S_S2x256x4x1 (constant Cert.Reference7Ideal.S_ .f32 0x358637BD#32)))))) (broadcastInDim Cert.Reference7Ideal.S2x256x4x64 ![0, 1, 2, 3] Cert.Reference7Ideal.Gen.bcast_S1x1x1x64_S2x256x4x64_0_1_2_3 (broadcastInDim Cert.Reference7Ideal.S1x1x1x64 ![3] Cert.Reference7Ideal.Gen.bcast_S64_S1x1x1x64_3 g))) (broadcastInDim Cert.Reference7Ideal.S2x256x4x64 ![] Cert.Reference7Ideal.Gen.bcast_S_S2x256x4x64 (constant Cert.Reference7Ideal.S_ .f32 0x3E38AA3B#32))) Cert.Reference7Ideal.Gen.transposes_S2x256x4x64_S2x4x64x256_0_2_3_1) Cert.Reference7Ideal.Gen.bitsLt_bf16_f32

/-- What the reference leaves of the keys. -/
abbrev REFK (p : FVec Ideal S2x256x2048 .f32) (g : FVec Ideal S64 .f32) : FVec Ideal S2x256x128 .bf16 :=
  truncf .bf16 (shapeCast _ (mulf (mulf (shapeCast _ (extractStridedSlice Cert.Reference7Ideal.S2x256x128 ![0, 0, 512] p Cert.Reference7Ideal.Gen.slices_S2x256x2048_S2x256x128_0_0_512) Cert.Reference7Ideal.Gen.shapeCasts_S2x256x128_S2x256x2x64) (broadcastInDim Cert.Reference7Ideal.S2x256x2x64 ![0, 1, 2, 3] Cert.Reference7Ideal.Gen.bcast_S2x256x2x1_S2x256x2x64_0_1_2_3 (Host.rsqrt (addf (Host.divf (broadcastInDim Cert.Reference7Ideal.S2x256x2x1 ![0, 1, 2] Cert.Reference7Ideal.Gen.bcast_S2x256x2_S2x256x2x1_0_1_2 (Host.reduceAdd (mulf (shapeCast _ (extractStridedSlice Cert.Reference7Ideal.S2x256x128 ![0, 0, 512] p Cert.Reference7Ideal.Gen.slices_S2x256x2048_S2x256x128_0_0_512) Cert.Reference7Ideal.Gen.shapeCasts_S2x256x128_S2x256x2x64) (shapeCast _ (extractStridedSlice Cert.Reference7Ideal.S2x256x128 ![0, 0, 512] p Cert.Reference7Ideal.Gen.slices_S2x256x2048_S2x256x128_0_0_512) Cert.Reference7Ideal.Gen.shapeCasts_S2x256x128_S2x256x2x64)) (constant Cert.Reference7Ideal.S_ .f32 0x00000000#32) Cert.Reference7Ideal.Gen.reducesTo_S2x256x2x64_S2x256x2_d3 Cert.Reference7Ideal.Gen.h_S_)) (broadcastInDim Cert.Reference7Ideal.S2x256x2x1 ![] Cert.Reference7Ideal.Gen.bcast_S_S2x256x2x1 (constant Cert.Reference7Ideal.S_ .f32 0x42800000#32))) (broadcastInDim Cert.Reference7Ideal.S2x256x2x1 ![] Cert.Reference7Ideal.Gen.bcast_S_S2x256x2x1 (constant Cert.Reference7Ideal.S_ .f32 0x358637BD#32)))))) (broadcastInDim Cert.Reference7Ideal.S2x256x2x64 ![0, 1, 2, 3] Cert.Reference7Ideal.Gen.bcast_S1x1x1x64_S2x256x2x64_0_1_2_3 (broadcastInDim Cert.Reference7Ideal.S1x1x1x64 ![3] Cert.Reference7Ideal.Gen.bcast_S64_S1x1x1x64_3 g))) Cert.Reference7Ideal.Gen.shapeCasts_S2x256x2x64_S2x256x128) Cert.Reference7Ideal.Gen.bitsLt_bf16_f32

/-- What the reference leaves of the values. -/
abbrev REFV (p : FVec Ideal S2x256x2048 .f32) : FVec Ideal S2x2x1x64x256 .bf16 :=
  truncf .bf16 (transpose Cert.Reference7Ideal.S2x2x1x64x256 [0, 3, 1, 4, 2] (shapeCast _ (extractStridedSlice Cert.Reference7Ideal.S2x256x128 ![0, 0, 640] p Cert.Reference7Ideal.Gen.slices_S2x256x2048_S2x256x128_0_0_640) Cert.Reference7Ideal.Gen.shapeCasts_S2x256x128_S2x1x256x2x64) Cert.Reference7Ideal.Gen.transposes_S2x1x256x2x64_S2x2x1x64x256_0_3_1_4_2) Cert.Reference7Ideal.Gen.bitsLt_bf16_f32

/-- A query of the reference. -/
theorem refq_at (p : FVec Ideal S2x256x2048 .f32) (g : FVec Ideal S64 .f32) (b : Fin 2) (h : Fin 4) (d : Fin 64) (r : Fin 256) :
    (REFQ p g (ix4 b h d r) : EReal) = headNorm (fun k => p (ix3 b r ⟨256 + 64 * h + k, by omega⟩)) (fun k => g (ix1 k)) d * qs := by
  unfold headNorm
  pointwise [REFQ]
  have e : ∀ (k : Nat) (h1 : 256 + (h.val * 64 + k) < 2048), (⟨256 + (h.val * 64 + k), h1⟩ : Fin 2048) = ⟨256 + 64 * h.val + k, by omega⟩ :=
    fun k h1 => Fin.ext (by dsimp only; omega)
  simp only [e]

/-- A key of the reference. -/
theorem refk_at (p : FVec Ideal S2x256x2048 .f32) (g : FVec Ideal S64 .f32) (b : Fin 2) (r : Fin 256) (o : Fin 128) :
    (REFK p g (ix3 b r o) : EReal) = headNorm (fun k => p (ix3 b r ⟨512 + 64 * (o.val / 64) + k, by omega⟩)) (fun k => g (ix1 k)) ⟨o.val % 64, by omega⟩ := by
  unfold headNorm
  pointwise [REFK]
  have e : ∀ (k : Nat) (h1 : 512 + (o.val / 64 * 64 + k) < 2048), (⟨512 + (o.val / 64 * 64 + k), h1⟩ : Fin 2048) = ⟨512 + 64 * (o.val / 64) + k, by omega⟩ :=
    fun k h1 => Fin.ext (by dsimp only; omega)
  have e0 : (⟨512 + o.val, by omega⟩ : Fin 2048) = ⟨512 + 64 * (o.val / 64) + o.val % 64, by omega⟩ := Fin.ext (by dsimp only; omega)
  simp only [e, e0]

/-- A value of the reference. -/
theorem refv_at (p : FVec Ideal S2x256x2048 .f32) (b : Fin 2) (h : Fin 2) (d : Fin 64) (r : Fin 256) :
    (REFV p (ix5 b h 0 d r) : EReal) = p (ix3 b r ⟨640 + 64 * h + d, by omega⟩) := by
  pointwise [REFV]
  exact congrArg p (congrArg (ix3 b r) (Fin.ext (by dsimp only; omega)))

/-- The block of queries that the kernel leaves, at a head, a column and a row. -/
def E5 (x : FVec Ideal S1x256x256 .f32) (g : FVec Ideal S1x128 .f32) (w : FVec Ideal S128x128 .bf16) : FVec Ideal S1x4x64x256 .bf16 := fun y =>
  pair (fun k => x (ix3 0 (y 3) ⟨128 * ((y 1).val / 2) + k, by have h : (y 1).val < 4 := (y 1).isLt; omega⟩)) (fun k o => w (ix2 k o)) (fun o => g (ix2 0 o))
    ⟨64 * ((y 1).val % 2) + (y 2).val, by have h : (y 2).val < 64 := (y 2).isLt; omega⟩ * qs

/-- A loaded first pair of heads. -/
theorem ld_lo (x : FVec Ideal S1x256x256 .f32) (r : Fin 256) (k : Fin 128) :
    View.ld (Val := Elt Ideal) (e' := .f32) x r0_1 (ix3 0 r k) = x (ix3 0 r ⟨k, by omega⟩) := by
  pointwise

/-- A loaded second pair of heads. -/
theorem ld_hi (x : FVec Ideal S1x256x256 .f32) (r : Fin 256) (k : Fin 128) :
    View.ld (Val := Elt Ideal) (e' := .f32) x r0_5 (ix3 0 r k) = x (ix3 0 r ⟨128 + k, by omega⟩) := by
  pointwise

/-- A loaded gain. -/
theorem ld_g (g : FVec Ideal S1x128 .f32) (k : Fin 128) : View.ld (Val := Elt Ideal) (e' := .f32) g r0_2 (ix2 0 k) = g (ix2 0 k) := by
  pointwise

/-- The loaded matrix. -/
theorem ld_w (w : FVec Ideal S128x128 .bf16) (k o : Fin 128) : View.ld (Val := Elt Ideal) (e' := .bf16) w r0_0 (ix2 k o) = w (ix2 k o) := by
  pointwise

/-- The loaded matrix, as the later parts of the body read it. -/
theorem mat_at (x0 x1 : FVec Ideal S1x256x256 .f32) (g g' : FVec Ideal S1x128 .f32) (w : FVec Ideal S128x128 .bf16) (k o : Fin 128) :
    (k0_pay17 (F := Ideal) x0 x1 g g' w (ix2 k o) : EReal) = w (ix2 k o) := by
  unfold k0_pay17 k0_pay5
  pointwise

/-- The four stores of the queries leave that block. -/
theorem out5_at (x0 x1 : FVec Ideal S1x256x256 .f32) (g g' : FVec Ideal S1x128 .f32) (w : FVec Ideal S128x128 .bf16) (y : S1x4x64x256.Idx) :
    out0_5 (F := Ideal) x0 x1 g g' w y = E5 x0 g w y := by
  unfold out0_5
  refine View.canon_apply_of_pieces (Val := Elt Ideal) (E5 x0 g w) _ ?_ y (cover0_5 _ _ _ _ y)
  intro pc hpc
  rcases List.mem_cons.mp hpc with rfl | hpc
  · intro y
    idx_vars y
    obtain rfl : y0 = 0 := Subsingleton.elim _ _
    obtain rfl : y1 = 0 := Subsingleton.elim _ _
    refine (q3_at _ _ _ y2 y3).trans ((second_at _ _ _ _ y3).trans ?_)
    have e : (ix4 0 3 y2 y3 : S1x4x64x256.Idx) = r0_7.emb (ix4 0 0 y2 y3) := by
      blk_ext
    rw [← e]
    exact congrArg (fun v : EReal => v * qs) (pair_congr (fun k => (ld_hi x0 y3 k).trans (congrArg (fun i => x0 (ix3 0 y3 i)) (Fin.ext (by show 128 + k.val = 128 * (3 / 2) + k.val; omega)))) (fun k o => mat_at x0 x1 g g' w k o) (fun o => ld_g g o)
      (Fin.ext (by show 64 + y2.val = 64 * (3 % 2) + y2.val; omega)))
  rcases List.mem_cons.mp hpc with rfl | hpc
  · intro y
    idx_vars y
    obtain rfl : y0 = 0 := Subsingleton.elim _ _
    obtain rfl : y1 = 0 := Subsingleton.elim _ _
    refine (q2_at _ _ _ y2 y3).trans ((second_at _ _ _ _ y3).trans ?_)
    have e : (ix4 0 2 y2 y3 : S1x4x64x256.Idx) = r0_6.emb (ix4 0 0 y2 y3) := by
      blk_ext
    rw [← e]
    exact congrArg (fun v : EReal => v * qs) (pair_congr (fun k => (ld_hi x0 y3 k).trans (congrArg (fun i => x0 (ix3 0 y3 i)) (Fin.ext (by show 128 + k.val = 128 * (2 / 2) + k.val; omega)))) (fun k o => mat_at x0 x1 g g' w k o) (fun o => ld_g g o)
      (Fin.ext (by show y2.val = 64 * (2 % 2) + y2.val; omega)))
  rcases List.mem_cons.mp hpc with rfl | hpc
  · intro y
    idx_vars y
    obtain rfl : y0 = 0 := Subsingleton.elim _ _
    obtain rfl : y1 = 0 := Subsingleton.elim _ _
    refine (q1_at _ _ _ y2 y3).trans ((first_at _ _ _ _ y3).trans ?_)
    have e : (ix4 0 1 y2 y3 : S1x4x64x256.Idx) = r0_4.emb (ix4 0 0 y2 y3) := by
      blk_ext
    rw [← e]
    exact congrArg (fun v : EReal => v * qs) (pair_congr (fun k => (ld_lo x0 y3 k).trans (congrArg (fun i => x0 (ix3 0 y3 i)) (Fin.ext (by show k.val = 128 * (1 / 2) + k.val; omega)))) (fun k o => ld_w w k o) (fun o => ld_g g o)
      (Fin.ext (by show 64 + y2.val = 64 * (1 % 2) + y2.val; omega)))
  rcases List.mem_cons.mp hpc with rfl | hpc
  · intro y
    idx_vars y
    obtain rfl : y0 = 0 := Subsingleton.elim _ _
    obtain rfl : y1 = 0 := Subsingleton.elim _ _
    refine (q0_at _ _ _ y2 y3).trans ((first_at _ _ _ _ y3).trans ?_)
    have e : (ix4 0 0 y2 y3 : S1x4x64x256.Idx) = r0_3.emb (ix4 0 0 y2 y3) := by
      blk_ext
    rw [← e]
    exact congrArg (fun v : EReal => v * qs) (pair_congr (fun k => (ld_lo x0 y3 k).trans (congrArg (fun i => x0 (ix3 0 y3 i)) (Fin.ext (by show k.val = 128 * (0 / 2) + k.val; omega)))) (fun k o => ld_w w k o) (fun o => ld_g g o)
      (Fin.ext (by show y2.val = 64 * (0 % 2) + y2.val; omega)))
  nomatch hpc

/-- Where each window's block lies at a point. -/
theorem idx : ∀ t : Fin cfg0.N,
    win0_0.index t = ![t.val, 0, 1] ∧ win0_1.index t = ![t.val, 0, 2] ∧ win0_2.index t = ![0, 0] ∧
    win0_3.index t = ![0, 0] ∧ win0_4.index t = ![0, 0] ∧
    win0_5.index t = ![t.val, 0, 0, 0] ∧ win0_6.index t = ![t.val, 0, 0] ∧ win0_7.index t = ![t.val, 0, 0, 0, 0] :=
  (by decide +kernel : ∀ t : Fin grid0.N,
    win0_0.index t = ![t.val, 0, 1] ∧ win0_1.index t = ![t.val, 0, 2] ∧ win0_2.index t = ![0, 0] ∧
    win0_3.index t = ![0, 0] ∧ win0_4.index t = ![0, 0] ∧
    win0_5.index t = ![t.val, 0, 0, 0] ∧ win0_6.index t = ![t.val, 0, 0] ∧ win0_7.index t = ![t.val, 0, 0, 0, 0])

variable (m : (ℓ : Loc nD τ sig) → Buf (Elt Ideal) ℓ) (c : Dev nD)

/-- There are 2 points. -/
theorem point_lt (t : Fin cfg0.N) : t.val < 2 := t.isLt

/-- The columns of the queries at a point. -/
theorem x_at (t : Fin cfg0.N) (r : Fin 256) (o : Fin 256) :
    (show FVec Ideal S1x256x256 .f32 from iblk m c 0 t) (ix3 0 r o) =
      (m ((c : Thread nD τ).loc main_arg0)) (ix3 ⟨t.val, point_lt t⟩ r ⟨256 + o, by omega⟩) := by
  blk_ext [iblk, V, idx t]

/-- The columns of the keys and the values at a point. -/
theorem kv_at (t : Fin cfg0.N) (r : Fin 256) (o : Fin 256) :
    (show FVec Ideal S1x256x256 .f32 from iblk m c 1 t) (ix3 0 r o) =
      (m ((c : Thread nD τ).loc main_arg0)) (ix3 ⟨t.val, point_lt t⟩ r ⟨512 + o, by omega⟩) := by
  blk_ext [iblk, V, idx t]

/-- The gain of the queries, once for each head of a pair. -/
theorem gq_at (t : Fin cfg0.N) (o : Fin 128) :
    (show FVec Ideal S1x128 .f32 from iblk m c 2 t) (ix2 0 o) = (m ((c : Thread nD τ).loc main_arg1)) (ix1 ⟨o.val % 64, by omega⟩) := by
  have e : ((View.whole main_v17).slice (win0_2.rect t)).emb (ix2 0 o) = ix2 0 o := by
    blk_ext [idx t]
  blk_simp [iblk, idx t]
  entry_read
  rw [e]
  pointwise

/-- The gain of the keys, once for each head of a pair. -/
theorem gk_at (t : Fin cfg0.N) (o : Fin 128) :
    (show FVec Ideal S1x128 .f32 from iblk m c 3 t) (ix2 0 o) = (m ((c : Thread nD τ).loc main_arg2)) (ix1 ⟨o.val % 64, by omega⟩) := by
  have e : ((View.whole main_v21).slice (win0_3.rect t)).emb (ix2 0 o) = ix2 0 o := by
    blk_ext [idx t]
  blk_simp [iblk, idx t]
  entry_read
  rw [e]
  pointwise

/-- The matrix that takes means over a head. -/
theorem w_at (t : Fin cfg0.N) (k o : Fin 128) :
    ((show FVec Ideal S128x128 .bf16 from iblk m c 4 t) (ix2 k o) : EReal) =
      (if k.val / 64 = o.val / 64 then (1 : EReal) else 0) * Ideal.ofBits .f32 0x3C800000#32 := by
  have e : ((View.whole main_v13).slice (win0_4.rect t)).emb (ix2 k o) = ix2 k o := by
    blk_ext [idx t]
  blk_simp [iblk, idx t]
  entry_read
  rw [e]
  pointwise
  rw [eye_at _ _ (by omega) (by omega)]

/-- The block of keys that the kernel leaves, at a row and a column. -/
def E6 (x : FVec Ideal S1x256x256 .f32) (g : FVec Ideal S1x128 .f32) (w : FVec Ideal S128x128 .bf16) : FVec Ideal S1x256x128 .bf16 := fun y =>
  pair (fun k => x (ix3 0 (y 1) ⟨k, by omega⟩)) (fun k o => w (ix2 k o)) (fun o => g (ix2 0 o)) (y 2)

/-- The store of the keys leaves that block. -/
theorem out6_at (x0 x1 : FVec Ideal S1x256x256 .f32) (g g' : FVec Ideal S1x128 .f32) (w : FVec Ideal S128x128 .bf16) (y : S1x256x128.Idx) :
    out0_6 (F := Ideal) x0 x1 g g' w y = E6 x1 g' w y := by
  unfold out0_6
  refine View.canon_apply_of_pieces (Val := Elt Ideal) (E6 x1 g' w) _ ?_ y (cover0_6 _ y)
  intro pc hpc
  rcases List.mem_cons.mp hpc with rfl | hpc
  · intro y
    idx_vars y
    obtain rfl : y0 = 0 := Subsingleton.elim _ _
    refine (k_at _ _ _ y1 y2).trans ?_
    have e : (ix3 0 y1 y2 : S1x256x128.Idx) = r0_8.emb (ix3 0 y1 y2) := by
      blk_ext
    rw [← e]
    exact pair_congr (fun k => ld_lo x1 y1 k) (fun k o => mat_at x0 x1 g g' w k o) (fun o => ld_g g' o) rfl
  nomatch hpc

/-- The queries: each head's norm, scaled, columns before rows. -/
def OUTQ (p : FVec Ideal S2x256x2048 .f32) (g : FVec Ideal S64 .f32) : FVec Ideal S2x4x64x256 .bf16 := fun y =>
  headNorm (fun k => p (ix3 (y 0) (y 3) ⟨256 + 64 * (y 1).val + k, by have h : (y 1).val < 4 := (y 1).isLt; omega⟩)) (fun k => g (ix1 k)) (y 2) * qs

/-- The keys: each head's norm. -/
def OUTK (p : FVec Ideal S2x256x2048 .f32) (g : FVec Ideal S64 .f32) : FVec Ideal S2x256x128 .bf16 := fun y =>
  headNorm (fun k => p (ix3 (y 0) (y 1) ⟨512 + 64 * ((y 2).val / 64) + k, by have h : (y 2).val < 128 := (y 2).isLt; omega⟩)) (fun k => g (ix1 k))
    ⟨(y 2).val % 64, by omega⟩

/-- The values, columns before rows. -/
def OUTV (p : FVec Ideal S2x256x2048 .f32) : FVec Ideal S2x2x1x64x256 .bf16 := fun y =>
  p (ix3 (y 0) (y 4) ⟨640 + 64 * (y 1).val + (y 3).val, by have h : (y 1).val < 2 := (y 1).isLt; have h : (y 3).val < 64 := (y 3).isLt; omega⟩)

/-- The reference's queries. -/
theorem refq_eq (p : FVec Ideal S2x256x2048 .f32) (g : FVec Ideal S64 .f32) : REFQ p g = OUTQ p g := by
  funext y
  idx_vars y
  exact refq_at p g y0 y1 y2 y3

/-- The reference's keys. -/
theorem refk_eq (p : FVec Ideal S2x256x2048 .f32) (g : FVec Ideal S64 .f32) : REFK p g = OUTK p g := by
  funext y
  idx_vars y
  exact refk_at p g y0 y1 y2

/-- The reference's values. -/
theorem refv_eq (p : FVec Ideal S2x256x2048 .f32) : REFV p = OUTV p := by
  funext y
  idx_vars y
  obtain rfl : y2 = 0 := Subsingleton.elim _ _
  exact refv_at p y0 y1 y3 y4

/-- The columns that become queries and keys hold real numbers. -/
def Real (p : FVec Ideal S2x256x2048 .f32) : Prop :=
  ∀ (b : Fin 2) (r : Fin 256) (k : Fin 384), ∃ v : ℝ, p (ix3 b r ⟨256 + k, by omega⟩) = (v : EReal)

/-- The array of queries that the pipeline leaves. -/
theorem final5 (hp : Real (m ((c : Thread nD τ).loc main_arg0))) : (dats m 0 c).arrAt 5 cfg0.N =
    OUTQ (m ((c : Thread nD τ).loc main_arg0)) (m ((c : Thread nD τ).loc main_arg1)) := by
  refine (dats m 0 c).arrAt_eq_of_covers 5 _ (by decide +kernel) fun t _ y => ?_
  blk_simp
  rw [after0_5]
  have ht := point_lt t
  refine (out5_at _ _ _ _ _ y).trans ?_
  idx_vars y
  obtain rfl : y0 = 0 := Subsingleton.elim _ _
  have hy : (64 * (y1.val % 2) + y2.val) / 64 = y1.val % 2 := by omega
  have hz : (64 * (y1.val % 2) + y2.val) % 64 = y2.val := by omega
  have h1 : y1.val < 4 := y1.isLt
  have h2 : y2.val < 64 := y2.isLt
  refine Eq.trans ?_ (congrArg (OUTQ (m ((c : Thread nD τ).loc main_arg0)) (m ((c : Thread nD τ).loc main_arg1))) (?_ : ix4 ⟨t.val, ht⟩ y1 y2 y3 = _))
  · refine congrArg (fun v : EReal => v * qs) ((pair_congr (fun k => x_at m c t y3 ⟨128 * (y1.val / 2) + k, by omega⟩) (fun k o => w_at m c t k o)
      (fun o => gq_at m c t o) rfl).trans ((pair_eq _ _ _ _ (fun k => ?_) fun k o => rfl).trans
      (headNorm_congr (fun k => congrArg (m ((c : Thread nD τ).loc main_arg0)) (congrArg (ix3 (⟨t.val, ht⟩ : Fin 2) y3) (Fin.ext ?_)))
        (fun k => congrArg (m ((c : Thread nD τ).loc main_arg1)) (congrArg ix1 (Fin.ext ?_))) (Fin.ext ?_))))
    · obtain ⟨v, hv⟩ := hp ⟨t.val, ht⟩ y3 ⟨128 * (y1.val / 2) + k, by omega⟩
      exact ⟨v, hv⟩
    · show 256 + (128 * (y1.val / 2) + (64 * ((64 * (y1.val % 2) + y2.val) / 64) + k.val)) = 256 + 64 * y1.val + k.val
      omega
    · show (64 * ((64 * (y1.val % 2) + y2.val) / 64) + k.val) % 64 = k.val
      omega
    · exact hz
  · blk_ext [idx t]

/-- The array of keys that the pipeline leaves. -/
theorem final6 (hp : Real (m ((c : Thread nD τ).loc main_arg0))) : (dats m 0 c).arrAt 6 cfg0.N =
    OUTK (m ((c : Thread nD τ).loc main_arg0)) (m ((c : Thread nD τ).loc main_arg2)) := by
  refine (dats m 0 c).arrAt_eq_of_covers 6 _ (by decide +kernel) fun t _ y => ?_
  blk_simp
  rw [after0_6]
  have ht := point_lt t
  refine (out6_at _ _ _ _ _ y).trans ?_
  idx_vars y
  obtain rfl : y0 = 0 := Subsingleton.elim _ _
  have h2 : y2.val < 128 := y2.isLt
  refine Eq.trans ?_ (congrArg (OUTK (m ((c : Thread nD τ).loc main_arg0)) (m ((c : Thread nD τ).loc main_arg2))) (?_ : ix3 ⟨t.val, ht⟩ y1 y2 = _))
  · refine (pair_congr (fun k => kv_at m c t y1 ⟨k, by omega⟩) (fun k o => w_at m c t k o)
      (fun o => gk_at m c t o) rfl).trans ((pair_eq _ _ _ _ (fun k => ?_) fun k o => rfl).trans
      (headNorm_congr (fun k => congrArg (m ((c : Thread nD τ).loc main_arg0)) (congrArg (ix3 (⟨t.val, ht⟩ : Fin 2) y1) (Fin.ext ?_)))
        (fun k => congrArg (m ((c : Thread nD τ).loc main_arg2)) (congrArg ix1 (Fin.ext ?_))) rfl))
    · obtain ⟨v, hv⟩ := hp ⟨t.val, ht⟩ y1 ⟨256 + k, by omega⟩
      exact ⟨v, (congrArg (m ((c : Thread nD τ).loc main_arg0)) (congrArg (ix3 (⟨t.val, ht⟩ : Fin 2) y1) (Fin.ext (by show 512 + k.val = 256 + (256 + k.val); omega)))).trans hv⟩
    · show 512 + (64 * (y2.val / 64) + k.val) = 512 + 64 * (y2.val / 64) + k.val
      omega
    · show (64 * (y2.val / 64) + k.val) % 64 = k.val
      omega
  · blk_ext [idx t]

/-- The array of values that the pipeline leaves. -/
theorem final7 : (dats m 0 c).arrAt 7 cfg0.N = OUTV (m ((c : Thread nD τ).loc main_arg0)) := by
  refine (dats m 0 c).arrAt_eq_of_covers 7 _ (by decide +kernel) fun t _ y => ?_
  blk_simp
  rw [after0_7]
  have ht := point_lt t
  unfold out0_7
  refine (Cert.Kernel7Ideal.Value.canon7_eq (F := Ideal) _ y).trans ?_
  idx_vars y
  obtain rfl : y0 = 0 := Subsingleton.elim _ _
  obtain rfl : y2 = 0 := Subsingleton.elim _ _
  have h1 : y1.val < 2 := y1.isLt
  have h3 : y3.val < 64 := y3.isLt
  refine Eq.trans ?_ (congrArg (OUTV (m ((c : Thread nD τ).loc main_arg0))) (?_ : ix5 ⟨t.val, ht⟩ y1 0 y3 y4 = _))
  · have e : (Cert.Kernel7Ideal.Value.ix7_0 (ix5 0 y1 0 y3 y4) : S1x256x128.Idx) = ix3 0 y4 ⟨64 * y1.val + y3.val, by omega⟩ := by
      blk_ext
    refine Eq.trans (congrArg (View.ld (Val := Elt Ideal) (e' := .f32) (iblk m c 1 t) r0_5) e) ?_
    refine (ld_hi (iblk m c 1 t) y4 ⟨64 * y1.val + y3.val, by omega⟩).trans ((kv_at m c t y4 _).trans ?_)
    exact congrArg (m ((c : Thread nD τ).loc main_arg0)) (congrArg (ix3 (⟨t.val, ht⟩ : Fin 2) y4)
      (Fin.ext (by show 512 + (128 + (64 * y1.val + y3.val)) = 640 + 64 * y1.val + y3.val; omega)))
  · blk_ext [idx t]

end Cert.Kernel7Ideal.Hand

end
-- ==== Proof.Value.QkvPre.lean ====
/- What the precondition says of the tokens: that the columns of queries and keys hold real numbers. -/
module

public import proofs.«01_k».proof.Pre_finite7
public import proofs.«01_k».proof.Proof.Value.Qkv
public import Idealize.ShloMosaic.Lib.ReduceAll
public import Idealize.ShloMosaic.Lib.Pointwise

@[expose] public section

set_option maxRecDepth 16384

noncomputable section

namespace Cert.Pre_finite7.Hand

open Cert.Pre_finite7 Idealize.ShloMosaic

/-- The shape relations of the precondition hold. -/
theorem facts : Cert.Pre_finite7.Facts where
  slices_S2x256x2048_S2x256x384_0_0_256 := by decide
  bcast_S_S2x256x384 := by decide
  reducesTo_S2x256x384_S_d0_1_2 := by decide
  h_S_ := by decide

attribute [local instance] facts

open Facts

/-- A scalar has one index. -/
theorem one_index : Subsingleton S_.Idx := ⟨fun a b => funext fun i => i.elim0⟩

/-- The word that stands for infinity is the greatest number. -/
theorem top_f32 : Ideal.ofBits .f32 0x7F800000#32 = (⊤ : EReal) := by simp [Ideal.ofBits, Ideal.ieee]

/-- A number whose absolute value is less than infinity is real. -/
theorem real_of_lt {x : EReal} (h : Ideal.cmp .olt (max x (-x)) (Ideal.ofBits .f32 0x7F800000#32) = 1#1) : ∃ r : ℝ, x = (r : EReal) := by
  rw [top_f32] at h
  have hlt : max x (-x) < ⊤ := by
    by_contra hn
    simp [Ideal.cmp, hn] at h
  induction x with
  | bot => simp at hlt
  | top => simp at hlt
  | coe r => exact ⟨r, rfl⟩

/-- If the check of all entries of an array gives 1, they are real. -/
theorem real_of_all {s : Shape} (x : FVec Ideal s .f32) (hb : S_.BroadcastsInDim s (![] : Fin 0 → Fin s.rank)) {axes : List (Fin s.rank)}
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) :=
  haveI := one_index
  real_of_lt (Host.reduce_andi_all _ _ hr hu j h i)

/-- A column of the slice of queries and keys. -/
theorem slice_at (p : FVec Ideal S2x256x2048 .f32) (b : Fin 2) (r : Fin 256) (k : Fin 384) :
    extractStridedSlice S2x256x384 ![0, 0, 256] p slices_S2x256x2048_S2x256x384_0_0_256 (ix3 b r k) = p (ix3 b r ⟨256 + k, by omega⟩) := by
  pointwise

/-- Where the precondition holds, the columns of queries and keys hold real numbers. -/
theorem finite (p : FVec Ideal S2x256x2048 .f32) (gq gk : FVec Ideal S64 .f32) (h : fn (F := Ideal) p gq gk = fun _ => 1#1) :
    Cert.Kernel7Ideal.Hand.Real p := by
  intro b r k
  unfold fn at h
  dsimp only at h
  have h0 := congrFun h (fun a => a.elim0)
  obtain ⟨v, hv⟩ := real_of_all (s := S2x256x384) _ _ _ _ _ h0 (ix3 b r k)
  exact ⟨v, (slice_at p b r k).symm.trans hv⟩

end Cert.Pre_finite7.Hand

end
-- ==== Proof.Value.RopeTurn.lean ====
/- The rotary embedding of one head of 64 columns, and the kernel's way of computing it in blocks of two heads. -/
module

public import proofs.«01_k».proof.Proof.Value.QkvNorm
public import Idealize.ShloMosaic.PureOps
public import Idealize.ShloMosaic.Lib.Pointwise

@[expose] public section

set_option maxRecDepth 16384

noncomputable section

namespace Cert.Qkv

open Idealize.ShloMosaic

/-- A head turned, at a column: columns 0 to 31 by the first angle's cosine and sine, the others by the second's; the first 16
    columns of each against the last. -/
def turn (y : Fin 64 → EReal) (c s : Fin 2 → Fin 16 → EReal) (d : Fin 64) : EReal :=
  if d.val % 32 < 16 then
    y d * c ⟨d.val / 32, by omega⟩ ⟨d.val % 16, by omega⟩ - y ⟨(d.val + 16) % 64, by omega⟩ * s ⟨d.val / 32, by omega⟩ ⟨d.val % 16, by omega⟩
  else y d * c ⟨d.val / 32, by omega⟩ ⟨d.val % 16, by omega⟩ + y ⟨(d.val + 48) % 64, by omega⟩ * s ⟨d.val / 32, by omega⟩ ⟨d.val % 16, by omega⟩

/-- The kernel's turn of two heads side by side, by tables of signed sines. -/
def turned (v c s : Fin 128 → EReal) (o : Fin 128) : EReal :=
  v o * c o + (if o.val % 32 < 16 then v ⟨(o.val + 16) % 128, by omega⟩ else v ⟨(o.val + 112) % 128, by omega⟩) * s o

/-- The kernel's turn depends on the entries it reads. -/
theorem turned_congr {v v' c c' s s' : Fin 128 → EReal} {o o' : Fin 128} (hv : ∀ o, v o = v' o) (hc : ∀ o, c o = c' o)
    (hs : ∀ o, s o = s' o) (ho : o = o') : turned v c s o = turned v' c' s' o' := by
  obtain rfl : v = v' := funext hv
  obtain rfl : c = c' := funext hc
  obtain rfl : s = s' := funext hs
  rw [ho]

/-- The turn depends on the entries it reads. -/
theorem turn_congr {y y' : Fin 64 → EReal} {c c' s s' : Fin 2 → Fin 16 → EReal} {d d' : Fin 64} (hy : ∀ d, y d = y' d)
    (hc : ∀ a f, c a f = c' a f) (hs : ∀ a f, s a f = s' a f) (hd : d = d') : turn y c s d = turn y' c' s' d' := by
  obtain rfl : y = y' := funext hy
  obtain rfl : c = c' := funext fun a => funext fun f => hc a f
  obtain rfl : s = s' := funext fun a => funext fun f => hs a f
  rw [hd]

/-- A column's cosine in the kernel's table. -/
def tabC (c : Fin 2 → Fin 16 → EReal) (o : Fin 128) : EReal := c ⟨o.val % 64 / 32, by omega⟩ ⟨o.val % 16, by omega⟩

/-- A column's signed sine in the kernel's table. -/
def tabS (s : Fin 2 → Fin 16 → EReal) (o : Fin 128) : EReal :=
  if o.val % 32 < 16 then -s ⟨o.val % 64 / 32, by omega⟩ ⟨o.val % 16, by omega⟩ else s ⟨o.val % 64 / 32, by omega⟩ ⟨o.val % 16, by omega⟩

/-- The kernel's turn of two heads is the turn of each. -/
theorem turned_eq (v : Fin 128 → EReal) (y : Fin 2 → Fin 64 → EReal) (c s : Fin 2 → Fin 16 → EReal) (o : Fin 128)
    (hv : ∀ o : Fin 128, v o = y ⟨o.val / 64, by omega⟩ ⟨o.val % 64, by omega⟩) :
    turned v (tabC c) (tabS s) o = turn (y ⟨o.val / 64, by omega⟩) c s ⟨o.val % 64, by omega⟩ := by
  have ho := o.isLt
  have e : ∀ (a b : Fin 2) (d f : Fin 64), a = b → d = f → y a d = y b f := fun a b d f h1 h2 => by rw [h1, h2]
  have es : ∀ (a b : Fin 2) (d f : Fin 16), a = b → d = f → s a d = s b f := fun a b d f h1 h2 => by rw [h1, h2]
  have ec : ∀ (a b : Fin 2) (d f : Fin 16), a = b → d = f → c a d = c b f := fun a b d f h1 h2 => by rw [h1, h2]
  unfold turned turn tabC tabS
  by_cases h : o.val % 32 < 16
  · have h' : o.val % 64 % 32 < 16 := by omega
    rw [if_pos h, if_pos h, if_pos h', mul_neg, sub_eq_add_neg, hv o, hv ⟨(o.val + 16) % 128, by omega⟩]
    refine congrArg₂ (fun a b : EReal => a + -b) (congrArg₂ (fun a b : EReal => a * b) rfl ?_) (congrArg₂ (fun a b : EReal => a * b) ?_ ?_)
    · exact ec _ _ _ _ rfl (Fin.ext (by dsimp only; omega))
    · exact e _ _ _ _ (Fin.ext (by dsimp only; omega)) (Fin.ext (by dsimp only; omega))
    · exact es _ _ _ _ rfl (Fin.ext (by dsimp only; omega))
  · have h' : ¬ o.val % 64 % 32 < 16 := by omega
    rw [if_neg h, if_neg h, if_neg h', hv o, hv ⟨(o.val + 112) % 128, by omega⟩]
    refine congrArg₂ (fun a b : EReal => a + b) (congrArg₂ (fun a b : EReal => a * b) rfl ?_) (congrArg₂ (fun a b : EReal => a * b) ?_ ?_)
    · exact ec _ _ _ _ rfl (Fin.ext (by dsimp only; omega))
    · exact e _ _ _ _ (Fin.ext (by dsimp only; omega)) (Fin.ext (by dsimp only; omega))
    · exact es _ _ _ _ rfl (Fin.ext (by dsimp only; omega))

end Cert.Qkv

end
-- ==== Proof.Value.RopeTab.lean ====
/- The rotary tables that the host builds for the latent tokens' kernel, read at an entry. -/
module

public import proofs.«01_k».proof.Proof.Gen.Kernel8Ideal.Frame
public import proofs.«01_k».proof.Proof.Value.RopeTurn
public import Idealize.ShloMosaic.Lib.Pipeline.ValueKit
public import Idealize.ShloMosaic.Lib.Claim

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Pipeline Cert.Qkv

variable (m : (ℓ : Loc nD τ sig) → Buf (Elt Ideal) ℓ) (c : Dev nD)

/-- Four tables of 16 columns side by side. -/
def cat4 (a b d e : FVec Ideal S16384x16 .f32) : FVec Ideal S16384x64 .f32 :=
  concatenate S16384x64 1 [⟨S16384x16, a⟩, ⟨S16384x16, b⟩, ⟨S16384x16, d⟩, ⟨S16384x16, e⟩]
    concatenates_S16384x16_S16384x16_S16384x16_S16384x16_S16384x64_d1

/-- The columns of the first angle. -/
def half0 (a : FVec Ideal S16384x2x16 .f32) : FVec Ideal S16384x16 .f32 :=
  shapeCast _ (extractStridedSlice S16384x1x16 ![0, 0, 0] a slices_S16384x2x16_S16384x1x16_0_0_0) shapeCasts_S16384x1x16_S16384x16

/-- The columns of the second angle. -/
def half1 (a : FVec Ideal S16384x2x16 .f32) : FVec Ideal S16384x16 .f32 :=
  shapeCast _ (extractStridedSlice S16384x1x16 ![0, 1, 0] a slices_S16384x2x16_S16384x1x16_0_1_0) shapeCasts_S16384x1x16_S16384x16

/-- A table once for each head of a pair. -/
def twice (a : FVec Ideal S16384x64 .f32) : FVec Ideal S16384x128 .f32 :=
  shapeCast _ (broadcastInDim S1x16384x2x64 ![0, 1, 2, 3] bcast_S1x16384x1x64_S1x16384x2x64_0_1_2_3
    (shapeCast _ a shapeCasts_S16384x64_S1x16384x1x64)) shapeCasts_S1x16384x2x64_S16384x128

theorem half0_at (a : FVec Ideal S16384x2x16 .f32) (r : Fin 16384) (f : Fin 16) : half0 a (ix2 r f) = a (ix3 r 0 f) := by
  unfold half0; pointwise

theorem half1_at (a : FVec Ideal S16384x2x16 .f32) (r : Fin 16384) (f : Fin 16) : half1 a (ix2 r f) = a (ix3 r 1 f) := by
  unfold half1; pointwise

theorem twice_at (a : FVec Ideal S16384x64 .f32) (r : Fin 16384) (o : Fin 128) :
    twice a (ix2 r o) = a (ix2 r ⟨o.val % 64, by omega⟩) := by
  unfold twice; pointwise

theorem cat4_at (a b d e : FVec Ideal S16384x16 .f32) (r : Fin 16384) (o : Fin 64) :
    cat4 a b d e (ix2 r o) = if o.val < 16 then a (ix2 r ⟨o.val % 16, by omega⟩) else if o.val < 32 then b (ix2 r ⟨o.val % 16, by omega⟩)
      else if o.val < 48 then d (ix2 r ⟨o.val % 16, by omega⟩) else e (ix2 r ⟨o.val % 16, by omega⟩) := by
  have ho := o.isLt
  have e : ∀ (t : FVec Ideal S16384x16 .f32) (k l : Fin 16), k.val = l.val → t (ix2 r k) = t (ix2 r l) := fun t k l h => by rw [Fin.ext h]
  unfold cat4
  pointwise
  by_cases h1 : o.val < 16
  · rw [dif_pos h1, if_pos h1]
    exact e _ _ _ (by dsimp only; omega)
  · by_cases h2 : o.val < 32
    · rw [dif_neg h1, dif_pos (by omega), if_neg h1, if_pos h2]
      exact e _ _ _ (by dsimp only; omega)
    · by_cases h3 : o.val < 48
      · rw [dif_neg h1, dif_neg (by omega), dif_pos (by omega), if_neg h1, if_neg h2, if_pos h3]
        exact e _ _ _ (by dsimp only; omega)
      · rw [dif_neg h1, dif_neg (by omega), dif_neg (by omega), if_neg h1, if_neg h2, if_neg h3]
        exact e _ _ _ (by dsimp only; omega)

/-- Host negation at an entry. -/
theorem neg_at (a : FVec Ideal S16384x16 .f32) (i : S16384x16.Idx) : (Host.negf a : FVec Ideal S16384x16 .f32) i = -(a i : EReal) := rfl

/-- The table of cosines at an entry. -/
theorem cosT_at (a : FVec Ideal S16384x2x16 .f32) (r : Fin 16384) (o : Fin 128) :
    twice (cat4 (half0 a) (half0 a) (half1 a) (half1 a)) (ix2 r o) = tabC (fun k f => a (ix3 r k f)) o := by
  rw [twice_at, cat4_at]
  dsimp only
  rw [half0_at, half1_at]
  unfold tabC
  have e : ∀ (k l : Fin 2) (f f' : Fin 16), k.val = l.val → f.val = f'.val → a (ix3 r k f) = a (ix3 r l f') :=
    fun k l f f' h h' => by rw [Fin.ext h, Fin.ext h']
  have ho := o.isLt
  by_cases h2 : o.val % 64 < 32
  · refine Eq.trans (b := a (ix3 r 0 ⟨o.val % 64 % 16, by omega⟩)) ?_ (e _ _ _ _ (by show 0 = o.val % 64 / 32; omega) (by dsimp only; omega))
    split_ifs <;> rfl
  · refine Eq.trans (b := a (ix3 r 1 ⟨o.val % 64 % 16, by omega⟩)) ?_ (e _ _ _ _ (by show 1 = o.val % 64 / 32; omega) (by dsimp only; omega))
    rw [if_neg (by omega), if_neg h2]
    split_ifs <;> rfl

/-- The table of signed sines at an entry. -/
theorem sinT_at (a : FVec Ideal S16384x2x16 .f32) (r : Fin 16384) (o : Fin 128) :
    twice (cat4 (Host.negf (half0 a)) (half0 a) (Host.negf (half1 a)) (half1 a)) (ix2 r o) = tabS (fun k f => a (ix3 r k f)) o := by
  rw [twice_at, cat4_at]
  dsimp only
  rw [neg_at, neg_at, half0_at, half1_at]
  unfold tabS
  have e : ∀ (k l : Fin 2) (f f' : Fin 16), k.val = l.val → f.val = f'.val → a (ix3 r k f) = a (ix3 r l f') :=
    fun k l f f' h h' => by rw [Fin.ext h, Fin.ext h']
  have ho := o.isLt
  by_cases h1 : o.val % 64 < 16
  · rw [if_pos h1, if_pos (by omega)]
    exact congrArg (fun v : EReal => -v) (e _ _ _ _ (by show 0 = o.val % 64 / 32; omega) (by dsimp only; omega))
  · by_cases h2 : o.val % 64 < 32
    · rw [if_neg h1, if_pos h2, if_neg (by omega)]
      exact e _ _ _ _ (by show 0 = o.val % 64 / 32; omega) (by dsimp only; omega)
    · by_cases h3 : o.val % 64 < 48
      · rw [if_neg h1, if_neg h2, if_pos h3, if_pos (by omega)]
        exact congrArg (fun v : EReal => -v) (e _ _ _ _ (by show 1 = o.val % 64 / 32; omega) (by dsimp only; omega))
      · rw [if_neg h1, if_neg h2, if_neg h3, if_neg (by omega)]
        exact e _ _ _ _ (by show 1 = o.val % 64 / 32; omega) (by dsimp only; omega)

set_option maxHeartbeats 4000000 in
/-- The table of cosines. -/
theorem cos_tab : V m c main_v32 = twice (cat4 (half0 (m ((c : Thread nD τ).loc main_arg1))) (half0 (m ((c : Thread nD τ).loc main_arg1)))
      (half1 (m ((c : Thread nD τ).loc main_arg1))) (half1 (m ((c : Thread nD τ).loc main_arg1)))) := by
  show StableHlo.after hostOps0 _ _ = _
  after_results_simp <;> (try dsimp only [Matrix.cons_val]) <;> (try after_results_simp) <;> rfl

set_option maxHeartbeats 4000000 in
/-- The table of signed sines. -/
theorem sin_tab : V m c main_v35 = twice (cat4 (Host.negf (half0 (m ((c : Thread nD τ).loc main_arg2)))) (half0 (m ((c : Thread nD τ).loc main_arg2)))
      (Host.negf (half1 (m ((c : Thread nD τ).loc main_arg2)))) (half1 (m ((c : Thread nD τ).loc main_arg2)))) := by
  show StableHlo.after hostOps0 _ _ = _
  after_results_simp <;> (try dsimp only [Matrix.cons_val]) <;> (try after_results_simp) <;> rfl

end Cert.Kernel8Ideal.Hand

end
-- ==== Proof.Value.Rope.lean ====
/- Queries, keys and values of the latent tokens: the arrays their pipeline leaves are the reference's. -/
module

public import proofs.«01_k».proof.Proof.Gen.Kernel8Ideal.Frame
public import proofs.«01_k».proof.Proof.Gen.Kernel8Ideal.Value
public import proofs.«01_k».proof.Proof.Gen.Reference8Ideal.Run
public import proofs.«01_k».proof.Proof.Value.RopeTab
public import Idealize.ShloMosaic.Lib.Pipeline.ValueKit
public import Idealize.ShloMosaic.Lib.Claim

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Pipeline Cert.Qkv

/-- The number that queries are scaled by. -/
abbrev qs : EReal := Ideal.ofBits .f32 0x3E38AA3B#32

/-- The divisor of the remainder that picks a column's partner. -/
abbrev div32 : BitVec 32 := Scalar.select (Scalar.cmpi .eq 32#32 0#32) 1#32 32#32

/-- The norm of two heads, before they turn. -/
theorem norm_at (w : FVec Ideal S128x128 .bf16) (x : FVec Ideal S1x512x128 .f32) (g : FVec Ideal S1x128 .f32) (r : Fin 512) (o : Fin 128) :
    (k0_pay2 (F := Ideal) w x g (ix2 r o) : EReal) = pair (fun k => x (ix3 0 r k)) (fun k o => w (ix2 k o)) (fun o => g (ix2 0 o)) o := by
  unfold pair
  pointwise [k0_pay2, k0_pay1]

/-- The partner of a column is 16 columns on in the first half of each 32, and 16 columns back in the second. -/
theorem partner_at : ∀ o : Fin 128, IntOp.cmpi CmpIPredicate.slt
    (Scalar.select (k0_pay6 (ix2 0 o)) (IntOp.addi (k0_pay5 (ix2 0 o)) div32) (k0_pay5 (ix2 0 o))) 16#32 =
      if o.val % 32 < 16 then 1#1 else 0#1 := by
  intro o
  pointwise [k0_pay6, k0_pay5]
  revert o
  decide +kernel

/-- A pair of query heads turned and scaled, columns first. -/
theorem q_at (v c s : FVec Ideal S512x128 .f32) (o : Fin 128) (r : Fin 512) :
    (k0_pay7 (F := Ideal) v c s div32 k0_pay5 k0_pay6 (ix2 o r) : EReal) =
      turned (fun o => v (ix2 r o)) (fun o => c (ix2 r o)) (fun o => s (ix2 r o)) o * qs := by
  have hp := partner_at o
  generalize k0_pay5 = p5 at hp ⊢
  generalize k0_pay6 = p6 at hp ⊢
  unfold turned
  pointwise [k0_pay7]
  rw [hp]
  have e1 : (⟨(o.val + 128 - 112) % 128, by omega⟩ : Fin 128) = ⟨(o.val + 16) % 128, by omega⟩ := Fin.ext (by dsimp only; omega)
  have e2 : (⟨(o.val + 128 - 16) % 128, by omega⟩ : Fin 128) = ⟨(o.val + 112) % 128, by omega⟩ := Fin.ext (by dsimp only; omega)
  rw [e1, e2]
  by_cases h : o.val % 32 < 16
  · rw [if_pos h, if_pos h]
    rfl
  · rw [if_neg h, if_neg h]
    rfl

/-- The second pair of heads goes through the same operations. -/
theorem second_eq (w : FVec Ideal S128x128 .bf16) (x : FVec Ideal S1x512x128 .f32) (g : FVec Ideal S1x128 .f32) (c s : FVec Ideal S512x128 .f32) :
    k0_pay13 (F := Ideal) (k0_pay10 x) (k0_pay11 g) (k0_pay12 (k0_pay1 w) x) (Scalar.ofBits .f32 0x358637BD#32) c s =
      k0_pay7 (F := Ideal) (k0_pay2 w x g) (k0_pay3 c) (k0_pay4 s) div32 k0_pay5 k0_pay6 := rfl

/-- The first head of a pair. -/
theorem even_at (v c s : FVec Ideal S512x128 .f32) (d : Fin 64) (r : Fin 512) :
    (k0_pay8 (F := Ideal) v c s div32 k0_pay5 k0_pay6 (ix4 0 0 d r) : EReal) =
      k0_pay7 (F := Ideal) v c s div32 k0_pay5 k0_pay6 (ix2 ⟨d, by omega⟩ r) := by
  unfold k0_pay8
  generalize k0_pay7 (F := Ideal) v c s div32 k0_pay5 k0_pay6 = u
  pointwise

/-- The second head of a pair. -/
theorem odd_at (v c s : FVec Ideal S512x128 .f32) (d : Fin 64) (r : Fin 512) :
    (k0_pay9 (F := Ideal) v c s div32 k0_pay5 k0_pay6 (ix4 0 0 d r) : EReal) =
      k0_pay7 (F := Ideal) v c s div32 k0_pay5 k0_pay6 (ix2 ⟨64 + d, by omega⟩ r) := by
  unfold k0_pay9
  generalize k0_pay7 (F := Ideal) v c s div32 k0_pay5 k0_pay6 = u
  pointwise

/-- The third head, as its own operations. -/
theorem third_eq (w : FVec Ideal S128x128 .bf16) (x : FVec Ideal S1x512x128 .f32) (g : FVec Ideal S1x128 .f32) (c s : FVec Ideal S512x128 .f32) :
    k0_pay15 (F := Ideal) (k0_pay14 (k0_pay10 x) (k0_pay11 g) (k0_pay12 (k0_pay1 w) x) (Scalar.ofBits .f32 0x358637BD#32) c s) =
      k0_pay8 (F := Ideal) (k0_pay2 w x g) (k0_pay3 c) (k0_pay4 s) div32 k0_pay5 k0_pay6 := rfl

/-- The fourth head, as its own operations. -/
theorem fourth_eq (w : FVec Ideal S128x128 .bf16) (x : FVec Ideal S1x512x128 .f32) (g : FVec Ideal S1x128 .f32) (c s : FVec Ideal S512x128 .f32) :
    k0_pay16 (F := Ideal) (k0_pay13 (k0_pay10 x) (k0_pay11 g) (k0_pay12 (k0_pay1 w) x) (Scalar.ofBits .f32 0x358637BD#32) c s) =
      k0_pay9 (F := Ideal) (k0_pay2 w x g) (k0_pay3 c) (k0_pay4 s) div32 k0_pay5 k0_pay6 := rfl

/-- The partner of a column, of the keys. -/
theorem partner_k_at : ∀ o : Fin 128, IntOp.cmpi CmpIPredicate.slt
    (Scalar.select (IntOp.andi (IntOp.xori (IntOp.cmpi CmpIPredicate.slt (k0_pay20 (ix2 0 o)) 0#32) (Scalar.cmpi .slt div32 0#32)) (k0_pay21 (ix2 0 o)))
      (IntOp.addi (k0_pay20 (ix2 0 o)) div32) (k0_pay20 (ix2 0 o))) 16#32 =
      if o.val % 32 < 16 then 1#1 else 0#1 := by
  intro o
  pointwise [k0_pay21, k0_pay20]
  revert o
  decide +kernel

/-- The two key heads turned. -/
theorem k_at (v c s : FVec Ideal S512x128 .f32) (r : Fin 512) (o : Fin 128) :
    (k0_pay22 (F := Ideal) v c s div32 k0_pay20 k0_pay21 0#32 (ix3 0 r o) : EReal) =
      turned (fun o => v (ix2 r o)) (fun o => c (ix2 r o)) (fun o => s (ix2 r o)) o := by
  have hp := partner_k_at o
  generalize k0_pay20 = p5 at hp ⊢
  generalize k0_pay21 = p6 at hp ⊢
  unfold turned
  pointwise [k0_pay22]
  rw [hp]
  have e1 : (⟨(o.val + 128 - 112) % 128, by omega⟩ : Fin 128) = ⟨(o.val + 16) % 128, by omega⟩ := Fin.ext (by dsimp only; omega)
  have e2 : (⟨(o.val + 128 - 16) % 128, by omega⟩ : Fin 128) = ⟨(o.val + 112) % 128, by omega⟩ := Fin.ext (by dsimp only; omega)
  rw [e1, e2]
  by_cases h : o.val % 32 < 16
  · rw [if_pos h, if_pos h]
    rfl
  · rw [if_neg h, if_neg h]
    rfl

/-- A loaded table of cosines. -/
theorem tab3_at (c : FVec Ideal S512x128 .f32) (r : Fin 512) (o : Fin 128) :
    (k0_pay3 (F := Ideal) (View.ld (Val := Elt Ideal) (e' := .f32) c r0_3) (ix2 r o) : EReal) = c (ix2 r o) := by
  unfold k0_pay3
  pointwise

/-- A loaded table of sines. -/
theorem tab4_at (c : FVec Ideal S512x128 .f32) (r : Fin 512) (o : Fin 128) :
    (k0_pay4 (F := Ideal) (View.ld (Val := Elt Ideal) (e' := .f32) c r0_3) (ix2 r o) : EReal) = c (ix2 r o) := by
  unfold k0_pay4
  pointwise

/-- A loaded first pair of heads. -/
theorem ld_lo (x : FVec Ideal S1x512x256 .f32) (r : Fin 512) (k : Fin 128) :
    View.ld (Val := Elt Ideal) (e' := .f32) x r0_1 (ix3 0 r k) = x (ix3 0 r ⟨k, by omega⟩) := by
  pointwise

/-- A loaded second pair of heads. -/
theorem ld_hi (x : FVec Ideal S1x512x256 .f32) (r : Fin 512) (k : Fin 128) :
    View.ld (Val := Elt Ideal) (e' := .f32) x r0_6 (ix3 0 r k) = x (ix3 0 r ⟨128 + k, by omega⟩) := by
  pointwise

/-- A loaded gain. -/
theorem ld_g (g : FVec Ideal S1x128 .f32) (k : Fin 128) : View.ld (Val := Elt Ideal) (e' := .f32) g r0_2 (ix2 0 k) = g (ix2 0 k) := by
  pointwise

/-- The loaded matrix. -/
theorem ld_w (w : FVec Ideal S128x128 .bf16) (k o : Fin 128) : View.ld (Val := Elt Ideal) (e' := .bf16) w r0_0 (ix2 k o) = w (ix2 k o) := by
  pointwise

/-- The norm of the pair of heads at columns `128 * j` of a block. -/
def blockNorm (x : FVec Ideal S1x512x256 .f32) (g : FVec Ideal S1x128 .f32) (w : FVec Ideal S128x128 .bf16) (j : Fin 2) (r : Fin 512) (o : Fin 128) : EReal :=
  pair (fun k => x (ix3 0 r ⟨128 * j + k, by omega⟩)) (fun k o => w (ix2 k o)) (fun o => g (ix2 0 o)) o

/-- The norm of the loaded first pair of heads. -/
theorem norm_lo (x : FVec Ideal S1x512x256 .f32) (g : FVec Ideal S1x128 .f32) (w : FVec Ideal S128x128 .bf16) (r : Fin 512) (o : Fin 128) :
    (k0_pay2 (F := Ideal) (View.ld (Val := Elt Ideal) (e' := .bf16) w r0_0) (View.ld (Val := Elt Ideal) (e' := .f32) x r0_1)
      (View.ld (Val := Elt Ideal) (e' := .f32) g r0_2) (ix2 r o) : EReal) = blockNorm x g w 0 r o :=
  (norm_at _ _ _ r o).trans (pair_congr (fun k => (ld_lo x r k).trans (congrArg (fun i => x (ix3 0 r i)) (Fin.ext (by show k.val = 128 * 0 + k.val; omega))))
    (fun k o => ld_w w k o) (fun o => ld_g g o) rfl)

/-- The norm of the loaded second pair of heads. -/
theorem norm_hi (x : FVec Ideal S1x512x256 .f32) (g : FVec Ideal S1x128 .f32) (w : FVec Ideal S128x128 .bf16) (r : Fin 512) (o : Fin 128) :
    (k0_pay2 (F := Ideal) (View.ld (Val := Elt Ideal) (e' := .bf16) w r0_0) (View.ld (Val := Elt Ideal) (e' := .f32) x r0_6)
      (View.ld (Val := Elt Ideal) (e' := .f32) g r0_2) (ix2 r o) : EReal) = blockNorm x g w 1 r o :=
  (norm_at _ _ _ r o).trans (pair_congr (fun k => (ld_hi x r k).trans (congrArg (fun i => x (ix3 0 r i)) (Fin.ext (by show 128 + k.val = 128 * 1 + k.val; omega))))
    (fun k o => ld_w w k o) (fun o => ld_g g o) rfl)

/-- The block of queries that the kernel leaves, at a head, a column and a row. -/
def E7 (x : FVec Ideal S1x512x256 .f32) (c s : FVec Ideal S512x128 .f32) (g : FVec Ideal S1x128 .f32) (w : FVec Ideal S128x128 .bf16) :
    FVec Ideal S1x4x64x512 .bf16 := fun y =>
  turned (fun o => blockNorm x g w ⟨(y 1).val / 2, by have h : (y 1).val < 4 := (y 1).isLt; omega⟩ (y 3) o) (fun o => c (ix2 (y 3) o)) (fun o => s (ix2 (y 3) o))
    ⟨64 * ((y 1).val % 2) + (y 2).val, by have h : (y 2).val < 64 := (y 2).isLt; omega⟩ * qs

/-- The block of keys that the kernel leaves, at a row and a column. -/
def E8 (x : FVec Ideal S1x512x256 .f32) (c s : FVec Ideal S512x128 .f32) (g : FVec Ideal S1x128 .f32) (w : FVec Ideal S128x128 .bf16) :
    FVec Ideal S1x512x128 .bf16 := fun y =>
  turned (fun o => blockNorm x g w 0 (y 1) o) (fun o => c (ix2 (y 1) o)) (fun o => s (ix2 (y 1) o)) (y 2)

/-- The four stores of the queries leave that block. -/
theorem out7_at (x0 x1 : FVec Ideal S1x512x256 .f32) (c s : FVec Ideal S512x128 .f32) (g g' : FVec Ideal S1x128 .f32) (w : FVec Ideal S128x128 .bf16)
    (y : S1x4x64x512.Idx) : out0_7 (F := Ideal) x0 x1 c s g g' w y = E7 x0 c s g w y := by
  unfold out0_7 k0_pay34 k0_pay33 k0_pay32 k0_pay31 k0_pay30 k0_pay29 k0_pay28 k0_pay27 k0_pay26
  rw [third_eq, fourth_eq]
  refine View.canon_apply_of_pieces (Val := Elt Ideal) (E7 x0 c s g w) _ ?_ y (cover0_7 _ _ _ _ y)
  intro pc hpc
  rcases List.mem_cons.mp hpc with rfl | hpc
  · intro y
    idx_vars y
    obtain rfl : y0 = 0 := Subsingleton.elim _ _
    obtain rfl : y1 = 0 := Subsingleton.elim _ _
    refine (odd_at _ _ _ y2 y3).trans ((q_at _ _ _ _ y3).trans ?_)
    have e : (ix4 0 3 y2 y3 : S1x4x64x512.Idx) = r0_8.emb (ix4 0 0 y2 y3) := by
      blk_ext
    rw [← e]
    exact congrArg (fun v : EReal => v * qs) (turned_congr (fun o => (norm_hi x0 g w y3 o).trans (congrArg (fun j => blockNorm x0 g w j y3 o) (Fin.ext (by show 1 = 3 / 2; omega)))) (fun o => tab3_at c y3 o) (fun o => tab4_at s y3 o)
      (Fin.ext (by show 64 + y2.val = 64 * (3 % 2) + y2.val; omega)))
  rcases List.mem_cons.mp hpc with rfl | hpc
  · intro y
    idx_vars y
    obtain rfl : y0 = 0 := Subsingleton.elim _ _
    obtain rfl : y1 = 0 := Subsingleton.elim _ _
    refine (even_at _ _ _ y2 y3).trans ((q_at _ _ _ _ y3).trans ?_)
    have e : (ix4 0 2 y2 y3 : S1x4x64x512.Idx) = r0_7.emb (ix4 0 0 y2 y3) := by
      blk_ext
    rw [← e]
    exact congrArg (fun v : EReal => v * qs) (turned_congr (fun o => (norm_hi x0 g w y3 o).trans (congrArg (fun j => blockNorm x0 g w j y3 o) (Fin.ext (by show 1 = 2 / 2; omega)))) (fun o => tab3_at c y3 o) (fun o => tab4_at s y3 o)
      (Fin.ext (by show y2.val = 64 * (2 % 2) + y2.val; omega)))
  rcases List.mem_cons.mp hpc with rfl | hpc
  · intro y
    idx_vars y
    obtain rfl : y0 = 0 := Subsingleton.elim _ _
    obtain rfl : y1 = 0 := Subsingleton.elim _ _
    refine (odd_at _ _ _ y2 y3).trans ((q_at _ _ _ _ y3).trans ?_)
    have e : (ix4 0 1 y2 y3 : S1x4x64x512.Idx) = r0_5.emb (ix4 0 0 y2 y3) := by
      blk_ext
    rw [← e]
    exact congrArg (fun v : EReal => v * qs) (turned_congr (fun o => (norm_lo x0 g w y3 o).trans (congrArg (fun j => blockNorm x0 g w j y3 o) (Fin.ext (by show 0 = 1 / 2; omega)))) (fun o => tab3_at c y3 o) (fun o => tab4_at s y3 o)
      (Fin.ext (by show 64 + y2.val = 64 * (1 % 2) + y2.val; omega)))
  rcases List.mem_cons.mp hpc with rfl | hpc
  · intro y
    idx_vars y
    obtain rfl : y0 = 0 := Subsingleton.elim _ _
    obtain rfl : y1 = 0 := Subsingleton.elim _ _
    refine (even_at _ _ _ y2 y3).trans ((q_at _ _ _ _ y3).trans ?_)
    have e : (ix4 0 0 y2 y3 : S1x4x64x512.Idx) = r0_4.emb (ix4 0 0 y2 y3) := by
      blk_ext
    rw [← e]
    exact congrArg (fun v : EReal => v * qs) (turned_congr (fun o => (norm_lo x0 g w y3 o).trans (congrArg (fun j => blockNorm x0 g w j y3 o) (Fin.ext (by show 0 = 0 / 2; omega)))) (fun o => tab3_at c y3 o) (fun o => tab4_at s y3 o)
      (Fin.ext (by show y2.val = 64 * (0 % 2) + y2.val; omega)))
  nomatch hpc

/-- The store of the keys leaves that block. -/
theorem out8_at (x0 x1 : FVec Ideal S1x512x256 .f32) (c s : FVec Ideal S512x128 .f32) (g g' : FVec Ideal S1x128 .f32) (w : FVec Ideal S128x128 .bf16)
    (y : S1x512x128.Idx) : out0_8 (F := Ideal) x0 x1 c s g g' w y = E8 x1 c s g' w y := by
  unfold out0_8 k0_pay26
  refine View.canon_apply_of_pieces (Val := Elt Ideal) (E8 x1 c s g' w) _ ?_ y (cover0_8 _ y)
  intro pc hpc
  rcases List.mem_cons.mp hpc with rfl | hpc
  · intro y
    idx_vars y
    obtain rfl : y0 = 0 := Subsingleton.elim _ _
    refine (k_at _ _ _ y1 y2).trans ?_
    have e : (ix3 0 y1 y2 : S1x512x128.Idx) = r0_9.emb (ix3 0 y1 y2) := by
      blk_ext
    rw [← e]
    exact turned_congr (fun o => norm_lo x1 g' w y1 o) (fun o => tab3_at c y1 o) (fun o => tab4_at s y1 o) rfl
  nomatch hpc

/-- Where each window's block lies at a point. -/
theorem idx : ∀ t : Fin cfg0.N,
    win0_0.index t = ![t.val / 32, t.val % 32, 1] ∧ win0_1.index t = ![t.val / 32, t.val % 32, 2] ∧ win0_2.index t = ![t.val % 32, 0] ∧
    win0_3.index t = ![t.val % 32, 0] ∧ win0_4.index t = ![0, 0] ∧ win0_5.index t = ![0, 0] ∧ win0_6.index t = ![0, 0] ∧
    win0_7.index t = ![t.val / 32, 0, 0, t.val % 32] ∧ win0_8.index t = ![t.val / 32, t.val % 32, 0] ∧
    win0_9.index t = ![t.val / 32, 0, t.val % 32, 0, 0] :=
  (by decide +kernel : ∀ t : Fin grid0.N,
    win0_0.index t = ![t.val / 32, t.val % 32, 1] ∧ win0_1.index t = ![t.val / 32, t.val % 32, 2] ∧ win0_2.index t = ![t.val % 32, 0] ∧
    win0_3.index t = ![t.val % 32, 0] ∧ win0_4.index t = ![0, 0] ∧ win0_5.index t = ![0, 0] ∧ win0_6.index t = ![0, 0] ∧
    win0_7.index t = ![t.val / 32, 0, 0, t.val % 32] ∧ win0_8.index t = ![t.val / 32, t.val % 32, 0] ∧
    win0_9.index t = ![t.val / 32, 0, t.val % 32, 0, 0])

variable (m : (ℓ : Loc nD τ sig) → Buf (Elt Ideal) ℓ) (c : Dev nD)

/-- There are 64 points. -/
theorem point_lt (t : Fin cfg0.N) : t.val < 64 := t.isLt

/-- The batch of a point. -/
abbrev bat (t : Fin cfg0.N) : Fin 2 := ⟨t.val / 32, by have h := point_lt t; omega⟩

/-- The row of the arrays at a row of a point's block. -/
abbrev row (t : Fin cfg0.N) (r : Fin 512) : Fin 16384 := ⟨t.val % 32 * 512 + r, by omega⟩

/-- The columns of the queries at a point. -/
theorem x_at (t : Fin cfg0.N) (r : Fin 512) (o : Fin 256) :
    (show FVec Ideal S1x512x256 .f32 from iblk m c 0 t) (ix3 0 r o) =
      (m ((c : Thread nD τ).loc main_arg0)) (ix3 (bat t) (row t r) ⟨256 + o, by omega⟩) := by
  have ht := point_lt t
  blk_ext [iblk, V, idx t]

/-- The columns of the keys and the values at a point. -/
theorem kv_at (t : Fin cfg0.N) (r : Fin 512) (o : Fin 256) :
    (show FVec Ideal S1x512x256 .f32 from iblk m c 1 t) (ix3 0 r o) =
      (m ((c : Thread nD τ).loc main_arg0)) (ix3 (bat t) (row t r) ⟨512 + o, by omega⟩) := by
  have ht := point_lt t
  blk_ext [iblk, V, idx t]

/-- The cosines at a point. -/
theorem cos_at (t : Fin cfg0.N) (r : Fin 512) (o : Fin 128) :
    ((show FVec Ideal S512x128 .f32 from iblk m c 2 t) (ix2 r o) : EReal) =
      tabC (fun a f => (m ((c : Thread nD τ).loc main_arg1)) (ix3 (row t r) a f)) o := by
  have e : ((View.whole main_v32).slice (win0_2.rect t)).emb (ix2 r o) = ix2 (row t r) o := by
    blk_ext [idx t]
  blk_simp [iblk, idx t]
  rw [e, cos_tab]
  exact cosT_at _ _ _

/-- The signed sines at a point. -/
theorem sin_at (t : Fin cfg0.N) (r : Fin 512) (o : Fin 128) :
    ((show FVec Ideal S512x128 .f32 from iblk m c 3 t) (ix2 r o) : EReal) =
      tabS (fun a f => (m ((c : Thread nD τ).loc main_arg2)) (ix3 (row t r) a f)) o := by
  have e : ((View.whole main_v35).slice (win0_3.rect t)).emb (ix2 r o) = ix2 (row t r) o := by
    blk_ext [idx t]
  blk_simp [iblk, idx t]
  rw [e, sin_tab]
  exact sinT_at _ _ _

/-- The gain of the queries, once for each head of a pair. -/
theorem gq_at (t : Fin cfg0.N) (o : Fin 128) :
    (show FVec Ideal S1x128 .f32 from iblk m c 4 t) (ix2 0 o) = (m ((c : Thread nD τ).loc main_arg3)) (ix1 ⟨o.val % 64, by omega⟩) := by
  have e : ((View.whole main_v39).slice (win0_4.rect t)).emb (ix2 0 o) = ix2 0 o := by
    blk_ext [idx t]
  blk_simp [iblk, idx t]
  entry_read
  rw [e]
  pointwise

/-- The gain of the keys, once for each head of a pair. -/
theorem gk_at (t : Fin cfg0.N) (o : Fin 128) :
    (show FVec Ideal S1x128 .f32 from iblk m c 5 t) (ix2 0 o) = (m ((c : Thread nD τ).loc main_arg4)) (ix1 ⟨o.val % 64, by omega⟩) := by
  have e : ((View.whole main_v43).slice (win0_5.rect t)).emb (ix2 0 o) = ix2 0 o := by
    blk_ext [idx t]
  blk_simp [iblk, idx t]
  entry_read
  rw [e]
  pointwise

/-- The matrix that takes means over a head. -/
theorem w_at (t : Fin cfg0.N) (k o : Fin 128) :
    ((show FVec Ideal S128x128 .bf16 from iblk m c 6 t) (ix2 k o) : EReal) =
      (if k.val / 64 = o.val / 64 then (1 : EReal) else 0) * Ideal.ofBits .f32 0x3C800000#32 := by
  have e : ((View.whole main_v13).slice (win0_6.rect t)).emb (ix2 k o) = ix2 k o := by
    blk_ext [idx t]
  blk_simp [iblk, idx t]
  entry_read
  rw [e]
  pointwise
  rw [eye_at _ _ (by omega) (by omega)]

end Cert.Kernel8Ideal.Hand

end
-- ==== Proof.Value.RopeRef.lean ====
/- The reference of the latent tokens' queries, keys and values, read at an entry. -/
module

public import proofs.«01_k».proof.Proof.Gen.Reference8Ideal.Run
public import proofs.«01_k».proof.Proof.Value.RopeTurn
public import Idealize.ShloMosaic.Lib.Claim

@[expose] public section

set_option maxRecDepth 16384

noncomputable section

namespace Cert.Reference8Ideal.Hand

open Cert.Reference8Ideal Cert.Reference8Ideal.Gen Cert.Reference8Ideal.Value
open Idealize.ShloMosaic Idealize.ShloMosaic.TcCoe Cert.Qkv

variable (m : (ℓ : Loc nD τ sig) → Buf (Elt Ideal) ℓ) (c : Dev nD)

/-! ## The queries -/

/-- Columns 0 to 15 of the heads. -/
def cutQ0 (n : FVec Ideal S2x16384x4x64 .f32) : FVec Ideal S2x16384x4x16 .f32 :=
  extractStridedSlice S2x16384x4x16 ![0, 0, 0, 0] n slices_S2x16384x4x64_S2x16384x4x16_0_0_0_0

/-- Columns 16 to 31 of the heads. -/
def cutQ16 (n : FVec Ideal S2x16384x4x64 .f32) : FVec Ideal S2x16384x4x16 .f32 :=
  extractStridedSlice S2x16384x4x16 ![0, 0, 0, 16] n slices_S2x16384x4x64_S2x16384x4x16_0_0_0_16

/-- Columns 32 to 47 of the heads. -/
def cutQ32 (n : FVec Ideal S2x16384x4x64 .f32) : FVec Ideal S2x16384x4x16 .f32 :=
  extractStridedSlice S2x16384x4x16 ![0, 0, 0, 32] n slices_S2x16384x4x64_S2x16384x4x16_0_0_0_32

/-- Columns 48 to 63 of the heads. -/
def cutQ48 (n : FVec Ideal S2x16384x4x64 .f32) : FVec Ideal S2x16384x4x16 .f32 :=
  extractStridedSlice S2x16384x4x16 ![0, 0, 0, 48] n slices_S2x16384x4x64_S2x16384x4x16_0_0_0_48

theorem cutQ0_at (n : FVec Ideal S2x16384x4x64 .f32) (b : Fin 2) (r : Fin 16384) (h : Fin 4) (f : Fin 16) :
    cutQ0 n (ix4 b r h f) = n (ix4 b r h ⟨f, by omega⟩) := by
  unfold cutQ0; pointwise

theorem cutQ16_at (n : FVec Ideal S2x16384x4x64 .f32) (b : Fin 2) (r : Fin 16384) (h : Fin 4) (f : Fin 16) :
    cutQ16 n (ix4 b r h f) = n (ix4 b r h ⟨16 + f, by omega⟩) := by
  unfold cutQ16; pointwise

theorem cutQ32_at (n : FVec Ideal S2x16384x4x64 .f32) (b : Fin 2) (r : Fin 16384) (h : Fin 4) (f : Fin 16) :
    cutQ32 n (ix4 b r h f) = n (ix4 b r h ⟨32 + f, by omega⟩) := by
  unfold cutQ32; pointwise

theorem cutQ48_at (n : FVec Ideal S2x16384x4x64 .f32) (b : Fin 2) (r : Fin 16384) (h : Fin 4) (f : Fin 16) :
    cutQ48 n (ix4 b r h f) = n (ix4 b r h ⟨48 + f, by omega⟩) := by
  unfold cutQ48; pointwise

/-- A table of the first angle, for all four heads. -/
def angQ0 (c : FVec Ideal S16384x2x16 .f32) : FVec Ideal S2x16384x4x16 .f32 :=
  broadcastInDim S2x16384x4x16 ![0, 1, 2, 3] bcast_S1x16384x1x16_S2x16384x4x16_0_1_2_3 (broadcastInDim S1x16384x1x16 ![1, 3] bcast_S16384x16_S1x16384x1x16_1_3
    (shapeCast _ (extractStridedSlice S16384x1x16 ![0, 0, 0] c slices_S16384x2x16_S16384x1x16_0_0_0) shapeCasts_S16384x1x16_S16384x16))

theorem angQ0_at (c : FVec Ideal S16384x2x16 .f32) (b : Fin 2) (r : Fin 16384) (h : Fin 4) (f : Fin 16) :
    angQ0 c (ix4 b r h f) = c (ix3 r 0 f) := by
  unfold angQ0; pointwise

/-- A table of the second angle, for all four heads. -/
def angQ1 (c : FVec Ideal S16384x2x16 .f32) : FVec Ideal S2x16384x4x16 .f32 :=
  broadcastInDim S2x16384x4x16 ![0, 1, 2, 3] bcast_S1x16384x1x16_S2x16384x4x16_0_1_2_3 (broadcastInDim S1x16384x1x16 ![1, 3] bcast_S16384x16_S1x16384x1x16_1_3
    (shapeCast _ (extractStridedSlice S16384x1x16 ![0, 1, 0] c slices_S16384x2x16_S16384x1x16_0_1_0) shapeCasts_S16384x1x16_S16384x16))

theorem angQ1_at (c : FVec Ideal S16384x2x16 .f32) (b : Fin 2) (r : Fin 16384) (h : Fin 4) (f : Fin 16) :
    angQ1 c (ix4 b r h f) = c (ix3 r 1 f) := by
  unfold angQ1; pointwise

/-- Four groups of 16 columns side by side. -/
def joinQ (a b d e : FVec Ideal S2x16384x4x16 .f32) : FVec Ideal S2x16384x4x64 .f32 :=
  concatenate S2x16384x4x64 3 [⟨S2x16384x4x16, a⟩, ⟨S2x16384x4x16, b⟩, ⟨S2x16384x4x16, d⟩, ⟨S2x16384x4x16, e⟩]
    concatenates_S2x16384x4x16_S2x16384x4x16_S2x16384x4x16_S2x16384x4x16_S2x16384x4x64_d3

theorem joinQ_at (a b d e : FVec Ideal S2x16384x4x16 .f32) (i : Fin 2) (r : Fin 16384) (h : Fin 4) (o : Fin 64) :
    joinQ a b d e (ix4 i r h o) = if o.val < 16 then a (ix4 i r h ⟨o.val % 16, by omega⟩) else if o.val < 32 then b (ix4 i r h ⟨o.val % 16, by omega⟩)
      else if o.val < 48 then d (ix4 i r h ⟨o.val % 16, by omega⟩) else e (ix4 i r h ⟨o.val % 16, by omega⟩) := by
  have ho := o.isLt
  have q : ∀ (t : FVec Ideal S2x16384x4x16 .f32) (k l : Fin 16), k.val = l.val → t (ix4 i r h k) = t (ix4 i r h l) := fun t k l h => by rw [Fin.ext h]
  unfold joinQ
  pointwise
  by_cases h1 : o.val < 16
  · rw [dif_pos h1, if_pos h1]
    exact q _ _ _ (by dsimp only; omega)
  · by_cases h2 : o.val < 32
    · rw [dif_neg h1, dif_pos (by omega), if_neg h1, if_pos h2]
      exact q _ _ _ (by dsimp only; omega)
    · by_cases h3 : o.val < 48
      · rw [dif_neg h1, dif_neg (by omega), dif_pos (by omega), if_neg h1, if_neg h2, if_pos h3]
        exact q _ _ _ (by dsimp only; omega)
      · rw [dif_neg h1, dif_neg (by omega), dif_neg (by omega), if_neg h1, if_neg h2, if_neg h3]
        exact q _ _ _ (by dsimp only; omega)

/-- The reference's turn. -/
def turnQ (n : FVec Ideal S2x16384x4x64 .f32) (c s : FVec Ideal S16384x2x16 .f32) : FVec Ideal S2x16384x4x64 .f32 :=
  joinQ (subf (mulf (cutQ0 n) (angQ0 c)) (mulf (cutQ16 n) (angQ0 s))) (addf (mulf (cutQ16 n) (angQ0 c)) (mulf (cutQ0 n) (angQ0 s)))
    (subf (mulf (cutQ32 n) (angQ1 c)) (mulf (cutQ48 n) (angQ1 s))) (addf (mulf (cutQ48 n) (angQ1 c)) (mulf (cutQ32 n) (angQ1 s)))

theorem subQ_at (a b c d : FVec Ideal S2x16384x4x16 .f32) (i : S2x16384x4x16.Idx) :
    (subf (mulf a b) (mulf c d) i : EReal) = (a i : EReal) * b i - c i * d i := rfl

theorem addQ_at (a b c d : FVec Ideal S2x16384x4x16 .f32) (i : S2x16384x4x16.Idx) :
    (addf (mulf a b) (mulf c d) i : EReal) = (a i : EReal) * b i + c i * d i := rfl

/-- The reference's turn at an entry. -/
theorem turnQ_at (n : FVec Ideal S2x16384x4x64 .f32) (c s : FVec Ideal S16384x2x16 .f32) (i : Fin 2) (r : Fin 16384) (h : Fin 4) (d : Fin 64) :
    (turnQ n c s (ix4 i r h d) : EReal) = turn (fun k => n (ix4 i r h k)) (fun a f => c (ix3 r a f)) (fun a f => s (ix3 r a f)) d := by
  have hd := d.isLt
  have en : ∀ (k l : Fin 64), k.val = l.val → (n (ix4 i r h k) : EReal) = n (ix4 i r h l) := fun k l h => by rw [Fin.ext h]
  have et : ∀ (t : FVec Ideal S16384x2x16 .f32) (a b : Fin 2) (k l : Fin 16), a.val = b.val → k.val = l.val → (t (ix3 r a k) : EReal) = t (ix3 r b l) :=
    fun t a b k l h h' => by rw [Fin.ext h, Fin.ext h']
  unfold turnQ turn
  rw [joinQ_at, subQ_at, addQ_at, subQ_at, addQ_at, cutQ0_at, cutQ16_at, cutQ32_at, cutQ48_at, angQ0_at, angQ0_at, angQ1_at, angQ1_at]
  by_cases h1 : d.val < 16
  · rw [if_pos h1, if_pos (by omega)]
    exact congrArg₂ (fun a b : EReal => a - b)
      (congrArg₂ (fun a b : EReal => a * b) (en _ _ (by dsimp only; omega)) (et c _ _ _ _ (by show 0 = d.val / 32; omega) (by dsimp only)))
      (congrArg₂ (fun a b : EReal => a * b) (en _ _ (by dsimp only; omega)) (et s _ _ _ _ (by show 0 = d.val / 32; omega) (by dsimp only)))
  · by_cases h2 : d.val < 32
    · rw [if_neg h1, if_pos h2, if_neg (by omega)]
      exact congrArg₂ (fun a b : EReal => a + b)
        (congrArg₂ (fun a b : EReal => a * b) (en _ _ (by dsimp only; omega)) (et c _ _ _ _ (by show 0 = d.val / 32; omega) (by dsimp only)))
        (congrArg₂ (fun a b : EReal => a * b) (en _ _ (by dsimp only; omega)) (et s _ _ _ _ (by show 0 = d.val / 32; omega) (by dsimp only)))
    · by_cases h3 : d.val < 48
      · rw [if_neg h1, if_neg h2, if_pos h3, if_pos (by omega)]
        exact congrArg₂ (fun a b : EReal => a - b)
          (congrArg₂ (fun a b : EReal => a * b) (en _ _ (by dsimp only; omega)) (et c _ _ _ _ (by show 1 = d.val / 32; omega) (by dsimp only)))
          (congrArg₂ (fun a b : EReal => a * b) (en _ _ (by dsimp only; omega)) (et s _ _ _ _ (by show 1 = d.val / 32; omega) (by dsimp only)))
      · rw [if_neg h1, if_neg h2, if_neg h3, if_neg (by omega)]
        exact congrArg₂ (fun a b : EReal => a + b)
          (congrArg₂ (fun a b : EReal => a * b) (en _ _ (by dsimp only; omega)) (et c _ _ _ _ (by show 1 = d.val / 32; omega) (by dsimp only)))
          (congrArg₂ (fun a b : EReal => a * b) (en _ _ (by dsimp only; omega)) (et s _ _ _ _ (by show 1 = d.val / 32; omega) (by dsimp only)))

/-- The heads of the reference. -/
def headsQ (p : FVec Ideal S2x16384x2048 .f32) : FVec Ideal S2x16384x4x64 .f32 :=
  shapeCast _ (extractStridedSlice S2x16384x256 ![0, 0, 256] p slices_S2x16384x2048_S2x16384x256_0_0_256) shapeCasts_S2x16384x256_S2x16384x4x64

theorem headsQ_at (p : FVec Ideal S2x16384x2048 .f32) (i : Fin 2) (r : Fin 16384) (h : Fin 4) (d : Fin 64) :
    headsQ p (ix4 i r h d) = p (ix3 i r ⟨256 + 64 * h + d, by omega⟩) := by
  unfold headsQ
  pointwise
  exact congrArg p (congrArg (ix3 i r) (Fin.ext (by dsimp only; omega)))

/-- The norm of heads in the reference. -/
def normQ (x : FVec Ideal S2x16384x4x64 .f32) (g : FVec Ideal S64 .f32) : FVec Ideal S2x16384x4x64 .f32 :=
  mulf (mulf x (broadcastInDim S2x16384x4x64 ![0, 1, 2, 3] bcast_S2x16384x4x1_S2x16384x4x64_0_1_2_3 (Host.rsqrt (addf (Host.divf
    (broadcastInDim S2x16384x4x1 ![0, 1, 2] bcast_S2x16384x4_S2x16384x4x1_0_1_2 (Host.reduceAdd (mulf x x) (constant S_ .f32 0x00000000#32)
      reducesTo_S2x16384x4x64_S2x16384x4_d3 h_S_)) (broadcastInDim S2x16384x4x1 ![] bcast_S_S2x16384x4x1 (constant S_ .f32 0x42800000#32)))
    (broadcastInDim S2x16384x4x1 ![] bcast_S_S2x16384x4x1 (constant S_ .f32 0x358637BD#32))))))
    (broadcastInDim S2x16384x4x64 ![0, 1, 2, 3] bcast_S1x1x1x64_S2x16384x4x64_0_1_2_3 (broadcastInDim S1x1x1x64 ![3] bcast_S64_S1x1x1x64_3 g))

theorem normQ_at (x : FVec Ideal S2x16384x4x64 .f32) (g : FVec Ideal S64 .f32) (i : Fin 2) (r : Fin 16384) (h : Fin 4) (d : Fin 64) :
    (normQ x g (ix4 i r h d) : EReal) = headNorm (fun k => x (ix4 i r h k)) (fun k => g (ix1 k)) d := by
  unfold normQ headNorm
  pointwise

/-! ## The keys -/

/-- Columns 0 to 15 of the heads. -/
def cutK0 (n : FVec Ideal S2x16384x2x64 .f32) : FVec Ideal S2x16384x2x16 .f32 :=
  extractStridedSlice S2x16384x2x16 ![0, 0, 0, 0] n slices_S2x16384x2x64_S2x16384x2x16_0_0_0_0

/-- Columns 16 to 31 of the heads. -/
def cutK16 (n : FVec Ideal S2x16384x2x64 .f32) : FVec Ideal S2x16384x2x16 .f32 :=
  extractStridedSlice S2x16384x2x16 ![0, 0, 0, 16] n slices_S2x16384x2x64_S2x16384x2x16_0_0_0_16

/-- Columns 32 to 47 of the heads. -/
def cutK32 (n : FVec Ideal S2x16384x2x64 .f32) : FVec Ideal S2x16384x2x16 .f32 :=
  extractStridedSlice S2x16384x2x16 ![0, 0, 0, 32] n slices_S2x16384x2x64_S2x16384x2x16_0_0_0_32

/-- Columns 48 to 63 of the heads. -/
def cutK48 (n : FVec Ideal S2x16384x2x64 .f32) : FVec Ideal S2x16384x2x16 .f32 :=
  extractStridedSlice S2x16384x2x16 ![0, 0, 0, 48] n slices_S2x16384x2x64_S2x16384x2x16_0_0_0_48

theorem cutK0_at (n : FVec Ideal S2x16384x2x64 .f32) (b : Fin 2) (r : Fin 16384) (h : Fin 2) (f : Fin 16) :
    cutK0 n (ix4 b r h f) = n (ix4 b r h ⟨f, by omega⟩) := by
  unfold cutK0; pointwise

theorem cutK16_at (n : FVec Ideal S2x16384x2x64 .f32) (b : Fin 2) (r : Fin 16384) (h : Fin 2) (f : Fin 16) :
    cutK16 n (ix4 b r h f) = n (ix4 b r h ⟨16 + f, by omega⟩) := by
  unfold cutK16; pointwise

theorem cutK32_at (n : FVec Ideal S2x16384x2x64 .f32) (b : Fin 2) (r : Fin 16384) (h : Fin 2) (f : Fin 16) :
    cutK32 n (ix4 b r h f) = n (ix4 b r h ⟨32 + f, by omega⟩) := by
  unfold cutK32; pointwise

theorem cutK48_at (n : FVec Ideal S2x16384x2x64 .f32) (b : Fin 2) (r : Fin 16384) (h : Fin 2) (f : Fin 16) :
    cutK48 n (ix4 b r h f) = n (ix4 b r h ⟨48 + f, by omega⟩) := by
  unfold cutK48; pointwise

/-- A table of the first angle, for all two heads. -/
def angK0 (c : FVec Ideal S16384x2x16 .f32) : FVec Ideal S2x16384x2x16 .f32 :=
  broadcastInDim S2x16384x2x16 ![0, 1, 2, 3] bcast_S1x16384x1x16_S2x16384x2x16_0_1_2_3 (broadcastInDim S1x16384x1x16 ![1, 3] bcast_S16384x16_S1x16384x1x16_1_3
    (shapeCast _ (extractStridedSlice S16384x1x16 ![0, 0, 0] c slices_S16384x2x16_S16384x1x16_0_0_0) shapeCasts_S16384x1x16_S16384x16))

theorem angK0_at (c : FVec Ideal S16384x2x16 .f32) (b : Fin 2) (r : Fin 16384) (h : Fin 2) (f : Fin 16) :
    angK0 c (ix4 b r h f) = c (ix3 r 0 f) := by
  unfold angK0; pointwise

/-- A table of the second angle, for all two heads. -/
def angK1 (c : FVec Ideal S16384x2x16 .f32) : FVec Ideal S2x16384x2x16 .f32 :=
  broadcastInDim S2x16384x2x16 ![0, 1, 2, 3] bcast_S1x16384x1x16_S2x16384x2x16_0_1_2_3 (broadcastInDim S1x16384x1x16 ![1, 3] bcast_S16384x16_S1x16384x1x16_1_3
    (shapeCast _ (extractStridedSlice S16384x1x16 ![0, 1, 0] c slices_S16384x2x16_S16384x1x16_0_1_0) shapeCasts_S16384x1x16_S16384x16))

theorem angK1_at (c : FVec Ideal S16384x2x16 .f32) (b : Fin 2) (r : Fin 16384) (h : Fin 2) (f : Fin 16) :
    angK1 c (ix4 b r h f) = c (ix3 r 1 f) := by
  unfold angK1; pointwise

/-- Four groups of 16 columns side by side. -/
def joinK (a b d e : FVec Ideal S2x16384x2x16 .f32) : FVec Ideal S2x16384x2x64 .f32 :=
  concatenate S2x16384x2x64 3 [⟨S2x16384x2x16, a⟩, ⟨S2x16384x2x16, b⟩, ⟨S2x16384x2x16, d⟩, ⟨S2x16384x2x16, e⟩]
    concatenates_S2x16384x2x16_S2x16384x2x16_S2x16384x2x16_S2x16384x2x16_S2x16384x2x64_d3

theorem joinK_at (a b d e : FVec Ideal S2x16384x2x16 .f32) (i : Fin 2) (r : Fin 16384) (h : Fin 2) (o : Fin 64) :
    joinK a b d e (ix4 i r h o) = if o.val < 16 then a (ix4 i r h ⟨o.val % 16, by omega⟩) else if o.val < 32 then b (ix4 i r h ⟨o.val % 16, by omega⟩)
      else if o.val < 48 then d (ix4 i r h ⟨o.val % 16, by omega⟩) else e (ix4 i r h ⟨o.val % 16, by omega⟩) := by
  have ho := o.isLt
  have q : ∀ (t : FVec Ideal S2x16384x2x16 .f32) (k l : Fin 16), k.val = l.val → t (ix4 i r h k) = t (ix4 i r h l) := fun t k l h => by rw [Fin.ext h]
  unfold joinK
  pointwise
  by_cases h1 : o.val < 16
  · rw [dif_pos h1, if_pos h1]
    exact q _ _ _ (by dsimp only; omega)
  · by_cases h2 : o.val < 32
    · rw [dif_neg h1, dif_pos (by omega), if_neg h1, if_pos h2]
      exact q _ _ _ (by dsimp only; omega)
    · by_cases h3 : o.val < 48
      · rw [dif_neg h1, dif_neg (by omega), dif_pos (by omega), if_neg h1, if_neg h2, if_pos h3]
        exact q _ _ _ (by dsimp only; omega)
      · rw [dif_neg h1, dif_neg (by omega), dif_neg (by omega), if_neg h1, if_neg h2, if_neg h3]
        exact q _ _ _ (by dsimp only; omega)

/-- The reference's turn. -/
def turnK (n : FVec Ideal S2x16384x2x64 .f32) (c s : FVec Ideal S16384x2x16 .f32) : FVec Ideal S2x16384x2x64 .f32 :=
  joinK (subf (mulf (cutK0 n) (angK0 c)) (mulf (cutK16 n) (angK0 s))) (addf (mulf (cutK16 n) (angK0 c)) (mulf (cutK0 n) (angK0 s)))
    (subf (mulf (cutK32 n) (angK1 c)) (mulf (cutK48 n) (angK1 s))) (addf (mulf (cutK48 n) (angK1 c)) (mulf (cutK32 n) (angK1 s)))

theorem subK_at (a b c d : FVec Ideal S2x16384x2x16 .f32) (i : S2x16384x2x16.Idx) :
    (subf (mulf a b) (mulf c d) i : EReal) = (a i : EReal) * b i - c i * d i := rfl

theorem addK_at (a b c d : FVec Ideal S2x16384x2x16 .f32) (i : S2x16384x2x16.Idx) :
    (addf (mulf a b) (mulf c d) i : EReal) = (a i : EReal) * b i + c i * d i := rfl

/-- The reference's turn at an entry. -/
theorem turnK_at (n : FVec Ideal S2x16384x2x64 .f32) (c s : FVec Ideal S16384x2x16 .f32) (i : Fin 2) (r : Fin 16384) (h : Fin 2) (d : Fin 64) :
    (turnK n c s (ix4 i r h d) : EReal) = turn (fun k => n (ix4 i r h k)) (fun a f => c (ix3 r a f)) (fun a f => s (ix3 r a f)) d := by
  have hd := d.isLt
  have en : ∀ (k l : Fin 64), k.val = l.val → (n (ix4 i r h k) : EReal) = n (ix4 i r h l) := fun k l h => by rw [Fin.ext h]
  have et : ∀ (t : FVec Ideal S16384x2x16 .f32) (a b : Fin 2) (k l : Fin 16), a.val = b.val → k.val = l.val → (t (ix3 r a k) : EReal) = t (ix3 r b l) :=
    fun t a b k l h h' => by rw [Fin.ext h, Fin.ext h']
  unfold turnK turn
  rw [joinK_at, subK_at, addK_at, subK_at, addK_at, cutK0_at, cutK16_at, cutK32_at, cutK48_at, angK0_at, angK0_at, angK1_at, angK1_at]
  by_cases h1 : d.val < 16
  · rw [if_pos h1, if_pos (by omega)]
    exact congrArg₂ (fun a b : EReal => a - b)
      (congrArg₂ (fun a b : EReal => a * b) (en _ _ (by dsimp only; omega)) (et c _ _ _ _ (by show 0 = d.val / 32; omega) (by dsimp only)))
      (congrArg₂ (fun a b : EReal => a * b) (en _ _ (by dsimp only; omega)) (et s _ _ _ _ (by show 0 = d.val / 32; omega) (by dsimp only)))
  · by_cases h2 : d.val < 32
    · rw [if_neg h1, if_pos h2, if_neg (by omega)]
      exact congrArg₂ (fun a b : EReal => a + b)
        (congrArg₂ (fun a b : EReal => a * b) (en _ _ (by dsimp only; omega)) (et c _ _ _ _ (by show 0 = d.val / 32; omega) (by dsimp only)))
        (congrArg₂ (fun a b : EReal => a * b) (en _ _ (by dsimp only; omega)) (et s _ _ _ _ (by show 0 = d.val / 32; omega) (by dsimp only)))
    · by_cases h3 : d.val < 48
      · rw [if_neg h1, if_neg h2, if_pos h3, if_pos (by omega)]
        exact congrArg₂ (fun a b : EReal => a - b)
          (congrArg₂ (fun a b : EReal => a * b) (en _ _ (by dsimp only; omega)) (et c _ _ _ _ (by show 1 = d.val / 32; omega) (by dsimp only)))
          (congrArg₂ (fun a b : EReal => a * b) (en _ _ (by dsimp only; omega)) (et s _ _ _ _ (by show 1 = d.val / 32; omega) (by dsimp only)))
      · rw [if_neg h1, if_neg h2, if_neg h3, if_neg (by omega)]
        exact congrArg₂ (fun a b : EReal => a + b)
          (congrArg₂ (fun a b : EReal => a * b) (en _ _ (by dsimp only; omega)) (et c _ _ _ _ (by show 1 = d.val / 32; omega) (by dsimp only)))
          (congrArg₂ (fun a b : EReal => a * b) (en _ _ (by dsimp only; omega)) (et s _ _ _ _ (by show 1 = d.val / 32; omega) (by dsimp only)))

/-- The heads of the reference. -/
def headsK (p : FVec Ideal S2x16384x2048 .f32) : FVec Ideal S2x16384x2x64 .f32 :=
  shapeCast _ (extractStridedSlice S2x16384x128 ![0, 0, 512] p slices_S2x16384x2048_S2x16384x128_0_0_512) shapeCasts_S2x16384x128_S2x16384x2x64

theorem headsK_at (p : FVec Ideal S2x16384x2048 .f32) (i : Fin 2) (r : Fin 16384) (h : Fin 2) (d : Fin 64) :
    headsK p (ix4 i r h d) = p (ix3 i r ⟨512 + 64 * h + d, by omega⟩) := by
  unfold headsK
  pointwise
  exact congrArg p (congrArg (ix3 i r) (Fin.ext (by dsimp only; omega)))

/-- The norm of heads in the reference. -/
def normK (x : FVec Ideal S2x16384x2x64 .f32) (g : FVec Ideal S64 .f32) : FVec Ideal S2x16384x2x64 .f32 :=
  mulf (mulf x (broadcastInDim S2x16384x2x64 ![0, 1, 2, 3] bcast_S2x16384x2x1_S2x16384x2x64_0_1_2_3 (Host.rsqrt (addf (Host.divf
    (broadcastInDim S2x16384x2x1 ![0, 1, 2] bcast_S2x16384x2_S2x16384x2x1_0_1_2 (Host.reduceAdd (mulf x x) (constant S_ .f32 0x00000000#32)
      reducesTo_S2x16384x2x64_S2x16384x2_d3 h_S_)) (broadcastInDim S2x16384x2x1 ![] bcast_S_S2x16384x2x1 (constant S_ .f32 0x42800000#32)))
    (broadcastInDim S2x16384x2x1 ![] bcast_S_S2x16384x2x1 (constant S_ .f32 0x358637BD#32))))))
    (broadcastInDim S2x16384x2x64 ![0, 1, 2, 3] bcast_S1x1x1x64_S2x16384x2x64_0_1_2_3 (broadcastInDim S1x1x1x64 ![3] bcast_S64_S1x1x1x64_3 g))

theorem normK_at (x : FVec Ideal S2x16384x2x64 .f32) (g : FVec Ideal S64 .f32) (i : Fin 2) (r : Fin 16384) (h : Fin 2) (d : Fin 64) :
    (normK x g (ix4 i r h d) : EReal) = headNorm (fun k => x (ix4 i r h k)) (fun k => g (ix1 k)) d := by
  unfold normK headNorm
  pointwise

/-! ## The results -/

/-- The number that queries are scaled by. -/
abbrev qs : EReal := Ideal.ofBits .f32 0x3E38AA3B#32

/-- The queries: each head's norm, turned and scaled, columns before rows. -/
def OUTQ (p : FVec Ideal S2x16384x2048 .f32) (c s : FVec Ideal S16384x2x16 .f32) (g : FVec Ideal S64 .f32) : FVec Ideal S2x4x64x16384 .bf16 := fun y =>
  turn (headNorm (fun k => p (ix3 (y 0) (y 3) ⟨256 + 64 * (y 1).val + k, by have h : (y 1).val < 4 := (y 1).isLt; omega⟩)) (fun k => g (ix1 k)))
    (fun a f => c (ix3 (y 3) a f)) (fun a f => s (ix3 (y 3) a f)) (y 2) * qs

/-- The keys: each head's norm, turned. -/
def OUTK (p : FVec Ideal S2x16384x2048 .f32) (c s : FVec Ideal S16384x2x16 .f32) (g : FVec Ideal S64 .f32) : FVec Ideal S2x16384x128 .bf16 := fun y =>
  turn (headNorm (fun k => p (ix3 (y 0) (y 1) ⟨512 + 64 * ((y 2).val / 64) + k, by have h : (y 2).val < 128 := (y 2).isLt; omega⟩)) (fun k => g (ix1 k)))
    (fun a f => c (ix3 (y 1) a f)) (fun a f => s (ix3 (y 1) a f)) ⟨(y 2).val % 64, by omega⟩

/-- The values, in blocks of 512 rows, columns before rows. -/
def OUTV (p : FVec Ideal S2x16384x2048 .f32) : FVec Ideal S2x2x32x64x512 .bf16 := fun y =>
  p (ix3 (y 0) ⟨512 * (y 2).val + (y 4).val, by have h : (y 2).val < 32 := (y 2).isLt; have h : (y 4).val < 512 := (y 4).isLt; omega⟩
    ⟨640 + 64 * (y 1).val + (y 3).val, by have h : (y 1).val < 2 := (y 1).isLt; have h : (y 3).val < 64 := (y 3).isLt; omega⟩)

/-- What the reference does to its turned queries. -/
def lastQ (v : FVec Ideal S2x16384x4x64 .f32) : FVec Ideal S2x4x64x16384 .bf16 :=
  truncf .bf16 (transpose S2x4x64x16384 [0, 2, 3, 1] (mulf v (broadcastInDim S2x16384x4x64 ![] bcast_S_S2x16384x4x64 (constant S_ .f32 0x3E38AA3B#32)))
    transposes_S2x16384x4x64_S2x4x64x16384_0_2_3_1) bitsLt_bf16_f32

theorem lastQ_at (v : FVec Ideal S2x16384x4x64 .f32) (i : Fin 2) (h : Fin 4) (d : Fin 64) (r : Fin 16384) :
    (lastQ v (ix4 i h d r) : EReal) = (v (ix4 i r h d) : EReal) * qs := by
  unfold lastQ; pointwise

/-- What the reference does to its turned keys. -/
def lastK (v : FVec Ideal S2x16384x2x64 .f32) : FVec Ideal S2x16384x128 .bf16 :=
  truncf .bf16 (shapeCast _ v shapeCasts_S2x16384x2x64_S2x16384x128) bitsLt_bf16_f32

theorem lastK_at (v : FVec Ideal S2x16384x2x64 .f32) (i : Fin 2) (r : Fin 16384) (o : Fin 128) :
    (lastK v (ix3 i r o) : EReal) = v (ix4 i r ⟨o.val / 64, by omega⟩ ⟨o.val % 64, by omega⟩) := by
  unfold lastK; pointwise

/-- The reference's values. -/
abbrev REFV (p : FVec Ideal S2x16384x2048 .f32) : FVec Ideal S2x2x32x64x512 .bf16 :=
  truncf .bf16 (transpose S2x2x32x64x512 [0, 3, 1, 4, 2] (shapeCast _ (extractStridedSlice S2x16384x128 ![0, 0, 640] p slices_S2x16384x2048_S2x16384x128_0_0_640) shapeCasts_S2x16384x128_S2x32x512x2x64) transposes_S2x32x512x2x64_S2x2x32x64x512_0_3_1_4_2) bitsLt_bf16_f32

theorem resq : res_main_v109 m c = lastQ (turnQ (normQ (headsQ (m ((c.tc : Thread nD τ).loc main_arg0))) (m ((c.tc : Thread nD τ).loc main_arg3)))
    (m ((c.tc : Thread nD τ).loc main_arg1)) (m ((c.tc : Thread nD τ).loc main_arg2))) := by
  unfold res_main_v109; rfl

theorem resk : res_main_v111 m c = lastK (turnK (normK (headsK (m ((c.tc : Thread nD τ).loc main_arg0))) (m ((c.tc : Thread nD τ).loc main_arg4)))
    (m ((c.tc : Thread nD τ).loc main_arg1)) (m ((c.tc : Thread nD τ).loc main_arg2))) := by
  unfold res_main_v111; rfl

/-- The reference's queries. -/
theorem refq_eq : res_main_v109 m c = OUTQ (m ((c.tc : Thread nD τ).loc main_arg0)) (m ((c.tc : Thread nD τ).loc main_arg1))
    (m ((c.tc : Thread nD τ).loc main_arg2)) (m ((c.tc : Thread nD τ).loc main_arg3)) := by
  rw [resq]
  funext y
  idx_vars y
  refine (lastQ_at _ y0 y1 y2 y3).trans (congrArg (fun v : EReal => v * qs) ((turnQ_at _ _ _ y0 y3 y1 y2).trans ?_))
  exact turn_congr (fun d => (normQ_at _ _ y0 y3 y1 d).trans (headNorm_congr (fun k => headsQ_at _ y0 y3 y1 k) (fun _ => rfl) rfl)) (fun _ _ => rfl) (fun _ _ => rfl) rfl

/-- The reference's keys. -/
theorem refk_eq : res_main_v111 m c = OUTK (m ((c.tc : Thread nD τ).loc main_arg0)) (m ((c.tc : Thread nD τ).loc main_arg1))
    (m ((c.tc : Thread nD τ).loc main_arg2)) (m ((c.tc : Thread nD τ).loc main_arg4)) := by
  rw [resk]
  funext y
  idx_vars y
  refine (lastK_at _ y0 y1 y2).trans ((turnK_at _ _ _ y0 y1 _ _).trans ?_)
  exact turn_congr (fun d => (normK_at _ _ y0 y1 _ d).trans (headNorm_congr (fun k => headsK_at _ y0 y1 _ k) (fun _ => rfl) rfl)) (fun _ _ => rfl) (fun _ _ => rfl) rfl

/-- The reference's values. -/
theorem refv_eq (p : FVec Ideal S2x16384x2048 .f32) : REFV p = OUTV p := by
  funext y
  idx_vars y
  unfold OUTV
  pointwise [REFV]
  exact congrArg p (congrArg₂ (ix3 y0) (Fin.ext (by dsimp only; omega)) (Fin.ext (by dsimp only; omega)))

end Cert.Reference8Ideal.Hand

end
-- ==== Proof.Value.RopeFinal.lean ====
/- The arrays of queries, keys and values that the latent tokens' pipeline leaves, entry by entry. -/
module

public import proofs.«01_k».proof.Proof.Value.Rope
public import proofs.«01_k».proof.Proof.Value.RopeRef

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Pipeline Cert.Qkv
open Cert.Reference8Ideal.Hand (OUTQ OUTK OUTV)

/-- The norm of a pair of real heads is the norm of each. -/
theorem blockNorm_eq (x : FVec Ideal S1x512x256 .f32) (g : FVec Ideal S1x128 .f32) (w : FVec Ideal S128x128 .bf16) (j : Fin 2) (r : Fin 512) (o : Fin 128)
    (p : Fin 256 → EReal) (q : Fin 64 → EReal) (hx : ∀ k, (x (ix3 0 r k) : EReal) = p k) (hp : ∀ k : Fin 128, ∃ v : ℝ, p ⟨128 * j + k, by omega⟩ = (v : EReal))
    (hg : ∀ o : Fin 128, (g (ix2 0 o) : EReal) = q ⟨o.val % 64, by omega⟩)
    (hw : ∀ k o : Fin 128, (w (ix2 k o) : EReal) = (if k.val / 64 = o.val / 64 then (1 : EReal) else 0) * Ideal.ofBits .f32 0x3C800000#32) :
    blockNorm x g w j r o = headNorm (fun k => p ⟨128 * j + 64 * (o.val / 64) + k, by omega⟩) q ⟨o.val % 64, by omega⟩ := by
  unfold blockNorm
  refine (pair_congr (fun k => hx ⟨128 * j + k, by omega⟩) (fun k o => hw k o) (fun o => hg o) rfl).trans ((pair_eq _ _ _ _ (fun k => hp k) fun k o => rfl).trans
    (headNorm_congr (fun k => congrArg p (Fin.ext ?_)) (fun k => congrArg q (Fin.ext ?_)) rfl))
  · show 128 * j.val + (64 * (o.val / 64) + k.val) = 128 * j.val + 64 * (o.val / 64) + k.val
    omega
  · show (64 * (o.val / 64) + k.val) % 64 = k.val
    omega

variable (m : (ℓ : Loc nD τ sig) → Buf (Elt Ideal) ℓ) (c : Dev nD)

/-- The columns that become queries and keys hold real numbers. -/
def Real (p : FVec Ideal S2x16384x2048 .f32) : Prop :=
  ∀ (b : Fin 2) (r : Fin 16384) (k : Fin 384), ∃ v : ℝ, p (ix3 b r ⟨256 + k, by omega⟩) = (v : EReal)

/-- The array of queries that the pipeline leaves. -/
theorem final7 (hp : Real (m ((c : Thread nD τ).loc main_arg0))) : (dats m 0 c).arrAt 7 cfg0.N =
    OUTQ (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  have ht := point_lt t
  refine (out7_at _ _ _ _ _ _ _ y).trans ?_
  idx_vars y
  obtain rfl : y0 = 0 := Subsingleton.elim _ _
  have h1 : y1.val < 4 := y1.isLt
  have h2 : y2.val < 64 := y2.isLt
  refine Eq.trans ?_ (congrArg (OUTQ (m ((c : Thread nD τ).loc main_arg0)) (m ((c : Thread nD τ).loc main_arg1)) (m ((c : Thread nD τ).loc main_arg2))
    (m ((c : Thread nD τ).loc main_arg3))) (?_ : ix4 (bat t) y1 y2 (row t y3) = _))
  · refine congrArg (fun v : EReal => v * qs) ((turned_congr (fun o => blockNorm_eq _ _ _ ⟨y1.val / 2, by omega⟩ y3 o _ _ (fun k => x_at m c t y3 k) (fun k => ?_)
      (fun o => gq_at m c t o) (fun k o => w_at m c t k o)) (fun o => cos_at m c t y3 o) (fun o => sin_at m c t y3 o) rfl).trans ((turned_eq _
        (fun a => headNorm (fun k => (m ((c : Thread nD τ).loc main_arg0)) (ix3 (bat t) (row t y3) ⟨256 + (128 * (y1.val / 2) + 64 * a.val + k.val), by omega⟩))
          (fun k => (m ((c : Thread nD τ).loc main_arg3)) (ix1 k))) _ _ _ (fun o => rfl)).trans
      (turn_congr (fun d => headNorm_congr (fun k => congrArg (m ((c : Thread nD τ).loc main_arg0)) (congrArg (ix3 (bat t) (row t y3)) (Fin.ext ?_)))
        (fun k => rfl) rfl) (fun a f => rfl) (fun a f => rfl) (Fin.ext ?_))))
    · obtain ⟨v, hv⟩ := hp (bat t) (row t y3) ⟨128 * (y1.val / 2) + k, by omega⟩
      exact ⟨v, hv⟩
    · show 256 + (128 * (y1.val / 2) + 64 * ((64 * (y1.val % 2) + y2.val) / 64) + k.val) = 256 + 64 * y1.val + k.val
      omega
    · show (64 * (y1.val % 2) + y2.val) % 64 = y2.val
      omega
  · blk_ext [idx t]

/-- The array of keys that the pipeline leaves. -/
theorem final8 (hp : Real (m ((c : Thread nD τ).loc main_arg0))) : (dats m 0 c).arrAt 8 cfg0.N =
    OUTK (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  have ht := point_lt t
  refine (out8_at _ _ _ _ _ _ _ y).trans ?_
  idx_vars y
  obtain rfl : y0 = 0 := Subsingleton.elim _ _
  have h2 : y2.val < 128 := y2.isLt
  refine Eq.trans ?_ (congrArg (OUTK (m ((c : Thread nD τ).loc main_arg0)) (m ((c : Thread nD τ).loc main_arg1)) (m ((c : Thread nD τ).loc main_arg2))
    (m ((c : Thread nD τ).loc main_arg4))) (?_ : ix3 (bat t) (row t y1) y2 = _))
  · refine (turned_congr (fun o => blockNorm_eq _ _ _ 0 y1 o _ _ (fun k => kv_at m c t y1 k) (fun k => ?_)
      (fun o => gk_at m c t o) (fun k o => w_at m c t k o)) (fun o => cos_at m c t y1 o) (fun o => sin_at m c t y1 o) rfl).trans ((turned_eq _
        (fun a => headNorm (fun k => (m ((c : Thread nD τ).loc main_arg0)) (ix3 (bat t) (row t y1) ⟨512 + (128 * (0 : Fin 2).val + 64 * a.val + k.val), by show 512 + (128 * 0 + 64 * a.val + k.val) < 2048; omega⟩))
          (fun k => (m ((c : Thread nD τ).loc main_arg4)) (ix1 k))) _ _ _ (fun o => rfl)).trans
      (turn_congr (fun d => headNorm_congr (fun k => congrArg (m ((c : Thread nD τ).loc main_arg0)) (congrArg (ix3 (bat t) (row t y1)) (Fin.ext ?_)))
        (fun k => rfl) rfl) (fun a f => rfl) (fun a f => rfl) rfl))
    · obtain ⟨v, hv⟩ := hp (bat t) (row t y1) ⟨256 + k, by omega⟩
      exact ⟨v, (congrArg (m ((c : Thread nD τ).loc main_arg0)) (congrArg (ix3 (bat t) (row t y1))
        (Fin.ext (by show 512 + (128 * 0 + k.val) = 256 + (256 + k.val); omega)))).trans hv⟩
    · show 512 + (128 * 0 + 64 * (y2.val / 64) + k.val) = 512 + 64 * (y2.val / 64) + k.val
      omega
  · blk_ext [idx t]

/-- The array of values that the pipeline leaves. -/
theorem final9 : (dats m 0 c).arrAt 9 cfg0.N = OUTV (m ((c : Thread nD τ).loc main_arg0)) := by
  refine (dats m 0 c).arrAt_eq_of_covers 9 _ (by decide +kernel) fun t _ y => ?_
  blk_simp
  rw [after0_9]
  have ht := point_lt t
  unfold out0_9
  refine (Cert.Kernel8Ideal.Value.canon9_eq (F := Ideal) _ y).trans ?_
  idx_vars y
  obtain rfl : y0 = 0 := Subsingleton.elim _ _
  obtain rfl : y2 = 0 := Subsingleton.elim _ _
  have h1 : y1.val < 2 := y1.isLt
  have h3 : y3.val < 64 := y3.isLt
  refine Eq.trans ?_ (congrArg (OUTV (m ((c : Thread nD τ).loc main_arg0))) (?_ : ix5 (bat t) y1 ⟨t.val % 32, by omega⟩ y3 y4 = _))
  · have e : (Cert.Kernel8Ideal.Value.ix9_0 (ix5 0 y1 0 y3 y4) : S1x512x128.Idx) = ix3 0 y4 ⟨64 * y1.val + y3.val, by omega⟩ := by
      blk_ext
    refine Eq.trans (congrArg (View.ld (Val := Elt Ideal) (e' := .f32) (iblk m c 1 t) r0_6) e) ?_
    refine (ld_hi (iblk m c 1 t) y4 ⟨64 * y1.val + y3.val, by omega⟩).trans ((kv_at m c t y4 _).trans ?_)
    exact congrArg (m ((c : Thread nD τ).loc main_arg0)) (congrArg₂ (ix3 (bat t)) (Fin.ext (by show t.val % 32 * 512 + y4.val = 512 * (t.val % 32) + y4.val; omega))
      (Fin.ext (by show 512 + (128 + (64 * y1.val + y3.val)) = 640 + 64 * y1.val + y3.val; omega)))
  · blk_ext [idx t]

end Cert.Kernel8Ideal.Hand

end
-- ==== Proof.Value.RopePre.lean ====
/- What the precondition says of the latent tokens: that the columns of queries and keys hold real numbers. -/
module

public import proofs.«01_k».proof.Pre_finite8
public import proofs.«01_k».proof.Proof.Value.RopeFinal
public import Idealize.ShloMosaic.Lib.ReduceAll
public import Idealize.ShloMosaic.Lib.Pointwise

@[expose] public section

set_option maxRecDepth 16384

noncomputable section

namespace Cert.Pre_finite8.Hand

open Cert.Pre_finite8 Idealize.ShloMosaic

/-- The shape relations of the precondition hold. -/
theorem facts : Cert.Pre_finite8.Facts where
  slices_S2x16384x2048_S2x16384x384_0_0_256 := by decide
  bcast_S_S2x16384x384 := by decide
  reducesTo_S2x16384x384_S_d0_1_2 := by decide
  h_S_ := by decide

attribute [local instance] facts

open Facts

/-- A scalar has one index. -/
theorem one_index : Subsingleton S_.Idx := ⟨fun a b => funext fun i => i.elim0⟩

/-- The word that stands for infinity is the greatest number. -/
theorem top_f32 : Ideal.ofBits .f32 0x7F800000#32 = (⊤ : EReal) := by simp [Ideal.ofBits, Ideal.ieee]

/-- A number whose absolute value is less than infinity is real. -/
theorem real_of_lt {x : EReal} (h : Ideal.cmp .olt (max x (-x)) (Ideal.ofBits .f32 0x7F800000#32) = 1#1) : ∃ r : ℝ, x = (r : EReal) := by
  rw [top_f32] at h
  have hlt : max x (-x) < ⊤ := by
    by_contra hn
    simp [Ideal.cmp, hn] at h
  induction x with
  | bot => simp at hlt
  | top => simp at hlt
  | coe r => exact ⟨r, rfl⟩

/-- If the check of all entries of an array gives 1, they are real. -/
theorem real_of_all {s : Shape} (x : FVec Ideal s .f32) (hb : S_.BroadcastsInDim s (![] : Fin 0 → Fin s.rank)) {axes : List (Fin s.rank)}
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) :=
  haveI := one_index
  real_of_lt (Host.reduce_andi_all _ _ hr hu j h i)

/-- A column of the slice of queries and keys. -/
theorem slice_at (p : FVec Ideal S2x16384x2048 .f32) (b : Fin 2) (r : Fin 16384) (k : Fin 384) :
    extractStridedSlice S2x16384x384 ![0, 0, 256] p slices_S2x16384x2048_S2x16384x384_0_0_256 (ix3 b r k) = p (ix3 b r ⟨256 + k, by omega⟩) := by
  pointwise

/-- Where the precondition holds, the columns of queries and keys hold real numbers. -/
theorem finite (p : FVec Ideal S2x16384x2048 .f32) (cos sin : FVec Ideal S16384x2x16 .f32) (gq gk : FVec Ideal S64 .f32) (h : fn (F := Ideal) p cos sin gq gk = fun _ => 1#1) :
    Cert.Kernel8Ideal.Hand.Real p := by
  intro b r k
  unfold fn at h
  dsimp only at h
  have h0 := congrFun h (fun a => a.elim0)
  obtain ⟨v, hv⟩ := real_of_all (s := S2x16384x384) _ _ _ _ _ h0 (ix3 b r k)
  exact ⟨v, (slice_at p b r k).symm.trans hv⟩

end Cert.Pre_finite8.Hand

end
-- ==== Proof.Value.InProjCtx.lean ====
/- The context's input projection: the array its pipeline leaves is the reference's. -/
module

public import proofs.«01_k».proof.Proof.Gen.Kernel9Ideal.Frame
public import proofs.«01_k».proof.Proof.Gen.Reference9Ideal.Run
public import Idealize.ShloMosaic.Lib.Pipeline.ValueKit
public import Idealize.ShloMosaic.Lib.Claim

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Pipeline

/-- A row's modulated norm at a column: the row over its root mean square, times the gain, times one plus the scale, plus the shift. -/
def entry (x g scale shift : Fin 1024 → EReal) (k : Fin 1024) : EReal :=
  x k * Ideal.rsqrt (Ideal.div (∑ j, x j * x j) (Ideal.ofBits .f32 0x44800000#32) + Ideal.ofBits .f32 0x358637BD#32) * g k *
    (Ideal.ofBits .f32 0x3F800000#32 + scale k) + shift k

/-- What the kernel stores, at a row and a column. -/
theorem payload_at (mo : FVec Ideal S1x6x1024 .f32) (x : FVec Ideal S1x256x1024 .f32) (g : FVec Ideal S1x1024 .f32) (w : FVec Ideal S1024x2048 .bf16)
    (r : Fin 256) (o : Fin 2048) :
    (k0_pay1 (F := Ideal) mo x g w (ix3 0 r o) : EReal) = ∑ k : Fin 1024, entry (fun j => x (ix3 0 r j)) (fun j => g (ix2 0 j)) (fun j => mo (ix3 0 1 j)) (fun j => mo (ix3 0 0 j)) k * w (ix2 k o) := by
  unfold entry
  pointwise [k0_pay1]

/-- The reference's result, as its run leaves it. -/
abbrev REF (x : FVec Ideal S2x256x1024 .f32) (mo : FVec Ideal S2x6x1024 .f32) (g : FVec Ideal S1024 .f32) (w : FVec Ideal S1024x2048 .f32) :
    FVec Ideal S2x256x2048 .f32 :=
  Host.dotGeneral Cert.Reference9Ideal.dot_S2x256x1024_S1024x2048_S2x256x2048_2_0_01_1_n_n none (addf (mulf (mulf (mulf x (broadcastInDim Cert.Reference9Ideal.S2x256x1024 ![0, 1, 2] Cert.Reference9Ideal.Gen.bcast_S2x256x1_S2x256x1024_0_1_2 (Host.rsqrt (addf (Host.divf (broadcastInDim Cert.Reference9Ideal.S2x256x1 ![0, 1] Cert.Reference9Ideal.Gen.bcast_S2x256_S2x256x1_0_1 (Host.reduceAdd (mulf x x) (constant Cert.Reference9Ideal.S_ .f32 0x00000000#32) Cert.Reference9Ideal.Gen.reducesTo_S2x256x1024_S2x256_d2 Cert.Reference9Ideal.Gen.h_S_)) (broadcastInDim Cert.Reference9Ideal.S2x256x1 ![] Cert.Reference9Ideal.Gen.bcast_S_S2x256x1 (constant Cert.Reference9Ideal.S_ .f32 0x44800000#32))) (broadcastInDim Cert.Reference9Ideal.S2x256x1 ![] Cert.Reference9Ideal.Gen.bcast_S_S2x256x1 (constant Cert.Reference9Ideal.S_ .f32 0x358637BD#32)))))) (broadcastInDim Cert.Reference9Ideal.S2x256x1024 ![0, 1, 2] Cert.Reference9Ideal.Gen.bcast_S1x1x1024_S2x256x1024_0_1_2 (broadcastInDim Cert.Reference9Ideal.S1x1x1024 ![2] Cert.Reference9Ideal.Gen.bcast_S1024_S1x1x1024_2 g))) (broadcastInDim Cert.Reference9Ideal.S2x256x1024 ![0, 1, 2] Cert.Reference9Ideal.Gen.bcast_S2x1x1024_S2x256x1024_0_1_2 (addf (broadcastInDim Cert.Reference9Ideal.S2x1x1024 ![] Cert.Reference9Ideal.Gen.bcast_S_S2x1x1024 (constant Cert.Reference9Ideal.S_ .f32 0x3F800000#32)) (extractStridedSlice Cert.Reference9Ideal.S2x1x1024 ![0, 1, 0] mo Cert.Reference9Ideal.Gen.slices_S2x6x1024_S2x1x1024_0_1_0)))) (broadcastInDim Cert.Reference9Ideal.S2x256x1024 ![0, 1, 2] Cert.Reference9Ideal.Gen.bcast_S2x1x1024_S2x256x1024_0_1_2 (extractStridedSlice Cert.Reference9Ideal.S2x1x1024 ![0, 0, 0] mo Cert.Reference9Ideal.Gen.slices_S2x6x1024_S2x1x1024_0_0_0))) w

/-- What the reference computes, at a batch, a row and a column. -/
theorem reference_at (x : FVec Ideal S2x256x1024 .f32) (mo : FVec Ideal S2x6x1024 .f32) (g : FVec Ideal S1024 .f32) (w : FVec Ideal S1024x2048 .f32)
    (b : Fin 2) (t : Fin 256) (o : Fin 2048) :
    (REF x mo g w (ix3 b t o) : EReal) = ∑ k : Fin 1024, entry (fun j => x (ix3 b t j)) (fun j => g (ix1 j)) (fun j => mo (ix3 b 1 j)) (fun j => mo (ix3 b 0 j)) k * w (ix2 k o) := by
  unfold entry
  pointwise [REF]

/-- Where each window's block lies at a point. -/
theorem idx : ∀ t : Fin cfg0.N,
    win0_0.index t = ![t.val, 0, 0] ∧ win0_1.index t = ![t.val, 0, 0] ∧ win0_2.index t = ![0, 0] ∧
    win0_3.index t = ![0, 0] ∧ win0_4.index t = ![t.val, 0, 0] :=
  (by decide +kernel : ∀ t : Fin grid0.N,
    win0_0.index t = ![t.val, 0, 0] ∧ win0_1.index t = ![t.val, 0, 0] ∧ win0_2.index t = ![0, 0] ∧
    win0_3.index t = ![0, 0] ∧ win0_4.index t = ![t.val, 0, 0])

variable (m : (ℓ : Loc nD τ sig) → Buf (Elt Ideal) ℓ) (c : Dev nD)

/-- There are 2 points. -/
theorem point_lt (t : Fin cfg0.N) : t.val < 2 := t.isLt

/-- The block of rows at a point. -/
theorem x_at (t : Fin cfg0.N) (r : Fin 256) (k : Fin 1024) :
    (show FVec Ideal S1x256x1024 .f32 from iblk m c 0 t) (ix3 0 r k) =
      (m ((c : Thread nD τ).loc main_arg0)) (ix3 ⟨t.val, point_lt t⟩ r k) := by
  blk_ext [iblk, V, idx t]

/-- The block of modulations at a point. -/
theorem mo_at (t : Fin cfg0.N) (a : Fin 6) (k : Fin 1024) :
    (show FVec Ideal S1x6x1024 .f32 from iblk m c 1 t) (ix3 0 a k) =
      (m ((c : Thread nD τ).loc main_arg1)) (ix3 ⟨t.val, point_lt t⟩ a k) := by
  blk_ext [iblk, V, idx t]

/-- The gain at a point. -/
theorem g_at (t : Fin cfg0.N) (k : Fin 1024) :
    (show FVec Ideal S1x1024 .f32 from iblk m c 2 t) (ix2 0 k) = (m ((c : Thread nD τ).loc main_arg2)) (ix1 k) := by
  blk_simp [iblk, idx t]
  entry_read
  pointwise
  blk_point [idx t]

/-- The weights at a point. -/
theorem w_at (t : Fin cfg0.N) (k : Fin 1024) (o : Fin 2048) :
    (show FVec Ideal S1024x2048 .bf16 from iblk m c 3 t) (ix2 k o) = (m ((c : Thread nD τ).loc main_arg3)) (ix2 k o) := by
  blk_simp [iblk, idx t]
  entry_read
  pointwise
  blk_point [idx t]

/-- The array the pipeline leaves is the reference's. -/
theorem final : (dats m 0 c).arrAt 4 cfg0.N =
    REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  obtain rfl : y0 = 0 := Subsingleton.elim _ _
  have ht := point_lt t
  refine (payload_at _ _ _ _ y1 y2).trans ?_
  refine Eq.trans ?_ ((reference_at (m ((c : Thread nD τ).loc main_arg0)) (m ((c : Thread nD τ).loc main_arg1)) (m ((c : Thread nD τ).loc main_arg2))
    (m ((c : Thread nD τ).loc main_arg3)) ⟨t.val, ht⟩ y1 y2).symm.trans ?_)
  · refine Finset.sum_congr rfl fun k _ => ?_
    refine congrArg₂ (fun u v : EReal => u * v) ?_ (w_at m c t k y2)
    unfold entry
    simp only [← x_at m c t, ← mo_at m c t, ← g_at m c t]
  · refine congrArg (REF _ _ _ _) ?_
    blk_ext [idx t]

end Cert.Kernel9Ideal.Hand

end
-- ==== Proof.Value.MlpCtxBody.lean ====
/- What one block of the output projection and MLP holds, row by row, on the context tokens. -/
module

public import proofs.«01_k».proof.Proof.Gen.Kernel10Ideal.Frame
public import proofs.«01_k».proof.Proof.Value.MlpRow
public import Idealize.ShloMosaic.Lib.Pipeline.ValueKit

@[expose] public section

set_option maxRecDepth 16384

noncomputable section

namespace Cert.Kernel10Ideal.Hand

open Cert.Kernel10Ideal Cert.Kernel10Ideal.Gen
open Idealize.ShloMosaic Idealize.ShloMosaic.TcCoe Cert.Mlp

/-- The modulations without their batch axis. -/
theorem mod_at (mo : FVec Ideal S1x6x1024 .f32) (a : Fin 6) (k : Fin 1024) : (k0_pay2 (F := Ideal) mo (ix2 a k) : EReal) = mo (ix3 0 a k) := by
  pointwise [k0_pay2]

/-- The four parts of a row side by side. -/
theorem cat_at (p hf hb ya : FVec Ideal S1x256x256 .f32) (yb : FVec Ideal S1x256x256 .bf16) (yd : FVec Ideal S1x256x256 .f32) (r : Fin 256) (k : Fin 1024) :
    (k0_pay3 (F := Ideal) p hf hb ya yb yd (ix2 r k) : EReal) = cat (fun j => ya (ix3 0 r j)) (fun j => yb (ix3 0 r j))
      (fun j => (hf (ix3 0 r j) + hb (ix3 0 r j)) * gelu (p (ix3 0 r j))) (fun j => yd (ix3 0 r j)) k := by
  unfold cat gelu
  pointwise [k0_pay3]
  simp only [mul_assoc, mul_left_comm (Ideal.ofBits .f32 1056964608#32)]

/-- The row after the output projection. -/
theorem x1_at (mo : FVec Ideal S6x1024 .f32) (y : FVec Ideal S256x1024 .bf16) (wo : FVec Ideal S1024x1024 .bf16) (x : FVec Ideal S1x256x1024 .f32) (g : FVec Ideal S1x1024 .f32)
    (r : Fin 256) (k : Fin 1024) :
    (k0_pay4 (F := Ideal) mo y wo x g (ix2 r k) : EReal) = addNorm (fun j => x (ix3 0 r j)) (fun j => mo (ix2 2 j))
      (dot (fun j => y (ix2 r j)) fun i j => wo (ix2 i j)) (fun j => g (ix2 0 j)) k := by
  unfold addNorm rms dot
  pointwise [k0_pay4]

/-- The row's modulated norm. -/
theorem h_at (mo : FVec Ideal S6x1024 .f32) (y : FVec Ideal S256x1024 .bf16) (wo : FVec Ideal S1024x1024 .bf16) (x : FVec Ideal S1x256x1024 .f32) (g g2 : FVec Ideal S1x1024 .f32)
    (r : Fin 256) (k : Fin 1024) :
    (k0_pay7 (F := Ideal) (k0_pay5 mo y wo x g g2) (k0_pay6 mo) (ix2 r k) : EReal) =
      modulated (fun j => k0_pay4 (F := Ideal) mo y wo x g (ix2 r j)) (fun j => g2 (ix2 0 j)) (fun j => mo (ix2 4 j)) (fun j => mo (ix2 3 j)) k := by
  unfold modulated rms
  pointwise [k0_pay7, k0_pay5, k0_pay6]

/-- The first three quarters of the MLP. -/
theorem acc_at (v : FVec Ideal S256x1024 .f32) (u : FVec Ideal S1x1024 .f32) (a0 b0 a1 b1 a2 b2 : FVec Ideal S1024x1024 .bf16) (r : Fin 256) (k : Fin 1024) :
    (k0_pay8 (F := Ideal) v u a0 b0 a1 b1 a2 b2 (ix2 r k) : EReal) = Ideal.ofBits .f32 0x00000000#32 +
      dot (fun i => relu2 (dot (fun j => k0_pay7 (F := Ideal) v u (ix2 r j)) (fun i j => a0 (ix2 i j)) i)) (fun i j => b0 (ix2 i j)) k +
      dot (fun i => relu2 (dot (fun j => k0_pay7 (F := Ideal) v u (ix2 r j)) (fun i j => a1 (ix2 i j)) i)) (fun i j => b1 (ix2 i j)) k +
      dot (fun i => relu2 (dot (fun j => k0_pay7 (F := Ideal) v u (ix2 r j)) (fun i j => a2 (ix2 i j)) i)) (fun i j => b2 (ix2 i j)) k := by
  unfold relu2 dot
  pointwise [k0_pay8]

/-- What is stored, from the row after the projection, its modulated norm and three quarters of the MLP. -/
theorem out_at (mo : FVec Ideal S6x1024 .f32) (x1 : FVec Ideal S256x1024 .f32) (h : FVec Ideal S256x1024 .bf16) (acc : FVec Ideal S256x1024 .f32)
    (a3 b3 : FVec Ideal S1024x1024 .bf16) (g : FVec Ideal S1x1024 .f32) (r : Fin 256) (k : Fin 1024) :
    (k0_pay1 (F := Ideal) mo x1 h acc a3 b3 g (ix3 0 r k) : EReal) = addNorm (fun j => x1 (ix2 r j)) (fun j => mo (ix2 5 j))
      (fun j => acc (ix2 r j) + dot (fun i => relu2 (dot (fun j => h (ix2 r j)) (fun i j => a3 (ix2 i j)) i)) (fun i j => b3 (ix2 i j)) j) (fun j => g (ix2 0 j)) k := by
  unfold addNorm rms relu2 dot
  pointwise [k0_pay1]

end Cert.Kernel10Ideal.Hand

end
-- ==== Proof.Value.MlpCtxRef.lean ====
/- The reference of the output projection and MLP, row by row, on the context tokens. -/
module

public import proofs.«01_k».proof.Proof.Gen.Reference10Ideal.Run
public import proofs.«01_k».proof.Proof.Value.MlpRow
public import Idealize.ShloMosaic.Lib.Pointwise

@[expose] public section

set_option maxRecDepth 16384

noncomputable section

namespace Cert.Reference10Ideal.Hand

open Cert.Reference10Ideal Cert.Reference10Ideal.Gen Cert.Reference10Ideal.Value
open Idealize.ShloMosaic Idealize.ShloMosaic.TcCoe Cert.Mlp

/-- The four parts side by side, the third gated by its unit. -/
def rCat (ya : FVec Ideal S2x256x256 .f32) (yb : FVec Ideal S2x256x256 .bf16) (hf : FVec Ideal S2x256x256 .f32) (hb : FVec Ideal S2x256x256 .f32) (q yd : FVec Ideal S2x256x256 .f32) : FVec Ideal S2x256x1024 .f32 :=
  concatenate S2x256x1024 2 [⟨S2x256x256, (ya)⟩, ⟨S2x256x256, ((extf .f32 yb bitsLt_bf16_f32))⟩, ⟨S2x256x256, ((mulf (addf hf hb) (mulf q (mulf (broadcastInDim S2x256x256 ![] bcast_S_S2x256x256 (constant S_ .f32 0x3F000000#32)) (addf (broadcastInDim S2x256x256 ![] bcast_S_S2x256x256 (constant S_ .f32 0x3F800000#32)) (Host.tanh (mulf (broadcastInDim S2x256x256 ![] bcast_S_S2x256x256 (constant S_ .f32 0x3F4C422A#32)) (addf q (mulf (broadcastInDim S2x256x256 ![] bcast_S_S2x256x256 (constant S_ .f32 0x3D372713#32)) (mulf (mulf q q) q))))))))))⟩, ⟨S2x256x256, (yd)⟩] concatenates_S2x256x256_S2x256x256_S2x256x256_S2x256x256_S2x256x1024_d2

/-- The output projection. -/
def rMix (y : FVec Ideal S2x256x1024 .f32) (wo : FVec Ideal S1024x1024 .f32) : FVec Ideal S2x256x1024 .f32 :=
  Host.dotGeneral dot_S2x256x1024_S1024x1024_S2x256x1024_2_0_01_1_n_n none y wo

/-- The rows after the projection. -/
def rX1 (x : FVec Ideal S2x256x1024 .f32) (mo : FVec Ideal S2x6x1024 .f32) (mix : FVec Ideal S2x256x1024 .f32) (g1 : FVec Ideal S1024 .f32) : FVec Ideal S2x256x1024 .f32 :=
  addf x (mulf (broadcastInDim S2x256x1024 ![0, 1, 2] bcast_S2x1x1024_S2x256x1024_0_1_2 (extractStridedSlice S2x1x1024 ![0, 2, 0] mo slices_S2x6x1024_S2x1x1024_0_2_0)) (mulf (mulf mix (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf mix mix) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 g1))))

/-- The MLP's rectified unit. -/
def rA (x1 : FVec Ideal S2x256x1024 .f32) (mo : FVec Ideal S2x6x1024 .f32) (g2 : FVec Ideal S1024 .f32) (w1 : FVec Ideal S1024x4096 .f32) : FVec Ideal S2x256x4096 .f32 :=
  maximumf (Host.dotGeneral dot_S2x256x1024_S1024x4096_S2x256x4096_2_0_01_1_n_n none (addf (mulf (mulf (mulf x1 (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x1 x1) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 g2))) (broadcastInDim S2x256x1024 ![0, 1, 2] bcast_S2x1x1024_S2x256x1024_0_1_2 (addf (broadcastInDim S2x1x1024 ![] bcast_S_S2x1x1024 (constant S_ .f32 0x3F800000#32)) (extractStridedSlice S2x1x1024 ![0, 4, 0] mo slices_S2x6x1024_S2x1x1024_0_4_0)))) (broadcastInDim S2x256x1024 ![0, 1, 2] bcast_S2x1x1024_S2x256x1024_0_1_2 (extractStridedSlice S2x1x1024 ![0, 3, 0] mo slices_S2x6x1024_S2x1x1024_0_3_0))) w1) (broadcastInDim S2x256x4096 ![] bcast_S_S2x256x4096 (constant S_ .f32 0x00000000#32))

/-- The MLP's second product. -/
def rAcc (a : FVec Ideal S2x256x4096 .f32) (w2 : FVec Ideal S4096x1024 .f32) : FVec Ideal S2x256x1024 .f32 :=
  Host.dotGeneral dot_S2x256x4096_S4096x1024_S2x256x1024_2_0_01_1_n_n none (mulf a a) w2

/-- The result. -/
def rOut (x1 : FVec Ideal S2x256x1024 .f32) (mo : FVec Ideal S2x6x1024 .f32) (acc : FVec Ideal S2x256x1024 .f32) (g3 : FVec Ideal S1024 .f32) : FVec Ideal S2x256x1024 .f32 :=
  addf x1 (mulf (broadcastInDim S2x256x1024 ![0, 1, 2] bcast_S2x1x1024_S2x256x1024_0_1_2 (extractStridedSlice S2x1x1024 ![0, 5, 0] mo slices_S2x6x1024_S2x1x1024_0_5_0)) (mulf (mulf acc (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf acc acc) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 g3))))

/-- The gate's columns. -/
def rGate (p : FVec Ideal S2x256x2048 .f32) : FVec Ideal S2x256x256 .f32 :=
  extractStridedSlice S2x256x256 ![0, 0, 1024] p slices_S2x256x2048_S2x256x256_0_0_1024

section At
variable (b : Fin 2) (t : Fin 256)

/-- A gate's column. -/
theorem gate_at (p : FVec Ideal S2x256x2048 .f32) (j : Fin 256) : (rGate p (ix3 b t j) : EReal) = p (ix3 b t ⟨1024 + j, by omega⟩) := by
  pointwise [rGate]

/-- The four parts of a row. -/
theorem cat_at (ya : FVec Ideal S2x256x256 .f32) (yb : FVec Ideal S2x256x256 .bf16) (hf : FVec Ideal S2x256x256 .f32) (hb : FVec Ideal S2x256x256 .f32) (q yd : FVec Ideal S2x256x256 .f32) (k : Fin 1024) :
    (rCat ya yb hf hb q yd (ix3 b t k) : EReal) = cat (fun j => ya (ix3 b t j)) (fun j => yb (ix3 b t j))
      (fun j => (hf (ix3 b t j) + hb (ix3 b t j)) * gelu (q (ix3 b t j))) (fun j => yd (ix3 b t j)) k := by
  unfold cat gelu
  pointwise [rCat]

/-- A row's projection. -/
theorem mix_at (y : FVec Ideal S2x256x1024 .f32) (wo : FVec Ideal S1024x1024 .f32) (k : Fin 1024) :
    (rMix y wo (ix3 b t k) : EReal) = dot (fun j => y (ix3 b t j)) (fun i j => wo (ix2 i j)) k := by
  unfold dot
  pointwise [rMix]

/-- A row after the projection. -/
theorem x1_at (x : FVec Ideal S2x256x1024 .f32) (mo : FVec Ideal S2x6x1024 .f32) (mix : FVec Ideal S2x256x1024 .f32) (g1 : FVec Ideal S1024 .f32) (k : Fin 1024) :
    (rX1 x mo mix g1 (ix3 b t k) : EReal) = addNorm (fun j => x (ix3 b t j)) (fun j => mo (ix3 b 2 j)) (fun j => mix (ix3 b t j)) (fun j => g1 (ix1 j)) k := by
  unfold addNorm rms
  pointwise [rX1]

/-- A row's rectified unit. -/
theorem a_at (x1 : FVec Ideal S2x256x1024 .f32) (mo : FVec Ideal S2x6x1024 .f32) (g2 : FVec Ideal S1024 .f32) (w1 : FVec Ideal S1024x4096 .f32) (i : Fin 4096) :
    (rA x1 mo g2 w1 (ix3 b t i) : EReal) = max (dot (modulated (fun j => x1 (ix3 b t j)) (fun j => g2 (ix1 j)) (fun j => mo (ix3 b 4 j)) (fun j => mo (ix3 b 3 j)))
      (fun i j => w1 (ix2 i j)) i) (Ideal.ofBits .f32 0x00000000#32) := by
  unfold dot modulated rms
  pointwise [rA]

/-- A row's second product. -/
theorem acc_at (a : FVec Ideal S2x256x4096 .f32) (w2 : FVec Ideal S4096x1024 .f32) (k : Fin 1024) :
    (rAcc a w2 (ix3 b t k) : EReal) = dot (fun i => a (ix3 b t i) * a (ix3 b t i)) (fun i j => w2 (ix2 i j)) k := by
  unfold dot
  pointwise [rAcc]

/-- A row of the result. -/
theorem out_at (x1 : FVec Ideal S2x256x1024 .f32) (mo : FVec Ideal S2x6x1024 .f32) (acc : FVec Ideal S2x256x1024 .f32) (g3 : FVec Ideal S1024 .f32) (k : Fin 1024) :
    (rOut x1 mo acc g3 (ix3 b t k) : EReal) = addNorm (fun j => x1 (ix3 b t j)) (fun j => mo (ix3 b 5 j)) (fun j => acc (ix3 b t j)) (fun j => g3 (ix1 j)) k := by
  unfold addNorm rms
  pointwise [rOut]

end At

/-- The reference's result as a function of its arguments. -/
def rAll (x : FVec Ideal S2x256x1024 .f32) (ya : FVec Ideal S2x256x256 .f32) (yb : FVec Ideal S2x256x256 .bf16) (hf : FVec Ideal S2x256x256 .f32) (hb : FVec Ideal S2x256x256 .f32) (p : FVec Ideal S2x256x2048 .f32) (yd : FVec Ideal S2x256x256 .f32) (mo : FVec Ideal S2x6x1024 .f32) (wo : FVec Ideal S1024x1024 .f32) (g1 : FVec Ideal S1024 .f32) (g2 : FVec Ideal S1024 .f32) (g3 : FVec Ideal S1024 .f32) (w1 : FVec Ideal S1024x4096 .f32) (w2 : FVec Ideal S4096x1024 .f32) :
    FVec Ideal S2x256x1024 .f32 :=
  rOut (rX1 x mo (rMix (rCat ya yb hf hb (rGate p) yd) wo) g1) mo (rAcc (rA (rX1 x mo (rMix (rCat ya yb hf hb (rGate p) yd) wo) g1) mo g2 w1) w2) g3

/-- The reference's result, read at a row and a column. -/
theorem all_at (x : FVec Ideal S2x256x1024 .f32) (ya : FVec Ideal S2x256x256 .f32) (yb : FVec Ideal S2x256x256 .bf16) (hf : FVec Ideal S2x256x256 .f32) (hb : FVec Ideal S2x256x256 .f32) (p : FVec Ideal S2x256x2048 .f32) (yd : FVec Ideal S2x256x256 .f32) (mo : FVec Ideal S2x6x1024 .f32) (wo : FVec Ideal S1024x1024 .f32) (g1 : FVec Ideal S1024 .f32) (g2 : FVec Ideal S1024 .f32) (g3 : FVec Ideal S1024 .f32) (w1 : FVec Ideal S1024x4096 .f32) (w2 : FVec Ideal S4096x1024 .f32)
    (b : Fin 2) (t : Fin 256) (k : Fin 1024) :
    (rAll x ya yb hf hb p yd mo wo g1 g2 g3 w1 w2 (ix3 b t k) : EReal) = rowChain (fun j => x (ix3 b t j))
      (cat (fun j => ya (ix3 b t j)) (fun j => yb (ix3 b t j)) (fun j => (hf (ix3 b t j) + hb (ix3 b t j)) * gelu (p (ix3 b t ⟨1024 + j, by omega⟩))) (fun j => yd (ix3 b t j)))
      (fun j => mo (ix3 b 2 j)) (fun j => g1 (ix1 j)) (fun j => g2 (ix1 j)) (fun j => mo (ix3 b 4 j)) (fun j => mo (ix3 b 3 j)) (fun j => mo (ix3 b 5 j)) (fun j => g3 (ix1 j))
      (fun i j => wo (ix2 i j)) (fun i j => w1 (ix2 i j)) (fun i j => w2 (ix2 i j)) k := by
  unfold rAll rowChain mlp relu2
  rw [out_at]
  simp only [acc_at, a_at, x1_at, mix_at, cat_at, gate_at]

/-- What the reference's run leaves is that function of the arguments. -/
theorem run_eq (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v77) = rAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  Value.run (F := Ideal) m ρ

end Cert.Reference10Ideal.Hand

end
-- ==== Proof.Value.MlpCtxFinal.lean ====
/- The array the output projection and MLP leave is the reference's, on the context tokens. -/
module

public import proofs.«01_k».proof.Proof.Value.MlpCtxBody
public import proofs.«01_k».proof.Proof.Value.MlpCtxRef
public import Idealize.ShloMosaic.Lib.Pipeline.ValueKit
public import Idealize.ShloMosaic.Lib.Claim

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Pipeline Cert.Mlp
open Cert.Reference10Ideal.Hand (rAll all_at)

/-- A sum over 4096 is the sum of its four quarters. -/
theorem quarters (f : Fin 4096 → EReal) :
    ∑ i, f i = (∑ i : Fin 1024, f ⟨i, by omega⟩) + (∑ i : Fin 1024, f ⟨1024 + i, by omega⟩) + (∑ i : Fin 1024, f ⟨2048 + i, by omega⟩) + ∑ i : Fin 1024, f ⟨3072 + i, by omega⟩ := by
  have h : ∀ (n : ℕ) (g : Fin (n + 1024) → EReal), ∑ i, g i = (∑ i : Fin n, g ⟨i, by omega⟩) + ∑ i : Fin 1024, g ⟨n + i, by omega⟩ := fun n g =>
    Fin.sum_univ_add g
  rw [h 3072 f, h 2048 fun i => f ⟨i, by omega⟩, h 1024 fun i => f ⟨i, by omega⟩]

/-- The MLP of a row is the sum of its four quarters, from nought. -/
theorem mlp_quarters (h : Fin 1024 → EReal) (w1 : Fin 1024 → Fin 4096 → EReal) (w2 : Fin 4096 → Fin 1024 → EReal) (k : Fin 1024) :
    Ideal.ofBits .f32 0x00000000#32 +
      dot (fun i => relu2 (dot h (fun a (i : Fin 1024) => w1 a ⟨i, by omega⟩) i)) (fun (i : Fin 1024) j => w2 ⟨i, by omega⟩ j) k +
      dot (fun i => relu2 (dot h (fun a (i : Fin 1024) => w1 a ⟨1024 + i, by omega⟩) i)) (fun (i : Fin 1024) j => w2 ⟨1024 + i, by omega⟩ j) k +
      dot (fun i => relu2 (dot h (fun a (i : Fin 1024) => w1 a ⟨2048 + i, by omega⟩) i)) (fun (i : Fin 1024) j => w2 ⟨2048 + i, by omega⟩ j) k +
      dot (fun i => relu2 (dot h (fun a (i : Fin 1024) => w1 a ⟨3072 + i, by omega⟩) i)) (fun (i : Fin 1024) j => w2 ⟨3072 + i, by omega⟩ j) k = mlp h w1 w2 k := by
  have z : Ideal.ofBits .f32 0x00000000#32 = (0 : EReal) := by simp [Ideal.ofBits, Ideal.ieee]
  unfold mlp
  rw [z, zero_add]
  exact (quarters fun i => relu2 (dot h w1 i) * w2 i k).symm

/-- Where each window's block lies at a point. -/
theorem idx : ∀ t : Fin cfg0.N,
    win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 4] ∧ win0_6.index t = ![t.val, 0, 0] ∧ win0_7.index t = ![t.val, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0, 0] :=
  (by decide +kernel : ∀ t : Fin grid0.N,
    win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 4] ∧ win0_6.index t = ![t.val, 0, 0] ∧ win0_7.index t = ![t.val, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0, 0])

variable (m : (ℓ : Loc nD τ sig) → Buf (Elt Ideal) ℓ) (c : Dev nD)

/-- There are 2 points. -/
theorem point_lt (t : Fin cfg0.N) : t.val < 2 := t.isLt

/-- The block of rows at a point. -/
theorem x_at (t : Fin cfg0.N) (r : Fin 256) (j : Fin 1024) :
    (show FVec Ideal S1x256x1024 .f32 from iblk m c 0 t) (ix3 0 r j) = (m ((c : Thread nD τ).loc main_arg0)) (ix3 ⟨t.val, point_lt t⟩ r j) := by
  blk_ext [iblk, V, idx t]

/-- The block of first parts at a point. -/
theorem ya_at (t : Fin cfg0.N) (r : Fin 256) (j : Fin 256) :
    (show FVec Ideal S1x256x256 .f32 from iblk m c 1 t) (ix3 0 r j) = (m ((c : Thread nD τ).loc main_arg1)) (ix3 ⟨t.val, point_lt t⟩ r j) := by
  blk_ext [iblk, V, idx t]

/-- The block of second parts at a point. -/
theorem yb_at (t : Fin cfg0.N) (r : Fin 256) (j : Fin 256) :
    (show FVec Ideal S1x256x256 .bf16 from iblk m c 2 t) (ix3 0 r j) = (m ((c : Thread nD τ).loc main_arg2)) (ix3 ⟨t.val, point_lt t⟩ r j) := by
  blk_ext [iblk, V, idx t]

/-- The block of forward states at a point. -/
theorem hf_at (t : Fin cfg0.N) (r : Fin 256) (j : Fin 256) :
    (show FVec Ideal S1x256x256 .f32 from iblk m c 3 t) (ix3 0 r j) = (m ((c : Thread nD τ).loc main_arg3)) (ix3 ⟨t.val, point_lt t⟩ r j) := by
  blk_ext [iblk, V, idx t]

/-- The block of backward states at a point. -/
theorem hb_at (t : Fin cfg0.N) (r : Fin 256) (j : Fin 256) :
    (show FVec Ideal S1x256x256 .f32 from iblk m c 4 t) (ix3 0 r j) = (m ((c : Thread nD τ).loc main_arg4)) (ix3 ⟨t.val, point_lt t⟩ r j) := by
  blk_ext [iblk, V, idx t]

/-- The block of fourth parts at a point. -/
theorem yd_at (t : Fin cfg0.N) (r : Fin 256) (j : Fin 256) :
    (show FVec Ideal S1x256x256 .f32 from iblk m c 6 t) (ix3 0 r j) = (m ((c : Thread nD τ).loc main_arg6)) (ix3 ⟨t.val, point_lt t⟩ r j) := by
  blk_ext [iblk, V, idx t]

/-- The block of gates at a point. -/
theorem p_at (t : Fin cfg0.N) (r : Fin 256) (j : Fin 256) :
    (show FVec Ideal S1x256x256 .f32 from iblk m c 5 t) (ix3 0 r j) = (m ((c : Thread nD τ).loc main_arg5)) (ix3 ⟨t.val, point_lt t⟩ r ⟨1024 + j, by omega⟩) := by
  blk_ext [iblk, V, idx t]

/-- The block of modulations at a point. -/
theorem mo_at (t : Fin cfg0.N) (a : Fin 6) (k : Fin 1024) :
    (show FVec Ideal S1x6x1024 .f32 from iblk m c 7 t) (ix3 0 a k) = (m ((c : Thread nD τ).loc main_arg7)) (ix3 ⟨t.val, point_lt t⟩ a k) := by
  blk_ext [iblk, V, idx t]

/-- The projection's weights at a point. -/
theorem wo_at (t : Fin cfg0.N) (i : Fin 1024) (j : Fin 1024) :
    (show FVec Ideal S1024x1024 .bf16 from iblk m c 8 t) (ix2 i j) = (m ((c : Thread nD τ).loc main_arg8)) (ix2 i j) := by
  blk_simp [iblk, idx t]
  entry_read
  pointwise
  blk_point [idx t]

/-- The MLP's first weights at a point. -/
theorem w1_at (t : Fin cfg0.N) (i : Fin 1024) (j : Fin 4096) :
    (show FVec Ideal S1024x4096 .bf16 from iblk m c 12 t) (ix2 i j) = (m ((c : Thread nD τ).loc main_arg12)) (ix2 i j) := by
  blk_simp [iblk, idx t]
  entry_read
  pointwise
  blk_point [idx t]

/-- The MLP's second weights at a point. -/
theorem w2_at (t : Fin cfg0.N) (i : Fin 4096) (j : Fin 1024) :
    (show FVec Ideal S4096x1024 .bf16 from iblk m c 13 t) (ix2 i j) = (m ((c : Thread nD τ).loc main_arg13)) (ix2 i j) := by
  blk_simp [iblk, idx t]
  entry_read
  pointwise
  blk_point [idx t]

/-- The first gain at a point. -/
theorem g1_at (t : Fin cfg0.N) (k : Fin 1024) :
    (show FVec Ideal S1x1024 .f32 from iblk m c 9 t) (ix2 0 k) = (m ((c : Thread nD τ).loc main_arg9)) (ix1 k) := by
  blk_simp [iblk, idx t]
  entry_read
  pointwise
  blk_point [idx t]

/-- The second gain at a point. -/
theorem g2_at (t : Fin cfg0.N) (k : Fin 1024) :
    (show FVec Ideal S1x1024 .f32 from iblk m c 10 t) (ix2 0 k) = (m ((c : Thread nD τ).loc main_arg10)) (ix1 k) := by
  blk_simp [iblk, idx t]
  entry_read
  pointwise
  blk_point [idx t]

/-- The third gain at a point. -/
theorem g3_at (t : Fin cfg0.N) (k : Fin 1024) :
    (show FVec Ideal S1x1024 .f32 from iblk m c 11 t) (ix2 0 k) = (m ((c : Thread nD τ).loc main_arg11)) (ix1 k) := by
  blk_simp [iblk, idx t]
  entry_read
  pointwise
  blk_point [idx t]

section Block
variable {x : FVec Ideal S1x256x1024 .f32} {ya hf hb p yd : FVec Ideal S1x256x256 .f32} {yb : FVec Ideal S1x256x256 .bf16} {mo : FVec Ideal S1x6x1024 .f32}
  {wo : FVec Ideal S1024x1024 .bf16} {g1 g2 g3 : FVec Ideal S1x1024 .f32} {w1 : FVec Ideal S1024x4096 .bf16} {w2 : FVec Ideal S4096x1024 .bf16}

/-- The first quarter of the first weights' columns. -/
theorem ld_w1_0 (i j : Fin 1024) : View.ld (Val := Elt Ideal) (e' := .bf16) w1 r0_5 (ix2 i j) = w1 (ix2 i ⟨j, by omega⟩) := by
  pointwise

/-- The first quarter of the second weights' rows. -/
theorem ld_w2_0 (i j : Fin 1024) : View.ld (Val := Elt Ideal) (e' := .bf16) w2 r0_6 (ix2 i j) = w2 (ix2 ⟨i, by omega⟩ j) := by
  pointwise

/-- The second quarter of the first weights' columns. -/
theorem ld_w1_1 (i j : Fin 1024) : View.ld (Val := Elt Ideal) (e' := .bf16) w1 r0_7 (ix2 i j) = w1 (ix2 i ⟨1024 + j, by omega⟩) := by
  pointwise

/-- The second quarter of the second weights' rows. -/
theorem ld_w2_1 (i j : Fin 1024) : View.ld (Val := Elt Ideal) (e' := .bf16) w2 r0_8 (ix2 i j) = w2 (ix2 ⟨1024 + i, by omega⟩ j) := by
  pointwise

/-- The third quarter of the first weights' columns. -/
theorem ld_w1_2 (i j : Fin 1024) : View.ld (Val := Elt Ideal) (e' := .bf16) w1 r0_9 (ix2 i j) = w1 (ix2 i ⟨2048 + j, by omega⟩) := by
  pointwise

/-- The third quarter of the second weights' rows. -/
theorem ld_w2_2 (i j : Fin 1024) : View.ld (Val := Elt Ideal) (e' := .bf16) w2 r0_10 (ix2 i j) = w2 (ix2 ⟨2048 + i, by omega⟩ j) := by
  pointwise

/-- The fourth quarter of the first weights' columns. -/
theorem ld_w1_3 (i j : Fin 1024) : View.ld (Val := Elt Ideal) (e' := .bf16) w1 r0_11 (ix2 i j) = w1 (ix2 i ⟨3072 + j, by omega⟩) := by
  pointwise

/-- The fourth quarter of the second weights' rows. -/
theorem ld_w2_3 (i j : Fin 1024) : View.ld (Val := Elt Ideal) (e' := .bf16) w2 r0_12 (ix2 i j) = w2 (ix2 ⟨3072 + i, by omega⟩ j) := by
  pointwise

/-- What is stored, with the weights' quarters given, is the row's chain. -/
theorem body_at {a0 b0 a1 b1 a2 b2 a3 b3 : FVec Ideal S1024x1024 .bf16}
    (ha0 : ∀ i j : Fin 1024, a0 (ix2 i j) = w1 (ix2 i ⟨j, by omega⟩)) (hb0 : ∀ i j : Fin 1024, b0 (ix2 i j) = w2 (ix2 ⟨i, by omega⟩ j))
    (ha1 : ∀ i j : Fin 1024, a1 (ix2 i j) = w1 (ix2 i ⟨1024 + j, by omega⟩)) (hb1 : ∀ i j : Fin 1024, b1 (ix2 i j) = w2 (ix2 ⟨1024 + i, by omega⟩ j))
    (ha2 : ∀ i j : Fin 1024, a2 (ix2 i j) = w1 (ix2 i ⟨2048 + j, by omega⟩)) (hb2 : ∀ i j : Fin 1024, b2 (ix2 i j) = w2 (ix2 ⟨2048 + i, by omega⟩ j))
    (ha3 : ∀ i j : Fin 1024, a3 (ix2 i j) = w1 (ix2 i ⟨3072 + j, by omega⟩)) (hb3 : ∀ i j : Fin 1024, b3 (ix2 i j) = w2 (ix2 ⟨3072 + i, by omega⟩ j)) (r : Fin 256) (k : Fin 1024) :
    (k0_pay1 (F := Ideal) (k0_pay2 mo) (k0_pay4 (k0_pay2 mo) (k0_pay3 p hf hb ya yb yd) wo x g1) (k0_pay7 (k0_pay5 (k0_pay2 mo) (k0_pay3 p hf hb ya yb yd) wo x g1 g2) (k0_pay6 (k0_pay2 mo))) (k0_pay8 (k0_pay5 (k0_pay2 mo) (k0_pay3 p hf hb ya yb yd) wo x g1 g2) (k0_pay6 (k0_pay2 mo)) a0 b0 a1 b1 a2 b2) a3 b3 g3 (ix3 0 r k) : EReal) = rowChain (fun j => x (ix3 0 r j))
      (cat (fun j => ya (ix3 0 r j)) (fun j => yb (ix3 0 r j)) (fun j => (hf (ix3 0 r j) + hb (ix3 0 r j)) * gelu (p (ix3 0 r j))) (fun j => yd (ix3 0 r j)))
      (fun j => mo (ix3 0 2 j)) (fun j => g1 (ix2 0 j)) (fun j => g2 (ix2 0 j)) (fun j => mo (ix3 0 4 j)) (fun j => mo (ix3 0 3 j)) (fun j => mo (ix3 0 5 j)) (fun j => g3 (ix2 0 j))
      (fun i j => wo (ix2 i j)) (fun i j => w1 (ix2 i j)) (fun i j => w2 (ix2 i j)) k := by
  refine (out_at _ _ _ _ _ _ _ r k).trans ?_
  simp only [acc_at, h_at, x1_at, cat_at, mod_at, ha0, hb0, ha1, hb1, ha2, hb2, ha3, hb3]
  unfold rowChain
  exact congrArg (fun z => addNorm _ _ z _ k) (funext fun j => mlp_quarters _ (fun i j => w1 (ix2 i j)) (fun i j => w2 (ix2 i j)) j)

/-- A block's entry is its row's chain at the column. -/
theorem block_at (r : Fin 256) (k : Fin 1024) :
    (out0_14 (F := Ideal) x ya yb hf hb p yd mo wo g1 g2 g3 w1 w2 (ix3 0 r k) : EReal) = rowChain (fun j => x (ix3 0 r j))
      (cat (fun j => ya (ix3 0 r j)) (fun j => yb (ix3 0 r j)) (fun j => (hf (ix3 0 r j) + hb (ix3 0 r j)) * gelu (p (ix3 0 r j))) (fun j => yd (ix3 0 r j)))
      (fun j => mo (ix3 0 2 j)) (fun j => g1 (ix2 0 j)) (fun j => g2 (ix2 0 j)) (fun j => mo (ix3 0 4 j)) (fun j => mo (ix3 0 3 j)) (fun j => mo (ix3 0 5 j)) (fun j => g3 (ix2 0 j))
      (fun i j => wo (ix2 i j)) (fun i j => w1 (ix2 i j)) (fun i j => w2 (ix2 i j)) k := by
  unfold_out out0_14
  frame_out
  exact body_at ld_w1_0 ld_w2_0 ld_w1_1 ld_w2_1 ld_w1_2 ld_w2_2 ld_w1_3 ld_w2_3 r k

end Block

/-- The array the pipeline leaves is the reference's. -/
theorem final : (dats m 0 c).arrAt 14 cfg0.N = rAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t _ y => ?_
  blk_simp
  rw [after0_14]
  idx_vars y
  obtain rfl : y0 = 0 := Subsingleton.elim _ _
  have ht := point_lt t
  refine (block_at y1 y2).trans ?_
  refine Eq.trans ?_ ((all_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) ⟨t.val, ht⟩ y1 y2).symm.trans ?_)
  · simp only [← x_at m c t, ← ya_at m c t, ← yb_at m c t, ← hf_at m c t, ← hb_at m c t, ← yd_at m c t, ← p_at m c t, ← mo_at m c t, ← wo_at m c t, ← w1_at m c t, ← w2_at m c t, ← g1_at m c t, ← g2_at m c t, ← g3_at m c t]
  · refine congrArg (rAll _ _ _ _ _ _ _ _ _ _ _ _ _ _) ?_
    blk_ext [idx t]

end Cert.Kernel10Ideal.Hand

end
-- ==== Proof.lean ====
/- The claims of `Defs.lean`, from the run of the kernel's pipeline. -/
module

public import proofs.«01_k».proof.Defs
public import proofs.«01_k».proof.Proof.Kernel.Body
public import proofs.«01_k».proof.Proof.KernelIdeal.Body
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Value.Final
public import proofs.«01_k».proof.Proof.Value.Pre
public import proofs.«01_k».proof.Proof.Value.MlpFinal
public import proofs.«01_k».proof.Proof.Value.InProj
public import proofs.«01_k».proof.Proof.Value.Modulation
public import proofs.«01_k».proof.Proof.Value.ShortConv
public import proofs.«01_k».proof.Proof.Value.Pool
public import proofs.«01_k».proof.Proof.Value.Qkv
public import proofs.«01_k».proof.Proof.Value.QkvPre
public import proofs.«01_k».proof.Proof.Value.RopePre
public import proofs.«01_k».proof.Proof.Value.InProjCtx
public import proofs.«01_k».proof.Proof.Value.MlpCtxFinal
public import Idealize.ShloMosaic.Adequacy
public import Idealize.ShloMosaic.Init

@[expose] public section

noncomputable section

namespace Cert.Proof

open Idealize.ShloMosaic Idealize.ShloMosaic.TcCoe

/-- The kernel at the machine's floats ends, its arguments unchanged and its counters at zero. -/
theorem frame_kernel : Cert.quiescent_Kernel (hKernel := Cert.Kernel.Gen.facts) := fun m g _ =>
  Cert.Kernel.Hand.frame_run (F := Bits) m g

/-- The kernel at the reals ends, its arguments unchanged and its counters at zero. -/
theorem frame_ideal : Cert.quiescent_KernelIdeal (hKernelIdeal := Cert.KernelIdeal.Gen.facts) := fun m g _ =>
  Cert.KernelIdeal.Hand.frame_run (F := Ideal) m g

/-- The reference ends, its arguments unchanged and its counters at zero. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Of real queries and keys, the kernel at the reals leaves the array the reference leaves. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' hpre hagree
  refine ⟨fun c => Cert.ReferenceIdeal.Value.res_main_v38 (F := Ideal) m' c, ?_, Cert.ReferenceIdeal.Value.run (F := Ideal) m' g'⟩
  refine (θ_run Cert.KernelIdeal.defs _ _).mono (fun r h c => ⟨?_,
      ((h.1 c).1 0).trans (((Cert.KernelIdeal.Hand.dats m 0 c).arrAt_in 0 rfl _).trans ((Cert.KernelIdeal.Hand.A_eq m c 0).trans (Cert.KernelIdeal.Gen.V_main_arg0 m c))),
      ((h.1 c).1 1).trans (((Cert.KernelIdeal.Hand.dats m 0 c).arrAt_in 1 rfl _).trans ((Cert.KernelIdeal.Hand.A_eq m c 1).trans (Cert.KernelIdeal.Gen.V_main_arg1 m c))),
      ((h.1 c).1 2).trans (((Cert.KernelIdeal.Hand.dats m 0 c).arrAt_in 2 rfl _).trans ((Cert.KernelIdeal.Hand.A_eq m c 2).trans (Cert.KernelIdeal.Gen.V_main_arg2 m c))),
      ((h.1 c).1 3).trans (((Cert.KernelIdeal.Hand.dats m 0 c).arrAt_in 3 rfl _).trans ((Cert.KernelIdeal.Hand.A_eq m c 3).trans (Cert.KernelIdeal.Gen.V_main_arg3 m c))),
      ((h.1 c).1 4).trans (((Cert.KernelIdeal.Hand.dats m 0 c).arrAt_in 4 rfl _).trans ((Cert.KernelIdeal.Hand.A_eq m c 4).trans (Cert.KernelIdeal.Gen.V_main_arg4 m c)))⟩)
    (Cert.KernelIdeal.Hand.run_main (F := Ideal) m g)
  obtain ⟨e0, e1, e2, e3, e4⟩ := hagree c
  obtain ⟨hQ, hK, hKC⟩ := letI := Cert.Pre_finite.Hand.facts; Cert.Pre_finite.Hand.finite _ _ _ _ _ (hpre c)
  refine ((h.1 c).1 5).trans ((Cert.KernelIdeal.Hand.final m c hQ hK hKC).trans ?_)
  dsimp only
  rw [Cert.ReferenceIdeal.Hand.res_eq, e0, e1, e2, e3, e4]

/-- The output projection and MLP at the machine's floats ends, its arguments unchanged and its counters at zero. -/
theorem frame_kernel2 : Cert.quiescent_Kernel2 (hKernel2 := Cert.Kernel2.Gen.facts) := fun m g _ =>
  Cert.Kernel2.Gen.frame (F := Bits) m g

/-- The output projection and MLP at the reals ends, its arguments unchanged and its counters at zero. -/
theorem frame_ideal2 : Cert.quiescent_Kernel2Ideal (hKernel2Ideal := Cert.Kernel2Ideal.Gen.facts) := fun m g _ =>
  Cert.Kernel2Ideal.Gen.frame (F := Ideal) m g

/-- The reference of the output projection and MLP ends, its arguments unchanged and its counters at zero. -/
theorem frame_reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The output projection and MLP computes its reference. -/
theorem equal2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Reference2Ideal.Hand.rAll (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)), ?_, Cert.Reference2Ideal.Hand.run_eq m' g'⟩
  refine (θ_run Cert.Kernel2Ideal.defs _ _).mono (fun r h c => ⟨(h c).1.trans ?_, (h c).2⟩) (Cert.Kernel2Ideal.Value.run_blocks (F := Ideal) m g)
  obtain ⟨e0, e1, e2, e3, e4, e5, e6, e7, e8, e9, e10, e11, e12, e13⟩ := hagree c
  refine (Cert.Kernel2Ideal.Hand.final m c).trans ?_
  dsimp only
  rw [e0, e1, e2, e3, e4, e5, e6, e7, e8, e9, e10, e11, e12, e13]

/-- The input projection at the machine's floats ends, its arguments unchanged and its counters at zero. -/
theorem frame_kernel3 : Cert.quiescent_Kernel3 (hKernel3 := Cert.Kernel3.Gen.facts) := fun m g _ =>
  Cert.Kernel3.Gen.frame (F := Bits) m g

/-- The input projection at the reals ends, its arguments unchanged and its counters at zero. -/
theorem frame_ideal3 : Cert.quiescent_Kernel3Ideal (hKernel3Ideal := Cert.Kernel3Ideal.Gen.facts) := fun m g _ =>
  Cert.Kernel3Ideal.Gen.frame (F := Ideal) m g

/-- The reference of the input projection ends, its arguments unchanged and its counters at zero. -/
theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The input projection computes its reference. -/
theorem equal3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Hand.REF (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)), ?_, Cert.Reference3Ideal.Value.run (F := Ideal) m' g'⟩
  refine (θ_run Cert.Kernel3Ideal.defs _ _).mono (fun r h c => ⟨(h c).1.trans ?_, (h c).2⟩) (Cert.Kernel3Ideal.Value.run_blocks (F := Ideal) m g)
  obtain ⟨e0, e1, e2, e3⟩ := hagree c
  refine (Cert.Kernel3Ideal.Hand.final m c).trans ?_
  dsimp only
  rw [e0, e1, e2, e3]

/-- The product for the modulation vectors at the machine's floats ends, its arguments unchanged and its counters at zero. -/
theorem frame_kernel4 : Cert.quiescent_Kernel4 (hKernel4 := Cert.Kernel4.Gen.facts) := fun m g _ =>
  Cert.Kernel4.Gen.frame (F := Bits) m g

/-- The product for the modulation vectors at the reals ends, its arguments unchanged and its counters at zero. -/
theorem frame_ideal4 : Cert.quiescent_Kernel4Ideal (hKernel4Ideal := Cert.Kernel4Ideal.Gen.facts) := fun m g _ =>
  Cert.Kernel4Ideal.Gen.frame (F := Ideal) m g

/-- The reference of the product for the modulation vectors ends, its arguments unchanged and its counters at zero. -/
theorem frame_reference4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- The product for the modulation vectors computes its reference. -/
theorem equal4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Hand.REF (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)), ?_, Cert.Reference4Ideal.Value.run (F := Ideal) m' g'⟩
  refine (θ_run Cert.Kernel4Ideal.defs _ _).mono (fun r h c => ⟨(h c).1.trans ?_, (h c).2⟩) (Cert.Kernel4Ideal.Value.run_blocks (F := Ideal) m g)
  obtain ⟨e0, e1, e2⟩ := hagree c
  refine (Cert.Kernel4Ideal.Hand.final m c).trans ?_
  dsimp only
  rw [e0, e1, e2]

/-- The width-3 convolution at the machine's floats ends, its arguments unchanged and its counters at zero. -/
theorem frame_kernel5 : Cert.quiescent_Kernel5 (hKernel5 := Cert.Kernel5.Gen.facts) := fun m g _ =>
  Cert.Kernel5.Gen.frame (F := Bits) m g

/-- The width-3 convolution at the reals ends, its arguments unchanged and its counters at zero. -/
theorem frame_ideal5 : Cert.quiescent_Kernel5Ideal (hKernel5Ideal := Cert.Kernel5Ideal.Gen.facts) := fun m g _ =>
  Cert.Kernel5Ideal.Gen.frame (F := Ideal) m g

/-- The reference of the width-3 convolution ends, its arguments unchanged and its counters at zero. -/
theorem frame_reference5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

/-- The width-3 convolution computes its reference. -/
theorem equal5 : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Hand.OUT (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)), ?_,
    (θ_run Cert.Reference5Ideal.defs _ _).mono (fun r h c => ⟨(h c).1.trans (Cert.Kernel5Ideal.Hand.reference_eq m' c), (h c).2⟩) (Cert.Reference5Ideal.Value.run (F := Ideal) m' g')⟩
  refine (θ_run Cert.Kernel5Ideal.defs _ _).mono (fun r h c => ⟨(h c).1.trans ?_, (h c).2⟩) (Cert.Kernel5Ideal.Value.run_blocks (F := Ideal) m g)
  obtain ⟨e0, e1, e2⟩ := hagree c
  refine (Cert.Kernel5Ideal.Hand.final m c).trans ?_
  dsimp only
  rw [e0, e1, e2]

/-- The pooling mixer at the machine's floats ends, its arguments unchanged and its counters at zero. -/
theorem frame_kernel6 : Cert.quiescent_Kernel6 (hKernel6 := Cert.Kernel6.Gen.facts) := fun m g _ =>
  Cert.Kernel6.Gen.frame (F := Bits) m g

/-- The pooling mixer at the reals ends, its arguments unchanged and its counters at zero. -/
theorem frame_ideal6 : Cert.quiescent_Kernel6Ideal (hKernel6Ideal := Cert.Kernel6Ideal.Gen.facts) := fun m g _ =>
  Cert.Kernel6Ideal.Gen.frame (F := Ideal) m g

/-- The reference of the pooling mixer ends, its arguments unchanged and its counters at zero. -/
theorem frame_reference6 : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

/-- The pooling mixer computes its reference. -/
theorem equal6 : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Hand.OUT (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)), ?_,
    (θ_run Cert.Reference6Ideal.defs _ _).mono (fun r h c => ⟨(h c).1.trans (Cert.Kernel6Ideal.Hand.reference_eq (StableHlo.launchContents m' c)), (h c).2⟩) (Cert.Reference6Ideal.Value.run (F := Ideal) m' g')⟩
  refine (θ_run Cert.Kernel6Ideal.defs _ _).mono (fun r h c => ⟨(h c).1.trans ?_, (h c).2⟩) (Cert.Kernel6Ideal.Value.run_blocks (F := Ideal) m g)
  obtain ⟨e0, e1, e2⟩ := hagree c
  refine (Cert.Kernel6Ideal.Hand.final m c).trans ?_
  dsimp only
  rw [e0, e1, e2]

/-- The preparation of queries, keys and values at the machine's floats ends, its arguments unchanged and its counters at zero. -/
theorem frame_kernel7 : Cert.quiescent_Kernel7 (hKernel7 := Cert.Kernel7.Gen.facts) := fun m g _ =>
  Cert.Kernel7.Gen.frame (F := Bits) m g

/-- The preparation of queries, keys and values at the reals ends, its arguments unchanged and its counters at zero. -/
theorem frame_ideal7 : Cert.quiescent_Kernel7Ideal (hKernel7Ideal := Cert.Kernel7Ideal.Gen.facts) := fun m g _ =>
  Cert.Kernel7Ideal.Gen.frame (F := Ideal) m g

/-- The reference of the preparation of queries, keys and values ends, its arguments unchanged and its counters at zero. -/
theorem frame_reference7 : Cert.quiescent_Reference7Ideal (hReference7Ideal := Cert.Reference7Ideal.Gen.facts) := fun m g _ =>
  (θ_run Cert.Reference7Ideal.defs _ _).mono (fun r h => ⟨fun c => (h c).2.2.2, sem_eq_zero_of_no_sems (by decide) r.2⟩)
    (Cert.Reference7Ideal.Value.run (F := Ideal) m g)

/-- Of real queries and keys, the preparation of queries, keys and values computes its reference. -/
theorem equal7 : Cert.algebraic_Kernel7Ideal_Reference7Ideal_pre_finite7 (hKernel7Ideal := Cert.Kernel7Ideal.Gen.facts)
    (hReference7Ideal := Cert.Reference7Ideal.Gen.facts) (hPre_finite7 := Cert.Pre_finite7.Hand.facts) := by
  intro m g m' g' hpre hagree
  refine ⟨fun c => Cert.Kernel7Ideal.Hand.OUTQ (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)),
    fun c => Cert.Kernel7Ideal.Hand.OUTK (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg2)),
    fun c => Cert.Kernel7Ideal.Hand.OUTV (m' ((c.tc : Thread Cert.Reference7Ideal.nD Cert.Reference7Ideal.τ).loc Cert.Reference7Ideal.main_arg0)), ?_,
    (θ_run Cert.Reference7Ideal.defs _ _).mono (fun r h c => ⟨(h c).1.trans (Cert.Kernel7Ideal.Hand.refq_eq _ _), (h c).2.1.trans (Cert.Kernel7Ideal.Hand.refk_eq _ _), (h c).2.2.1.trans (Cert.Kernel7Ideal.Hand.refv_eq _), (h c).2.2.2⟩)
      (Cert.Reference7Ideal.Value.run (F := Ideal) m' g')⟩
  refine (θ_run Cert.Kernel7Ideal.defs _ _).mono (fun r h c => ⟨(h c).1.trans ?_, (h c).2.1.trans ?_, (h c).2.2.1.trans ?_, (h c).2.2.2⟩)
    (Cert.Kernel7Ideal.Value.run_blocks (F := Ideal) m g)
  all_goals
    obtain ⟨e0, e1, e2⟩ := hagree c
    have hp := letI := Cert.Pre_finite7.Hand.facts; Cert.Pre_finite7.Hand.finite _ _ _ (hpre c)
  · refine (Cert.Kernel7Ideal.Hand.final5 m c hp).trans ?_
    dsimp only
    rw [e0, e1]
  · refine (Cert.Kernel7Ideal.Hand.final6 m c hp).trans ?_
    dsimp only
    rw [e0, e2]
  · refine (Cert.Kernel7Ideal.Hand.final7 m c).trans ?_
    dsimp only
    rw [e0]

/-- The preparation of the latent tokens' queries, keys and values ends, its arguments unchanged and its counters at zero. -/
theorem frame_kernel8 : Cert.quiescent_Kernel8 (hKernel8 := Cert.Kernel8.Gen.facts) := fun m g _ =>
  Cert.Kernel8.Gen.frame (F := Bits) m g

/-- That preparation at the reals ends, its arguments unchanged and its counters at zero. -/
theorem frame_ideal8 : Cert.quiescent_Kernel8Ideal (hKernel8Ideal := Cert.Kernel8Ideal.Gen.facts) := fun m g _ =>
  Cert.Kernel8Ideal.Gen.frame (F := Ideal) m g

/-- The reference of that preparation ends, its arguments unchanged and its counters at zero. -/
theorem frame_reference8 : Cert.quiescent_Reference8Ideal (hReference8Ideal := Cert.Reference8Ideal.Gen.facts) := fun m g _ =>
  (θ_run Cert.Reference8Ideal.defs _ _).mono (fun r h => ⟨fun c => (h c).2.2.2, sem_eq_zero_of_no_sems (by decide) r.2⟩)
    (Cert.Reference8Ideal.Value.run (F := Ideal) m g)

/-- Of real queries and keys, the preparation of the latent tokens' queries, keys and values computes its reference. -/
theorem equal8 : Cert.algebraic_Kernel8Ideal_Reference8Ideal_pre_finite8 (hKernel8Ideal := Cert.Kernel8Ideal.Gen.facts)
    (hReference8Ideal := Cert.Reference8Ideal.Gen.facts) (hPre_finite8 := Cert.Pre_finite8.Hand.facts) := by
  intro m g m' g' hpre hagree
  refine ⟨fun c => Cert.Reference8Ideal.Hand.OUTQ (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)),
    fun c => Cert.Reference8Ideal.Hand.OUTK (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg4)),
    fun c => Cert.Reference8Ideal.Hand.OUTV (m' ((c.tc : Thread Cert.Reference8Ideal.nD Cert.Reference8Ideal.τ).loc Cert.Reference8Ideal.main_arg0)), ?_,
    (θ_run Cert.Reference8Ideal.defs _ _).mono (fun r h c => ⟨(h c).1.trans (Cert.Reference8Ideal.Hand.refq_eq _ _), (h c).2.1.trans (Cert.Reference8Ideal.Hand.refk_eq _ _), (h c).2.2.1.trans (Cert.Reference8Ideal.Hand.refv_eq _), (h c).2.2.2⟩)
      (Cert.Reference8Ideal.Value.run (F := Ideal) m' g')⟩
  refine (θ_run Cert.Kernel8Ideal.defs _ _).mono (fun r h c => ⟨(h c).1.trans ?_, (h c).2.1.trans ?_, (h c).2.2.1.trans ?_, (h c).2.2.2⟩)
    (Cert.Kernel8Ideal.Value.run_blocks (F := Ideal) m g)
  all_goals
    obtain ⟨e0, e1, e2, e3, e4⟩ := hagree c
    have hp := letI := Cert.Pre_finite8.Hand.facts; Cert.Pre_finite8.Hand.finite _ _ _ _ _ (hpre c)
  · refine (Cert.Kernel8Ideal.Hand.final7 m c hp).trans ?_
    dsimp only
    rw [e0, e1, e2, e3]
  · refine (Cert.Kernel8Ideal.Hand.final8 m c hp).trans ?_
    dsimp only
    rw [e0, e1, e2, e4]
  · refine (Cert.Kernel8Ideal.Hand.final9 m c).trans ?_
    dsimp only
    rw [e0]

/-- The context's input projection at the machine's floats ends, its arguments unchanged and its counters at zero. -/
theorem frame_kernel9 : Cert.quiescent_Kernel9 (hKernel9 := Cert.Kernel9.Gen.facts) := fun m g _ =>
  Cert.Kernel9.Gen.frame (F := Bits) m g

/-- The context's input projection at the reals ends, its arguments unchanged and its counters at zero. -/
theorem frame_ideal9 : Cert.quiescent_Kernel9Ideal (hKernel9Ideal := Cert.Kernel9Ideal.Gen.facts) := fun m g _ =>
  Cert.Kernel9Ideal.Gen.frame (F := Ideal) m g

/-- The reference of the context's input projection ends, its arguments unchanged and its counters at zero. -/
theorem frame_reference9 : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run (F := Ideal) m g)

/-- The context's input projection computes its reference. -/
theorem equal9 : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Kernel9Ideal.Hand.REF (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)), ?_, Cert.Reference9Ideal.Value.run (F := Ideal) m' g'⟩
  refine (θ_run Cert.Kernel9Ideal.defs _ _).mono (fun r h c => ⟨(h c).1.trans ?_, (h c).2⟩) (Cert.Kernel9Ideal.Value.run_blocks (F := Ideal) m g)
  obtain ⟨e0, e1, e2, e3⟩ := hagree c
  refine (Cert.Kernel9Ideal.Hand.final m c).trans ?_
  dsimp only
  rw [e0, e1, e2, e3]

/-- The output projection and MLP of the context tokens at the machine's floats ends, its arguments unchanged and its counters at zero. -/
theorem frame_kernel10 : Cert.quiescent_Kernel10 (hKernel10 := Cert.Kernel10.Gen.facts) := fun m g _ =>
  Cert.Kernel10.Gen.frame (F := Bits) m g

/-- The output projection and MLP of the context tokens at the reals ends, its arguments unchanged and its counters at zero. -/
theorem frame_ideal10 : Cert.quiescent_Kernel10Ideal (hKernel10Ideal := Cert.Kernel10Ideal.Gen.facts) := fun m g _ =>
  Cert.Kernel10Ideal.Gen.frame (F := Ideal) m g

/-- The reference of the output projection and MLP of the context tokens ends, its arguments unchanged and its counters at zero. -/
theorem frame_reference10 : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run (F := Ideal) m g)

/-- The output projection and MLP of the context tokens computes its reference. -/
theorem equal10 : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Reference10Ideal.Hand.rAll (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5)) (m' ((c.tc : Thread Cert.Reference10Ideal.nD Cert.Reference10Ideal.τ).loc Cert.Reference10Ideal.main_arg6)) (m' ((c.tc : Thread Cert.Reference10Ideal.nD Cert.Reference10Ideal.τ).loc Cert.Reference10Ideal.main_arg7)) (m' ((c.tc : Thread Cert.Reference10Ideal.nD Cert.Reference10Ideal.τ).loc Cert.Reference10Ideal.main_arg8)) (m' ((c.tc : Thread Cert.Reference10Ideal.nD Cert.Reference10Ideal.τ).loc Cert.Reference10Ideal.main_arg9)) (m' ((c.tc : Thread Cert.Reference10Ideal.nD Cert.Reference10Ideal.τ).loc Cert.Reference10Ideal.main_arg10)) (m' ((c.tc : Thread Cert.Reference10Ideal.nD Cert.Reference10Ideal.τ).loc Cert.Reference10Ideal.main_arg11)) (m' ((c.tc : Thread Cert.Reference10Ideal.nD Cert.Reference10Ideal.τ).loc Cert.Reference10Ideal.main_arg12)) (m' ((c.tc : Thread Cert.Reference10Ideal.nD Cert.Reference10Ideal.τ).loc Cert.Reference10Ideal.main_arg13)), ?_, Cert.Reference10Ideal.Hand.run_eq m' g'⟩
  refine (θ_run Cert.Kernel10Ideal.defs _ _).mono (fun r h c => ⟨(h c).1.trans ?_, (h c).2⟩) (Cert.Kernel10Ideal.Value.run_blocks (F := Ideal) m g)
  obtain ⟨e0, e1, e2, e3, e4, e5, e6, e7, e8, e9, e10, e11, e12, e13⟩ := hagree c
  refine (Cert.Kernel10Ideal.Hand.final m c).trans ?_
  dsimp only
  rw [e0, e1, e2, e3, e4, e5, e6, e7, e8, e9, e10, e11, e12, e13]

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite.Hand.facts, Cert.Pre_finite7.Hand.facts, Cert.Pre_finite8.Hand.facts,
    frame_kernel, frame_ideal, fun m g _ => frame_ideal m g trivial, frame_reference, fun m g _ => frame_reference m g trivial,
    frame_kernel2, frame_ideal2, frame_reference2, frame_kernel3, frame_ideal3, frame_reference3,
    frame_kernel4, frame_ideal4, frame_reference4, frame_kernel5, frame_ideal5, frame_reference5,
    frame_kernel6, frame_ideal6, frame_reference6,
    frame_kernel7, frame_ideal7, fun m g _ => frame_ideal7 m g trivial, frame_reference7, fun m g _ => frame_reference7 m g trivial,
    frame_kernel8, frame_ideal8, fun m g _ => frame_ideal8 m g trivial, frame_reference8, fun m g _ => frame_reference8 m g trivial,
    frame_kernel9, frame_ideal9, frame_reference9, frame_kernel10, frame_ideal10, frame_reference10,
    trivial, equal, trivial, equal2, trivial, equal3, trivial, equal4, trivial, equal5, trivial, equal6, trivial, equal7, trivial, equal8, trivial, equal9, trivial, equal10⟩

end Cert.Proof

end
